-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "tenth" .f32 0x3DCCCCCD#32 ((10⁻¹ : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S128x5685x18 : Shape := ⟨3, ![128, 5685, 18]⟩
abbrev S128x5685x21 : Shape := ⟨3, ![128, 5685, 21]⟩
abbrev S128x32x4 : Shape := ⟨3, ![128, 32, 4]⟩
abbrev S128x32 : Shape := ⟨2, ![128, 32]⟩
abbrev S5685x4 : Shape := ⟨2, ![5685, 4]⟩
abbrev S_ : Shape := ⟨0, ![]⟩
abbrev S128x32x2 : Shape := ⟨3, ![128, 32, 2]⟩
abbrev S128x32x1x2 : Shape := ⟨4, ![128, 32, 1, 2]⟩
abbrev S5685x2 : Shape := ⟨2, ![5685, 2]⟩
abbrev S1x1x5685x2 : Shape := ⟨4, ![1, 1, 5685, 2]⟩
abbrev S128x32x5685x2 : Shape := ⟨4, ![128, 32, 5685, 2]⟩
abbrev S128x32x5685x1 : Shape := ⟨4, ![128, 32, 5685, 1]⟩
abbrev S128x32x5685 : Shape := ⟨3, ![128, 32, 5685]⟩
abbrev S128x32x1 : Shape := ⟨3, ![128, 32, 1]⟩
abbrev S5685x1 : Shape := ⟨2, ![5685, 1]⟩
abbrev S5685 : Shape := ⟨1, ![5685]⟩
abbrev S1x1x5685 : Shape := ⟨3, ![1, 1, 5685]⟩
abbrev S128x5685 : Shape := ⟨2, ![128, 5685]⟩
abbrev S128 : Shape := ⟨1, ![128]⟩
abbrev S128x1 : Shape := ⟨2, ![128, 1]⟩
abbrev S32 : Shape := ⟨1, ![32]⟩
abbrev S1x32 : Shape := ⟨2, ![1, 32]⟩
abbrev S128x5685x1 : Shape := ⟨3, ![128, 5685, 1]⟩
abbrev S128x5685x2 : Shape := ⟨3, ![128, 5685, 2]⟩
abbrev S128x5685x4 : Shape := ⟨3, ![128, 5685, 4]⟩
abbrev S1x5685 : Shape := ⟨2, ![1, 5685]⟩
abbrev S128x5685x3 : Shape := ⟨3, ![128, 5685, 3]⟩

class Facts : Prop where
  bcast_S_S128x5685x21 : S_.BroadcastsInDim S128x5685x21 (![] : Fin 0 → Fin S128x5685x21.rank)
  bcast_S_S128x32 : S_.BroadcastsInDim S128x32 (![] : Fin 0 → Fin S128x32.rank)
  slices_S128x32x4_S128x32x2_0_0_0 : S128x32x4.Slices ![0, 0, 0] S128x32x2
  bcast_S128x32x2_S128x32x1x2_0_1_3 : S128x32x2.BroadcastsInDim S128x32x1x2 (![0, 1, 3] : Fin 3 → Fin S128x32x1x2.rank)
  slices_S5685x4_S5685x2_0_0 : S5685x4.Slices ![0, 0] S5685x2
  bcast_S5685x2_S1x1x5685x2_2_3 : S5685x2.BroadcastsInDim S1x1x5685x2 (![2, 3] : Fin 2 → Fin S1x1x5685x2.rank)
  bcast_S128x32x1x2_S128x32x5685x2_0_1_2_3 : S128x32x1x2.BroadcastsInDim S128x32x5685x2 (![0, 1, 2, 3] : Fin 4 → Fin S128x32x5685x2.rank)
  bcast_S1x1x5685x2_S128x32x5685x2_0_1_2_3 : S1x1x5685x2.BroadcastsInDim S128x32x5685x2 (![0, 1, 2, 3] : Fin 4 → Fin S128x32x5685x2.rank)
  slices_S128x32x4_S128x32x2_0_0_2 : S128x32x4.Slices ![0, 0, 2] S128x32x2
  slices_S5685x4_S5685x2_0_2 : S5685x4.Slices ![0, 2] S5685x2
  bcast_S_S128x32x5685x2 : S_.BroadcastsInDim S128x32x5685x2 (![] : Fin 0 → Fin S128x32x5685x2.rank)
  slices_S128x32x5685x2_S128x32x5685x1_0_0_0_0 : S128x32x5685x2.Slices ![0, 0, 0, 0] S128x32x5685x1
  shapeCasts_S128x32x5685x1_S128x32x5685 : S128x32x5685x1.ShapeCasts S128x32x5685
  slices_S128x32x5685x2_S128x32x5685x1_0_0_0_1 : S128x32x5685x2.Slices ![0, 0, 0, 1] S128x32x5685x1
  slices_S128x32x4_S128x32x1_0_0_2 : S128x32x4.Slices ![0, 0, 2] S128x32x1
  shapeCasts_S128x32x1_S128x32 : S128x32x1.ShapeCasts S128x32
  slices_S128x32x4_S128x32x1_0_0_0 : S128x32x4.Slices ![0, 0, 0] S128x32x1
  slices_S128x32x4_S128x32x1_0_0_3 : S128x32x4.Slices ![0, 0, 3] S128x32x1
  slices_S128x32x4_S128x32x1_0_0_1 : S128x32x4.Slices ![0, 0, 1] S128x32x1
  slices_S5685x4_S5685x1_0_2 : S5685x4.Slices ![0, 2] S5685x1
  shapeCasts_S5685x1_S5685 : S5685x1.ShapeCasts S5685
  slices_S5685x4_S5685x1_0_0 : S5685x4.Slices ![0, 0] S5685x1
  slices_S5685x4_S5685x1_0_3 : S5685x4.Slices ![0, 3] S5685x1
  slices_S5685x4_S5685x1_0_1 : S5685x4.Slices ![0, 1] S5685x1
  bcast_S128x32_S128x32x1_0_1 : S128x32.BroadcastsInDim S128x32x1 (![0, 1] : Fin 2 → Fin S128x32x1.rank)
  bcast_S5685_S1x1x5685_2 : S5685.BroadcastsInDim S1x1x5685 (![2] : Fin 1 → Fin S1x1x5685.rank)
  bcast_S128x32x1_S128x32x5685_0_1_2 : S128x32x1.BroadcastsInDim S128x32x5685 (![0, 1, 2] : Fin 3 → Fin S128x32x5685.rank)
  bcast_S1x1x5685_S128x32x5685_0_1_2 : S1x1x5685.BroadcastsInDim S128x32x5685 (![0, 1, 2] : Fin 3 → Fin S128x32x5685.rank)
  bcast_S_S128x32x5685 : S_.BroadcastsInDim S128x32x5685 (![] : Fin 0 → Fin S128x32x5685.rank)
  reducesTo_S128x32x5685_S128x5685_d1 : S128x32x5685.ReducesTo [1] S128x5685
  h_S_ : 0 < S_.numel
  reducesTo_S128x32x5685_S128x32_d2 : S128x32x5685.ReducesTo [2] S128x32
  bcast_S128_S128x1_0 : S128.BroadcastsInDim S128x1 (![0] : Fin 1 → Fin S128x1.rank)
  bcast_S32_S1x32_1 : S32.BroadcastsInDim S1x32 (![1] : Fin 1 → Fin S1x32.rank)
  bcast_S_S128x1 : S_.BroadcastsInDim S128x1 (![] : Fin 0 → Fin S128x1.rank)
  bcast_S128x1_S128x32_0_1 : S128x1.BroadcastsInDim S128x32 (![0, 1] : Fin 2 → Fin S128x32.rank)
  concatenates_S128x32x1_S128x32x1_S128x32x2_d2 : Shape.Concatenates [S128x32x1, S128x32x1] S128x32x2 2
  bcast_S1x32_S128x32_0_1 : S1x32.BroadcastsInDim S128x32 (![0, 1] : Fin 2 → Fin S128x32.rank)
  bcast_S_S128x5685 : S_.BroadcastsInDim S128x5685 (![] : Fin 0 → Fin S128x5685.rank)
  bcast_S128x1_S128x5685_0_1 : S128x1.BroadcastsInDim S128x5685 (![0, 1] : Fin 2 → Fin S128x5685.rank)
  bcast_S128x5685_S128x5685x1_0_1 : S128x5685.BroadcastsInDim S128x5685x1 (![0, 1] : Fin 2 → Fin S128x5685x1.rank)
  concatenates_S128x5685x1_S128x5685x1_S128x5685x2_d2 : Shape.Concatenates [S128x5685x1, S128x5685x1] S128x5685x2 2
  reducesTo_S128x5685x21_S128x5685_d2 : S128x5685x21.ReducesTo [2] S128x5685
  bcast_S128x5685x1_S128x5685x21_0_1_2 : S128x5685x1.BroadcastsInDim S128x5685x21 (![0, 1, 2] : Fin 3 → Fin S128x5685x21.rank)
  bcast_S5685_S1x5685_1 : S5685.BroadcastsInDim S1x5685 (![1] : Fin 1 → Fin S1x5685.rank)
  bcast_S_S1x5685 : S_.BroadcastsInDim S1x5685 (![] : Fin 0 → Fin S1x5685.rank)
  bcast_S1x5685_S128x5685_0_1 : S1x5685.BroadcastsInDim S128x5685 (![0, 1] : Fin 2 → Fin S128x5685.rank)
  concatenates_S128x5685x1_S128x5685x1_S128x5685x1_S128x5685x3_d2 : Shape.Concatenates [S128x5685x1, S128x5685x1, S128x5685x1] S128x5685x3 2
  reducesTo_S128x5685_S128_d1 : S128x5685.ReducesTo [1] S128
  slices_S128x5685_S128x1_0_0 : S128x5685.Slices ![0, 0] S128x1
  scatter_S128x5685_S128x32x2_S128x32_n_01_01_2_wf : ScatterDims.WF S128x5685 S128x32x2 S128x32 [] [0, 1] [0, 1] 2
  gather_S128x32_S128x5685x2_S128x5685_n_01_n_n_01_2_11_wf : GatherDims.WF S128x32 S128x5685x2 S128x5685 [] [0, 1] [] [0, 1] [] 2 ![1, 1]
  gather_S128x32x4_S128x5685x2_S128x5685x4_2_01_n_n_01_2_114_wf : GatherDims.WF S128x32x4 S128x5685x2 S128x5685x4 [2] [0, 1] [] [0, 1] [] 2 ![1, 1, 4]
  gather_S128x5685x21_S128x5685x3_S128x5685_n_012_n_n_012_2_111_wf : GatherDims.WF S128x5685x21 S128x5685x3 S128x5685 [] [0, 1, 2] [] [0, 1, 2] [] 2 ![1, 1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S128x5685_S128x32x2_S128x32_n_01_01_2 : ScatterDims S128x5685 S128x32x2 S128x32 where
  updateWindowDims := []
  insertedWindowDims := [0, 1]
  scatterDimsToOperandDims := [0, 1]
  indexVectorDim := 2
  wf := scatter_S128x5685_S128x32x2_S128x32_n_01_01_2_wf
def gather_S128x32_S128x5685x2_S128x5685_n_01_n_n_01_2_11 : GatherDims S128x32 S128x5685x2 S128x5685 where
  offsetDims := []
  collapsedSliceDims := [0, 1]
  operandBatchingDims := []
  startIndicesBatchingDims := []
  startIndexMap := [0, 1]
  indexVectorDim := 2
  sliceSizes := ![1, 1]
  wf := gather_S128x32_S128x5685x2_S128x5685_n_01_n_n_01_2_11_wf
def gather_S128x32x4_S128x5685x2_S128x5685x4_2_01_n_n_01_2_114 : GatherDims S128x32x4 S128x5685x2 S128x5685x4 where
  offsetDims := [2]
  collapsedSliceDims := [0, 1]
  operandBatchingDims := []
  startIndicesBatchingDims := []
  startIndexMap := [0, 1]
  indexVectorDim := 2
  sliceSizes := ![1, 1, 4]
  wf := gather_S128x32x4_S128x5685x2_S128x5685x4_2_01_n_n_01_2_114_wf
def gather_S128x5685x21_S128x5685x3_S128x5685_n_012_n_n_012_2_111 : GatherDims S128x5685x21 S128x5685x3 S128x5685 where
  offsetDims := []
  collapsedSliceDims := [0, 1, 2]
  operandBatchingDims := []
  startIndicesBatchingDims := []
  startIndexMap := [0, 1, 2]
  indexVectorDim := 2
  sliceSizes := ![1, 1, 1]
  wf := gather_S128x5685x21_S128x5685x3_S128x5685_n_012_n_n_012_2_111_wf
def comparator_f32_d1 : F .f32 → F .f32 → BitVec 1 :=
  fun l r =>
    let cst_42 := FloatOps.ofBits .f32 0x00000000#32
    let v210 := FloatOps.cmpf .oeq l cst_42
    let cst_43 := FloatOps.ofBits .f32 0x00000000#32
    let v211 := Scalar.select v210 cst_43 l
    let v212 := FloatOps.cmpf .une l l
    let cst_44 := FloatOps.ofBits .f32 0x7FC00000#32
    let v213 := Scalar.select v212 cst_44 v211
    let cst_45 := FloatOps.ofBits .f32 0x00000000#32
    let v214 := FloatOps.cmpf .oeq r cst_45
    let cst_46 := FloatOps.ofBits .f32 0x00000000#32
    let v215 := Scalar.select v214 cst_46 r
    let v216 := FloatOps.cmpf .une r r
    let cst_47 := FloatOps.ofBits .f32 0x7FC00000#32
    let v217 := Scalar.select v216 cst_47 v215
    let v218 := FloatOps.cmpfTotal .lt v213 v217
    v218

def fn_argmax {F : FTy → Type} [FloatOps F] (arg0 : FVec F S128x32x5685 .f32) : IVec S128x5685 32 :=
  let v0 : IVec S128x32x5685 32 := iotaInDim S128x32x5685 32 1
  let cst : FVec F S_ .f32 := constant S_ .f32 0xFF800000#32
  let c : IVec S_ 32 := constantI S_ 32 0#32
  let v1_0 : FVec F S128x5685 .f32 := (fun x y u v j => (Host.argReduce reducer_argmax_f32_i32 x y u v reducesTo_S128x32x5685_S128x5685_d1 h_S_ j).1) arg0 v0 cst c
  let v1_1 : IVec S128x5685 32 := (fun x y u v j => (Host.argReduce reducer_argmax_f32_i32 x y u v reducesTo_S128x32x5685_S128x5685_d1 h_S_ j).2) arg0 v0 cst c
  v1_1

def fn_argmax_0 {F : FTy → Type} [FloatOps F] (arg0 : FVec F S128x32x5685 .f32) : IVec S128x32 32 :=
  let v0 : IVec S128x32x5685 32 := iotaInDim S128x32x5685 32 2
  let cst : FVec F S_ .f32 := constant S_ .f32 0xFF800000#32
  let c : IVec S_ 32 := constantI S_ 32 0#32
  let v1_0 : FVec F S128x32 .f32 := (fun x y u v j => (Host.argReduce reducer_argmax_f32_i32 x y u v reducesTo_S128x32x5685_S128x32_d2 h_S_ j).1) arg0 v0 cst c
  let v1_1 : IVec S128x32 32 := (fun x y u v j => (Host.argReduce reducer_argmax_f32_i32 x y u v reducesTo_S128x32x5685_S128x32_d2 h_S_ j).2) arg0 v0 cst c
  v1_1

def fn_part10 {F : FTy → Type} [FloatOps F] (main_v4 : IVec S128x5685x21 1) (main_v9 : IVec S128x32 1) (main_v181 : FVec F S128x5685 .f32) (main_v186 : FVec F S128x1 .f32) (main_v196 : FVec F S128x1 .f32) (main_v198 : FVec F S128x5685 .f32) (main_cst_38 : FVec F S_ .f32) : IVec S128x5685x21 1 × IVec S128x32 1 × IVec S128x1 1 × IVec S128x1 1 :=
  let main_v199 : FVec F S128 .f32 := (fun x v => Host.reduce FloatOps.maximumf x v reducesTo_S128x5685_S128_d1 h_S_) main_v198 main_cst_38
  let main_v200 : FVec F S128x1 .f32 := broadcastInDim S128x1 ![0] bcast_S128_S128x1_0 main_v199
  let main_v201 : FVec F S128x1 .f32 := (extractStridedSlice S128x1 ![0, 0] · slices_S128x5685_S128x1_0_0) main_v181
  let main_cst_39 : FVec F S_ .f32 := constant S_ .f32 0x3A83126F#32
  let main_v202 : FVec F S128x1 .f32 := broadcastInDim S128x1 ![] bcast_S_S128x1 main_cst_39
  let main_v203 : FVec F S128x1 .f32 := addf main_v201 main_v202
  let main_cst_40 : FVec F S_ .f32 := constant S_ .f32 0x33800000#32
  let main_v204 : FVec F S128x1 .f32 := broadcastInDim S128x1 ![] bcast_S_S128x1 main_cst_40
  let main_v205 : FVec F S128x1 .f32 := mulf main_v203 main_v204
  let main_cst_41 : FVec F S_ .f32 := constant S_ .f32 0x45B1A800#32
  let main_v206 : FVec F S128x1 .f32 := broadcastInDim S128x1 ![] bcast_S_S128x1 main_cst_41
  let main_v207 : IVec S128x1 1 := cmpf .olt main_v186 main_v206
  let main_v208 : FVec F S128x1 .f32 := subf main_v196 main_v200
  let main_v209 : IVec S128x1 1 := cmpf .ogt main_v208 main_v205
  (main_v4, main_v9, main_v207, main_v209)

def fn_part9 {F : FTy → Type} [FloatOps F] (main_v4 : IVec S128x5685x21 1) (main_v9 : IVec S128x32 1) (main_v137 : IVec S128x5685 1) (main_v179 : FVec F S128x5685 .f32) : IVec S128x5685x21 1 × IVec S128x32 1 × IVec S128x1 1 × IVec S128x1 1 :=
  let main_v180 : FVec F S128x5685 .f32 := (fun x => Host.sort S128x5685 1 comparator_f32_d1 x) main_v179
  let main_v181 : FVec F S128x5685 .f32 := Host.negf main_v180
  let main_v182 : FVec F S128x5685 .f32 := uitofp .f32 main_v137
  let main_cst_34 : FVec F S_ .f32 := constant S_ .f32 0x00000000#32
  let main_v183 : FVec F S128 .f32 := (fun x v => Host.reduceAdd x v reducesTo_S128x5685_S128_d1 h_S_) main_v182 main_cst_34
  let main_v184 : FVec F S128x1 .f32 := broadcastInDim S128x1 ![0] bcast_S128_S128x1_0 main_v183
  let main_cst_35 : FVec F S_ .f32 := constant S_ .f32 0x40400000#32
  let main_v185 : FVec F S128x1 .f32 := broadcastInDim S128x1 ![] bcast_S_S128x1 main_cst_35
  let main_v186 : FVec F S128x1 .f32 := mulf main_v185 main_v184
  let main_v187 : IVec S5685 32 := iotaInDim S5685 32 0
  let main_v188 : FVec F S5685 .f32 := sitofp .f32 main_v187
  let main_v189 : FVec F S1x5685 .f32 := broadcastInDim S1x5685 ![1] bcast_S5685_S1x5685_1 main_v188
  let main_v190 : FVec F S128x5685 .f32 := broadcastInDim S128x5685 ![0, 1] bcast_S1x5685_S128x5685_0_1 main_v189
  let main_v191 : FVec F S128x5685 .f32 := broadcastInDim S128x5685 ![0, 1] bcast_S128x1_S128x5685_0_1 main_v186
  let main_v192 : IVec S128x5685 1 := cmpf .olt main_v190 main_v191
  let main_cst_36 : FVec F S_ .f32 := constant S_ .f32 0x7F800000#32
  let main_v193 : FVec F S128x5685 .f32 := broadcastInDim S128x5685 ![] bcast_S_S128x5685 main_cst_36
  let main_v194 : FVec F S128x5685 .f32 := select main_v192 main_v181 main_v193
  let main_cst_37 : FVec F S_ .f32 := constant S_ .f32 0x7F800000#32
  let main_v195 : FVec F S128 .f32 := (fun x v => Host.reduce FloatOps.minimumf x v reducesTo_S128x5685_S128_d1 h_S_) main_v194 main_cst_37
  let main_v196 : FVec F S128x1 .f32 := broadcastInDim S128x1 ![0] bcast_S128_S128x1_0 main_v195
  let main_v197 : FVec F S128x5685 .f32 := Host.negf main_v193
  let main_v198 : FVec F S128x5685 .f32 := select main_v192 main_v197 main_v181
  let main_cst_38 : FVec F S_ .f32 := constant S_ .f32 0xFF800000#32
  fn_part10 (F := F) main_v4 main_v9 main_v181 main_v186 main_v196 main_v198 main_cst_38

def fn_part8 {F : FTy → Type} [FloatOps F] (main_v4 : IVec S128x5685x21 1) (main_v9 : IVec S128x32 1) (main_v120 : IVec S128x5685 32) (main_v137 : IVec S128x5685 1) (main_v149 : FVec F S128x5685x21 .f32) (main_v153 : IVec S1x5685 32) (main_v158 : IVec S128x1 32) (main_v159 : IVec S1x5685 32) : IVec S128x5685x21 1 × IVec S128x32 1 × IVec S128x1 1 × IVec S128x1 1 :=
  let main_v160 : IVec S1x5685 1 := cmpi .slt main_v153 main_v159
  let main_c_30 : IVec S_ 32 := constantI S_ 32 5685#32
  let main_v161 : IVec S1x5685 32 := broadcastInDim S1x5685 ![] bcast_S_S1x5685 main_c_30
  let main_v162 : IVec S1x5685 32 := addi main_v153 main_v161
  let main_v163 : IVec S1x5685 32 := select main_v160 main_v162 main_v153
  let main_c_31 : IVec S_ 32 := constantI S_ 32 0#32
  let main_v164 : IVec S128x5685 32 := broadcastInDim S128x5685 ![] bcast_S_S128x5685 main_c_31
  let main_v165 : IVec S128x5685 1 := cmpi .slt main_v120 main_v164
  let main_c_32 : IVec S_ 32 := constantI S_ 32 21#32
  let main_v166 : IVec S128x5685 32 := broadcastInDim S128x5685 ![] bcast_S_S128x5685 main_c_32
  let main_v167 : IVec S128x5685 32 := addi main_v120 main_v166
  let main_v168 : IVec S128x5685 32 := select main_v165 main_v167 main_v120
  let main_v169 : IVec S128x5685 32 := broadcastInDim S128x5685 ![0, 1] bcast_S128x1_S128x5685_0_1 main_v158
  let main_v170 : IVec S128x5685 32 := broadcastInDim S128x5685 ![0, 1] bcast_S1x5685_S128x5685_0_1 main_v163
  let main_v171 : IVec S128x5685x1 32 := broadcastInDim S128x5685x1 ![0, 1] bcast_S128x5685_S128x5685x1_0_1 main_v169
  let main_v172 : IVec S128x5685x1 32 := broadcastInDim S128x5685x1 ![0, 1] bcast_S128x5685_S128x5685x1_0_1 main_v170
  let main_v173 : IVec S128x5685x1 32 := broadcastInDim S128x5685x1 ![0, 1] bcast_S128x5685_S128x5685x1_0_1 main_v168
  let main_v174 : IVec S128x5685x3 32 := concatenate S128x5685x3 2 [⟨S128x5685x1, main_v171⟩, ⟨S128x5685x1, main_v172⟩, ⟨S128x5685x1, main_v173⟩] concatenates_S128x5685x1_S128x5685x1_S128x5685x1_S128x5685x3_d2
  let main_v175 : FVec F S128x5685 .f32 := (fun x i => Host.gather gather_S128x5685x21_S128x5685x3_S128x5685_n_012_n_n_012_2_111 x i) main_v149 main_v174
  let main_v176 : FVec F S128x5685 .f32 := Host.negf main_v175
  let main_cst_33 : FVec F S_ .f32 := constant S_ .f32 0x00000000#32
  let main_v177 : FVec F S128x5685 .f32 := broadcastInDim S128x5685 ![] bcast_S_S128x5685 main_cst_33
  let main_v178 : FVec F S128x5685 .f32 := select main_v137 main_v177 main_v176
  let main_v179 : FVec F S128x5685 .f32 := Host.negf main_v178
  fn_part9 (F := F) main_v4 main_v9 main_v137 main_v179

def fn_part7 {F : FTy → Type} [FloatOps F] (main_arg1 : FVec F S128x5685x21 .f32) (main_v4 : IVec S128x5685x21 1) (main_v9 : IVec S128x32 1) (main_v120 : IVec S128x5685 32) (main_v137 : IVec S128x5685 1) (main_v139 : FVec F S128x5685x1 .f32) : IVec S128x5685x21 1 × IVec S128x32 1 × IVec S128x1 1 × IVec S128x1 1 :=
  let main_v140 : FVec F S128x5685x21 .f32 := broadcastInDim S128x5685x21 ![0, 1, 2] bcast_S128x5685x1_S128x5685x21_0_1_2 main_v139
  let main_v141 : FVec F S128x5685x21 .f32 := subf main_arg1 main_v140
  let main_v142 : FVec F S128x5685x21 .f32 := broadcastInDim S128x5685x21 ![0, 1, 2] bcast_S128x5685x1_S128x5685x21_0_1_2 main_v139
  let main_v143 : FVec F S128x5685x21 .f32 := subf main_arg1 main_v142
  let main_v144 : FVec F S128x5685x21 .f32 := Host.exp main_v143
  let main_cst_26 : FVec F S_ .f32 := constant S_ .f32 0x00000000#32
  let main_v145 : FVec F S128x5685 .f32 := (fun x v => Host.reduceAdd x v reducesTo_S128x5685x21_S128x5685_d2 h_S_) main_v144 main_cst_26
  let main_v146 : FVec F S128x5685x1 .f32 := broadcastInDim S128x5685x1 ![0, 1] bcast_S128x5685_S128x5685x1_0_1 main_v145
  let main_v147 : FVec F S128x5685x1 .f32 := Host.log main_v146
  let main_v148 : FVec F S128x5685x21 .f32 := broadcastInDim S128x5685x21 ![0, 1, 2] bcast_S128x5685x1_S128x5685x21_0_1_2 main_v147
  let main_v149 : FVec F S128x5685x21 .f32 := subf main_v141 main_v148
  let main_v150 : IVec S128 32 := iotaInDim S128 32 0
  let main_v151 : IVec S128x1 32 := broadcastInDim S128x1 ![0] bcast_S128_S128x1_0 main_v150
  let main_v152 : IVec S5685 32 := iotaInDim S5685 32 0
  let main_v153 : IVec S1x5685 32 := broadcastInDim S1x5685 ![1] bcast_S5685_S1x5685_1 main_v152
  let main_c_27 : IVec S_ 32 := constantI S_ 32 0#32
  let main_v154 : IVec S128x1 32 := broadcastInDim S128x1 ![] bcast_S_S128x1 main_c_27
  let main_v155 : IVec S128x1 1 := cmpi .slt main_v151 main_v154
  let main_c_28 : IVec S_ 32 := constantI S_ 32 128#32
  let main_v156 : IVec S128x1 32 := broadcastInDim S128x1 ![] bcast_S_S128x1 main_c_28
  let main_v157 : IVec S128x1 32 := addi main_v151 main_v156
  let main_v158 : IVec S128x1 32 := select main_v155 main_v157 main_v151
  let main_c_29 : IVec S_ 32 := constantI S_ 32 0#32
  let main_v159 : IVec S1x5685 32 := broadcastInDim S1x5685 ![] bcast_S_S1x5685 main_c_29
  fn_part8 (F := F) main_v4 main_v9 main_v120 main_v137 main_v149 main_v153 main_v158 main_v159

def fn_part6 {F : FTy → Type} [FloatOps F] (main_arg1 : FVec F S128x5685x21 .f32) (main_arg2 : FVec F S128x32x4 .f32) (main_v4 : IVec S128x5685x21 1) (main_v9 : IVec S128x32 1) (main_v67 : IVec S128x1 32) (main_v85 : IVec S128x5685 32) (main_v120 : IVec S128x5685 32) (main_c_20 : IVec S_ 32) : IVec S128x5685x21 1 × IVec S128x32 1 × IVec S128x1 1 × IVec S128x1 1 :=
  let main_v121 : IVec S128x1 32 := broadcastInDim S128x1 ![] bcast_S_S128x1 main_c_20
  let main_v122 : IVec S128x1 1 := cmpi .slt main_v67 main_v121
  let main_c_21 : IVec S_ 32 := constantI S_ 32 128#32
  let main_v123 : IVec S128x1 32 := broadcastInDim S128x1 ![] bcast_S_S128x1 main_c_21
  let main_v124 : IVec S128x1 32 := addi main_v67 main_v123
  let main_v125 : IVec S128x1 32 := select main_v122 main_v124 main_v67
  let main_c_22 : IVec S_ 32 := constantI S_ 32 0#32
  let main_v126 : IVec S128x5685 32 := broadcastInDim S128x5685 ![] bcast_S_S128x5685 main_c_22
  let main_v127 : IVec S128x5685 1 := cmpi .slt main_v85 main_v126
  let main_c_23 : IVec S_ 32 := constantI S_ 32 32#32
  let main_v128 : IVec S128x5685 32 := broadcastInDim S128x5685 ![] bcast_S_S128x5685 main_c_23
  let main_v129 : IVec S128x5685 32 := addi main_v85 main_v128
  let main_v130 : IVec S128x5685 32 := select main_v127 main_v129 main_v85
  let main_v131 : IVec S128x5685 32 := broadcastInDim S128x5685 ![0, 1] bcast_S128x1_S128x5685_0_1 main_v125
  let main_v132 : IVec S128x5685x1 32 := broadcastInDim S128x5685x1 ![0, 1] bcast_S128x5685_S128x5685x1_0_1 main_v131
  let main_v133 : IVec S128x5685x1 32 := broadcastInDim S128x5685x1 ![0, 1] bcast_S128x5685_S128x5685x1_0_1 main_v130
  let main_v134 : IVec S128x5685x2 32 := (fun a b => concatenate S128x5685x2 2 [⟨S128x5685x1, a⟩, ⟨S128x5685x1, b⟩] concatenates_S128x5685x1_S128x5685x1_S128x5685x2_d2) main_v132 main_v133
  let main_v135 : FVec F S128x5685x4 .f32 := (fun x i => Host.gather gather_S128x32x4_S128x5685x2_S128x5685x4_2_01_n_n_01_2_114 x i) main_arg2 main_v134
  let main_c_24 : IVec S_ 32 := constantI S_ 32 0#32
  let main_v136 : IVec S128x5685 32 := broadcastInDim S128x5685 ![] bcast_S_S128x5685 main_c_24
  let main_v137 : IVec S128x5685 1 := cmpi .ne main_v120 main_v136
  let main_cst_25 : FVec F S_ .f32 := constant S_ .f32 0xFF800000#32
  let main_v138 : FVec F S128x5685 .f32 := (fun x v => Host.reduce FloatOps.maximumf x v reducesTo_S128x5685x21_S128x5685_d2 h_S_) main_arg1 main_cst_25
  let main_v139 : FVec F S128x5685x1 .f32 := broadcastInDim S128x5685x1 ![0, 1] bcast_S128x5685_S128x5685x1_0_1 main_v138
  fn_part7 (F := F) main_arg1 main_v4 main_v9 main_v120 main_v137 main_v139

def fn_part5 {F : FTy → Type} [FloatOps F] (main_arg1 : FVec F S128x5685x21 .f32) (main_arg2 : FVec F S128x32x4 .f32) (main_arg3 : IVec S128x32 32) (main_v4 : IVec S128x5685x21 1) (main_v9 : IVec S128x32 1) (main_v67 : IVec S128x1 32) (main_v85 : IVec S128x5685 32) (main_v101 : FVec F S128x5685 .f32) (main_v102 : IVec S128x1 32) : IVec S128x5685x21 1 × IVec S128x32 1 × IVec S128x1 1 × IVec S128x1 1 :=
  let main_v103 : IVec S128x1 1 := cmpi .slt main_v67 main_v102
  let main_c_15 : IVec S_ 32 := constantI S_ 32 128#32
  let main_v104 : IVec S128x1 32 := broadcastInDim S128x1 ![] bcast_S_S128x1 main_c_15
  let main_v105 : IVec S128x1 32 := addi main_v67 main_v104
  let main_v106 : IVec S128x1 32 := select main_v103 main_v105 main_v67
  let main_c_16 : IVec S_ 32 := constantI S_ 32 0#32
  let main_v107 : IVec S128x5685 32 := broadcastInDim S128x5685 ![] bcast_S_S128x5685 main_c_16
  let main_v108 : IVec S128x5685 1 := cmpi .slt main_v85 main_v107
  let main_c_17 : IVec S_ 32 := constantI S_ 32 32#32
  let main_v109 : IVec S128x5685 32 := broadcastInDim S128x5685 ![] bcast_S_S128x5685 main_c_17
  let main_v110 : IVec S128x5685 32 := addi main_v85 main_v109
  let main_v111 : IVec S128x5685 32 := select main_v108 main_v110 main_v85
  let main_v112 : IVec S128x5685 32 := broadcastInDim S128x5685 ![0, 1] bcast_S128x1_S128x5685_0_1 main_v106
  let main_v113 : IVec S128x5685x1 32 := broadcastInDim S128x5685x1 ![0, 1] bcast_S128x5685_S128x5685x1_0_1 main_v112
  let main_v114 : IVec S128x5685x1 32 := broadcastInDim S128x5685x1 ![0, 1] bcast_S128x5685_S128x5685x1_0_1 main_v111
  let main_v115 : IVec S128x5685x2 32 := (fun a b => concatenate S128x5685x2 2 [⟨S128x5685x1, a⟩, ⟨S128x5685x1, b⟩] concatenates_S128x5685x1_S128x5685x1_S128x5685x2_d2) main_v113 main_v114
  let main_v116 : IVec S128x5685 32 := (fun x i => Host.gather gather_S128x32_S128x5685x2_S128x5685_n_01_n_n_01_2_11 x i) main_arg3 main_v115
  let main_c_18 : IVec S_ 32 := constantI S_ 32 0#32
  let main_v117 : IVec S128x5685 32 := broadcastInDim S128x5685 ![] bcast_S_S128x5685 main_c_18
  let main_cst_19 : FVec F S_ .f32 := constant S_ .f32 0x3F000000#32
  let main_v118 : FVec F S128x5685 .f32 := broadcastInDim S128x5685 ![] bcast_S_S128x5685 main_cst_19
  let main_v119 : IVec S128x5685 1 := cmpf .olt main_v101 main_v118
  let main_v120 : IVec S128x5685 32 := select main_v119 main_v117 main_v116
  let main_c_20 : IVec S_ 32 := constantI S_ 32 0#32
  fn_part6 (F := F) main_arg1 main_arg2 main_v4 main_v9 main_v67 main_v85 main_v120 main_c_20

def fn_part4 {F : FTy → Type} [FloatOps F] (main_arg1 : FVec F S128x5685x21 .f32) (main_arg2 : FVec F S128x32x4 .f32) (main_arg3 : IVec S128x32 32) (main_v4 : IVec S128x5685x21 1) (main_v9 : IVec S128x32 1) (main_v63 : FVec F S128x5685 .f32) (main_v64 : IVec S128x5685 32) (main_v65 : IVec S128x32 32) (main_v67 : IVec S128x1 32) (main_v83 : IVec S128x32x2 32) (main_v84 : IVec S128x32 32) : IVec S128x5685x21 1 × IVec S128x32 1 × IVec S128x1 1 × IVec S128x1 1 :=
  let main_v85 : IVec S128x5685 32 := (fun x i u => Host.scatter scatter_S128x5685_S128x32x2_S128x32_n_01_01_2 (fun _ b => b) x i u) main_v64 main_v83 main_v84
  let main_c_9 : IVec S_ 32 := constantI S_ 32 0#32
  let main_v86 : IVec S128x1 32 := broadcastInDim S128x1 ![] bcast_S_S128x1 main_c_9
  let main_v87 : IVec S128x1 1 := cmpi .slt main_v67 main_v86
  let main_c_10 : IVec S_ 32 := constantI S_ 32 128#32
  let main_v88 : IVec S128x1 32 := broadcastInDim S128x1 ![] bcast_S_S128x1 main_c_10
  let main_v89 : IVec S128x1 32 := addi main_v67 main_v88
  let main_v90 : IVec S128x1 32 := select main_v87 main_v89 main_v67
  let main_c_11 : IVec S_ 32 := constantI S_ 32 0#32
  let main_v91 : IVec S128x32 32 := broadcastInDim S128x32 ![] bcast_S_S128x32 main_c_11
  let main_v92 : IVec S128x32 1 := cmpi .slt main_v65 main_v91
  let main_c_12 : IVec S_ 32 := constantI S_ 32 5685#32
  let main_v93 : IVec S128x32 32 := broadcastInDim S128x32 ![] bcast_S_S128x32 main_c_12
  let main_v94 : IVec S128x32 32 := addi main_v65 main_v93
  let main_v95 : IVec S128x32 32 := select main_v92 main_v94 main_v65
  let main_v96 : IVec S128x32 32 := broadcastInDim S128x32 ![0, 1] bcast_S128x1_S128x32_0_1 main_v90
  let main_v97 : IVec S128x32x1 32 := broadcastInDim S128x32x1 ![0, 1] bcast_S128x32_S128x32x1_0_1 main_v96
  let main_v98 : IVec S128x32x1 32 := broadcastInDim S128x32x1 ![0, 1] bcast_S128x32_S128x32x1_0_1 main_v95
  let main_v99 : IVec S128x32x2 32 := (fun a b => concatenate S128x32x2 2 [⟨S128x32x1, a⟩, ⟨S128x32x1, b⟩] concatenates_S128x32x1_S128x32x1_S128x32x2_d2) main_v97 main_v98
  let main_cst_13 : FVec F S_ .f32 := constant S_ .f32 0x3F800000#32
  let main_v100 : FVec F S128x32 .f32 := broadcastInDim S128x32 ![] bcast_S_S128x32 main_cst_13
  let main_v101 : FVec F S128x5685 .f32 := (fun x i u => Host.scatter scatter_S128x5685_S128x32x2_S128x32_n_01_01_2 (fun _ b => b) x i u) main_v63 main_v99 main_v100
  let main_c_14 : IVec S_ 32 := constantI S_ 32 0#32
  let main_v102 : IVec S128x1 32 := broadcastInDim S128x1 ![] bcast_S_S128x1 main_c_14
  fn_part5 (F := F) main_arg1 main_arg2 main_arg3 main_v4 main_v9 main_v67 main_v85 main_v101 main_v102

def fn_part3 {F : FTy → Type} [FloatOps F] (main_arg1 : FVec F S128x5685x21 .f32) (main_arg2 : FVec F S128x32x4 .f32) (main_arg3 : IVec S128x32 32) (main_v4 : IVec S128x5685x21 1) (main_v9 : IVec S128x32 1) (main_v62 : FVec F S128x32x5685 .f32) (main_v63 : FVec F S128x5685 .f32) (main_v64 : IVec S128x5685 32) : IVec S128x5685x21 1 × IVec S128x32 1 × IVec S128x1 1 × IVec S128x1 1 :=
  let main_v65 : IVec S128x32 32 := fn_argmax_0 (F := F) main_v62
  let main_v66 : IVec S128 32 := iotaInDim S128 32 0
  let main_v67 : IVec S128x1 32 := broadcastInDim S128x1 ![0] bcast_S128_S128x1_0 main_v66
  let main_v68 : IVec S32 32 := iotaInDim S32 32 0
  let main_v69 : IVec S1x32 32 := broadcastInDim S1x32 ![1] bcast_S32_S1x32_1 main_v68
  let main_c_5 : IVec S_ 32 := constantI S_ 32 0#32
  let main_v70 : IVec S128x1 32 := broadcastInDim S128x1 ![] bcast_S_S128x1 main_c_5
  let main_v71 : IVec S128x1 1 := cmpi .slt main_v67 main_v70
  let main_c_6 : IVec S_ 32 := constantI S_ 32 128#32
  let main_v72 : IVec S128x1 32 := broadcastInDim S128x1 ![] bcast_S_S128x1 main_c_6
  let main_v73 : IVec S128x1 32 := addi main_v67 main_v72
  let main_v74 : IVec S128x1 32 := select main_v71 main_v73 main_v67
  let main_c_7 : IVec S_ 32 := constantI S_ 32 0#32
  let main_v75 : IVec S128x32 32 := broadcastInDim S128x32 ![] bcast_S_S128x32 main_c_7
  let main_v76 : IVec S128x32 1 := cmpi .slt main_v65 main_v75
  let main_c_8 : IVec S_ 32 := constantI S_ 32 5685#32
  let main_v77 : IVec S128x32 32 := broadcastInDim S128x32 ![] bcast_S_S128x32 main_c_8
  let main_v78 : IVec S128x32 32 := addi main_v65 main_v77
  let main_v79 : IVec S128x32 32 := select main_v76 main_v78 main_v65
  let main_v80 : IVec S128x32 32 := broadcastInDim S128x32 ![0, 1] bcast_S128x1_S128x32_0_1 main_v74
  let main_v81 : IVec S128x32x1 32 := broadcastInDim S128x32x1 ![0, 1] bcast_S128x32_S128x32x1_0_1 main_v80
  let main_v82 : IVec S128x32x1 32 := broadcastInDim S128x32x1 ![0, 1] bcast_S128x32_S128x32x1_0_1 main_v79
  let main_v83 : IVec S128x32x2 32 := (fun a b => concatenate S128x32x2 2 [⟨S128x32x1, a⟩, ⟨S128x32x1, b⟩] concatenates_S128x32x1_S128x32x1_S128x32x2_d2) main_v81 main_v82
  let main_v84 : IVec S128x32 32 := broadcastInDim S128x32 ![0, 1] bcast_S1x32_S128x32_0_1 main_v69
  fn_part4 (F := F) main_arg1 main_arg2 main_arg3 main_v4 main_v9 main_v63 main_v64 main_v65 main_v67 main_v83 main_v84

def fn_part2 {F : FTy → Type} [FloatOps F] (main_arg1 : FVec F S128x5685x21 .f32) (main_arg2 : FVec F S128x32x4 .f32) (main_arg3 : IVec S128x32 32) (main_arg4 : FVec F S5685x4 .f32) (main_v4 : IVec S128x5685x21 1) (main_v9 : IVec S128x32 1) (main_v31 : FVec F S128x32x5685 .f32) (main_v42 : FVec F S128x32 .f32) : IVec S128x5685x21 1 × IVec S128x32 1 × IVec S128x1 1 × IVec S128x1 1 :=
  let main_v43 : FVec F S5685x1 .f32 := (extractStridedSlice S5685x1 ![0, 2] · slices_S5685x4_S5685x1_0_2) main_arg4
  let main_v44 : FVec F S5685 .f32 := shapeCast S5685 main_v43 shapeCasts_S5685x1_S5685
  let main_v45 : FVec F S5685x1 .f32 := (extractStridedSlice S5685x1 ![0, 0] · slices_S5685x4_S5685x1_0_0) main_arg4
  let main_v46 : FVec F S5685 .f32 := shapeCast S5685 main_v45 shapeCasts_S5685x1_S5685
  let main_v47 : FVec F S5685 .f32 := subf main_v44 main_v46
  let main_v48 : FVec F S5685x1 .f32 := (extractStridedSlice S5685x1 ![0, 3] · slices_S5685x4_S5685x1_0_3) main_arg4
  let main_v49 : FVec F S5685 .f32 := shapeCast S5685 main_v48 shapeCasts_S5685x1_S5685
  let main_v50 : FVec F S5685x1 .f32 := (extractStridedSlice S5685x1 ![0, 1] · slices_S5685x4_S5685x1_0_1) main_arg4
  let main_v51 : FVec F S5685 .f32 := shapeCast S5685 main_v50 shapeCasts_S5685x1_S5685
  let main_v52 : FVec F S5685 .f32 := subf main_v49 main_v51
  let main_v53 : FVec F S5685 .f32 := mulf main_v47 main_v52
  let main_v54 : FVec F S128x32x1 .f32 := broadcastInDim S128x32x1 ![0, 1] bcast_S128x32_S128x32x1_0_1 main_v42
  let main_v55 : FVec F S1x1x5685 .f32 := broadcastInDim S1x1x5685 ![2] bcast_S5685_S1x1x5685_2 main_v53
  let main_v56 : FVec F S128x32x5685 .f32 := broadcastInDim S128x32x5685 ![0, 1, 2] bcast_S128x32x1_S128x32x5685_0_1_2 main_v54
  let main_v57 : FVec F S128x32x5685 .f32 := broadcastInDim S128x32x5685 ![0, 1, 2] bcast_S1x1x5685_S128x32x5685_0_1_2 main_v55
  let main_v58 : FVec F S128x32x5685 .f32 := addf main_v56 main_v57
  let main_v59 : FVec F S128x32x5685 .f32 := subf main_v58 main_v31
  let main_cst_3 : FVec F S_ .f32 := constant S_ .f32 0x2EDBE6FF#32
  let main_v60 : FVec F S128x32x5685 .f32 := broadcastInDim S128x32x5685 ![] bcast_S_S128x32x5685 main_cst_3
  let main_v61 : FVec F S128x32x5685 .f32 := maximumf main_v59 main_v60
  let main_v62 : FVec F S128x32x5685 .f32 := Host.divf main_v31 main_v61
  let main_cst_4 : FVec F S_ .f32 := constant S_ .f32 0xFF800000#32
  let main_v63 : FVec F S128x5685 .f32 := (fun x v => Host.reduce FloatOps.maximumf x v reducesTo_S128x32x5685_S128x5685_d1 h_S_) main_v62 main_cst_4
  let main_v64 : IVec S128x5685 32 := fn_argmax (F := F) main_v62
  fn_part3 (F := F) main_arg1 main_arg2 main_arg3 main_v4 main_v9 main_v62 main_v63 main_v64

def fn_part1 {F : FTy → Type} [FloatOps F] (main_arg1 : FVec F S128x5685x21 .f32) (main_arg2 : FVec F S128x32x4 .f32) (main_arg3 : IVec S128x32 32) (main_arg4 : FVec F S5685x4 .f32) (main_v4 : IVec S128x5685x21 1) (main_v9 : IVec S128x32 1) (main_v16 : FVec F S128x32x5685x2 .f32) (main_v18 : FVec F S128x32x1x2 .f32) (main_v19 : FVec F S5685x2 .f32) : IVec S128x5685x21 1 × IVec S128x32 1 × IVec S128x1 1 × IVec S128x1 1 :=
  let main_v20 : FVec F S1x1x5685x2 .f32 := broadcastInDim S1x1x5685x2 ![2, 3] bcast_S5685x2_S1x1x5685x2_2_3 main_v19
  let main_v21 : FVec F S128x32x5685x2 .f32 := broadcastInDim S128x32x5685x2 ![0, 1, 2, 3] bcast_S128x32x1x2_S128x32x5685x2_0_1_2_3 main_v18
  let main_v22 : FVec F S128x32x5685x2 .f32 := broadcastInDim S128x32x5685x2 ![0, 1, 2, 3] bcast_S1x1x5685x2_S128x32x5685x2_0_1_2_3 main_v20
  let main_v23 : FVec F S128x32x5685x2 .f32 := minimumf main_v21 main_v22
  let main_v24 : FVec F S128x32x5685x2 .f32 := subf main_v23 main_v16
  let main_cst_2 : FVec F S_ .f32 := constant S_ .f32 0x00000000#32
  let main_v25 : FVec F S128x32x5685x2 .f32 := broadcastInDim S128x32x5685x2 ![] bcast_S_S128x32x5685x2 main_cst_2
  let main_v26 : FVec F S128x32x5685x2 .f32 := maximumf main_v24 main_v25
  let main_v27 : FVec F S128x32x5685x1 .f32 := (extractStridedSlice S128x32x5685x1 ![0, 0, 0, 0] · slices_S128x32x5685x2_S128x32x5685x1_0_0_0_0) main_v26
  let main_v28 : FVec F S128x32x5685 .f32 := shapeCast S128x32x5685 main_v27 shapeCasts_S128x32x5685x1_S128x32x5685
  let main_v29 : FVec F S128x32x5685x1 .f32 := (extractStridedSlice S128x32x5685x1 ![0, 0, 0, 1] · slices_S128x32x5685x2_S128x32x5685x1_0_0_0_1) main_v26
  let main_v30 : FVec F S128x32x5685 .f32 := shapeCast S128x32x5685 main_v29 shapeCasts_S128x32x5685x1_S128x32x5685
  let main_v31 : FVec F S128x32x5685 .f32 := mulf main_v28 main_v30
  let main_v32 : FVec F S128x32x1 .f32 := (extractStridedSlice S128x32x1 ![0, 0, 2] · slices_S128x32x4_S128x32x1_0_0_2) main_arg2
  let main_v33 : FVec F S128x32 .f32 := shapeCast S128x32 main_v32 shapeCasts_S128x32x1_S128x32
  let main_v34 : FVec F S128x32x1 .f32 := (extractStridedSlice S128x32x1 ![0, 0, 0] · slices_S128x32x4_S128x32x1_0_0_0) main_arg2
  let main_v35 : FVec F S128x32 .f32 := shapeCast S128x32 main_v34 shapeCasts_S128x32x1_S128x32
  let main_v36 : FVec F S128x32 .f32 := subf main_v33 main_v35
  let main_v37 : FVec F S128x32x1 .f32 := (extractStridedSlice S128x32x1 ![0, 0, 3] · slices_S128x32x4_S128x32x1_0_0_3) main_arg2
  let main_v38 : FVec F S128x32 .f32 := shapeCast S128x32 main_v37 shapeCasts_S128x32x1_S128x32
  let main_v39 : FVec F S128x32x1 .f32 := (extractStridedSlice S128x32x1 ![0, 0, 1] · slices_S128x32x4_S128x32x1_0_0_1) main_arg2
  let main_v40 : FVec F S128x32 .f32 := shapeCast S128x32 main_v39 shapeCasts_S128x32x1_S128x32
  let main_v41 : FVec F S128x32 .f32 := subf main_v38 main_v40
  let main_v42 : FVec F S128x32 .f32 := mulf main_v36 main_v41
  fn_part2 (F := F) main_arg1 main_arg2 main_arg3 main_arg4 main_v4 main_v9 main_v31 main_v42

def fn {F : FTy → Type} [FloatOps F] (main_arg0 : FVec F S128x5685x18 .f32) (main_arg1 : FVec F S128x5685x21 .f32) (main_arg2 : FVec F S128x32x4 .f32) (main_arg3 : IVec S128x32 32) (main_arg4 : FVec F S5685x4 .f32) : IVec S128x5685x21 1 × IVec S128x32 1 × IVec S128x1 1 × IVec S128x1 1 :=
  let main_cst : FVec F S_ .f32 := constant S_ .f32 0xFF800000#32
  let main_v0 : FVec F S128x5685x21 .f32 := broadcastInDim S128x5685x21 ![] bcast_S_S128x5685x21 main_cst
  let main_v1 : IVec S128x5685x21 1 := cmpf .ogt main_arg1 main_v0
  let main_cst_0 : FVec F S_ .f32 := constant S_ .f32 0x7F800000#32
  let main_v2 : FVec F S128x5685x21 .f32 := broadcastInDim S128x5685x21 ![] bcast_S_S128x5685x21 main_cst_0
  let main_v3 : IVec S128x5685x21 1 := cmpf .olt main_arg1 main_v2
  let main_v4 : IVec S128x5685x21 1 := andi main_v1 main_v3
  let main_c : IVec S_ 32 := constantI S_ 32 0#32
  let main_v5 : IVec S128x32 32 := broadcastInDim S128x32 ![] bcast_S_S128x32 main_c
  let main_v6 : IVec S128x32 1 := cmpi .sge main_arg3 main_v5
  let main_c_1 : IVec S_ 32 := constantI S_ 32 21#32
  let main_v7 : IVec S128x32 32 := broadcastInDim S128x32 ![] bcast_S_S128x32 main_c_1
  let main_v8 : IVec S128x32 1 := cmpi .slt main_arg3 main_v7
  let main_v9 : IVec S128x32 1 := andi main_v6 main_v8
  let main_v10 : FVec F S128x32x2 .f32 := (extractStridedSlice S128x32x2 ![0, 0, 0] · slices_S128x32x4_S128x32x2_0_0_0) main_arg2
  let main_v11 : FVec F S128x32x1x2 .f32 := broadcastInDim S128x32x1x2 ![0, 1, 3] bcast_S128x32x2_S128x32x1x2_0_1_3 main_v10
  let main_v12 : FVec F S5685x2 .f32 := (extractStridedSlice S5685x2 ![0, 0] · slices_S5685x4_S5685x2_0_0) main_arg4
  let main_v13 : FVec F S1x1x5685x2 .f32 := broadcastInDim S1x1x5685x2 ![2, 3] bcast_S5685x2_S1x1x5685x2_2_3 main_v12
  let main_v14 : FVec F S128x32x5685x2 .f32 := broadcastInDim S128x32x5685x2 ![0, 1, 2, 3] bcast_S128x32x1x2_S128x32x5685x2_0_1_2_3 main_v11
  let main_v15 : FVec F S128x32x5685x2 .f32 := broadcastInDim S128x32x5685x2 ![0, 1, 2, 3] bcast_S1x1x5685x2_S128x32x5685x2_0_1_2_3 main_v13
  let main_v16 : FVec F S128x32x5685x2 .f32 := maximumf main_v14 main_v15
  let main_v17 : FVec F S128x32x2 .f32 := (extractStridedSlice S128x32x2 ![0, 0, 2] · slices_S128x32x4_S128x32x2_0_0_2) main_arg2
  let main_v18 : FVec F S128x32x1x2 .f32 := broadcastInDim S128x32x1x2 ![0, 1, 3] bcast_S128x32x2_S128x32x1x2_0_1_3 main_v17
  let main_v19 : FVec F S5685x2 .f32 := (extractStridedSlice S5685x2 ![0, 2] · slices_S5685x4_S5685x2_0_2) main_arg4
  fn_part1 (F := F) main_arg1 main_arg2 main_arg3 main_arg4 main_v4 main_v9 main_v16 main_v18 main_v19
-- ==== Kernel.lean ====
abbrev S128x5685x18 : Shape := ⟨3, ![128, 5685, 18]⟩
abbrev S128x5685x21 : Shape := ⟨3, ![128, 5685, 21]⟩
abbrev S128x32x4 : Shape := ⟨3, ![128, 32, 4]⟩
abbrev S128x32 : Shape := ⟨2, ![128, 32]⟩
abbrev S5685x4 : Shape := ⟨2, ![5685, 4]⟩
abbrev S5685x1 : Shape := ⟨2, ![5685, 1]⟩
abbrev S5685 : Shape := ⟨1, ![5685]⟩
abbrev S_ : Shape := ⟨0, ![]⟩
abbrev S1x5685 : Shape := ⟨2, ![1, 5685]⟩
abbrev S8x5685 : Shape := ⟨2, ![8, 5685]⟩
abbrev S128x32x1 : Shape := ⟨3, ![128, 32, 1]⟩
abbrev S128x32x2 : Shape := ⟨3, ![128, 32, 2]⟩
abbrev S128x32x8 : Shape := ⟨3, ![128, 32, 8]⟩
abbrev S128x8x32 : Shape := ⟨3, ![128, 8, 32]⟩
abbrev S128x21x5685 : Shape := ⟨3, ![128, 21, 5685]⟩
abbrev S128x18x5685 : Shape := ⟨3, ![128, 18, 5685]⟩
abbrev S128x1x8 : Shape := ⟨3, ![128, 1, 8]⟩
abbrev S128x1x5685 : Shape := ⟨3, ![128, 1, 5685]⟩
abbrev S1x32x8 : Shape := ⟨3, ![1, 32, 8]⟩
abbrev S1x8x32 : Shape := ⟨3, ![1, 8, 32]⟩
abbrev S1x21x5685 : Shape := ⟨3, ![1, 21, 5685]⟩
abbrev S1x18x5685 : Shape := ⟨3, ![1, 18, 5685]⟩
abbrev S1x1x8 : Shape := ⟨3, ![1, 1, 8]⟩
abbrev S1x1x5685 : Shape := ⟨3, ![1, 1, 5685]⟩
abbrev S32x8 : Shape := ⟨2, ![32, 8]⟩
abbrev S8x32 : Shape := ⟨2, ![8, 32]⟩
abbrev S32x1 : Shape := ⟨2, ![32, 1]⟩
abbrev S32x5685 : Shape := ⟨2, ![32, 5685]⟩
abbrev S32 : Shape := ⟨1, ![32]⟩
abbrev S18x5685 : Shape := ⟨2, ![18, 5685]⟩
abbrev S9x5685 : Shape := ⟨2, ![9, 5685]⟩
abbrev S1 : Shape := ⟨1, ![1]⟩
abbrev S1x1x1 : Shape := ⟨3, ![1, 1, 1]⟩
abbrev S21x5685 : Shape := ⟨2, ![21, 5685]⟩
abbrev S1x21 : Shape := ⟨2, ![1, 21]⟩
abbrev S128x5685 : Shape := ⟨2, ![128, 5685]⟩
abbrev S128x1x1 : Shape := ⟨3, ![128, 1, 1]⟩
abbrev S128x1 : Shape := ⟨2, ![128, 1]⟩
abbrev S128 : Shape := ⟨1, ![128]⟩

abbrev nBuf : Space → Nat
  | .hbm => 84
  | .vmem => 20
  | .smem => 0
  | _ => 0

abbrev bufTy : (tb : Table) → Fin (tcTables nBuf tb) → BufTy
  | .hbm, ⟨0, _⟩ => ⟨S128x5685x18, .f32⟩
  | .hbm, ⟨1, _⟩ => ⟨S128x5685x21, .f32⟩
  | .hbm, ⟨2, _⟩ => ⟨S128x32x4, .f32⟩
  | .hbm, ⟨3, _⟩ => ⟨S128x32, .i32⟩
  | .hbm, ⟨4, _⟩ => ⟨S5685x4, .f32⟩
  | .hbm, ⟨5, _⟩ => ⟨S5685x1, .f32⟩
  | .hbm, ⟨6, _⟩ => ⟨S5685, .f32⟩
  | .hbm, ⟨7, _⟩ => ⟨S5685x1, .f32⟩
  | .hbm, ⟨8, _⟩ => ⟨S5685, .f32⟩
  | .hbm, ⟨9, _⟩ => ⟨S5685x1, .f32⟩
  | .hbm, ⟨10, _⟩ => ⟨S5685, .f32⟩
  | .hbm, ⟨11, _⟩ => ⟨S5685x1, .f32⟩
  | .hbm, ⟨12, _⟩ => ⟨S5685, .f32⟩
  | .hbm, ⟨13, _⟩ => ⟨S5685, .f32⟩
  | .hbm, ⟨14, _⟩ => ⟨S_, .f32⟩
  | .hbm, ⟨15, _⟩ => ⟨S5685, .f32⟩
  | .hbm, ⟨16, _⟩ => ⟨S5685, .f32⟩
  | .hbm, ⟨17, _⟩ => ⟨S5685, .f32⟩
  | .hbm, ⟨18, _⟩ => ⟨S_, .f32⟩
  | .hbm, ⟨19, _⟩ => ⟨S5685, .f32⟩
  | .hbm, ⟨20, _⟩ => ⟨S5685, .f32⟩
  | .hbm, ⟨21, _⟩ => ⟨S5685, .f32⟩
  | .hbm, ⟨22, _⟩ => ⟨S5685, .f32⟩
  | .hbm, ⟨23, _⟩ => ⟨S1x5685, .f32⟩
  | .hbm, ⟨24, _⟩ => ⟨S1x5685, .f32⟩
  | .hbm, ⟨25, _⟩ => ⟨S1x5685, .f32⟩
  | .hbm, ⟨26, _⟩ => ⟨S1x5685, .f32⟩
  | .hbm, ⟨27, _⟩ => ⟨S1x5685, .f32⟩
  | .hbm, ⟨28, _⟩ => ⟨S1x5685, .f32⟩
  | .hbm, ⟨29, _⟩ => ⟨S1x5685, .f32⟩
  | .hbm, ⟨30, _⟩ => ⟨S1x5685, .f32⟩
  | .hbm, ⟨31, _⟩ => ⟨S8x5685, .f32⟩
  | .hbm, ⟨32, _⟩ => ⟨S128x32x1, .f32⟩
  | .hbm, ⟨33, _⟩ => ⟨S128x32, .f32⟩
  | .hbm, ⟨34, _⟩ => ⟨S128x32x1, .f32⟩
  | .hbm, ⟨35, _⟩ => ⟨S128x32, .f32⟩
  | .hbm, ⟨36, _⟩ => ⟨S128x32, .f32⟩
  | .hbm, ⟨37, _⟩ => ⟨S128x32x1, .f32⟩
  | .hbm, ⟨38, _⟩ => ⟨S128x32, .f32⟩
  | .hbm, ⟨39, _⟩ => ⟨S128x32x1, .f32⟩
  | .hbm, ⟨40, _⟩ => ⟨S128x32, .f32⟩
  | .hbm, ⟨41, _⟩ => ⟨S128x32, .f32⟩
  | .hbm, ⟨42, _⟩ => ⟨S128x32, .f32⟩
  | .hbm, ⟨43, _⟩ => ⟨S128x32x1, .f32⟩
  | .hbm, ⟨44, _⟩ => ⟨S128x32x1, .i32⟩
  | .hbm, ⟨45, _⟩ => ⟨S128x32x1, .f32⟩
  | .hbm, ⟨46, _⟩ => ⟨S_, .f32⟩
  | .hbm, ⟨47, _⟩ => ⟨S128x32x2, .f32⟩
  | .hbm, ⟨48, _⟩ => ⟨S128x32x8, .f32⟩
  | .hbm, ⟨49, _⟩ => ⟨S128x8x32, .f32⟩
  | .hbm, ⟨50, _⟩ => ⟨S128x21x5685, .f32⟩
  | .hbm, ⟨51, _⟩ => ⟨S128x18x5685, .f32⟩
  | .hbm, ⟨52, _⟩ => ⟨S128x1x8, .f32⟩
  | .hbm, ⟨53, _⟩ => ⟨S128x1x8, .f32⟩
  | .hbm, ⟨54, _⟩ => ⟨S128x1x8, .f32⟩
  | .hbm, ⟨55, _⟩ => ⟨S128x1x5685, .f32⟩
  | .hbm, ⟨56, _⟩ => ⟨S128x5685, .f32⟩
  | .hbm, ⟨57, _⟩ => ⟨S128x1x1, .f32⟩
  | .hbm, ⟨58, _⟩ => ⟨S128x1, .f32⟩
  | .hbm, ⟨59, _⟩ => ⟨S128x1, .f32⟩
  | .hbm, ⟨60, _⟩ => ⟨S128x1x1, .f32⟩
  | .hbm, ⟨61, _⟩ => ⟨S128, .f32⟩
  | .hbm, ⟨62, _⟩ => ⟨S_, .f32⟩
  | .hbm, ⟨63, _⟩ => ⟨S_, .f32⟩
  | .hbm, ⟨64, _⟩ => ⟨S128x1x1, .f32⟩
  | .hbm, ⟨65, _⟩ => ⟨S128, .f32⟩
  | .hbm, ⟨66, _⟩ => ⟨S_, .f32⟩
  | .hbm, ⟨67, _⟩ => ⟨S_, .f32⟩
  | .hbm, ⟨68, _⟩ => ⟨S128x1x1, .f32⟩
  | .hbm, ⟨69, _⟩ => ⟨S128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S8x5685, .f32⟩
  | .local _ .vmem, ⟨1, _⟩ => ⟨S1x32x8, .f32⟩
  | .local _ .vmem, ⟨2, _⟩ => ⟨S1x32x8, .f32⟩
  | .local _ .vmem, ⟨3, _⟩ => ⟨S1x8x32, .f32⟩
  | .local _ .vmem, ⟨4, _⟩ => ⟨S1x8x32, .f32⟩
  | .local _ .vmem, ⟨5, _⟩ => ⟨S1x21x5685, .f32⟩
  | .local _ .vmem, ⟨6, _⟩ => ⟨S1x21x5685, .f32⟩
  | .local _ .vmem, ⟨7, _⟩ => ⟨S1x18x5685, .f32⟩
  | .local _ .vmem, ⟨8, _⟩ => ⟨S1x18x5685, .f32⟩
  | .local _ .vmem, ⟨9, _⟩ => ⟨S1x1x8, .f32⟩
  | .local _ .vmem, ⟨10, _⟩ => ⟨S1x1x8, .f32⟩
  | .local _ .vmem, ⟨11, _⟩ => ⟨S1x1x8, .f32⟩
  | .local _ .vmem, ⟨12, _⟩ => ⟨S1x1x8, .f32⟩
  | .local _ .vmem, ⟨13, _⟩ => ⟨S1x1x8, .f32⟩
  | .local _ .vmem, ⟨14, _⟩ => ⟨S1x1x8, .f32⟩
  | .local _ .vmem, ⟨15, _⟩ => ⟨S1x1x5685, .f32⟩
  | .local _ .vmem, ⟨16, _⟩ => ⟨S1x1x5685, .f32⟩
  | .local _ .vmem, ⟨17, _⟩ => ⟨S128x5685, .f32⟩
  | .local _ .vmem, ⟨18, _⟩ => ⟨S128x1, .f32⟩
  | .local _ .vmem, ⟨19, _⟩ => ⟨S128x1, .f32⟩
  | _, _ => ⟨S128x5685x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev main_v44_2 : Ref sig .tc := ⟨.hbm, 54, rfl⟩
abbrev main_v44_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_2 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc1_sem0_0 : DmaSem sig := 17
abbrev cc1_sem1_0 : DmaSem sig := 18
abbrev cc1_sem2_0 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x5685 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x21x5685 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x18x5685 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x5685 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

@[reducible] def k1_t1_loop : Scf.Loop 32 :=
  let c0_i32 : BitVec 32 := 0#32
  let c24_i32 : BitVec 32 := 24#32
  let v11 : BitVec 32 := Scalar.addi c0_i32 c24_i32
  let c1_i32 : BitVec 32 := 1#32
  ⟨c0_i32, v11, c1_i32⟩
abbrev stage1_0 : Fin 1 → Memref sig .tc .vmem S128x5685 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "tenth" => some ((10⁻¹ : ℝ) : EReal)
  | _ => none
-- ==== ReferenceIdeal.lean ====
abbrev S128x5685x18 : Shape := ⟨3, ![128, 5685, 18]⟩
abbrev S128x5685x21 : Shape := ⟨3, ![128, 5685, 21]⟩
abbrev S128x32x4 : Shape := ⟨3, ![128, 32, 4]⟩
abbrev S128x32 : Shape := ⟨2, ![128, 32]⟩
abbrev S5685x4 : Shape := ⟨2, ![5685, 4]⟩
abbrev S5685x2 : Shape := ⟨2, ![5685, 2]⟩
abbrev S_ : Shape := ⟨0, ![]⟩
abbrev S128x5685x2x9 : Shape := ⟨4, ![128, 5685, 2, 9]⟩
abbrev S128x5685x1x9 : Shape := ⟨4, ![128, 5685, 1, 9]⟩
abbrev S128x5685x9 : Shape := ⟨3, ![128, 5685, 9]⟩
abbrev S128x5685 : Shape := ⟨2, ![128, 5685]⟩
abbrev S128x5685x1 : Shape := ⟨3, ![128, 5685, 1]⟩
abbrev S128x5685x4 : Shape := ⟨3, ![128, 5685, 4]⟩
abbrev S128x32x2 : Shape := ⟨3, ![128, 32, 2]⟩
abbrev S128x32x1x2 : Shape := ⟨4, ![128, 32, 1, 2]⟩
abbrev S1x1x5685x2 : Shape := ⟨4, ![1, 1, 5685, 2]⟩
abbrev S128x32x5685x2 : Shape := ⟨4, ![128, 32, 5685, 2]⟩
abbrev S128x32x5685x1 : Shape := ⟨4, ![128, 32, 5685, 1]⟩
abbrev S128x32x5685 : Shape := ⟨3, ![128, 32, 5685]⟩
abbrev S128x32x1 : Shape := ⟨3, ![128, 32, 1]⟩
abbrev S5685x1 : Shape := ⟨2, ![5685, 1]⟩
abbrev S5685 : Shape := ⟨1, ![5685]⟩
abbrev S1x1x5685 : Shape := ⟨3, ![1, 1, 5685]⟩
abbrev S128 : Shape := ⟨1, ![128]⟩
abbrev S128x1 : Shape := ⟨2, ![128, 1]⟩
abbrev S32 : Shape := ⟨1, ![32]⟩
abbrev S1x32 : Shape := ⟨2, ![1, 32]⟩
abbrev S128x5685x2 : Shape := ⟨3, ![128, 5685, 2]⟩
abbrev S1x5685x2 : Shape := ⟨3, ![1, 5685, 2]⟩
abbrev S1x5685 : Shape := ⟨2, ![1, 5685]⟩
abbrev S128x5685x3 : Shape := ⟨3, ![128, 5685, 3]⟩

abbrev nBuf : Space → Nat
  | .hbm => 332
  | .vmem => 0
  | .smem => 0
  | _ => 0

abbrev hbmTy0_0 (i : Nat) : BufTy := match i % 128 with
  | 0 => ⟨S128x5685x18, .f32⟩
  | 1 => ⟨S128x5685x21, .f32⟩
  | 2 => ⟨S128x32x4, .f32⟩
  | 3 => ⟨S128x32, .i32⟩
  | 4 => ⟨S5685x4, .f32⟩
  | 5 => ⟨S5685x2, .f32⟩
  | 6 => ⟨S5685x2, .f32⟩
  | 7 => ⟨S5685x2, .f32⟩
  | 8 => ⟨S_, .f32⟩
  | 9 => ⟨S5685x2, .f32⟩
  | 10 => ⟨S5685x2, .f32⟩
  | 11 => ⟨S5685x2, .f32⟩
  | 12 => ⟨S5685x2, .f32⟩
  | 13 => ⟨S5685x2, .f32⟩
  | 14 => ⟨S5685x4, .f32⟩
  | 15 => ⟨S128x5685x2x9, .f32⟩
  | 16 => ⟨S128x5685x1x9, .f32⟩
  | 17 => ⟨S128x5685x9, .f32⟩
  | 18 => ⟨S128x5685x1x9, .f32⟩
  | 19 => ⟨S128x5685x9, .f32⟩
  | 20 => ⟨S_, .f32⟩
  | 21 => ⟨S128x5685, .f32⟩
  | 22 => ⟨S_, .f32⟩
  | 23 => ⟨S128x5685, .f32⟩
  | 24 => ⟨S_, .f32⟩
  | 25 => ⟨S128x5685, .f32⟩
  | 26 => ⟨S_, .f32⟩
  | 27 => ⟨S128x5685, .f32⟩
  | 28 => ⟨S128x5685x1, .f32⟩
  | 29 => ⟨S128x5685x1, .f32⟩
  | 30 => ⟨S128x5685x1, .f32⟩
  | 31 => ⟨S128x5685x1, .f32⟩
  | 32 => ⟨S128x5685x4, .f32⟩
  | 33 => ⟨S_, .f32⟩
  | 34 => ⟨S128x5685x4, .f32⟩
  | 35 => ⟨S128x5685x4, .f32⟩
  | 36 => ⟨S_, .f32⟩
  | 37 => ⟨S128x5685x4, .f32⟩
  | 38 => ⟨S128x5685x4, .f32⟩
  | 39 => ⟨S128x32x2, .f32⟩
  | 40 => ⟨S128x32x1x2, .f32⟩
  | 41 => ⟨S5685x2, .f32⟩
  | 42 => ⟨S1x1x5685x2, .f32⟩
  | 43 => ⟨S128x32x5685x2, .f32⟩
  | 44 => ⟨S128x32x5685x2, .f32⟩
  | 45 => ⟨S128x32x5685x2, .f32⟩
  | 46 => ⟨S128x32x2, .f32⟩
  | 47 => ⟨S128x32x1x2, .f32⟩
  | 48 => ⟨S5685x2, .f32⟩
  | 49 => ⟨S1x1x5685x2, .f32⟩
  | 50 => ⟨S128x32x5685x2, .f32⟩
  | 51 => ⟨S128x32x5685x2, .f32⟩
  | 52 => ⟨S128x32x5685x2, .f32⟩
  | 53 => ⟨S128x32x5685x2, .f32⟩
  | 54 => ⟨S_, .f32⟩
  | 55 => ⟨S128x32x5685x2, .f32⟩
  | 56 => ⟨S128x32x5685x2, .f32⟩
  | 57 => ⟨S128x32x5685x1, .f32⟩
  | 58 => ⟨S128x32x5685, .f32⟩
  | 59 => ⟨S128x32x5685x1, .f32⟩
  | 60 => ⟨S128x32x5685, .f32⟩
  | 61 => ⟨S128x32x5685, .f32⟩
  | 62 => ⟨S128x32x1, .f32⟩
  | 63 => ⟨S128x32, .f32⟩
  | 64 => ⟨S128x32x1, .f32⟩
  | 65 => ⟨S128x32, .f32⟩
  | 66 => ⟨S128x32, .f32⟩
  | 67 => ⟨S128x32x1, .f32⟩
  | 68 => ⟨S128x32, .f32⟩
  | 69 => ⟨S128x32x1, .f32⟩
  | 70 => ⟨S128x32, .f32⟩
  | 71 => ⟨S128x32, .f32⟩
  | 72 => ⟨S128x32, .f32⟩
  | 73 => ⟨S5685x1, .f32⟩
  | 74 => ⟨S5685, .f32⟩
  | 75 => ⟨S5685x1, .f32⟩
  | 76 => ⟨S5685, .f32⟩
  | 77 => ⟨S5685, .f32⟩
  | 78 => ⟨S5685x1, .f32⟩
  | 79 => ⟨S5685, .f32⟩
  | 80 => ⟨S5685x1, .f32⟩
  | 81 => ⟨S5685, .f32⟩
  | 82 => ⟨S5685, .f32⟩
  | 83 => ⟨S5685, .f32⟩
  | 84 => ⟨S128x32x1, .f32⟩
  | 85 => ⟨S1x1x5685, .f32⟩
  | 86 => ⟨S128x32x5685, .f32⟩
  | 87 => ⟨S128x32x5685, .f32⟩
  | 88 => ⟨S128x32x5685, .f32⟩
  | 89 => ⟨S128x32x5685, .f32⟩
  | 90 => ⟨S_, .f32⟩
  | 91 => ⟨S128x32x5685, .f32⟩
  | 92 => ⟨S128x32x5685, .f32⟩
  | 93 => ⟨S128x32x5685, .f32⟩
  | 94 => ⟨S_, .f32⟩
  | 95 => ⟨S128x5685, .f32⟩
  | 96 => ⟨S128x32x5685, .i32⟩
  | 97 => ⟨S_, .f32⟩
  | 98 => ⟨S_, .i32⟩
  | 99 => ⟨S128x5685, .f32⟩
  | 100 => ⟨S128x5685, .i32⟩
  | 101 => ⟨S128x32x5685, .i32⟩
  | 102 => ⟨S_, .f32⟩
  | 103 => ⟨S_, .i32⟩
  | 104 => ⟨S128x32, .f32⟩
  | 105 => ⟨S128x32, .i32⟩
  | 106 => ⟨S128, .i32⟩
  | 107 => ⟨S128x1, .i32⟩
  | 108 => ⟨S32, .i32⟩
  | 109 => ⟨S1x32, .i32⟩
  | 110 => ⟨S_, .i32⟩
  | 111 => ⟨S128x1, .i32⟩
  | 112 => ⟨S128x1, .i1⟩
  | 113 => ⟨S_, .i32⟩
  | 114 => ⟨S128x1, .i32⟩
  | 115 => ⟨S128x1, .i32⟩
  | 116 => ⟨S128x1, .i32⟩
  | 117 => ⟨S_, .i32⟩
  | 118 => ⟨S128x32, .i32⟩
  | 119 => ⟨S128x32, .i1⟩
  | 120 => ⟨S_, .i32⟩
  | 121 => ⟨S128x32, .i32⟩
  | 122 => ⟨S128x32, .i32⟩
  | 123 => ⟨S128x32, .i32⟩
  | 124 => ⟨S128x32, .i32⟩
  | 125 => ⟨S128x32x1, .i32⟩
  | 126 => ⟨S128x32x1, .i32⟩
  | 127 => ⟨S128x32x2, .i32⟩
  | _ => ⟨S128x5685x18, .f32⟩

abbrev hbmTy0_1 (i : Nat) : BufTy := match i % 128 with
  | 0 => ⟨S128x32, .i32⟩
  | 1 => ⟨S128x5685, .i32⟩
  | 2 => ⟨S_, .i32⟩
  | 3 => ⟨S128x1, .i32⟩
  | 4 => ⟨S128x1, .i1⟩
  | 5 => ⟨S_, .i32⟩
  | 6 => ⟨S128x1, .i32⟩
  | 7 => ⟨S128x1, .i32⟩
  | 8 => ⟨S128x1, .i32⟩
  | 9 => ⟨S_, .i32⟩
  | 10 => ⟨S128x32, .i32⟩
  | 11 => ⟨S128x32, .i1⟩
  | 12 => ⟨S_, .i32⟩
  | 13 => ⟨S128x32, .i32⟩
  | 14 => ⟨S128x32, .i32⟩
  | 15 => ⟨S128x32, .i32⟩
  | 16 => ⟨S128x32, .i32⟩
  | 17 => ⟨S128x32x1, .i32⟩
  | 18 => ⟨S128x32x1, .i32⟩
  | 19 => ⟨S128x32x2, .i32⟩
  | 20 => ⟨S_, .f32⟩
  | 21 => ⟨S128x32, .f32⟩
  | 22 => ⟨S128x5685, .f32⟩
  | 23 => ⟨S_, .i32⟩
  | 24 => ⟨S128x1, .i32⟩
  | 25 => ⟨S128x1, .i1⟩
  | 26 => ⟨S_, .i32⟩
  | 27 => ⟨S128x1, .i32⟩
  | 28 => ⟨S128x1, .i32⟩
  | 29 => ⟨S128x1, .i32⟩
  | 30 => ⟨S_, .i32⟩
  | 31 => ⟨S128x5685, .i32⟩
  | 32 => ⟨S128x5685, .i1⟩
  | 33 => ⟨S_, .i32⟩
  | 34 => ⟨S128x5685, .i32⟩
  | 35 => ⟨S128x5685, .i32⟩
  | 36 => ⟨S128x5685, .i32⟩
  | 37 => ⟨S128x5685, .i32⟩
  | 38 => ⟨S128x5685x1, .i32⟩
  | 39 => ⟨S128x5685x1, .i32⟩
  | 40 => ⟨S128x5685x2, .i32⟩
  | 41 => ⟨S128x5685, .i32⟩
  | 42 => ⟨S_, .i32⟩
  | 43 => ⟨S128x5685, .i32⟩
  | 44 => ⟨S_, .f32⟩
  | 45 => ⟨S128x5685, .f32⟩
  | 46 => ⟨S128x5685, .i1⟩
  | 47 => ⟨S128x5685, .i32⟩
  | 48 => ⟨S_, .i32⟩
  | 49 => ⟨S128x1, .i32⟩
  | 50 => ⟨S128x1, .i1⟩
  | 51 => ⟨S_, .i32⟩
  | 52 => ⟨S128x1, .i32⟩
  | 53 => ⟨S128x1, .i32⟩
  | 54 => ⟨S128x1, .i32⟩
  | 55 => ⟨S_, .i32⟩
  | 56 => ⟨S128x5685, .i32⟩
  | 57 => ⟨S128x5685, .i1⟩
  | 58 => ⟨S_, .i32⟩
  | 59 => ⟨S128x5685, .i32⟩
  | 60 => ⟨S128x5685, .i32⟩
  | 61 => ⟨S128x5685, .i32⟩
  | 62 => ⟨S128x5685, .i32⟩
  | 63 => ⟨S128x5685x1, .i32⟩
  | 64 => ⟨S128x5685x1, .i32⟩
  | 65 => ⟨S128x5685x2, .i32⟩
  | 66 => ⟨S128x5685x4, .f32⟩
  | 67 => ⟨S128x5685x2, .f32⟩
  | 68 => ⟨S128x5685x2, .f32⟩
  | 69 => ⟨S128x5685x2, .f32⟩
  | 70 => ⟨S_, .f32⟩
  | 71 => ⟨S128x5685x2, .f32⟩
  | 72 => ⟨S128x5685x2, .f32⟩
  | 73 => ⟨S128x5685x2, .f32⟩
  | 74 => ⟨S128x5685x2, .f32⟩
  | 75 => ⟨S128x5685x2, .f32⟩
  | 76 => ⟨S128x5685x4, .f32⟩
  | 77 => ⟨S128x5685x2, .f32⟩
  | 78 => ⟨S5685x2, .f32⟩
  | 79 => ⟨S1x5685x2, .f32⟩
  | 80 => ⟨S128x5685x2, .f32⟩
  | 81 => ⟨S128x5685x2, .f32⟩
  | 82 => ⟨S5685x2, .f32⟩
  | 83 => ⟨S_, .f32⟩
  | 84 => ⟨S5685x2, .f32⟩
  | 85 => ⟨S5685x2, .f32⟩
  | 86 => ⟨S1x5685x2, .f32⟩
  | 87 => ⟨S128x5685x2, .f32⟩
  | 88 => ⟨S128x5685x2, .f32⟩
  | 89 => ⟨S128x5685x2, .f32⟩
  | 90 => ⟨S_, .f32⟩
  | 91 => ⟨S128x5685x2, .f32⟩
  | 92 => ⟨S128x5685x2, .f32⟩
  | 93 => ⟨S5685x2, .f32⟩
  | 94 => ⟨S_, .f32⟩
  | 95 => ⟨S5685x2, .f32⟩
  | 96 => ⟨S5685x2, .f32⟩
  | 97 => ⟨S1x5685x2, .f32⟩
  | 98 => ⟨S128x5685x2, .f32⟩
  | 99 => ⟨S128x5685x2, .f32⟩
  | 100 => ⟨S128x5685x2, .f32⟩
  | 101 => ⟨S_, .f32⟩
  | 102 => ⟨S128x5685x2, .f32⟩
  | 103 => ⟨S128x5685x2, .f32⟩
  | 104 => ⟨S128x5685x4, .f32⟩
  | 105 => ⟨S_, .i32⟩
  | 106 => ⟨S128x5685, .i32⟩
  | 107 => ⟨S128x5685, .i1⟩
  | 108 => ⟨S128x5685, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S128x5685x4, .f32⟩
  | 116 => ⟨S128x5685x4, .f32⟩
  | 117 => ⟨S128x5685x1, .f32⟩
  | 118 => ⟨S128x5685x4, .f32⟩
  | 119 => ⟨S128x5685x4, .f32⟩
  | 120 => ⟨S_, .f32⟩
  | 121 => ⟨S_, .f32⟩
  | 122 => ⟨S_, .f32⟩
  | 123 => ⟨S_, .f32⟩
  | 124 => ⟨S128, .f32⟩
  | 125 => ⟨S_, .f32⟩
  | 126 => ⟨S128, .f32⟩
  | 127 => ⟨S128, .f32⟩
  | _ => ⟨S128x5685x18, .f32⟩

abbrev hbmTy0_2 (i : Nat) : BufTy := match i % 128 with
  | 0 => ⟨S_, .f32⟩
  | 1 => ⟨S128x5685, .f32⟩
  | 2 => ⟨S128x5685x1, .f32⟩
  | 3 => ⟨S128x5685x21, .f32⟩
  | 4 => ⟨S128x5685x21, .f32⟩
  | 5 => ⟨S128x5685x21, .f32⟩
  | 6 => ⟨S128x5685x21, .f32⟩
  | 7 => ⟨S128x5685x21, .f32⟩
  | 8 => ⟨S_, .f32⟩
  | 9 => ⟨S128x5685, .f32⟩
  | 10 => ⟨S128x5685x1, .f32⟩
  | 11 => ⟨S128x5685x1, .f32⟩
  | 12 => ⟨S128x5685x21, .f32⟩
  | 13 => ⟨S128x5685x21, .f32⟩
  | 14 => ⟨S128, .i32⟩
  | 15 => ⟨S128x1, .i32⟩
  | 16 => ⟨S5685, .i32⟩
  | 17 => ⟨S1x5685, .i32⟩
  | 18 => ⟨S_, .i32⟩
  | 19 => ⟨S128x1, .i32⟩
  | 20 => ⟨S128x1, .i1⟩
  | 21 => ⟨S_, .i32⟩
  | 22 => ⟨S128x1, .i32⟩
  | 23 => ⟨S128x1, .i32⟩
  | 24 => ⟨S128x1, .i32⟩
  | 25 => ⟨S_, .i32⟩
  | 26 => ⟨S1x5685, .i32⟩
  | 27 => ⟨S1x5685, .i1⟩
  | 28 => ⟨S_, .i32⟩
  | 29 => ⟨S1x5685, .i32⟩
  | 30 => ⟨S1x5685, .i32⟩
  | 31 => ⟨S1x5685, .i32⟩
  | 32 => ⟨S_, .i32⟩
  | 33 => ⟨S128x5685, .i32⟩
  | 34 => ⟨S128x5685, .i1⟩
  | 35 => ⟨S_, .i32⟩
  | 36 => ⟨S128x5685, .i32⟩
  | 37 => ⟨S128x5685, .i32⟩
  | 38 => ⟨S128x5685, .i32⟩
  | 39 => ⟨S128x5685, .i32⟩
  | 40 => ⟨S128x5685, .i32⟩
  | 41 => ⟨S128x5685x1, .i32⟩
  | 42 => ⟨S128x5685x1, .i32⟩
  | 43 => ⟨S128x5685x1, .i32⟩
  | 44 => ⟨S128x5685x3, .i32⟩
  | 45 => ⟨S128x5685, .f32⟩
  | 46 => ⟨S128x5685, .f32⟩
  | 47 => ⟨S128x5685, .f32⟩
  | 48 => ⟨S_, .f32⟩
  | 49 => ⟨S_, .f32⟩
  | 50 => ⟨S_, .f32⟩
  | 51 => ⟨S128x5685, .f32⟩
  | 52 => ⟨S128x5685, .f32⟩
  | 53 => ⟨S128x5685, .f32⟩
  | 54 => ⟨S128x5685, .f32⟩
  | 55 => ⟨S128x5685, .f32⟩
  | 56 => ⟨S5685, .i32⟩
  | 57 => ⟨S5685, .f32⟩
  | 58 => ⟨S1x5685, .f32⟩
  | 59 => ⟨S128x1, .f32⟩
  | 60 => ⟨S128x5685, .f32⟩
  | 61 => ⟨S128x5685, .f32⟩
  | 62 => ⟨S128x5685, .i1⟩
  | 63 => ⟨S128x5685, .f32⟩
  | 64 => ⟨S128x5685, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | _ => ⟨S128x5685x18, .f32⟩

abbrev hbmTy (i : Nat) : BufTy := match i / 128 with
  | 0 => hbmTy0_0 i
  | 1 => hbmTy0_1 i
  | 2 => hbmTy0_2 i
  | _ => ⟨S128x5685x18, .f32⟩

abbrev bufTy : (tb : Table) → Fin (tcTables nBuf tb) → BufTy
  | .hbm, ⟨i, _⟩ => hbmTy i
  | _, _ => ⟨S128x5685x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_7 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_8 : Ref sig .tc := ⟨.hbm, 94, rfl⟩
abbrev main_v80 : Ref sig .tc := ⟨.hbm, 95, rfl⟩
abbrev main_call0_v0 : Ref sig .tc := ⟨.hbm, 96, rfl⟩
abbrev main_call0_cst : Ref sig .tc := ⟨.hbm, 97, rfl⟩
abbrev main_call0_c : Ref sig .tc := ⟨.hbm, 98, rfl⟩
abbrev main_call0_v1_0 : Ref sig .tc := ⟨.hbm, 99, rfl⟩
abbrev main_v81 : Ref sig .tc := ⟨.hbm, 100, rfl⟩
abbrev main_call1_v0 : Ref sig .tc := ⟨.hbm, 101, rfl⟩
abbrev main_call1_cst : Ref sig .tc := ⟨.hbm, 102, rfl⟩
abbrev main_call1_c : Ref sig .tc := ⟨.hbm, 103, rfl⟩
abbrev main_call1_v1_0 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c : Ref sig .tc := ⟨.hbm, 110, rfl⟩
abbrev main_v87 : Ref sig .tc := ⟨.hbm, 111, rfl⟩
abbrev main_v88 : Ref sig .tc := ⟨.hbm, 112, rfl⟩
abbrev main_c_9 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_10 : Ref sig .tc := ⟨.hbm, 117, rfl⟩
abbrev main_v92 : Ref sig .tc := ⟨.hbm, 118, rfl⟩
abbrev main_v93 : Ref sig .tc := ⟨.hbm, 119, rfl⟩
abbrev main_c_11 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_12 : Ref sig .tc := ⟨.hbm, 130, rfl⟩
abbrev main_v103 : Ref sig .tc := ⟨.hbm, 131, rfl⟩
abbrev main_v104 : Ref sig .tc := ⟨.hbm, 132, rfl⟩
abbrev main_c_13 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_14 : Ref sig .tc := ⟨.hbm, 137, rfl⟩
abbrev main_v108 : Ref sig .tc := ⟨.hbm, 138, rfl⟩
abbrev main_v109 : Ref sig .tc := ⟨.hbm, 139, rfl⟩
abbrev main_c_15 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_16 : Ref sig .tc := ⟨.hbm, 148, rfl⟩
abbrev main_v117 : Ref sig .tc := ⟨.hbm, 149, rfl⟩
abbrev main_v118 : Ref sig .tc := ⟨.hbm, 150, rfl⟩
abbrev main_c_17 : Ref sig .tc := ⟨.hbm, 151, rfl⟩
abbrev main_v119 : Ref sig .tc := ⟨.hbm, 152, rfl⟩
abbrev main_v120 : Ref sig .tc := ⟨.hbm, 153, rfl⟩
abbrev main_c_18 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c_19 : Ref sig .tc := ⟨.hbm, 158, rfl⟩
abbrev main_v124 : Ref sig .tc := ⟨.hbm, 159, rfl⟩
abbrev main_v125 : Ref sig .tc := ⟨.hbm, 160, rfl⟩
abbrev main_c_20 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_c_21 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_c_23 : Ref sig .tc := ⟨.hbm, 176, rfl⟩
abbrev main_v138 : Ref sig .tc := ⟨.hbm, 177, rfl⟩
abbrev main_v139 : Ref sig .tc := ⟨.hbm, 178, rfl⟩
abbrev main_c_24 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_c_25 : Ref sig .tc := ⟨.hbm, 183, rfl⟩
abbrev main_v143 : Ref sig .tc := ⟨.hbm, 184, rfl⟩
abbrev main_v144 : Ref sig .tc := ⟨.hbm, 185, rfl⟩
abbrev main_c_26 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_27 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_28 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_29 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_30 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_31 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_c_32 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_33 : Ref sig .tc := ⟨.hbm, 237, rfl⟩
abbrev main_v189 : Ref sig .tc := ⟨.hbm, 238, rfl⟩
abbrev main_cst_34 : Ref sig .tc := ⟨.hbm, 239, rfl⟩
abbrev main_v190 : Ref sig .tc := ⟨.hbm, 240, rfl⟩
abbrev main_cst_35 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_cst_36 : Ref sig .tc := ⟨.hbm, 248, rfl⟩
abbrev main_v197 : Ref sig .tc := ⟨.hbm, 249, rfl⟩
abbrev main_v198 : Ref sig .tc := ⟨.hbm, 250, rfl⟩
abbrev main_cst_37 : Ref sig .tc := ⟨.hbm, 251, rfl⟩
abbrev main_v199 : Ref sig .tc := ⟨.hbm, 252, rfl⟩
abbrev main_cst_38 : Ref sig .tc := ⟨.hbm, 253, rfl⟩
abbrev main_v200 : Ref sig .tc := ⟨.hbm, 254, rfl⟩
abbrev main_v201 : Ref sig .tc := ⟨.hbm, 255, rfl⟩
abbrev main_cst_39 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_cst_40 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_c_41 : Ref sig .tc := ⟨.hbm, 274, rfl⟩
abbrev main_v218 : Ref sig .tc := ⟨.hbm, 275, rfl⟩
abbrev main_v219 : Ref sig .tc := ⟨.hbm, 276, rfl⟩
abbrev main_c_42 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_c_43 : Ref sig .tc := ⟨.hbm, 281, rfl⟩
abbrev main_v223 : Ref sig .tc := ⟨.hbm, 282, rfl⟩
abbrev main_v224 : Ref sig .tc := ⟨.hbm, 283, rfl⟩
abbrev main_c_44 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_c_45 : Ref sig .tc := ⟨.hbm, 288, rfl⟩
abbrev main_v228 : Ref sig .tc := ⟨.hbm, 289, rfl⟩
abbrev main_v229 : Ref sig .tc := ⟨.hbm, 290, rfl⟩
abbrev main_c_46 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_cst_47 : Ref sig .tc := ⟨.hbm, 304, rfl⟩
abbrev main_v242 : Ref sig .tc := ⟨.hbm, 305, rfl⟩
abbrev main_cst_48 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_cst_49 : Ref sig .tc := ⟨.hbm, 321, rfl⟩
abbrev main_v257 : Ref sig .tc := ⟨.hbm, 322, rfl⟩
abbrev main_v258 : Ref sig .tc := ⟨.hbm, 323, rfl⟩
abbrev main_cst_50 : Ref sig .tc := ⟨.hbm, 324, rfl⟩
abbrev main_v259 : Ref sig .tc := ⟨.hbm, 325, rfl⟩
abbrev main_cst_51 : Ref sig .tc := ⟨.hbm, 326, rfl⟩
abbrev main_v260 : Ref sig .tc := ⟨.hbm, 327, rfl⟩
abbrev main_v261 : Ref sig .tc := ⟨.hbm, 328, rfl⟩
abbrev main_cst_52 : Ref sig .tc := ⟨.hbm, 329, rfl⟩
abbrev main_v262 : Ref sig .tc := ⟨.hbm, 330, rfl⟩
abbrev main_v263 : Ref sig .tc := ⟨.hbm, 331, rfl⟩

abbrev nD : Nat := 1
abbrev τ : Topo := Topo.v7x

variable {F : FTy → Type} [FloatOps F]
-- ==== Proof.KernelRun.lean ====
/- The kernel's run: every fair execution terminates with the result buffer at the contents that the fold
   through the two calls and the host operations around them gives (`Gen.W5`), the arguments unchanged. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's run with its result: the launch over the segments, the last thread state read at the result
    buffer and at the arguments. -/
theorem run : θ_run defs (onTc (τ := τ) (main (F := F))) ⟨m, fun _ => 0, ρ⟩ (fun r => ∀ c : Dev nD,
      r.2.mem ((c.tc : Thread nD τ).loc main_v65) = W5 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v65 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Value

end
-- ==== Proof.Bisect.lean ====
/- Bisection for the sum of the `k` largest of `n` non-negative numbers. Halving an interval that starts at
   `[0, H]` by counting how many numbers lie above the midpoint finds a threshold above which exactly `k` numbers lie,
   once the interval is shorter than the gap between the `k`-th and the `k+1`-th largest number. -/
module

public import Mathlib.Data.Real.Basic
public import Mathlib.Algebra.BigOperators.Fin
public import Mathlib.Tactic.Linarith
public import Mathlib.Tactic.Ring
public import Mathlib.Tactic.FieldSimp
public import Mathlib.Order.Interval.Finset.Fin

@[expose] public section

noncomputable section

namespace Cert.Loss

open Finset

variable {n : ℕ}

/-- How many of the numbers lie above `t`. -/
def cntGt (y : Fin n → ℝ) (t : ℝ) : ℕ := (univ.filter fun p => t < y p).card

/-- One halving of the interval `(lo, hi)`: the upper half when more than `k` numbers lie above the midpoint. -/
def halve (y : Fin n → ℝ) (k : ℕ) (s : ℝ × ℝ) : ℝ × ℝ :=
  if k < cntGt y (1 / 2 * (s.1 + s.2)) then (1 / 2 * (s.1 + s.2), s.2) else (s.1, 1 / 2 * (s.1 + s.2))

/-- The count over the numbers in sorted order. -/
theorem cntGt_perm (y : Fin n → ℝ) (σ : Equiv.Perm (Fin n)) (t : ℝ) : cntGt (y ∘ σ) t = cntGt y t := by
  unfold cntGt
  rw [← card_map σ.toEmbedding]
  congr 1
  ext p
  simp only [mem_map_equiv, mem_filter, mem_univ, true_and, Function.comp, Equiv.apply_symm_apply]

/-- In descending order the number of rank `r` lies above `t` exactly when more than `r` numbers do. -/
theorem lt_iff_rank (z : Fin n → ℝ) (hz : Antitone z) (t : ℝ) (r : Fin n) : t < z r ↔ r.val < cntGt z t := by
  constructor
  · intro h
    have hs : Finset.Iic r ⊆ univ.filter fun p => t < z p := fun p hp => by
      simp only [mem_filter, mem_univ, true_and]
      exact h.trans_le (hz (Finset.mem_Iic.1 hp))
    have := card_le_card hs
    rw [Fin.card_Iic] at this
    unfold cntGt
    omega
  · intro h
    by_contra hn
    have hs : (univ.filter fun p => t < z p) ⊆ Finset.Iio r := fun p hp => by
      simp only [mem_filter, mem_univ, true_and] at hp
      rw [Finset.mem_Iio]
      by_contra hq
      exact hn (hp.trans_le (hz (not_lt.1 hq)))
    have := card_le_card hs
    rw [Fin.card_Iio] at this
    unfold cntGt at h
    omega

/-- What every halving keeps: at most `k` numbers above the upper end, more than `k` above a lower end that has moved,
    and the length halved. -/
theorem halve_inv (y : Fin n → ℝ) (k : ℕ) (H : ℝ) (h0 : cntGt y H ≤ k) (T : ℕ) :
    let s := (halve y k)^[T] (0, H)
    cntGt y s.2 ≤ k ∧ (s.1 = 0 ∨ k < cntGt y s.1) ∧ s.2 - s.1 = H / 2 ^ T := by
  induction T with
  | zero => exact ⟨h0, .inl rfl, by simp⟩
  | succ T ih =>
    simp only [Function.iterate_succ_apply'] at ih ⊢
    generalize (halve y k)^[T] (0, H) = s at ih ⊢
    obtain ⟨h1, h2, h3⟩ := ih
    unfold halve
    split_ifs with hc
    · refine ⟨h1, .inr hc, ?_⟩
      show s.2 - 1 / 2 * (s.1 + s.2) = _
      rw [pow_succ, ← div_div, ← h3]; ring
    · refine ⟨not_lt.1 hc, h2, ?_⟩
      show 1 / 2 * (s.1 + s.2) - s.1 = _
      rw [pow_succ, ← div_div, ← h3]; ring

/-- Under the gap the upper end has exactly `k` numbers above it. -/
theorem halve_count (y : Fin n → ℝ) (hy : ∀ p, 0 ≤ y p) (k : ℕ) (hk : k < n) (H : ℝ) (hH : ∀ p, y p ≤ H)
    (σ : Equiv.Perm (Fin n)) (hσ : Antitone (y ∘ σ)) (T : ℕ)
    (gap : ∀ i j : Fin n, i.val < k → k ≤ j.val → H / 2 ^ T < y (σ i) - y (σ j)) :
    cntGt y ((halve y k)^[T] (0, H)).2 = k := by
  have h0 : cntGt y H ≤ k := by
    have : cntGt y H = 0 := by
      unfold cntGt
      rw [card_eq_zero, filter_eq_empty_iff]
      exact fun p _ => not_lt.2 (hH p)
    omega
  obtain ⟨h1, h2, h3⟩ := halve_inv y k H h0 T
  generalize (halve y k)^[T] (0, H) = s at h1 h2 h3 ⊢
  by_contra hne
  have hlt : cntGt y s.2 < k := by omega
  have hi : y (σ ⟨k - 1, by omega⟩) ≤ s.2 := by
    by_contra hc
    have := (lt_iff_rank (y ∘ σ) hσ s.2 ⟨k - 1, by omega⟩).1 (not_le.1 hc)
    rw [cntGt_perm] at this
    dsimp only at this
    omega
  have hg := gap ⟨k - 1, by omega⟩ ⟨k, hk⟩ (by dsimp only; omega) le_rfl
  have hlo : s.1 ≤ y (σ ⟨k, hk⟩) := by
    rcases h2 with h2 | h2
    · rw [h2]; exact hy _
    · refine le_of_lt ((lt_iff_rank (y ∘ σ) hσ s.1 ⟨k, hk⟩).2 ?_)
      rw [cntGt_perm]; exact h2
  linarith

/-- The sum above the threshold that bisection finds is the sum of the `k` largest numbers. -/
theorem halve_sum (y : Fin n → ℝ) (hy : ∀ p, 0 ≤ y p) (k : ℕ) (hk : k < n) (H : ℝ) (hH : ∀ p, y p ≤ H)
    (σ : Equiv.Perm (Fin n)) (hσ : Antitone (y ∘ σ)) (T : ℕ)
    (gap : ∀ i j : Fin n, i.val < k → k ≤ j.val → H / 2 ^ T < y (σ i) - y (σ j)) :
    (∑ p, if ((halve y k)^[T] (0, H)).2 < y p then y p else 0) = ∑ r : Fin n, if r.val < k then y (σ r) else 0 := by
  have hc := halve_count y hy k hk H hH σ hσ T gap
  generalize ((halve y k)^[T] (0, H)).2 = t at hc ⊢
  rw [← Equiv.sum_comp σ]
  refine sum_congr rfl fun r _ => ?_
  have := lt_iff_rank (y ∘ σ) hσ t r
  rw [cntGt_perm, hc] at this
  simp only [Function.comp] at this
  simp only [this]

end Cert.Loss

end
-- ==== Proof.Spec.lean ====
/- The loss of one image in plain terms, over the extended reals: which object each prior is matched to, the
   class and the box that go with it, and the three sums over the priors. Both programs are shown to compute these. -/
module

public import proofs.«01_k».proof.Proof.Bisect
public import Idealize.ShloMosaic.Lib.Pointwise

@[expose] public section

noncomputable section

namespace Cert.Loss
open Idealize.ShloMosaic

/-- A sum of numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The first position of the largest value -/

theorem exists_firstMax {n : ℕ} [NeZero n] (x : Fin n → EReal) :
    ∃ i, (∀ j, x j ≤ x i) ∧ ∀ j, x j = x i → i ≤ j := by
  obtain ⟨m, hm⟩ := Finite.exists_max x
  obtain ⟨i, hi, hmin⟩ := Finset.exists_min_image (Finset.univ.filter fun i => x i = x m) id ⟨m, by simp⟩
  have hi' : x i = x m := by simpa using hi
  refine ⟨i, fun j => hi' ▸ hm j, fun j hj => hmin j (by simp [hj, hi'])⟩

/-- The first position at which `x` is largest. -/
def firstMax {n : ℕ} [NeZero n] (x : Fin n → EReal) : Fin n := (exists_firstMax x).choose

variable {n : ℕ} [NeZero n]

theorem le_firstMax (x : Fin n → EReal) (j : Fin n) : x j ≤ x (firstMax x) := (exists_firstMax x).choose_spec.1 j

theorem firstMax_le (x : Fin n → EReal) (j : Fin n) (h : x j = x (firstMax x)) : firstMax x ≤ j :=
  (exists_firstMax x).choose_spec.2 j h

theorem firstMax_eq (x : Fin n → EReal) (i : Fin n) (h : ∀ j, x j ≤ x i) (h' : ∀ j, x j = x i → i ≤ j) :
    firstMax x = i := by
  have e : x i = x (firstMax x) := le_antisymm (le_firstMax x i) (h _)
  exact le_antisymm (firstMax_le x i e) (h' _ e.symm)

/-- The largest value is the maximum folded over all positions from a bottom. -/
theorem fold_max (x : Fin n → EReal) (b : EReal) (hb : b = ⊥) : Finset.univ.fold max b x = x (firstMax x) := by
  apply le_antisymm
  · rw [Finset.fold_max_le]
    exact ⟨hb ▸ bot_le, fun j _ => le_firstMax x j⟩
  · rw [Finset.le_fold_max]
    exact Or.inr ⟨_, Finset.mem_univ _, le_rfl⟩

/-! ## Matching: `x o p` is the overlap of object `o` with prior `p` -/

section Match
variable (x : Fin 32 → Fin 5685 → EReal)

/-- The prior that an object overlaps most. -/
def bestPrior (o : Fin 32) : Fin 5685 := firstMax (x o)

/-- The object that a prior overlaps most. -/
def bestObj (p : Fin 5685) : Fin 32 := firstMax fun o => x o p

/-- Object `o` is the last of those whose best prior is `p`. -/
def Claims (o : Fin 32) (p : Fin 5685) : Prop := bestPrior x o = p ∧ ∀ o', bestPrior x o' = p → o' ≤ o

theorem exists_claims {p : Fin 5685} (h : ∃ o, bestPrior x o = p) : ∃ o, Claims x o p := by
  obtain ⟨o, ho⟩ := h
  obtain ⟨i, hi, hmax⟩ := Finset.exists_max_image (Finset.univ.filter fun o => bestPrior x o = p) id ⟨o, by simpa using ho⟩
  exact ⟨i, by simpa using hi, fun o' h' => hmax o' (by simpa using h')⟩

theorem claims_unique {o o' : Fin 32} {p : Fin 5685} (h : Claims x o p) (h' : Claims x o' p) : o = o' :=
  le_antisymm (h'.2 _ h.1) (h.2 _ h'.1)

open Classical in
/-- The object that a prior is matched to: the last one that has it as its best prior, else the one it overlaps most. -/
def obj (p : Fin 5685) : Fin 32 := if h : ∃ o, Claims x o p then h.choose else bestObj x p

open Classical in
/-- The overlap that a prior is judged by: 1 where an object has it as its best prior. -/
def score (p : Fin 5685) : EReal := if ∃ o, Claims x o p then 1 else x (bestObj x p) p

theorem obj_of_claims {o : Fin 32} {p : Fin 5685} (h : Claims x o p) : obj x p = o := by
  have h' : ∃ o, Claims x o p := ⟨o, h⟩
  unfold obj
  rw [dif_pos h']
  exact claims_unique x h'.choose_spec h

theorem score_of_claims {o : Fin 32} {p : Fin 5685} (h : Claims x o p) : score x p = 1 := if_pos ⟨o, h⟩

theorem obj_of_none {p : Fin 5685} (h : ∀ o, bestPrior x o ≠ p) : obj x p = bestObj x p :=
  dif_neg fun ⟨o, ho⟩ => h o ho.1

theorem score_of_none {p : Fin 5685} (h : ∀ o, bestPrior x o ≠ p) : score x p = x (bestObj x p) p :=
  if_neg fun ⟨o, ho⟩ => h o ho.1

theorem claims_or (p : Fin 5685) : (∃ o, Claims x o p) ∨ ∀ o, bestPrior x o ≠ p := by
  by_cases h : ∃ o, bestPrior x o = p
  · exact .inl (exists_claims x h)
  · exact .inr fun o ho => h ⟨o, ho⟩

end Match

/-! ## The values that go with a matched prior -/

/-- One half, as a number. -/
def half : EReal := ((1 / 2 : ℝ) : EReal)
/-- One tenth, as a number. -/
def tenth : EReal := ((10⁻¹ : ℝ) : EReal)

/-- The overlap of two boxes, each `(x1, y1, x2, y2)`: intersection over union. -/
def overlap (b p : Fin 4 → EReal) : EReal :=
  let inter := max (min (b 2) (p 2) - max (b 0) (p 0)) 0 * max (min (b 3) (p 3) - max (b 1) (p 1)) 0
  Ideal.div inter (max ((b 2 - b 0) * (b 3 - b 1) + (p 2 - p 0) * (p 3 - p 1) - inter) (Ideal.ofBits .f32 0x2EDBE6FF#32))

/-- The class of a prior: its object's label, or 0 where the overlap is under one half. -/
def cls (s : EReal) (l : BitVec 32) : BitVec 32 := if s < half then 0#32 else l

/-- A prior counts as positive where its class is not 0. -/
def pos (c : BitVec 32) : EReal := if c = 0#32 then 0 else 1

/-- The centre's offset along one axis, from the two sides of the box and of the prior. -/
def offset (b0 b2 p0 p2 : EReal) : EReal := Ideal.div (half * (b0 + b2) - half * (p0 + p2)) ((p2 - p0) * tenth)

/-- The logarithm of the ratio of widths along one axis, in units of a fifth. -/
def scale (b0 b2 p0 p2 : EReal) : EReal :=
  Ideal.log (Ideal.div (max (b2 - b0) (Ideal.ofBits .f32 0x358637BD#32)) (max (p2 - p0) (Ideal.ofBits .f32 0x358637BD#32)))
    * Ideal.ofBits .f32 0x40A00000#32

/-- A number brought into the interval from 0 to 1. -/
def clip (x : EReal) : EReal := min 1 (max 0 x)

/-- The least and the largest of nine coordinates. -/
def least (x : Fin 9 → EReal) : EReal := Finset.univ.fold min (Ideal.ofBits .f32 0x7F800000#32) x
def most (x : Fin 9 → EReal) : EReal := Finset.univ.fold max (Ideal.ofBits .f32 0xFF800000#32) x

/-- The distance of two numbers. -/
def dist (x y : EReal) : EReal := max (x - y) (-(x - y))

/-- One prior's localisation loss: `l` its 18 predicted coordinates, `b` its box, `p` itself. -/
def locLoss (l : Fin 18 → EReal) (b p : Fin 4 → EReal) : EReal :=
  dist (clip (least fun k => l ⟨k, by omega⟩)) (offset (b 0) (b 2) (p 0) (p 2))
    + dist (clip (least fun k => l ⟨9 + k, by omega⟩)) (offset (b 1) (b 3) (p 1) (p 3))
    + dist (clip (most fun k => l ⟨k, by omega⟩)) (scale (b 0) (b 2) (p 0) (p 2))
    + dist (clip (most fun k => l ⟨9 + k, by omega⟩)) (scale (b 1) (b 3) (p 1) (p 3))

theorem dist_nonneg (x y : EReal) : 0 ≤ dist x y := by
  unfold dist
  rcases le_total 0 (x - y) with h | h
  · exact le_max_of_le_left h
  · exact le_max_of_le_right (EReal.neg_nonneg.mpr h)

/-- One prior's confidence loss: the negative log-softmax of its class. -/
def confLoss (s : Fin 21 → EReal) (c : BitVec 32) : EReal :=
  Ideal.log (∑ k, Ideal.exp (s k)) - ∑ k : Fin 21, if c = BitVec.ofNat 32 k.val then s k else 0

/-! ## One image -/

/-- What one image gives: the boxes and labels of its objects, its priors' scores and coordinates, and the priors. -/
structure Image where
  box : Fin 32 → Fin 4 → EReal
  label : Fin 32 → BitVec 32
  scr : Fin 5685 → Fin 21 → EReal
  loc : Fin 5685 → Fin 18 → EReal
  prior : Fin 5685 → Fin 4 → EReal

namespace Image
variable (I : Image)

/-- The overlap of object `o` with prior `p`. -/
def ov (o : Fin 32) (p : Fin 5685) : EReal := overlap (I.box o) (I.prior p)
/-- The class of prior `p`. -/
def cl (p : Fin 5685) : BitVec 32 := cls (score I.ov p) (I.label (obj I.ov p))
/-- Whether prior `p` is positive, as 0 or 1. -/
def ps (p : Fin 5685) : EReal := pos (I.cl p)
/-- The localisation loss of prior `p`, where it is positive. -/
def ll (p : Fin 5685) : EReal := locLoss (I.loc p) (I.box (obj I.ov p)) (I.prior p) * I.ps p
/-- The confidence loss of prior `p`. -/
def cf (p : Fin 5685) : EReal := confLoss (I.scr p) (I.cl p)
/-- The confidence loss of prior `p` where it is negative, else 0. -/
def neg (p : Fin 5685) : EReal := if I.cl p = 0#32 then I.cf p else 0
/-- The number of positive priors. -/
def count : ℕ := (Finset.univ.filter fun p => I.cl p ≠ 0#32).card

theorem sum_ps : ∑ p, I.ps p = ((I.count : ℝ) : EReal) := by
  unfold ps pos count
  rw [Finset.card_filter, Nat.cast_sum]
  push_cast
  refine (Finset.sum_congr rfl fun p _ => ?_).trans (coe_sum _ _).symm
  by_cases h : I.cl p = 0#32 <;> simp [h]

/-- The objects' labels are classes. -/
def Classes : Prop := ∀ o, (I.label o).toNat < 21
/-- The scores are finite. -/
def Finite : Prop := ∀ p k, ∃ r : ℝ, I.scr p k = r

theorem cl_lt (h : I.Classes) (p : Fin 5685) : (I.cl p).toNat < 21 := by
  unfold cl cls
  split
  · exact (by decide : (0 : ℕ) < 21)
  · exact h _

/-- Image `b` of the five arrays: coordinates, scores, boxes, labels, priors. -/
def ofArrays (L : FVec Ideal ⟨3, ![128, 5685, 18]⟩ .f32) (S : FVec Ideal ⟨3, ![128, 5685, 21]⟩ .f32) (B : FVec Ideal ⟨3, ![128, 32, 4]⟩ .f32)
    (Y : IVec ⟨2, ![128, 32]⟩ 32) (Q : FVec Ideal ⟨2, ![5685, 4]⟩ .f32) (b : Fin 128) : Image where
  box o k := B (ix3 b o k)
  label o := Y (ix2 b o)
  scr p k := S (ix3 b p k)
  loc p k := L (ix3 b p k)
  prior p k := Q (ix2 p k)

end Image

end Cert.Loss
-- ==== Proof.Words.lean ====
/- The kernel's way to a position: the least, or the largest, of the positions' words where a condition holds,
   and a row picked out of a table by a sum against an indicator. -/
module

public import proofs.«01_k».proof.Proof.Spec
public import Idealize.ShloMosaic.Lib.WordCmp

@[expose] public section

noncomputable section

namespace Cert.Loss
open Idealize.ShloMosaic

theorem minsi_words {a b : ℕ} (ha : a < 2 ^ 31) (hb : b < 2 ^ 31) :
    IntOp.minsi (BitVec.ofNat 32 a) (BitVec.ofNat 32 b) = BitVec.ofNat 32 (min a b) := by
  have h : (BitVec.ofNat 32 a).toInt = a := WordCmp.toInt_ofNat_of_lt ha
  have h' : (BitVec.ofNat 32 b).toInt = b := WordCmp.toInt_ofNat_of_lt hb
  unfold IntOp.minsi
  simp only [BitVec.slt, h, h', decide_eq_true_eq, Nat.cast_lt]
  split <;> congr 1 <;> omega

/-- The least word of those at `i` where `P i`, with `n` elsewhere, is the first position where `P` holds. -/
theorem fold_minsi_first {n : ℕ} (hn : n < 2 ^ 31) (P : Fin n → Prop) [DecidablePred P] (i : Fin n) (hi : P i)
    (hmin : ∀ j, P j → i ≤ j) (N : BitVec 32) (hN : N = BitVec.ofNat 32 n) :
    Finset.univ.fold IntOp.minsi 2147483647#32 (fun j : Fin n => if P j then BitVec.ofNat 32 j.val else N) = BitVec.ofNat 32 i.val := by
  subst hN
  have key : ∀ s : Finset (Fin n), s.fold IntOp.minsi 2147483647#32 (fun j : Fin n => if P j then BitVec.ofNat 32 j.val else BitVec.ofNat 32 n)
      = BitVec.ofNat 32 (s.fold min 2147483647 fun j => if P j then j.val else n)
      ∧ s.fold min 2147483647 (fun j => if P j then j.val else n) < 2 ^ 31 := by
    intro s
    induction s using Finset.induction_on with
    | empty => exact ⟨rfl, by simp⟩
    | insert a s ha ih =>
      rw [Finset.fold_insert ha, Finset.fold_insert ha, ih.1]
      have hlt : (if P a then a.val else n) < 2 ^ 31 := by split <;> omega
      have e : (if P a then BitVec.ofNat 32 a.val else BitVec.ofNat 32 n) = BitVec.ofNat 32 (if P a then a.val else n) := by split <;> rfl
      rw [e]
      exact ⟨minsi_words hlt ih.2, lt_of_le_of_lt (min_le_left _ _) hlt⟩
  rw [(key _).1]
  congr 1
  apply le_antisymm
  · rw [Finset.fold_min_le]
    exact Or.inr ⟨i, Finset.mem_univ _, by rw [if_pos hi]⟩
  · rw [Finset.le_fold_min]
    refine ⟨by omega, fun j _ => ?_⟩
    split
    · rename_i h; exact hmin j h
    · omega

theorem maxsi_words {a b : ℤ} (ha : -2 ^ 31 ≤ a) (ha' : a < 2 ^ 31) (hb : -2 ^ 31 ≤ b) (hb' : b < 2 ^ 31) :
    IntOp.maxsi (BitVec.ofInt 32 a) (BitVec.ofInt 32 b) = BitVec.ofInt 32 (max a b) := by
  have h : (BitVec.ofInt 32 a).toInt = a := BitVec.toInt_ofInt_eq_self (by decide) (by simpa using ha) (by simpa using ha')
  have h' : (BitVec.ofInt 32 b).toInt = b := BitVec.toInt_ofInt_eq_self (by decide) (by simpa using hb) (by simpa using hb')
  unfold IntOp.maxsi
  simp only [BitVec.slt, h, h', decide_eq_true_eq]
  split <;> congr 1 <;> omega

/-- The largest word of those at `i` where `P i`, with -1 elsewhere. -/
theorem fold_maxsi {n : ℕ} (hn : n < 2 ^ 31) (P : Fin n → Prop) [DecidablePred P] :
    Finset.univ.fold IntOp.maxsi 2147483648#32 (fun j : Fin n => if P j then BitVec.ofNat 32 j.val else 4294967295#32)
      = BitVec.ofInt 32 (Finset.univ.fold max (-2 ^ 31) fun j : Fin n => if P j then (j.val : ℤ) else -1) := by
  have key : ∀ s : Finset (Fin n), s.fold IntOp.maxsi 2147483648#32 (fun j : Fin n => if P j then BitVec.ofNat 32 j.val else 4294967295#32)
      = BitVec.ofInt 32 (s.fold max (-2 ^ 31) fun j => if P j then (j.val : ℤ) else -1)
      ∧ -2 ^ 31 ≤ s.fold max (-2 ^ 31) (fun j => if P j then (j.val : ℤ) else -1)
      ∧ s.fold max (-2 ^ 31) (fun j => if P j then (j.val : ℤ) else -1) < 2 ^ 31 := by
    intro s
    induction s using Finset.induction_on with
    | empty => exact ⟨rfl, by simp, by simp⟩
    | insert a s ha ih =>
      rw [Finset.fold_insert ha, Finset.fold_insert ha, ih.1]
      have hlt : -2 ^ 31 ≤ (if P a then (a.val : ℤ) else -1) ∧ (if P a then (a.val : ℤ) else -1) < 2 ^ 31 := by split <;> omega
      have e : (if P a then BitVec.ofNat 32 a.val else 4294967295#32) = BitVec.ofInt 32 (if P a then (a.val : ℤ) else -1) := by
        split
        · rw [BitVec.ofInt_natCast]
        · rfl
      rw [e]
      exact ⟨maxsi_words hlt.1 hlt.2 ih.2.1 ih.2.2, le_trans hlt.1 (le_max_left _ _), max_lt hlt.2 ih.2.2⟩
  exact (key _).1

theorem fold_maxsi_last {n : ℕ} (hn : n < 2 ^ 31) (P : Fin n → Prop) [DecidablePred P] (i : Fin n) (hi : P i)
    (hmax : ∀ j, P j → j ≤ i) :
    Finset.univ.fold IntOp.maxsi 2147483648#32 (fun j : Fin n => if P j then BitVec.ofNat 32 j.val else 4294967295#32) = BitVec.ofNat 32 i.val := by
  rw [fold_maxsi hn, ← BitVec.ofInt_natCast]
  congr 1
  apply le_antisymm
  · rw [Finset.fold_max_le]
    refine ⟨by omega, fun j _ => ?_⟩
    split
    · rename_i h; exact_mod_cast hmax j h
    · omega
  · rw [Finset.le_fold_max]
    exact Or.inr ⟨i, Finset.mem_univ _, by rw [if_pos hi]⟩

theorem fold_maxsi_none {n : ℕ} [NeZero n] (hn : n < 2 ^ 31) (P : Fin n → Prop) [DecidablePred P] (h : ∀ j, ¬ P j) :
    Finset.univ.fold IntOp.maxsi 2147483648#32 (fun j : Fin n => if P j then BitVec.ofNat 32 j.val else 4294967295#32) = 4294967295#32 := by
  rw [fold_maxsi hn]
  have e : (Finset.univ.fold max (-2 ^ 31) fun j : Fin n => if P j then (j.val : ℤ) else -1) = -1 := by
    apply le_antisymm
    · rw [Finset.fold_max_le]
      exact ⟨by omega, fun j _ => by rw [if_neg (h j)]⟩
    · rw [Finset.le_fold_max]
      exact Or.inr ⟨0, Finset.mem_univ _, by rw [if_neg (h _)]⟩
  rw [e]
  rfl

/-- A comparison's bit, widened and read as a number, is 0 or 1. -/
theorem sitofp_bit (P : Prop) [Decidable P] :
    (FloatOps.sitofp .f32 (BitVec.setWidth 32 (BitVec.ofBool (decide P))) : Ideal .f32) = if P then (1 : EReal) else 0 := by
  show (((BitVec.setWidth 32 (BitVec.ofBool (decide P))).toInt : ℝ) : EReal) = _
  by_cases h : P
  · rw [if_pos h, decide_eq_true h]
    have e : (BitVec.setWidth 32 (BitVec.ofBool true)).toInt = 1 := by decide
    rw [e]
    norm_num
  · rw [if_neg h, decide_eq_false h]
    norm_num

/-- A sum against an indicator picks one term. -/
theorem sum_onehot {n : ℕ} (f : Fin n → EReal) (o : Fin n) : ∑ k, f k * (if k = o then (1 : EReal) else 0) = f o := by
  rw [Finset.sum_eq_single o]
  · rw [if_pos rfl, mul_one]
  · intro k _ hk
    rw [if_neg hk, mul_zero]
  · intro h
    exact absurd (Finset.mem_univ o) h

theorem ofBits_half : Ideal.ofBits .f32 0x3F000000#32 = half := by
  unfold half
  simp [Ideal.ofBits, Ideal.ieee, -EReal.coe_mul]; norm_num
theorem ofBits_negInf : Ideal.ofBits .f32 0xFF800000#32 = ⊥ := by
  simp [Ideal.ofBits, Ideal.ieee]
theorem ofBits_posInf : Ideal.ofBits .f32 0x7F800000#32 = ⊤ := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num

end Cert.Loss
-- ==== Proof.KernelMatch.lean ====
/- What the kernel's body computes in matching: the overlaps, the prior each object claims, the object of each
   prior, its box's sides and its class. -/
module

public import proofs.«01_k».proof.Proof.Gen.KernelIdeal.Frame
public import proofs.«01_k».proof.Proof.Words

@[expose] public section

set_option maxRecDepth 16384

noncomputable section

namespace Cert.KernelIdeal.Read
open Cert.KernelIdeal Cert.KernelIdeal.Gen Cert.Loss
open Idealize.ShloMosaic Idealize.SL.Sem

/-- The overlap of object `o` with prior `p`, for a table whose column 5 holds the objects' areas. -/
theorem pay12 (v0 : Vec Ideal S8x5685 .f32) (v2 : Vec Ideal S1x32x8 .f32) (B : Fin 32 → Fin 4 → EReal) (Q : Fin 5685 → Fin 4 → EReal)
    (hB : ∀ o (k : Fin 4), v2 (ix3 0 o ⟨k, by omega⟩) = B o k) (hA : ∀ o, v2 (ix3 0 o 5) = (B o 2 - B o 0) * (B o 3 - B o 1))
    (hQ : ∀ p (k : Fin 4), v0 (ix2 ⟨k, by omega⟩ p) = Q p k) (o : Fin 32) (p : Fin 5685) :
    k0_pay12 v0 v2 (ix2 o p) = overlap (B o) (Q p) := by
  have h0 := hB o 0; have h1 := hB o 1; have h2 := hB o 2; have h3 := hB o 3
  have q0 := hQ p 0; have q1 := hQ p 1; have q2 := hQ p 2; have q3 := hQ p 3
  have ha := hA o
  pointwise [k0_pay12, k0_pay6]
  unfold overlap
  simp only [← h0, ← h1, ← h2, ← h3, ← q0, ← q1, ← q2, ← q3] at ha ⊢
  exact congrArg₂ Ideal.div rfl (congrArg₂ max (congrArg₂ (· - ·) (congrArg₂ (· + ·) ha rfl) rfl) rfl)

variable (v47 : FVec Ideal S32x5685 .f32) (x : Fin 32 → Fin 5685 → EReal) (hx : ∀ o p, v47 (ix2 o p) = x o p)
include hx

/-- The largest overlap of a prior. -/
theorem pay13 (p : Fin 5685) : k0_pay13 v47 (ix2 0 p) = x (bestObj x p) p := by
  pointwise [k0_pay13]
  simp only [hx]
  exact fold_max (fun o => x o p) _ ofBits_negInf

/-- The first prior at which an object's overlap is largest, as a word. -/
theorem bestPrior_word (o : Fin 32) :
    Finset.univ.fold IntOp.minsi 2147483647#32 (fun p : Fin 5685 =>
      if x o p = Finset.univ.fold max (Ideal.ofBits .f32 0xFF800000#32) (fun p => x o p) then BitVec.ofNat 32 p.val else 5685#32)
      = BitVec.ofNat 32 (bestPrior x o).val := by
  rw [fold_max (x o) _ ofBits_negInf]
  exact fold_minsi_first (by decide) (fun p => x o p = x o (firstMax (x o))) (bestPrior x o) rfl
    (fun j hj => firstMax_le (x o) j hj) _ rfl

/-- The object that claims a prior, as a word: the last one, or -1 where there is none. -/
theorem pay14 (p : Fin 5685) :
    k0_pay14 v47 (ix2 0 p) = Finset.univ.fold IntOp.maxsi 2147483648#32 (fun o : Fin 32 =>
      if bestPrior x o = p then BitVec.ofNat 32 o.val else 4294967295#32) := by
  pointwise [k0_pay14]
  simp only [hx]
  refine Finset.fold_congr fun o _ => ?_
  rw [bestPrior_word v47 x hx o, WordCmp.cmpi_eq_ofNat (by omega) (by omega)]
  simp only [WordCmp.select_decide, Fin.val_inj]

theorem pay14_claims (o : Fin 32) (p : Fin 5685) (h : Claims x o p) : k0_pay14 v47 (ix2 0 p) = BitVec.ofNat 32 o.val :=
  (pay14 v47 x hx p).trans (fold_maxsi_last (by decide) _ o h.1 h.2)

theorem pay14_none (p : Fin 5685) (h : ∀ o, bestPrior x o ≠ p) : k0_pay14 v47 (ix2 0 p) = 4294967295#32 :=
  (pay14 v47 x hx p).trans (fold_maxsi_none (by decide) _ h)

/-- The word of a prior's object. -/
theorem obj_word (p : Fin 5685) :
    Scalar.select (IntOp.cmpi CmpIPredicate.sge (k0_pay14 v47 (ix2 0 p)) 0#32) (k0_pay14 v47 (ix2 0 p))
      (Finset.univ.fold IntOp.minsi 2147483647#32 (fun o : Fin 32 =>
        if x o p = Finset.univ.fold max (Ideal.ofBits .f32 0xFF800000#32) (fun o => x o p) then BitVec.ofNat 32 o.val else 32#32))
      = BitVec.ofNat 32 (obj x p).val := by
  rcases claims_or x p with ⟨o, ho⟩ | h
  · rw [pay14_claims v47 x hx o p ho, obj_of_claims x ho, WordCmp.cmpi_sge_zero, WordCmp.select_decide, if_pos]
    rw [WordCmp.toNat_ofNat_of_lt (by omega)]
    omega
  · rw [pay14_none v47 x hx p h, obj_of_none x h, WordCmp.cmpi_sge_zero, WordCmp.select_decide, if_neg (by decide),
      fold_max (fun o => x o p) _ ofBits_negInf]
    exact fold_minsi_first (by decide) (fun o => x o p = x (firstMax fun o => x o p) p) (bestObj x p) rfl
      (fun j hj => firstMax_le (fun o => x o p) j hj) _ rfl

/-- Row `r` of the objects' table at a prior's object. -/
theorem pay16 (v5 : FVec Ideal S8x32 .f32) (r : Fin 8) (p : Fin 5685) :
    k0_pay16 v5 v47 (ix2 r p) = v5 (ix2 r (obj x p)) := by
  pointwise [k0_pay16, k0_pay15, k0_pay13]
  simp only [hx, obj_word v47 x hx p]
  refine (Finset.sum_congr rfl fun o _ => ?_).trans (sum_onehot (fun o => v5 (ix2 r o)) (obj x p))
  rw [WordCmp.cmpi_eq_ofNat (by omega) (by omega), sitofp_bit]
  simp only [Fin.val_inj]

/-- The overlap that a prior is judged by. -/
theorem score_sel (p : Fin 5685) :
    Scalar.select (IntOp.cmpi CmpIPredicate.sge (k0_pay14 v47 (ix2 0 p)) 0#32) (1 : EReal) (k0_pay13 v47 (ix2 0 p)) = score x p := by
  rcases claims_or x p with ⟨o, ho⟩ | h
  · rw [pay14_claims v47 x hx o p ho, score_of_claims x ho, WordCmp.cmpi_sge_zero, WordCmp.select_decide, if_pos]
    rw [WordCmp.toNat_ofNat_of_lt (by omega)]
    omega
  · rw [pay14_none v47 x hx p h, score_of_none x h, WordCmp.cmpi_sge_zero, WordCmp.select_decide, if_neg (by decide),
      pay13 v47 x hx p]

/-- A label word under 21, read as a number. -/
def num (l : BitVec 32) : EReal := ((l.toInt : ℝ) : EReal)

/-- The class of a prior, as a number, for a table whose row 4 holds the labels as numbers. -/
theorem pay21 (v5 : FVec Ideal S8x32 .f32) (lab : Fin 32 → BitVec 32) (hl : ∀ o, v5 (ix2 4 o) = num (lab o)) (p : Fin 5685) :
    k0_pay21 v5 v47 (ix2 0 p) = num (cls (score x p) (lab (obj x p))) := by
  have h13 := score_sel v47 x hx p
  have h16 := (pay16 v47 x hx v5 4 p).trans (hl _)
  unfold cls
  rw [← h13]
  pointwise [k0_pay21, k0_pay15] at h16 ⊢
  rw [h16, ofBits_half]
  split
  · simp [num]
  · rfl

omit hx in
theorem num_pos (l : BitVec 32) (h : l.toNat < 21) : half < num l ↔ l ≠ 0#32 := by
  have e : l.toInt = l.toNat := by rw [BitVec.toInt_eq_toNat_of_lt]; omega
  unfold num half
  rw [EReal.coe_lt_coe_iff, e, Ne, ← BitVec.toNat_inj]
  constructor
  · intro h1 h2
    rw [h2] at h1
    norm_num at h1
  · intro h1
    have : (1 : ℝ) ≤ ((l.toNat : ℤ) : ℝ) := by
      have : 1 ≤ l.toNat := Nat.one_le_iff_ne_zero.mpr h1
      exact_mod_cast this
    linarith

/-- Whether a prior is positive, as 0 or 1. -/
theorem pay23 (v5 : FVec Ideal S8x32 .f32) (lab : Fin 32 → BitVec 32) (hl : ∀ o, v5 (ix2 4 o) = num (lab o))
    (hr : ∀ o, (lab o).toNat < 21) (p : Fin 5685) :
    k0_pay23 (F := Ideal) (k0_pay22 v5 v47) (ix2 0 p) = pos (cls (score x p) (lab (obj x p))) := by
  have h21 := pay21 v47 x hx v5 lab hl p
  have hlt : (cls (score x p) (lab (obj x p))).toNat < 21 := by
    unfold cls
    split
    · exact (by decide : (0 : ℕ) < 21)
    · exact hr _
  pointwise [k0_pay22, k0_pay23]
  rw [h21, ofBits_half, sitofp_bit]
  unfold pos
  simp only [num_pos _ hlt]
  split <;> simp_all

end Cert.KernelIdeal.Read
-- ==== Proof.KernelLoss.lean ====
/- What the kernel's body leaves in its four output blocks, for one image: the sums of the localisation losses, of
   the positives and of their confidence losses, and the negatives' confidence losses. -/
module

public import proofs.«01_k».proof.Proof.KernelMatch

@[expose] public section

set_option maxRecDepth 16384

noncomputable section

namespace Cert.KernelIdeal.Read
open Cert.KernelIdeal Cert.KernelIdeal.Gen Cert.Loss
open Idealize.ShloMosaic Idealize.SL.Sem

/-- The five input blocks of one image: the priors' table, the objects' table and its transpose, the scores and the
    coordinates, both transposed. -/
structure Blocks (I : Image) (x0 : Vec Ideal S8x5685 .f32) (x1 : Vec Ideal S1x32x8 .f32) (x2 : Vec Ideal S1x8x32 .f32)
    (x3 : Vec Ideal S1x21x5685 .f32) (x4 : Vec Ideal S1x18x5685 .f32) : Prop where
  prior : ∀ (p : Fin 5685) (k : Fin 4), x0 (ix2 ⟨k, by omega⟩ p) = I.prior p k
  cx : ∀ p : Fin 5685, x0 (ix2 4 p) = half * (I.prior p 0 + I.prior p 2)
  cy : ∀ p : Fin 5685, x0 (ix2 5 p) = half * (I.prior p 1 + I.prior p 3)
  w : ∀ p : Fin 5685, x0 (ix2 6 p) = I.prior p 2 - I.prior p 0
  h : ∀ p : Fin 5685, x0 (ix2 7 p) = I.prior p 3 - I.prior p 1
  box : ∀ (o : Fin 32) (k : Fin 4), x1 (ix3 0 o ⟨k, by omega⟩) = I.box o k
  area : ∀ o : Fin 32, x1 (ix3 0 o 5) = (I.box o 2 - I.box o 0) * (I.box o 3 - I.box o 1)
  boxT : ∀ (o : Fin 32) (k : Fin 4), x2 (ix3 0 ⟨k, by omega⟩ o) = I.box o k
  label : ∀ o : Fin 32, x2 (ix3 0 4 o) = num (I.label o)
  scr : ∀ (p : Fin 5685) (k : Fin 21), x3 (ix3 0 k p) = I.scr p k
  loc : ∀ (p : Fin 5685) (k : Fin 18), x4 (ix3 0 k p) = I.loc p k

theorem tenth_eq : (Named.named (F := Ideal) (φ := .f32) κ "tenth" 0x3DCCCCCD#32) = tenth :=
  IdealRules.named_const.ideal_named_scalar _ _ _ _ rfl

/-- The prior's and the object's centres' offset. -/
theorem pay24 (v10 v12 v82 v84 : FVec Ideal S1x5685 .f32) (p : Fin 5685) (b0 b2 p0 p2 : EReal) (h10 : v10 (ix2 0 p) = half * (p0 + p2))
    (h12 : v12 (ix2 0 p) = p2 - p0) (h82 : v82 (ix2 0 p) = b0) (h84 : v84 (ix2 0 p) = b2) :
    k0_pay24 v10 v12 v82 v84 (ix2 0 p) = offset b0 b2 p0 p2 := by
  pointwise [k0_pay24]
  rw [h10, h12, h82, h84, ofBits_half, tenth_eq]
  rfl
theorem pay25 (v10 v12 v82 v84 : FVec Ideal S1x5685 .f32) (p : Fin 5685) (b0 b2 p0 p2 : EReal) (h10 : v10 (ix2 0 p) = half * (p0 + p2))
    (h12 : v12 (ix2 0 p) = p2 - p0) (h82 : v82 (ix2 0 p) = b0) (h84 : v84 (ix2 0 p) = b2) :
    k0_pay25 v10 v12 v82 v84 (ix2 0 p) = offset b0 b2 p0 p2 := by
  pointwise [k0_pay25]
  rw [h10, h12, h82, h84, ofBits_half, tenth_eq]
  rfl

/-- The logarithm of the ratio of widths. -/
theorem pay26 (v12 v82 v84 : FVec Ideal S1x5685 .f32) (p : Fin 5685) (b0 b2 p0 p2 : EReal)
    (h12 : v12 (ix2 0 p) = p2 - p0) (h82 : v82 (ix2 0 p) = b0) (h84 : v84 (ix2 0 p) = b2) :
    k0_pay26 v12 v82 v84 (ix2 0 p) = scale b0 b2 p0 p2 := by
  pointwise [k0_pay26]
  rw [h12, h82, h84]
  rfl
theorem pay27 (v12 v82 v84 : FVec Ideal S1x5685 .f32) (p : Fin 5685) (b0 b2 p0 p2 : EReal)
    (h12 : v12 (ix2 0 p) = p2 - p0) (h82 : v82 (ix2 0 p) = b0) (h84 : v84 (ix2 0 p) = b2) :
    k0_pay27 v12 v82 v84 (ix2 0 p) = scale b0 b2 p0 p2 := by
  pointwise [k0_pay27]
  rw [h12, h82, h84]
  rfl

/-- The sum of the localisation losses. -/
theorem pay32 (v94 v101 v108 v117 v126 : FVec Ideal S1x5685 .f32) (v127 : Vec Ideal S1x18x5685 .f32) (I : Image)
    (hl : ∀ (p : Fin 5685) (k : Fin 18), v127 (ix3 0 k p) = I.loc p k) (h94 : ∀ p : Fin 5685, v94 (ix2 0 p) = I.ps p)
    (h101 : ∀ p : Fin 5685, v101 (ix2 0 p) = offset (I.box (obj I.ov p) 0) (I.box (obj I.ov p) 2) (I.prior p 0) (I.prior p 2))
    (h108 : ∀ p : Fin 5685, v108 (ix2 0 p) = offset (I.box (obj I.ov p) 1) (I.box (obj I.ov p) 3) (I.prior p 1) (I.prior p 3))
    (h117 : ∀ p : Fin 5685, v117 (ix2 0 p) = scale (I.box (obj I.ov p) 0) (I.box (obj I.ov p) 2) (I.prior p 0) (I.prior p 2))
    (h126 : ∀ p : Fin 5685, v126 (ix2 0 p) = scale (I.box (obj I.ov p) 1) (I.box (obj I.ov p) 3) (I.prior p 1) (I.prior p 3)) :
    k0_pay32 v94 v101 v108 v117 v126 (k0_pay29 v127) (k0_pay30 v127) (k0_pay31 v127) = ∑ p, I.ll p := by
  pointwise [k0_pay32, k0_pay31, k0_pay30, k0_pay29, k0_pay28]
  rw [Fin.sum_univ_one]
  refine Finset.sum_congr rfl fun p _ => ?_
  rw [h94, h101, h108, h117, h126]
  simp only [hl]
  rfl

/-- The confidence loss of a prior, for its class as a number. -/
theorem pay1 (v171 : Vec Ideal S1x21x5685 .f32) (v90 : FVec Ideal S1x5685 .f32) (p : Fin 5685) (s : Fin 21 → EReal) (c : BitVec 32)
    (hs : ∀ k : Fin 21, v171 (ix3 0 k p) = s k) (hc : v90 (ix2 0 p) = num c) (hlt : c.toNat < 21) :
    k0_pay1 (k0_pay33 v171) (k0_pay34 (F := Ideal)) (k0_pay35 v171) (k0_pay36 v90) (k0_pay37 (F := Ideal)) (ix2 0 p) = confLoss s c := by
  have hf : FloatOps.fptosi (F := Ideal) (φ := .f32) 32 (num c) = c := by
    have e : c.toInt = c.toNat := by rw [BitVec.toInt_eq_toNat_of_lt]; omega
    show BitVec.ofInt 32 (max (-(2 ^ (32 - 1) : ℕ)) (min ((2 ^ (32 - 1) : ℕ) - 1)
      (if (0 : ℝ) ≤ (c.toInt : ℝ) then ⌊(c.toInt : ℝ)⌋ else ⌈(c.toInt : ℝ)⌉))) = c
    rw [Int.floor_intCast, Int.ceil_intCast, ite_self, min_eq_right (by omega), max_eq_right (by omega), BitVec.ofInt_toInt]
  pointwise [k0_pay1, k0_pay33, k0_pay34, k0_pay35, k0_pay36, k0_pay37]
  simp only [hs]
  rw [hc, hf]
  unfold confLoss
  refine congrArg₂ (· - ·) rfl (Finset.sum_congr rfl fun k _ => ?_)
  rw [WordCmp.cmpi_eq_eq, WordCmp.select_decide]
  simp only [eq_comm (a := c)]

variable {I : Image} {x0 : Vec Ideal S8x5685 .f32} {x1 : Vec Ideal S1x32x8 .f32} {x2 : Vec Ideal S1x8x32 .f32}
  {x3 : Vec Ideal S1x21x5685 .f32} {x4 : Vec Ideal S1x18x5685 .f32}

theorem hz2 : (![0, 0] : Fin 2 → ℕ) = fun _ => 0 := by decide
theorem hz3 : (![0, 0, 0] : Fin 3 → ℕ) = fun _ => 0 := by decide

namespace Blocks
variable (h : Blocks I x0 x1 x2 x3 x4)
include h

theorem pay41 (o : Fin 32) (p : Fin 5685) : k0_pay41 x0 x1 x2 x3 x4 (ix2 o p) = I.ov o p := by
  unfold k0_pay41
  rw [View.ld_unit_zero (S := S8x5685) hz2 _ x0, View.ld_unit_zero (S := S1x32x8) hz3 _ x1]
  exact pay12 x0 x1 I.box I.prior h.box h.area h.prior o p

theorem pay38_box (k : Fin 4) (o : Fin 32) : k0_pay38 x0 x1 x2 x3 x4 (ix2 ⟨k, by omega⟩ o) = I.box o k := by
  unfold k0_pay38
  rw [View.ld_unit_zero (S := S1x8x32) hz3 _ x2, ← h.boxT o k]
  pointwise [k0_pay7]

theorem pay38_label (o : Fin 32) : k0_pay38 x0 x1 x2 x3 x4 (ix2 4 o) = num (I.label o) := by
  unfold k0_pay38
  rw [View.ld_unit_zero (S := S1x8x32) hz3 _ x2, ← h.label o]
  pointwise [k0_pay7]

theorem pay42 (p : Fin 5685) : k0_pay42 x0 x1 x2 x3 x4 (ix2 0 p) = I.box (obj I.ov p) 0 := by
  rw [← h.pay38_box 0, ← pay16 _ I.ov h.pay41 (k0_pay38 x0 x1 x2 x3 x4)]
  unfold k0_pay42
  pointwise [k0_pay17]
  try rfl
theorem pay43 (p : Fin 5685) : k0_pay43 x0 x1 x2 x3 x4 (ix2 0 p) = I.box (obj I.ov p) 1 := by
  rw [← h.pay38_box 1, ← pay16 _ I.ov h.pay41 (k0_pay38 x0 x1 x2 x3 x4)]
  unfold k0_pay43
  pointwise [k0_pay18]
  try rfl
theorem pay44 (p : Fin 5685) : k0_pay44 x0 x1 x2 x3 x4 (ix2 0 p) = I.box (obj I.ov p) 2 := by
  rw [← h.pay38_box 2, ← pay16 _ I.ov h.pay41 (k0_pay38 x0 x1 x2 x3 x4)]
  unfold k0_pay44
  pointwise [k0_pay19]
  try rfl
theorem pay45 (p : Fin 5685) : k0_pay45 x0 x1 x2 x3 x4 (ix2 0 p) = I.box (obj I.ov p) 3 := by
  rw [← h.pay38_box 3, ← pay16 _ I.ov h.pay41 (k0_pay38 x0 x1 x2 x3 x4)]
  unfold k0_pay45
  pointwise [k0_pay20]
  try rfl
theorem pay39 (p : Fin 5685) : k0_pay39 x0 x1 x2 x3 x4 (ix2 0 p) = I.prior p 2 - I.prior p 0 := by
  unfold k0_pay39
  rw [View.ld_unit_zero (S := S8x5685) hz2 _ x0, ← h.w]
  pointwise [k0_pay10, k0_pay6]
theorem pay40 (p : Fin 5685) : k0_pay40 x0 x1 x2 x3 x4 (ix2 0 p) = I.prior p 3 - I.prior p 1 := by
  unfold k0_pay40
  rw [View.ld_unit_zero (S := S8x5685) hz2 _ x0, ← h.h]
  pointwise [k0_pay11, k0_pay6]

theorem pay46 (hI : I.Classes) (p : Fin 5685) : k0_pay46 x0 x1 x2 x3 x4 (ix2 0 p) = I.ps p :=
  pay23 _ I.ov h.pay41 _ I.label h.pay38_label hI p

/-- The sum of the localisation losses, at every position of its block. -/
theorem out5 (hI : I.Classes) (j : Fin 8) : out0_5 x0 x1 x2 x3 x4 (ix3 0 0 j) = ∑ p, I.ll p := by
  unfold out0_5
  rw [View.canon_unit_zero (S := S1x1x8) hz3, View.ld_unit_zero (S := S8x5685) hz2 _ x0, View.ld_unit_zero (S := S1x18x5685) hz3 _ x4]
  pointwise [k0_pay2]
  refine pay32 _ _ _ _ _ x4 I h.loc (h.pay46 hI) (fun p => ?_) (fun p => ?_) (fun p => ?_) (fun p => ?_)
  · refine pay24 _ _ _ _ p _ _ _ _ ?_ (h.pay39 p) (h.pay42 p) (h.pay44 p)
    rw [← h.cx]
    pointwise [k0_pay8, k0_pay6]
  · refine pay25 _ _ _ _ p _ _ _ _ ?_ (h.pay40 p) (h.pay43 p) (h.pay45 p)
    rw [← h.cy]
    pointwise [k0_pay9, k0_pay6]
  · exact pay26 _ _ _ p _ _ _ _ (h.pay39 p) (h.pay42 p) (h.pay44 p)
  · exact pay27 _ _ _ p _ _ _ _ (h.pay40 p) (h.pay43 p) (h.pay45 p)

/-- The number of positives, at every position of its block. -/
theorem out6 (hI : I.Classes) (j : Fin 8) : out0_6 x0 x1 x2 x3 x4 (ix3 0 0 j) = ∑ p, I.ps p := by
  unfold out0_6
  rw [View.canon_unit_zero (S := S1x1x8) hz3]
  pointwise [k0_pay3]
  rw [Fin.sum_univ_one]
  exact Finset.sum_congr rfl fun p _ => h.pay46 hI p

theorem conf (hI : I.Classes) (p : Fin 5685) :
    k0_pay1 (k0_pay47 x0 x1 x2 x3 x4) (k0_pay48 x0 x1 x2 x3 x4) (k0_pay49 x0 x1 x2 x3 x4) (k0_pay50 x0 x1 x2 x3 x4)
      (k0_pay51 x0 x1 x2 x3 x4) (ix2 0 p) = I.cf p := by
  unfold k0_pay47 k0_pay48 k0_pay49 k0_pay50 k0_pay51
  rw [View.ld_unit_zero (S := S1x21x5685) hz3 _ x3]
  exact pay1 x3 _ p (I.scr p) (I.cl p) (h.scr p) (pay21 _ I.ov h.pay41 _ I.label h.pay38_label p) (I.cl_lt hI p)

/-- The sum of the positives' confidence losses, at every position of its block. -/
theorem out7 (hI : I.Classes) (j : Fin 8) : out0_7 x0 x1 x2 x3 x4 (ix3 0 0 j) = ∑ p, I.cf p * I.ps p := by
  unfold out0_7
  rw [View.canon_unit_zero (S := S1x1x8) hz3]
  pointwise [k0_pay4]
  rw [Fin.sum_univ_one]
  exact Finset.sum_congr rfl fun p _ => congrArg₂ (· * ·) (h.conf hI p) (h.pay46 hI p)

/-- The negatives' confidence losses. -/
theorem out8 (hI : I.Classes) (p : Fin 5685) : out0_8 x0 x1 x2 x3 x4 (ix3 0 0 p) = I.neg p := by
  have hc := h.conf hI p
  have hp := h.pay46 hI p
  unfold out0_8
  rw [View.canon_unit_zero (S := S1x1x5685) hz3]
  pointwise [k0_pay5]
  rw [hc, hp]
  unfold Image.neg Image.ps pos
  by_cases h0 : I.cl p = 0#32 <;> simp [h0]

end Blocks

end Cert.KernelIdeal.Read
-- ==== Proof.KernelHost.lean ====
/- The tables that the kernel's host code prepares, read at an index. -/
module

public import proofs.«01_k».proof.Proof.KernelMatch
public import Idealize.ShloMosaic.Lib.StableHlo.ReadAt

@[expose] public section

set_option maxRecDepth 16384

noncomputable section

namespace Cert.KernelIdeal.Read
open Cert.KernelIdeal Cert.KernelIdeal.Gen Cert.Loss
open Idealize.ShloMosaic Idealize.ShloMosaic.TcCoe Idealize.SL.Sem

variable (V : Valuation τ sig (Elt Ideal))

/-- The five argument arrays. -/
abbrev a0 : FVec Ideal S128x5685x18 .f32 := V (Proc.devRef .tc main_arg0)
abbrev a1 : FVec Ideal S128x5685x21 .f32 := V (Proc.devRef .tc main_arg1)
abbrev a2 : FVec Ideal S128x32x4 .f32 := V (Proc.devRef .tc main_arg2)
abbrev a3 : IVec S128x32 32 := V (Proc.devRef .tc main_arg3)
abbrev a4 : FVec Ideal S5685x4 .f32 := V (Proc.devRef .tc main_arg4)

/-- The tables that the first call reads. -/
abbrev pri : FVec Ideal S8x5685 .f32 := StableHlo.after hostOps0 V (Proc.devRef .tc main_v24)
abbrev aug : FVec Ideal S128x32x8 .f32 := StableHlo.after hostOps0 V (Proc.devRef .tc main_v40)
abbrev augT : FVec Ideal S128x8x32 .f32 := StableHlo.after hostOps0 V (Proc.devRef .tc main_v41)
abbrev scrT : FVec Ideal S128x21x5685 .f32 := StableHlo.after hostOps0 V (Proc.devRef .tc main_v42)
abbrev locT : FVec Ideal S128x18x5685 .f32 := StableHlo.after hostOps0 V (Proc.devRef .tc main_v43)

theorem scrT_apply (b : Fin 128) (k : Fin 21) (p : Fin 5685) : scrT V (ix3 b k p) = a1 V (ix3 b p k) := by
  unfold scrT
  after_reads_at
theorem locT_apply (b : Fin 128) (k : Fin 18) (p : Fin 5685) : locT V (ix3 b k p) = a0 V (ix3 b p k) := by
  unfold locT
  after_reads_at

/-! The priors' table: the four sides, the centre, the widths. -/

theorem pri0 (p : Fin 5685) : pri V (ix2 0 p) = a4 V (ix2 p 0) := by
  unfold pri
  repeat after_reads_at
theorem pri1 (p : Fin 5685) : pri V (ix2 1 p) = a4 V (ix2 p 1) := by
  unfold pri
  repeat after_reads_at
theorem pri2 (p : Fin 5685) : pri V (ix2 2 p) = a4 V (ix2 p 2) := by
  unfold pri
  repeat after_reads_at
theorem pri3 (p : Fin 5685) : pri V (ix2 3 p) = a4 V (ix2 p 3) := by
  unfold pri
  repeat after_reads_at
theorem pri4 (p : Fin 5685) : pri V (ix2 4 p) = half * (a4 V (ix2 p 0) + a4 V (ix2 p 2)) := by
  unfold pri
  repeat after_reads_at
  exact (mul_comm _ _).trans (congrArg₂ (· * ·) ofBits_half rfl)
theorem pri5 (p : Fin 5685) : pri V (ix2 5 p) = half * (a4 V (ix2 p 1) + a4 V (ix2 p 3)) := by
  unfold pri
  repeat after_reads_at
  exact (mul_comm _ _).trans (congrArg₂ (· * ·) ofBits_half rfl)
theorem pri6 (p : Fin 5685) : pri V (ix2 6 p) = a4 V (ix2 p 2) - a4 V (ix2 p 0) := by
  unfold pri
  repeat after_reads_at
theorem pri7 (p : Fin 5685) : pri V (ix2 7 p) = a4 V (ix2 p 3) - a4 V (ix2 p 1) := by
  unfold pri
  repeat after_reads_at

/-! The objects' table: the four sides, the label as a number, the area. -/

theorem aug0 (b : Fin 128) (o : Fin 32) : aug V (ix3 b o 0) = a2 V (ix3 b o 0) := by
  unfold aug
  repeat after_reads_at
theorem aug1 (b : Fin 128) (o : Fin 32) : aug V (ix3 b o 1) = a2 V (ix3 b o 1) := by
  unfold aug
  repeat after_reads_at
theorem aug2 (b : Fin 128) (o : Fin 32) : aug V (ix3 b o 2) = a2 V (ix3 b o 2) := by
  unfold aug
  repeat after_reads_at
theorem aug3 (b : Fin 128) (o : Fin 32) : aug V (ix3 b o 3) = a2 V (ix3 b o 3) := by
  unfold aug
  repeat after_reads_at
theorem aug4 (b : Fin 128) (o : Fin 32) : aug V (ix3 b o 4) = num (a3 V (ix2 b o)) := by
  unfold aug
  repeat after_reads_at
  rfl
theorem aug5 (b : Fin 128) (o : Fin 32) :
    aug V (ix3 b o 5) = (a2 V (ix3 b o 2) - a2 V (ix3 b o 0)) * (a2 V (ix3 b o 3) - a2 V (ix3 b o 1)) := by
  unfold aug
  repeat after_reads_at
theorem augT_apply (b : Fin 128) (o : Fin 32) (k : Fin 8) : augT V (ix3 b k o) = aug V (ix3 b o k) := by
  have e : augT V = transpose S128x8x32 [0, 2, 1] (aug V) transposes_S128x32x8_S128x8x32_0_2_1 := by
    unfold augT aug
    after_reads_simp
  rw [e]
  pointwise

/-- Image `b` of the argument arrays. -/
def img (b : Fin 128) : Image := Image.ofArrays (a0 V) (a1 V) (a2 V) (a3 V) (a4 V) b

theorem pri_rows (p : Fin 5685) (k : Fin 4) : pri V (ix2 ⟨k, by omega⟩ p) = a4 V (ix2 p k) := by
  match k with
  | ⟨0, _⟩ => exact pri0 V p
  | ⟨1, _⟩ => exact pri1 V p
  | ⟨2, _⟩ => exact pri2 V p
  | ⟨3, _⟩ => exact pri3 V p
theorem aug_rows (b : Fin 128) (o : Fin 32) (k : Fin 4) : aug V (ix3 b o ⟨k, by omega⟩) = a2 V (ix3 b o k) := by
  match k with
  | ⟨0, _⟩ => exact aug0 V b o
  | ⟨1, _⟩ => exact aug1 V b o
  | ⟨2, _⟩ => exact aug2 V b o
  | ⟨3, _⟩ => exact aug3 V b o

end Cert.KernelIdeal.Read
-- ==== Proof.KernelArrays.lean ====
/- What the first call leaves in its four result arrays, and what the second call then reads. -/
module

public import proofs.«01_k».proof.Proof.KernelLoss
public import proofs.«01_k».proof.Proof.KernelHost
public import Idealize.ShloMosaic.Lib.Pipeline.ValueKit

@[expose] public section

set_option maxRecDepth 16384

noncomputable section

namespace Cert.KernelIdeal.Read
open Cert.KernelIdeal Cert.KernelIdeal.Gen Cert.Loss
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin cfg0.N, (win0_0.index t = ![0, 0] ∧ win0_1.index t = ![t.val, 0, 0] ∧ win0_2.index t = ![t.val, 0, 0]
    ∧ win0_3.index t = ![t.val, 0, 0] ∧ win0_4.index t = ![t.val, 0, 0]) ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

/-- A grid point is an image. -/
abbrev im (t : Fin cfg0.N) : Fin 128 := ⟨t.val, t.isLt⟩

/-! The blocks of a grid point, in the arrays they are cut from. -/

theorem blk0 (V : (c : Dev nD) → (b : Ref sig .tc) → Buf (Elt Ideal) ((c : Thread nD τ).loc b)) (c : Dev nD) (t : Fin cfg0.N) (k : Fin 8) (p : Fin 5685) :
    (iblk0 V c 0 t : FVec Ideal S8x5685 .f32) (ix2 k p) = V c main_v24 (ix2 k p) := by
  blk_simp [iblk0]
  refine congrArg (V c _) ?_
  blk_ext [idx0 t]
theorem blk1 (V : (c : Dev nD) → (b : Ref sig .tc) → Buf (Elt Ideal) ((c : Thread nD τ).loc b)) (c : Dev nD) (t : Fin cfg0.N) (o : Fin 32) (k : Fin 8) :
    (iblk0 V c 1 t : FVec Ideal S1x32x8 .f32) (ix3 0 o k) = V c main_v40 (ix3 (im t) o k) := by
  blk_simp [iblk0]
  refine congrArg (V c _) ?_
  blk_ext [idx0 t]
theorem blk2 (V : (c : Dev nD) → (b : Ref sig .tc) → Buf (Elt Ideal) ((c : Thread nD τ).loc b)) (c : Dev nD) (t : Fin cfg0.N) (o : Fin 32) (k : Fin 8) :
    (iblk0 V c 2 t : FVec Ideal S1x8x32 .f32) (ix3 0 k o) = V c main_v41 (ix3 (im t) k o) := by
  blk_simp [iblk0]
  refine congrArg (V c _) ?_
  blk_ext [idx0 t]
theorem blk3 (V : (c : Dev nD) → (b : Ref sig .tc) → Buf (Elt Ideal) ((c : Thread nD τ).loc b)) (c : Dev nD) (t : Fin cfg0.N) (k : Fin 21) (p : Fin 5685) :
    (iblk0 V c 3 t : FVec Ideal S1x21x5685 .f32) (ix3 0 k p) = V c main_v42 (ix3 (im t) k p) := by
  blk_simp [iblk0]
  refine congrArg (V c _) ?_
  blk_ext [idx0 t]
theorem blk4 (V : (c : Dev nD) → (b : Ref sig .tc) → Buf (Elt Ideal) ((c : Thread nD τ).loc b)) (c : Dev nD) (t : Fin cfg0.N) (k : Fin 18) (p : Fin 5685) :
    (iblk0 V c 4 t : FVec Ideal S1x18x5685 .f32) (ix3 0 k p) = V c main_v43 (ix3 (im t) k p) := by
  blk_simp [iblk0]
  refine congrArg (V c _) ?_
  blk_ext [idx0 t]

theorem blocks (c : Dev nD) (t : Fin cfg0.N) :
    Blocks (img (W0 m ρ c) (im t)) (iblk0 (V1 m ρ) c 0 t) (iblk0 (V1 m ρ) c 1 t) (iblk0 (V1 m ρ) c 2 t) (iblk0 (V1 m ρ) c 3 t)
      (iblk0 (V1 m ρ) c 4 t) := by
  have e0 : ∀ (k : Fin 8) (p : Fin 5685), (iblk0 (V1 m ρ) c 0 t : FVec Ideal S8x5685 .f32) (ix2 k p) = pri (W0 m ρ c) (ix2 k p) := fun k p => blk0 _ c t k p
  have e1 : ∀ (o : Fin 32) (k : Fin 8), (iblk0 (V1 m ρ) c 1 t : FVec Ideal S1x32x8 .f32) (ix3 0 o k) = aug (W0 m ρ c) (ix3 (im t) o k) := fun o k => blk1 _ c t o k
  have e2 : ∀ (o : Fin 32) (k : Fin 8), (iblk0 (V1 m ρ) c 2 t : FVec Ideal S1x8x32 .f32) (ix3 0 k o) = augT (W0 m ρ c) (ix3 (im t) k o) := fun o k => blk2 _ c t o k
  have e3 : ∀ (k : Fin 21) (p : Fin 5685), (iblk0 (V1 m ρ) c 3 t : FVec Ideal S1x21x5685 .f32) (ix3 0 k p) = scrT (W0 m ρ c) (ix3 (im t) k p) := fun k p => blk3 _ c t k p
  have e4 : ∀ (k : Fin 18) (p : Fin 5685), (iblk0 (V1 m ρ) c 4 t : FVec Ideal S1x18x5685 .f32) (ix3 0 k p) = locT (W0 m ρ c) (ix3 (im t) k p) := fun k p => blk4 _ c t k p
  exact {
    prior := fun p k => (e0 _ p).trans (pri_rows _ p k)
    cx := fun p => (e0 _ p).trans (pri4 _ p)
    cy := fun p => (e0 _ p).trans (pri5 _ p)
    w := fun p => (e0 _ p).trans (pri6 _ p)
    h := fun p => (e0 _ p).trans (pri7 _ p)
    box := fun o k => (e1 o _).trans (aug_rows _ _ o k)
    area := fun o => (e1 o _).trans (aug5 _ _ o)
    boxT := fun o k => (e2 o _).trans ((augT_apply _ _ o _).trans (aug_rows _ _ o k))
    label := fun o => (e2 o _).trans ((augT_apply _ _ o _).trans (aug4 _ _ o))
    scr := fun p k => (e3 k p).trans (scrT_apply _ _ k p)
    loc := fun p k => (e4 k p).trans (locT_apply _ _ k p) }

/-- The labels of all images are classes. -/
def AllClasses (V : Valuation τ sig (Elt Ideal)) : Prop := ∀ b, (img V b).Classes

variable (c : Dev nD) (hI : AllClasses (W0 m ρ c))
include hI

/-- The four result arrays of the first call. -/
abbrev G5 (V : Valuation τ sig (Elt Ideal)) : FVec Ideal S128x1x8 .f32 := fun i => ∑ p, (img V (i 0)).ll p
abbrev G6 (V : Valuation τ sig (Elt Ideal)) : FVec Ideal S128x1x8 .f32 := fun i => ∑ p, (img V (i 0)).ps p
abbrev G7 (V : Valuation τ sig (Elt Ideal)) : FVec Ideal S128x1x8 .f32 := fun i => ∑ p, (img V (i 0)).cf p * (img V (i 0)).ps p
abbrev G8 (V : Valuation τ sig (Elt Ideal)) : FVec Ideal S128x1x5685 .f32 := fun i => (img V (i 0)).neg (i 2)

omit hI in
theorem emb5 (t : Fin cfg0.N) (j : Fin 8) : (win0_5.blk t).view.emb (ix3 0 0 j) = ix3 (im t) 0 j := by
  blk_ext [idx0 t]
omit hI in
theorem emb6 (t : Fin cfg0.N) (j : Fin 8) : (win0_6.blk t).view.emb (ix3 0 0 j) = ix3 (im t) 0 j := by
  blk_ext [idx0 t]
omit hI in
theorem emb7 (t : Fin cfg0.N) (j : Fin 8) : (win0_7.blk t).view.emb (ix3 0 0 j) = ix3 (im t) 0 j := by
  blk_ext [idx0 t]
omit hI in
theorem emb8 (t : Fin cfg0.N) (j : Fin 5685) : (win0_8.blk t).view.emb (ix3 0 0 j) = ix3 (im t) 0 j := by
  blk_ext [idx0 t]
omit hI in
/-- An index whose first two extents are one. -/
theorem row_ix {n : ℕ} (y : (⟨3, ![1, 1, n]⟩ : Shape).Idx) : ∃ j : Fin n, y = ix3 0 0 j :=
  ⟨y 2, (eq_ix3 y).trans (congrArg₂ (fun a b => ix3 a b (y 2)) (Subsingleton.elim (α := Fin 1) _ _) (Subsingleton.elim (α := Fin 1) _ _))⟩

theorem arr5 : (dat0 (V1 m ρ) c).arrAt 5 cfg0.N = G5 (W0 m ρ c) := by
  refine (dat0 (V1 m ρ) c).arrAt_eq_of_covers 5 _ (by decide +kernel) fun t _ y => ?_
  blk_simp
  rw [after0_5]
  obtain ⟨j, rfl⟩ := row_ix (n := 8) y
  rw [emb5]
  exact (blocks m ρ c t).out5 (hI _) j
theorem arr6 : (dat0 (V1 m ρ) c).arrAt 6 cfg0.N = G6 (W0 m ρ c) := by
  refine (dat0 (V1 m ρ) c).arrAt_eq_of_covers 6 _ (by decide +kernel) fun t _ y => ?_
  blk_simp
  rw [after0_6]
  obtain ⟨j, rfl⟩ := row_ix (n := 8) y
  rw [emb6]
  exact (blocks m ρ c t).out6 (hI _) j
theorem arr7 : (dat0 (V1 m ρ) c).arrAt 7 cfg0.N = G7 (W0 m ρ c) := by
  refine (dat0 (V1 m ρ) c).arrAt_eq_of_covers 7 _ (by decide +kernel) fun t _ y => ?_
  blk_simp
  rw [after0_7]
  obtain ⟨j, rfl⟩ := row_ix (n := 8) y
  rw [emb7]
  exact (blocks m ρ c t).out7 (hI _) j
theorem arr8 : (dat0 (V1 m ρ) c).arrAt 8 cfg0.N = G8 (W0 m ρ c) := by
  refine (dat0 (V1 m ρ) c).arrAt_eq_of_covers 8 _ (by decide +kernel) fun t _ y => ?_
  blk_simp
  rw [after0_8]
  obtain ⟨j, rfl⟩ := row_ix (n := 5685) y
  rw [emb8]
  exact (blocks m ρ c t).out8 (hI _) j

theorem loc_at (b : Fin 128) (j : Fin 8) : (W2 m ρ c (Proc.devRef .tc main_v44_0) : FVec Ideal S128x1x8 .f32) (ix3 b 0 j) = ∑ p, (img (W0 m ρ c) b).ll p :=
  congrFun ((W2_arr m ρ c 5).trans (arr5 m ρ c hI)) (ix3 b 0 j)
theorem npos_at (b : Fin 128) (j : Fin 8) : (W2 m ρ c (Proc.devRef .tc main_v44_1) : FVec Ideal S128x1x8 .f32) (ix3 b 0 j) = ∑ p, (img (W0 m ρ c) b).ps p :=
  congrFun ((W2_arr m ρ c 6).trans (arr6 m ρ c hI)) (ix3 b 0 j)
theorem cpos_at (b : Fin 128) (j : Fin 8) : (W2 m ρ c (Proc.devRef .tc main_v44_2) : FVec Ideal S128x1x8 .f32) (ix3 b 0 j) = ∑ p, (img (W0 m ρ c) b).cf p * (img (W0 m ρ c) b).ps p :=
  congrFun ((W2_arr m ρ c 7).trans (arr7 m ρ c hI)) (ix3 b 0 j)
theorem cneg_at (b : Fin 128) (p : Fin 5685) : (W2 m ρ c (Proc.devRef .tc main_v44_3) : FVec Ideal S128x1x5685 .f32) (ix3 b 0 p) = (img (W0 m ρ c) b).neg p :=
  congrFun ((W2_arr m ρ c 8).trans (arr8 m ρ c hI)) (ix3 b 0 p)

/-! What the second call reads. -/

theorem v45_at (b : Fin 128) (p : Fin 5685) : (V3 m ρ c main_v45 : FVec Ideal S128x5685 .f32) (ix2 b p) = (img (W0 m ρ c) b).neg p := by
  refine Eq.trans ?_ (cneg_at m ρ c hI b p)
  show (StableHlo.after hostOps1 (W2 m ρ c) (Proc.devRef .tc main_v45) : FVec Ideal S128x5685 .f32) (ix2 b p) = _
  generalize W2 m ρ c = V
  repeat after_reads_at
theorem v47_at (b : Fin 128) : (V3 m ρ c main_v47 : FVec Ideal S128x1 .f32) (ix2 b 0) = ∑ p, (img (W0 m ρ c) b).ps p := by
  refine Eq.trans ?_ (npos_at m ρ c hI b 0)
  show (StableHlo.after hostOps1 (W2 m ρ c) (Proc.devRef .tc main_v47) : FVec Ideal S128x1 .f32) (ix2 b 0) = _
  generalize W2 m ρ c = V
  repeat after_reads_at

end Cert.KernelIdeal.Read
-- ==== Proof.Apart.lean ====
/- When an image's hard negatives stand apart from its other negatives, and the loss in the quantities of the images. -/
module

public import proofs.«01_k».proof.Proof.Spec

@[expose] public section

noncomputable section

namespace Cert.Loss
open Idealize.ShloMosaic

/-- The margin above the largest number. -/
def margin : ℝ := 8589935 / 2 ^ 33

/-- The losses `y` of the image's negatives, in descending order by `σ`, with a gap behind the `3 * count` largest. -/
structure Image.Apart (I : Image) (y : Fin 5685 → ℝ) (σ : Equiv.Perm (Fin 5685)) : Prop where
  val : ∀ p, I.neg p = (y p : EReal)
  nonneg : ∀ p, 0 ≤ y p
  sorted : Antitone (y ∘ σ)
  few : 3 * I.count < 5685
  gap : ∀ i j : Fin 5685, i.val < 3 * I.count → 3 * I.count ≤ j.val → (y (σ 0) + margin) / 2 ^ 24 < y (σ i) - y (σ j)

/-- The sum of the `3 * count` largest losses of an image's negatives. -/
def Image.hardest (I : Image) (y : Fin 5685 → ℝ) (σ : Equiv.Perm (Fin 5685)) : EReal :=
  ((∑ r : Fin 5685, if r.val < 3 * I.count then y (σ r) else 0 : ℝ) : EReal)

/-- The loss of the images `I`, the sums of the hard negatives given. -/
def total (I : Fin 128 → Image) (H : Fin 128 → EReal) : EReal :=
  Ideal.div (∑ b, H b + ∑ b, ∑ p, (I b).cf p * (I b).ps p) (max (∑ b, ∑ p, (I b).ps p) 1)
    + Ideal.div (∑ b, ∑ p, (I b).ll p) (max ((∑ b, ∑ p, (I b).ps p) * Ideal.ofBits .f32 0x40800000#32) 1)

end Cert.Loss
-- ==== Proof.KernelHard.lean ====
/- What the second call computes: the bisection and the sum of the hard negatives. -/
module

public import proofs.«01_k».proof.Proof.KernelArrays
public import proofs.«01_k».proof.Proof.Bisect
public import proofs.«01_k».proof.Proof.Apart

@[expose] public section

set_option maxRecDepth 16384

noncomputable section

namespace Cert.KernelIdeal.Read
open Cert.KernelIdeal Cert.KernelIdeal.Gen Cert.Loss
open Idealize.ShloMosaic Idealize.ShloMosaic.TcCoe Idealize.SL.Sem
open Idealize.ShloMosaic.Pipeline (Dat)

/-- One trip of the loop. -/
def step (x0 : Vec Ideal S128x5685 .f32) (x1 : Vec Ideal S128x1 .f32) (s : FVec Ideal S128x1 .f32 × FVec Ideal S128x1 .f32) :
    FVec Ideal S128x1 .f32 × FVec Ideal S128x1 .f32 := (k1_pay7 x0 x1 s.1 s.2, k1_pay8 x0 x1 s.1 s.2)
/-- What the body leaves in its result. -/
def hard (x0 : Vec Ideal S128x5685 .f32) (x1 : Vec Ideal S128x1 .f32) : FVec Ideal S128x1 .f32 :=
  k1_pay9 x0 x1 ((step x0 x1)^[24] (k1_pay3, k1_pay4 x0)).2

theorem outs_eq (V : (c : Dev nD) → (b : Ref sig .tc) → Buf (Elt Ideal) ((c : Thread nD τ).loc b)) (c : Dev nD) (t : Fin cfg1.N) :
    outsAt1 V c t = hard (iblk1 V c 0 t) (iblk1 V c 1 t) := by
  unfold outsAt1
  unfold out1_A_2
  frame_out
  have e0 := (hs1_0 t).read_unread (Val := Elt Ideal) (iblk1 V c 0 t)
  have e1 := (hs1_1 t).read_unread (Val := Elt Ideal) (iblk1 V c 1 t)
  erw [e0, e1, Scf.fold_eq, List.foldl_const, List.length_finRange]
  rfl

/-- The numbers of a list above a threshold, counted as the kernel counts them. -/
theorem sum_above {n : ℕ} (y : Fin n → ℝ) (t : ℝ) :
    (∑ p, (FloatOps.sitofp .f32 (BitVec.setWidth 32 (BitVec.ofBool (decide ((t : EReal) < (y p : EReal))))) : Ideal .f32)) = ((cntGt y t : ℝ) : EReal) := by
  have e : ∀ p, (FloatOps.sitofp .f32 (BitVec.setWidth 32 (BitVec.ofBool (decide ((t : EReal) < (y p : EReal))))) : Ideal .f32)
      = (((if t < y p then 1 else 0 : ℝ)) : EReal) := fun p => by
    rw [sitofp_bit]
    by_cases h : t < y p
    · rw [if_pos h, if_pos (EReal.coe_lt_coe_iff.2 h), EReal.coe_one]
    · rw [if_neg h, if_neg (fun h' => h (EReal.coe_lt_coe_iff.1 h')), EReal.coe_zero]
  rw [Finset.sum_congr rfl fun p _ => e p, ← coe_sum]
  unfold cntGt
  rw [Finset.sum_boole]

/-- The numbers above a threshold, added as the kernel adds them. -/
theorem sum_above' {n : ℕ} (y : Fin n → ℝ) (t : ℝ) :
    (∑ p, if (t : EReal) < (y p : EReal) then (y p : EReal) else 0) = ((∑ p, if t < y p then y p else 0 : ℝ) : EReal) := by
  rw [coe_sum]
  refine Finset.sum_congr rfl fun p _ => ?_
  by_cases h : t < y p
  · rw [if_pos h, if_pos (EReal.coe_lt_coe_iff.2 h)]
  · rw [if_neg h, if_neg (fun h' => h (EReal.coe_lt_coe_iff.1 h')), EReal.coe_zero]

theorem ofBits_margin : Ideal.ofBits .f32 0x3A83126F#32 = (margin : EReal) := by
  unfold margin
  simp [Ideal.ofBits, Ideal.ieee, -EReal.coe_mul]; norm_num

section Row
variable (x0 : Vec Ideal S128x5685 .f32) (x1 : Vec Ideal S128x1 .f32) (b : Fin 128) (y : Fin 5685 → ℝ) (n : ℕ)
  (h0 : ∀ p, x0 (ix2 b p) = (y p : EReal)) (h1 : x1 (ix2 b 0) = ((n : ℝ) : EReal))
include h0 h1

omit h0 h1 in
theorem pay5_row (s1 s2 : FVec Ideal S128x1 .f32) (l h : ℝ) (hl : s1 (ix2 b 0) = (l : EReal)) (hh : s2 (ix2 b 0) = (h : EReal)) :
    k1_pay5 s1 s2 (ix2 b 0) = ((1 / 2 * (l + h) : ℝ) : EReal) := by
  pointwise [k1_pay5]
  rw [hl, hh, ofBits_half, ← EReal.coe_add, half, ← EReal.coe_mul]
theorem pay6_row (s1 s2 : FVec Ideal S128x1 .f32) (l h : ℝ) (hl : s1 (ix2 b 0) = (l : EReal)) (hh : s2 (ix2 b 0) = (h : EReal)) :
    k1_pay6 x0 x1 s1 s2 (ix2 b 0) = BitVec.ofBool (decide (3 * n < cntGt y (1 / 2 * (l + h)))) := by
  pointwise [k1_pay6, k1_pay1, k1_pay2]
  simp only [h0, h1, pay5_row b s1 s2 l h hl hh]
  rw [sum_above, ofBits_three, ← EReal.coe_mul]
  congr 1
  refine decide_eq_decide.2 ?_
  rw [EReal.coe_lt_coe_iff]
  exact_mod_cast Iff.rfl
theorem step_row (s : FVec Ideal S128x1 .f32 × FVec Ideal S128x1 .f32) (r : ℝ × ℝ) (hl : s.1 (ix2 b 0) = (r.1 : EReal)) (hh : s.2 (ix2 b 0) = (r.2 : EReal)) :
    (step x0 x1 s).1 (ix2 b 0) = ((halve y (3 * n) r).1 : EReal) ∧ (step x0 x1 s).2 (ix2 b 0) = ((halve y (3 * n) r).2 : EReal) := by
  have e6 := pay6_row x0 x1 b y n h0 h1 s.1 s.2 r.1 r.2 hl hh
  have e5 := pay5_row b s.1 s.2 r.1 r.2 hl hh
  unfold step halve
  constructor
  · pointwise [k1_pay7]
    rw [e6, e5, hl]
    by_cases h : 3 * n < cntGt y (1 / 2 * (r.1 + r.2))
    · rw [decide_eq_true h, if_pos h]; rfl
    · rw [decide_eq_false h, if_neg h]; rfl
  · pointwise [k1_pay8]
    rw [e6, e5, hh]
    by_cases h : 3 * n < cntGt y (1 / 2 * (r.1 + r.2))
    · rw [decide_eq_true h, if_pos h]; rfl
    · rw [decide_eq_false h, if_neg h]; rfl
theorem iter_row (s : FVec Ideal S128x1 .f32 × FVec Ideal S128x1 .f32) (r : ℝ × ℝ) (hl : s.1 (ix2 b 0) = (r.1 : EReal)) (hh : s.2 (ix2 b 0) = (r.2 : EReal)) (T : ℕ) :
    ((step x0 x1)^[T] s).1 (ix2 b 0) = (((halve y (3 * n))^[T] r).1 : EReal) ∧ ((step x0 x1)^[T] s).2 (ix2 b 0) = (((halve y (3 * n))^[T] r).2 : EReal) := by
  induction T with
  | zero => exact ⟨hl, hh⟩
  | succ T ih =>
    rw [Function.iterate_succ_apply', Function.iterate_succ_apply']
    exact step_row x0 x1 b y n h0 h1 _ _ ih.1 ih.2
theorem pay9_row (s2 : FVec Ideal S128x1 .f32) (h : ℝ) (hh : s2 (ix2 b 0) = (h : EReal)) :
    k1_pay9 x0 x1 s2 (ix2 b 0) = (((∑ p, if h < y p then y p else 0) + (3 * n - cntGt y h) * h : ℝ) : EReal) := by
  pointwise [k1_pay9, k1_pay1, k1_pay2]
  simp only [h0, h1, hh]
  rw [sum_above, sum_above', ofBits_three, ← EReal.coe_mul, ← EReal.coe_sub, ← EReal.coe_mul, ← EReal.coe_add]
omit h1 in
theorem pay4_row (M : ℝ) (hM : ∀ p, y p ≤ M) (hM' : ∃ p, y p = M) : k1_pay4 x0 (ix2 b 0) = ((M + margin : ℝ) : EReal) := by
  pointwise [k1_pay4, k1_pay1]
  rw [ofBits_margin, fold_max _ _ ofBits_negInf, h0, EReal.coe_add]
  congr 2
  obtain ⟨p, rfl⟩ := hM'
  refine le_antisymm (hM _) ?_
  have := le_firstMax (fun p => x0 (ix2 b p)) p
  rw [h0, h0] at this
  exact EReal.coe_le_coe_iff.1 this

/-- The row's result is the sum of its `3n` largest numbers, when those stand apart from the others by more than what 24
    halvings leave of the interval. -/
theorem hard_row (hy : ∀ p, 0 ≤ y p) (hk : 3 * n < 5685) (σ : Equiv.Perm (Fin 5685)) (hσ : Antitone (y ∘ σ))
    (gap : ∀ i j : Fin 5685, i.val < 3 * n → 3 * n ≤ j.val → (y (σ 0) + margin) / 2 ^ 24 < y (σ i) - y (σ j)) :
    hard x0 x1 (ix2 b 0) = ((∑ r : Fin 5685, if r.val < 3 * n then y (σ r) else 0 : ℝ) : EReal) := by
  have hM : ∀ p, y p ≤ y (σ 0) := fun p => by
    have := hσ (Fin.zero_le (σ.symm p))
    simpa using this
  have hm : (0 : ℝ) < margin := by unfold margin; norm_num
  have hM' : ∀ p, y p ≤ y (σ 0) + margin := fun p => by linarith [hM p]
  have hi := (iter_row x0 x1 b y n h0 h1 (k1_pay3, k1_pay4 x0) (0, y (σ 0) + margin)
    (by pointwise [k1_pay3]; rw [EReal.coe_zero]) (pay4_row x0 b y h0 _ hM ⟨_, rfl⟩) 24).2
  unfold hard
  rw [pay9_row x0 x1 b y n h0 h1 _ _ hi, halve_sum y hy (3 * n) hk _ hM' σ hσ 24 gap,
    halve_count y hy (3 * n) hk _ hM' σ hσ 24 gap]
  congr 1
  push_cast
  ring
end Row

section Array
variable (m : (ℓ : Loc nD τ sig) → Buf (Elt Ideal) ℓ) (ρ : Dev nD → PrngReg) (c : Dev nD)

theorem idx1 : win1_0.index t1_0 = ![0, 0] ∧ win1_1.index t1_0 = ![0, 0] := by decide +kernel

/-- The second call's result array is the body's result on its two operands. -/
theorem v48_eq : (W4 m ρ c (Proc.devRef .tc main_v48) : FVec Ideal S128x1 .f32) = hard (V3 m ρ c main_v45) (V3 m ρ c main_v47) := by
  refine (W4_arr m ρ c 2).trans ?_
  refine (dat1 (V3 m ρ) c).arrAt_eq_of_after_last 2 t1_0 (by decide +kernel) _ fun j => ?_
  blk_simp
  rw [after1_2, outs_eq]
  have e0 : (iblk1 (V3 m ρ) c 0 t1_0 : FVec Ideal S128x5685 .f32) = V3 m ρ c main_v45 := by
    blk_ext! [iblk1, idx1]
  have e1 : (iblk1 (V3 m ρ) c 1 t1_0 : FVec Ideal S128x1 .f32) = V3 m ρ c main_v47 := by
    blk_ext! [iblk1, idx1]
  rw [e0, e1]
end Array

end Cert.KernelIdeal.Read
-- ==== Proof.KernelTail.lean ====
/- The kernel's result: the host operations after the second call. -/
module

public import proofs.«01_k».proof.Proof.KernelHard
public import proofs.«01_k».proof.Proof.KernelRun

@[expose] public section

set_option maxRecDepth 16384

noncomputable section

namespace Cert.KernelIdeal.Read
open Cert.KernelIdeal Cert.KernelIdeal.Gen Cert.Loss
open Idealize.ShloMosaic Idealize.ShloMosaic.TcCoe Idealize.SL.Sem

theorem tail (V : Valuation τ sig (Elt Ideal)) (L N P : Fin 128 → EReal) (H : Fin 128 → EReal)
    (hL : ∀ b j, (V (Proc.devRef .tc main_v44_0) : FVec Ideal S128x1x8 .f32) (ix3 b 0 j) = L b)
    (hN : ∀ b j, (V (Proc.devRef .tc main_v44_1) : FVec Ideal S128x1x8 .f32) (ix3 b 0 j) = N b)
    (hP : ∀ b j, (V (Proc.devRef .tc main_v44_2) : FVec Ideal S128x1x8 .f32) (ix3 b 0 j) = P b)
    (hH : ∀ b, (V (Proc.devRef .tc main_v48) : FVec Ideal S128x1 .f32) (ix2 b 0) = H b) (i) :
    (StableHlo.after hostOps2 V (Proc.devRef .tc main_v65) : FVec Ideal S_ .f32) i
      = Ideal.div (∑ b, H b + ∑ b, P b) (max (∑ b, N b) 1) + Ideal.div (∑ b, L b) (max ((∑ b, N b) * Ideal.ofBits .f32 0x40800000#32) 1) := by
  repeat after_reads_at
  simp only [hL, hN, hP, Fin.sum_univ_one, hH]

variable (m : (ℓ : Loc nD τ sig) → Buf (Elt Ideal) ℓ) (ρ : Dev nD → PrngReg) (c : Dev nD) (hI : AllClasses (W0 m ρ c))

theorem W4_loc : W4 m ρ c (Proc.devRef .tc main_v44_0) = W2 m ρ c (Proc.devRef .tc main_v44_0) :=
  (W4_of_ne m ρ c main_v44_0 (by decide +kernel)).trans (W3_of m ρ c main_v44_0 (by decide +kernel))
theorem W4_npos : W4 m ρ c (Proc.devRef .tc main_v44_1) = W2 m ρ c (Proc.devRef .tc main_v44_1) :=
  (W4_of_ne m ρ c main_v44_1 (by decide +kernel)).trans (W3_of m ρ c main_v44_1 (by decide +kernel))
theorem W4_cpos : W4 m ρ c (Proc.devRef .tc main_v44_2) = W2 m ρ c (Proc.devRef .tc main_v44_2) :=
  (W4_of_ne m ρ c main_v44_2 (by decide +kernel)).trans (W3_of m ρ c main_v44_2 (by decide +kernel))

include hI in
/-- The kernel's result. -/
theorem result (y : Fin 128 → Fin 5685 → ℝ) (σ : Fin 128 → Equiv.Perm (Fin 5685)) (hs : ∀ b, (img (W0 m ρ c) b).Apart (y b) (σ b)) :
    (W5 m ρ c (Proc.devRef .tc main_v65) : FVec Ideal S_ .f32)
      = fun _ => total (img (W0 m ρ c)) fun b => (img (W0 m ρ c) b).hardest (y b) (σ b) := by
  funext i
  refine tail (W4 m ρ c) _ _ _ _ (fun b j => ?_) (fun b j => ?_) (fun b j => ?_) (fun b => ?_) i
  · rw [W4_loc]; exact loc_at m ρ c hI b j
  · rw [W4_npos]; exact npos_at m ρ c hI b j
  · rw [W4_cpos]; exact cpos_at m ρ c hI b j
  · rw [v48_eq]
    exact hard_row _ _ b (y b) (img (W0 m ρ c) b).count (fun p => (v45_at m ρ c hI b p).trans ((hs b).val p))
      ((v47_at m ρ c hI b).trans (img (W0 m ρ c) b).sum_ps) (hs b).nonneg (hs b).few (σ b) (hs b).sorted (hs b).gap

end Cert.KernelIdeal.Read
-- ==== Proof.RefOps.lean ====
/- The reference program's operations as lists, one per stretch of its main function, and each shared
   intermediate value as a term of the arguments' contents. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v8`, named. It packs its operands into a list of dependent pairs
    whose shapes a later argument's type mentions, so `simp` cannot rewrite an operand where it stands; applied by
    name, the operands are plain arguments, which the window lemmas below rewrite before the name unfolds. -/
def fn_main_v8 : (⟨S5685x2, .f32⟩ : BufTy).Contents (Elt F) → (⟨S5685x2, .f32⟩ : BufTy).Contents (Elt F) → (⟨S5685x4, .f32⟩ : BufTy).Contents (Elt F) :=
  (fun a b => concatenate S5685x4 1 [⟨S5685x2, a⟩, ⟨S5685x2, b⟩] concatenates_S5685x2_S5685x2_S5685x4_d1)

/-- The function of the operation that writes `main_v22`, named. It packs its operands into a list of dependent pairs
    whose shapes a later argument's type mentions, so `simp` cannot rewrite an operand where it stands; applied by
    name, the operands are plain arguments, which the window lemmas below rewrite before the name unfolds. -/
def fn_main_v22 : (main_v18 : Ref sig .tc).ty.Contents (Elt F) → (main_v19 : Ref sig .tc).ty.Contents (Elt F) → (main_v20 : Ref sig .tc).ty.Contents (Elt F) → (main_v21 : Ref sig .tc).ty.Contents (Elt F) → (main_v22 : Ref sig .tc).ty.Contents (Elt F) :=
  (fun u0 u1 u2 u3 => (concatenate S128x5685x4 2 [⟨S128x5685x1, (u0 : (⟨S128x5685x1, .f32⟩ : BufTy).Contents (Elt F))⟩, ⟨S128x5685x1, (u1 : (⟨S128x5685x1, .f32⟩ : BufTy).Contents (Elt F))⟩, ⟨S128x5685x1, (u2 : (⟨S128x5685x1, .f32⟩ : BufTy).Contents (Elt F))⟩, ⟨S128x5685x1, (u3 : (⟨S128x5685x1, .f32⟩ : BufTy).Contents (Elt F))⟩] concatenates_S128x5685x1_S128x5685x1_S128x5685x1_S128x5685x1_S128x5685x4_d2 : (⟨S128x5685x4, .f32⟩ : BufTy).Contents (Elt F)))

/-- The function of the operation that writes `main_v100`, named. It packs its operands into a list of dependent pairs
    whose shapes a later argument's type mentions, so `simp` cannot rewrite an operand where it stands; applied by
    name, the operands are plain arguments, which the window lemmas below rewrite before the name unfolds. -/
def fn_main_v100 : (⟨S128x32x1, .i32⟩ : BufTy).Contents (Elt F) → (⟨S128x32x1, .i32⟩ : BufTy).Contents (Elt F) → (⟨S128x32x2, .i32⟩ : BufTy).Contents (Elt F) :=
  (fun a b => concatenate S128x32x2 2 [⟨S128x32x1, a⟩, ⟨S128x32x1, b⟩] concatenates_S128x32x1_S128x32x1_S128x32x2_d2)

/-- The function of the operation that writes `main_v116`, named. It packs its operands into a list of dependent pairs
    whose shapes a later argument's type mentions, so `simp` cannot rewrite an operand where it stands; applied by
    name, the operands are plain arguments, which the window lemmas below rewrite before the name unfolds. -/
def fn_main_v116 : (⟨S128x32x1, .i32⟩ : BufTy).Contents (Elt F) → (⟨S128x32x1, .i32⟩ : BufTy).Contents (Elt F) → (⟨S128x32x2, .i32⟩ : BufTy).Contents (Elt F) :=
  (fun a b => concatenate S128x32x2 2 [⟨S128x32x1, a⟩, ⟨S128x32x1, b⟩] concatenates_S128x32x1_S128x32x1_S128x32x2_d2)

/-- The function of the operation that writes `main_v132`, named. It packs its operands into a list of dependent pairs
    whose shapes a later argument's type mentions, so `simp` cannot rewrite an operand where it stands; applied by
    name, the operands are plain arguments, which the window lemmas below rewrite before the name unfolds. -/
def fn_main_v132 : (⟨S128x5685x1, .i32⟩ : BufTy).Contents (Elt F) → (⟨S128x5685x1, .i32⟩ : BufTy).Contents (Elt F) → (⟨S128x5685x2, .i32⟩ : BufTy).Contents (Elt F) :=
  (fun a b => concatenate S128x5685x2 2 [⟨S128x5685x1, a⟩, ⟨S128x5685x1, b⟩] concatenates_S128x5685x1_S128x5685x1_S128x5685x2_d2)

/-- The function of the operation that writes `main_v151`, named. It packs its operands into a list of dependent pairs
    whose shapes a later argument's type mentions, so `simp` cannot rewrite an operand where it stands; applied by
    name, the operands are plain arguments, which the window lemmas below rewrite before the name unfolds. -/
def fn_main_v151 : (⟨S128x5685x1, .i32⟩ : BufTy).Contents (Elt F) → (⟨S128x5685x1, .i32⟩ : BufTy).Contents (Elt F) → (⟨S128x5685x2, .i32⟩ : BufTy).Contents (Elt F) :=
  (fun a b => concatenate S128x5685x2 2 [⟨S128x5685x1, a⟩, ⟨S128x5685x1, b⟩] concatenates_S128x5685x1_S128x5685x1_S128x5685x2_d2)

/-- The function of the operation that writes `main_v161`, named. It packs its operands into a list of dependent pairs
    whose shapes a later argument's type mentions, so `simp` cannot rewrite an operand where it stands; applied by
    name, the operands are plain arguments, which the window lemmas below rewrite before the name unfolds. -/
def fn_main_v161 : (⟨S128x5685x2, .f32⟩ : BufTy).Contents (Elt F) → (⟨S128x5685x2, .f32⟩ : BufTy).Contents (Elt F) → (⟨S128x5685x4, .f32⟩ : BufTy).Contents (Elt F) :=
  (fun a b => concatenate S128x5685x4 2 [⟨S128x5685x2, a⟩, ⟨S128x5685x2, b⟩] concatenates_S128x5685x2_S128x5685x2_S128x5685x4_d2)

/-- The function of the operation that writes `main_v185`, named. It packs its operands into a list of dependent pairs
    whose shapes a later argument's type mentions, so `simp` cannot rewrite an operand where it stands; applied by
    name, the operands are plain arguments, which the window lemmas below rewrite before the name unfolds. -/
def fn_main_v185 : (⟨S128x5685x2, .f32⟩ : BufTy).Contents (Elt F) → (⟨S128x5685x2, .f32⟩ : BufTy).Contents (Elt F) → (⟨S128x5685x4, .f32⟩ : BufTy).Contents (Elt F) :=
  (fun a b => concatenate S128x5685x4 2 [⟨S128x5685x2, a⟩, ⟨S128x5685x2, b⟩] concatenates_S128x5685x2_S128x5685x2_S128x5685x4_d2)

/-- The function of the operation that writes `main_v238`, named. It packs its operands into a list of dependent pairs
    whose shapes a later argument's type mentions, so `simp` cannot rewrite an operand where it stands; applied by
    name, the operands are plain arguments, which the window lemmas below rewrite before the name unfolds. -/
def fn_main_v238 : (main_v235 : Ref sig .tc).ty.Contents (Elt F) → (main_v236 : Ref sig .tc).ty.Contents (Elt F) → (main_v237 : Ref sig .tc).ty.Contents (Elt F) → (main_v238 : Ref sig .tc).ty.Contents (Elt F) :=
  (fun u0 u1 u2 => (concatenate S128x5685x3 2 [⟨S128x5685x1, (u0 : (⟨S128x5685x1, .i32⟩ : BufTy).Contents (Elt F))⟩, ⟨S128x5685x1, (u1 : (⟨S128x5685x1, .i32⟩ : BufTy).Contents (Elt F))⟩, ⟨S128x5685x1, (u2 : (⟨S128x5685x1, .i32⟩ : BufTy).Contents (Elt F))⟩] concatenates_S128x5685x1_S128x5685x1_S128x5685x1_S128x5685x3_d2 : (⟨S128x5685x3, .i32⟩ : BufTy).Contents (Elt F)))

/-- @main's operations 1 … 60 of 327 (window `main_part0`). -/
abbrev ops_part0 : List (HloOp τ sig (Elt F)) :=
  [ unary main_arg4 main_v0 ((extractStridedSlice S5685x2 ![0, 2] · slices_S5685x4_S5685x2_0_2) : (⟨S5685x4, .f32⟩ : BufTy).Contents (Elt F) → (⟨S5685x2, .f32⟩ : BufTy).Contents (Elt F)),
    unary main_arg4 main_v1 ((extractStridedSlice S5685x2 ![0, 0] · slices_S5685x4_S5685x2_0_0) : (⟨S5685x4, .f32⟩ : BufTy).Contents (Elt F) → (⟨S5685x2, .f32⟩ : BufTy).Contents (Elt F)),
    binary main_v0 main_v1 main_v2 (addf : (⟨S5685x2, .f32⟩ : BufTy).Contents (Elt F) → (⟨S5685x2, .f32⟩ : BufTy).Contents (Elt F) → (⟨S5685x2, .f32⟩ : BufTy).Contents (Elt F)),
    nullary main_cst (constant S_ .f32 0x40000000#32),
    unary main_cst main_v3 (broadcastInDim S5685x2 ![] bcast_S_S5685x2 : (⟨S_, .f32⟩ : BufTy).Contents (Elt F) → (⟨S5685x2, .f32⟩ : BufTy).Contents (Elt F)),
    binary main_v2 main_v3 main_v4 (Host.divf : (⟨S5685x2, .f32⟩ : BufTy).Contents (Elt F) → (⟨S5685x2, .f32⟩ : BufTy).Contents (Elt F) → (⟨S5685x2, .f32⟩ : BufTy).Contents (Elt F)),
    unary main_arg4 main_v5 ((extractStridedSlice S5685x2 ![0, 2] · slices_S5685x4_S5685x2_0_2) : (⟨S5685x4, .f32⟩ : BufTy).Contents (Elt F) → (⟨S5685x2, .f32⟩ : BufTy).Contents (Elt F)),
    unary main_arg4 main_v6 ((extractStridedSlice S5685x2 ![0, 0] · slices_S5685x4_S5685x2_0_0) : (⟨S5685x4, .f32⟩ : BufTy).Contents (Elt F) → (⟨S5685x2, .f32⟩ : BufTy).Contents (Elt F)),
    binary main_v5 main_v6 main_v7 (subf : (⟨S5685x2, .f32⟩ : BufTy).Contents (Elt F) → (⟨S5685x2, .f32⟩ : BufTy).Contents (Elt F) → (⟨S5685x2, .f32⟩ : BufTy).Contents (Elt F)),
    binary main_v4 main_v7 main_v8 (fn_main_v8 (F := F)),
    reshape main_arg0 main_v9 (rfl : (.f32 : EltTy) = .f32) shapeCasts_S128x5685x18_S128x5685x2x9,
    unary main_v9 main_v10 ((extractStridedSlice S128x5685x1x9 ![0, 0, 0, 0] · slices_S128x5685x2x9_S128x5685x1x9_0_0_0_0) : (⟨S128x5685x2x9, .f32⟩ : BufTy).Contents (Elt F) → (⟨S128x5685x1x9, .f32⟩ : BufTy).Contents (Elt F)),
    reshape main_v10 main_v11 (rfl : (.f32 : EltTy) = .f32) shapeCasts_S128x5685x1x9_S128x5685x9,
    unary main_v9 main_v12 ((extractStridedSlice S128x5685x1x9 ![0, 0, 1, 0] · slices_S128x5685x2x9_S128x5685x1x9_0_0_1_0) : (⟨S128x5685x2x9, .f32⟩ : BufTy).Contents (Elt F) → (⟨S128x5685x1x9, .f32⟩ : BufTy).Contents (Elt F)),
    reshape main_v12 main_v13 (rfl : (.f32 : EltTy) = .f32) shapeCasts_S128x5685x1x9_S128x5685x9,
    nullary main_cst_0 (constant S_ .f32 0x7F800000#32),
    binary main_v11 main_cst_0 main_v14 ((fun x v => Host.reduce FloatOps.minimumf x v reducesTo_S128x5685x9_S128x5685_d2 h_S_) : (⟨S128x5685x9, .f32⟩ : BufTy).Contents (Elt F) → (⟨S_, .f32⟩ : BufTy).Contents (Elt F) → (⟨S128x5685, .f32⟩ : BufTy).Contents (Elt F)),
    nullary main_cst_1 (constant S_ .f32 0x7F800000#32),
    binary main_v13 main_cst_1 main_v15 ((fun x v => Host.reduce FloatOps.minimumf x v reducesTo_S128x5685x9_S128x5685_d2 h_S_) : (⟨S128x5685x9, .f32⟩ : BufTy).Contents (Elt F) → (⟨S_, .f32⟩ : BufTy).Contents (Elt F) → (⟨S128x5685, .f32⟩ : BufTy).Contents (Elt F)),
    nullary main_cst_2 (constant S_ .f32 0xFF800000#32),
    binary main_v11 main_cst_2 main_v16 ((fun x v => Host.reduce FloatOps.maximumf x v reducesTo_S128x5685x9_S128x5685_d2 h_S_) : (⟨S128x5685x9, .f32⟩ : BufTy).Contents (Elt F) → (⟨S_, .f32⟩ : BufTy).Contents (Elt F) → (⟨S128x5685, .f32⟩ : BufTy).Contents (Elt F)),
    nullary main_cst_3 (constant S_ .f32 0xFF800000#32),
    binary main_v13 main_cst_3 main_v17 ((fun x v => Host.reduce FloatOps.maximumf x v reducesTo_S128x5685x9_S128x5685_d2 h_S_) : (⟨S128x5685x9, .f32⟩ : BufTy).Contents (Elt F) → (⟨S_, .f32⟩ : BufTy).Contents (Elt F) → (⟨S128x5685, .f32⟩ : BufTy).Contents (Elt F)),
    unary main_v14 main_v18 (broadcastInDim S128x5685x1 ![0, 1] bcast_S128x5685_S128x5685x1_0_1 : (⟨S128x5685, .f32⟩ : BufTy).Contents (Elt F) → (⟨S128x5685x1, .f32⟩ : BufTy).Contents (Elt F)),
    unary main_v15 main_v19 (broadcastInDim S128x5685x1 ![0, 1] bcast_S128x5685_S128x5685x1_0_1 : (⟨S128x5685, .f32⟩ : BufTy).Contents (Elt F) → (⟨S128x5685x1, .f32⟩ : BufTy).Contents (Elt F)),
    unary main_v16 main_v20 (broadcastInDim S128x5685x1 ![0, 1] bcast_S128x5685_S128x5685x1_0_1 : (⟨S128x5685, .f32⟩ : BufTy).Contents (Elt F) → (⟨S128x5685x1, .f32⟩ : BufTy).Contents (Elt F)),
    unary main_v17 main_v21 (broadcastInDim S128x5685x1 ![0, 1] bcast_S128x5685_S128x5685x1_0_1 : (⟨S128x5685, .f32⟩ : BufTy).Contents (Elt F) → (⟨S128x5685x1, .f32⟩ : BufTy).Contents (Elt F)),
    nary ![main_v18, main_v19, main_v20, main_v21] main_v22 (fun u => fn_main_v22 (F := F) (u 0) (u 1) (u 2) (u 3)),
    nullary main_cst_4 (constant S_ .f32 0x00000000#32),
    unary main_cst_4 main_v23 (broadcastInDim S128x5685x4 ![] bcast_S_S128x5685x4 : (⟨S_, .f32⟩ : BufTy).Contents (Elt F) → (⟨S128x5685x4, .f32⟩ : BufTy).Contents (Elt F)),
    binary main_v22 main_v23 main_v24 (maximumf : (⟨S128x5685x4, .f32⟩ : BufTy).Contents (Elt F) → (⟨S128x5685x4, .f32⟩ : BufTy).Contents (Elt F) → (⟨S128x5685x4, .f32⟩ : BufTy).Contents (Elt F)),
    nullary main_cst_5 (constant S_ .f32 0x3F800000#32),
    unary main_cst_5 main_v25 (broadcastInDim S128x5685x4 ![] bcast_S_S128x5685x4 : (⟨S_, .f32⟩ : BufTy).Contents (Elt F) → (⟨S128x5685x4, .f32⟩ : BufTy).Contents (Elt F)),
    binary main_v24 main_v25 main_v26 (minimumf : (⟨S128x5685x4, .f32⟩ : BufTy).Contents (Elt F) → (⟨S128x5685x4, .f32⟩ : BufTy).Contents (Elt F) → (⟨S128x5685x4, .f32⟩ : BufTy).Contents (Elt F)),
    unary main_arg2 main_v27 ((extractStridedSlice S128x32x2 ![0, 0, 0] · slices_S128x32x4_S128x32x2_0_0_0) : (⟨S128x32x4, .f32⟩ : BufTy).Contents (Elt F) → (⟨S128x32x2, .f32⟩ : BufTy).Contents (Elt F)),
    unary main_v27 main_v28 (broadcastInDim S128x32x1x2 ![0, 1, 3] bcast_S128x32x2_S128x32x1x2_0_1_3 : (⟨S128x32x2, .f32⟩ : BufTy).Contents (Elt F) → (⟨S128x32x1x2, .f32⟩ : BufTy).Contents (Elt F)),
    unary main_arg4 main_v29 ((extractStridedSlice S5685x2 ![0, 0] · slices_S5685x4_S5685x2_0_0) : (⟨S5685x4, .f32⟩ : BufTy).Contents (Elt F) → (⟨S5685x2, .f32⟩ : BufTy).Contents (Elt F)),
    unary main_v29 main_v30 (broadcastInDim S1x1x5685x2 ![2, 3] bcast_S5685x2_S1x1x5685x2_2_3 : (⟨S5685x2, .f32⟩ : BufTy).Contents (Elt F) → (⟨S1x1x5685x2, .f32⟩ : BufTy).Contents (Elt F)),
    unary main_v28 main_v31 (broadcastInDim S128x32x5685x2 ![0, 1, 2, 3] bcast_S128x32x1x2_S128x32x5685x2_0_1_2_3 : (⟨S128x32x1x2, .f32⟩ : BufTy).Contents (Elt F) → (⟨S128x32x5685x2, .f32⟩ : BufTy).Contents (Elt F)),
    unary main_v30 main_v32 (broadcastInDim S128x32x5685x2 ![0, 1, 2, 3] bcast_S1x1x5685x2_S128x32x5685x2_0_1_2_3 : (⟨S1x1x5685x2, .f32⟩ : BufTy).Contents (Elt F) → (⟨S128x32x5685x2, .f32⟩ : BufTy).Contents (Elt F)),
    binary main_v31 main_v32 main_v33 (maximumf : (⟨S128x32x5685x2, .f32⟩ : BufTy).Contents (Elt F) → (⟨S128x32x5685x2, .f32⟩ : BufTy).Contents (Elt F) → (⟨S128x32x5685x2, .f32⟩ : BufTy).Contents (Elt F)),
    unary main_arg2 main_v34 ((extractStridedSlice S128x32x2 ![0, 0, 2] · slices_S128x32x4_S128x32x2_0_0_2) : (⟨S128x32x4, .f32⟩ : BufTy).Contents (Elt F) → (⟨S128x32x2, .f32⟩ : BufTy).Contents (Elt F)),
    unary main_v34 main_v35 (broadcastInDim S128x32x1x2 ![0, 1, 3] bcast_S128x32x2_S128x32x1x2_0_1_3 : (⟨S128x32x2, .f32⟩ : BufTy).Contents (Elt F) → (⟨S128x32x1x2, .f32⟩ : BufTy).Contents (Elt F)),
    unary main_arg4 main_v36 ((extractStridedSlice S5685x2 ![0, 2] · slices_S5685x4_S5685x2_0_2) : (⟨S5685x4, .f32⟩ : BufTy).Contents (Elt F) → (⟨S5685x2, .f32⟩ : BufTy).Contents (Elt F)),
    unary main_v36 main_v37 (broadcastInDim S1x1x5685x2 ![2, 3] bcast_S5685x2_S1x1x5685x2_2_3 : (⟨S5685x2, .f32⟩ : BufTy).Contents (Elt F) → (⟨S1x1x5685x2, .f32⟩ : BufTy).Contents (Elt F)),
    unary main_v35 main_v38 (broadcastInDim S128x32x5685x2 ![0, 1, 2, 3] bcast_S128x32x1x2_S128x32x5685x2_0_1_2_3 : (⟨S128x32x1x2, .f32⟩ : BufTy).Contents (Elt F) → (⟨S128x32x5685x2, .f32⟩ : BufTy).Contents (Elt F)),
    unary main_v37 main_v39 (broadcastInDim S128x32x5685x2 ![0, 1, 2, 3] bcast_S1x1x5685x2_S128x32x5685x2_0_1_2_3 : (⟨S1x1x5685x2, .f32⟩ : BufTy).Contents (Elt F) → (⟨S128x32x5685x2, .f32⟩ : BufTy).Contents (Elt F)),
    binary main_v38 main_v39 main_v40 (minimumf : (⟨S128x32x5685x2, .f32⟩ : BufTy).Contents (Elt F) → (⟨S128x32x5685x2, .f32⟩ : BufTy).Contents (Elt F) → (⟨S128x32x5685x2, .f32⟩ : BufTy).Contents (Elt F)),
    binary main_v40 main_v33 main_v41 (subf : (⟨S128x32x5685x2, .f32⟩ : BufTy).Contents (Elt F) → (⟨S128x32x5685x2, .f32⟩ : BufTy).Contents (Elt F) → (⟨S128x32x5685x2, .f32⟩ : BufTy).Contents (Elt F)),
    nullary main_cst_6 (constant S_ .f32 0x00000000#32),
    unary main_cst_6 main_v42 (broadcastInDim S128x32x5685x2 ![] bcast_S_S128x32x5685x2 : (⟨S_, .f32⟩ : BufTy).Contents (Elt F) → (⟨S128x32x5685x2, .f32⟩ : BufTy).Contents (Elt F)),
    binary main_v41 main_v42 main_v43 (maximumf : (⟨S128x32x5685x2, .f32⟩ : BufTy).Contents (Elt F) → (⟨S128x32x5685x2, .f32⟩ : BufTy).Contents (Elt F) → (⟨S128x32x5685x2, .f32⟩ : BufTy).Contents (Elt F)),
    unary main_v43 main_v44 ((extractStridedSlice S128x32x5685x1 ![0, 0, 0, 0] · slices_S128x32x5685x2_S128x32x5685x1_0_0_0_0) : (⟨S128x32x5685x2, .f32⟩ : BufTy).Contents (Elt F) → (⟨S128x32x5685x1, .f32⟩ : BufTy).Contents (Elt F)),
    reshape main_v44 main_v45 (rfl : (.f32 : EltTy) = .f32) shapeCasts_S128x32x5685x1_S128x32x5685,
    unary main_v43 main_v46 ((extractStridedSlice S128x32x5685x1 ![0, 0, 0, 1] · slices_S128x32x5685x2_S128x32x5685x1_0_0_0_1) : (⟨S128x32x5685x2, .f32⟩ : BufTy).Contents (Elt F) → (⟨S128x32x5685x1, .f32⟩ : BufTy).Contents (Elt F)),
    reshape main_v46 main_v47 (rfl : (.f32 : EltTy) = .f32) shapeCasts_S128x32x5685x1_S128x32x5685,
    binary main_v45 main_v47 main_v48 (mulf : (⟨S128x32x5685, .f32⟩ : BufTy).Contents (Elt F) → (⟨S128x32x5685, .f32⟩ : BufTy).Contents (Elt F) → (⟨S128x32x5685, .f32⟩ : BufTy).Contents (Elt F)),
    unary main_arg2 main_v49 ((extractStridedSlice S128x32x1 ![0, 0, 2] · slices_S128x32x4_S128x32x1_0_0_2) : (⟨S128x32x4, .f32⟩ : BufTy).Contents (Elt F) → (⟨S128x32x1, .f32⟩ : BufTy).Contents (Elt F)),
    reshape main_v49 main_v50 (rfl : (.f32 : EltTy) = .f32) shapeCasts_S128x32x1_S128x32,
    unary main_arg2 main_v51 ((extractStridedSlice S128x32x1 ![0, 0, 0] · slices_S128x32x4_S128x32x1_0_0_0) : (⟨S128x32x4, .f32⟩ : BufTy).Contents (Elt F) → (⟨S128x32x1, .f32⟩ : BufTy).Contents (Elt F)) ]

/-- @main's operations 61 … 90 of 327 (window `main_part1`). -/
abbrev ops_part1_0 : List (HloOp τ sig (Elt F)) :=
  [ reshape main_v51 main_v52 (rfl : (.f32 : EltTy) = .f32) shapeCasts_S128x32x1_S128x32,
    binary main_v50 main_v52 main_v53 (subf : (⟨S128x32, .f32⟩ : BufTy).Contents (Elt F) → (⟨S128x32, .f32⟩ : BufTy).Contents (Elt F) → (⟨S128x32, .f32⟩ : BufTy).Contents (Elt F)),
    unary main_arg2 main_v54 ((extractStridedSlice S128x32x1 ![0, 0, 3] · slices_S128x32x4_S128x32x1_0_0_3) : (⟨S128x32x4, .f32⟩ : BufTy).Contents (Elt F) → (⟨S128x32x1, .f32⟩ : BufTy).Contents (Elt F)),
    reshape main_v54 main_v55 (rfl : (.f32 : EltTy) = .f32) shapeCasts_S128x32x1_S128x32,
    unary main_arg2 main_v56 ((extractStridedSlice S128x32x1 ![0, 0, 1] · slices_S128x32x4_S128x32x1_0_0_1) : (⟨S128x32x4, .f32⟩ : BufTy).Contents (Elt F) → (⟨S128x32x1, .f32⟩ : BufTy).Contents (Elt F)),
    reshape main_v56 main_v57 (rfl : (.f32 : EltTy) = .f32) shapeCasts_S128x32x1_S128x32,
    binary main_v55 main_v57 main_v58 (subf : (⟨S128x32, .f32⟩ : BufTy).Contents (Elt F) → (⟨S128x32, .f32⟩ : BufTy).Contents (Elt F) → (⟨S128x32, .f32⟩ : BufTy).Contents (Elt F)),
    binary main_v53 main_v58 main_v59 (mulf : (⟨S128x32, .f32⟩ : BufTy).Contents (Elt F) → (⟨S128x32, .f32⟩ : BufTy).Contents (Elt F) → (⟨S128x32, .f32⟩ : BufTy).Contents (Elt F)),
    unary main_arg4 main_v60 ((extractStridedSlice S5685x1 ![0, 2] · slices_S5685x4_S5685x1_0_2) : (⟨S5685x4, .f32⟩ : BufTy).Contents (Elt F) → (⟨S5685x1, .f32⟩ : BufTy).Contents (Elt F)),
    reshape main_v60 main_v61 (rfl : (.f32 : EltTy) = .f32) shapeCasts_S5685x1_S5685,
    unary main_arg4 main_v62 ((extractStridedSlice S5685x1 ![0, 0] · slices_S5685x4_S5685x1_0_0) : (⟨S5685x4, .f32⟩ : BufTy).Contents (Elt F) → (⟨S5685x1, .f32⟩ : BufTy).Contents (Elt F)),
    reshape main_v62 main_v63 (rfl : (.f32 : EltTy) = .f32) shapeCasts_S5685x1_S5685,
    binary main_v61 main_v63 main_v64 (subf : (⟨S5685, .f32⟩ : BufTy).Contents (Elt F) → (⟨S5685, .f32⟩ : BufTy).Contents (Elt F) → (⟨S5685, .f32⟩ : BufTy).Contents (Elt F)),
    unary main_arg4 main_v65 ((extractStridedSlice S5685x1 ![0, 3] · slices_S5685x4_S5685x1_0_3) : (⟨S5685x4, .f32⟩ : BufTy).Contents (Elt F) → (⟨S5685x1, .f32⟩ : BufTy).Contents (Elt F)),
    reshape main_v65 main_v66 (rfl : (.f32 : EltTy) = .f32) shapeCasts_S5685x1_S5685,
    unary main_arg4 main_v67 ((extractStridedSlice S5685x1 ![0, 1] · slices_S5685x4_S5685x1_0_1) : (⟨S5685x4, .f32⟩ : BufTy).Contents (Elt F) → (⟨S5685x1, .f32⟩ : BufTy).Contents (Elt F)),
    reshape main_v67 main_v68 (rfl : (.f32 : EltTy) = .f32) shapeCasts_S5685x1_S5685,
    binary main_v66 main_v68 main_v69 (subf : (⟨S5685, .f32⟩ : BufTy).Contents (Elt F) → (⟨S5685, .f32⟩ : BufTy).Contents (Elt F) → (⟨S5685, .f32⟩ : BufTy).Contents (Elt F)),
    binary main_v64 main_v69 main_v70 (mulf : (⟨S5685, .f32⟩ : BufTy).Contents (Elt F) → (⟨S5685, .f32⟩ : BufTy).Contents (Elt F) → (⟨S5685, .f32⟩ : BufTy).Contents (Elt F)),
    unary main_v59 main_v71 (broadcastInDim S128x32x1 ![0, 1] bcast_S128x32_S128x32x1_0_1 : (⟨S128x32, .f32⟩ : BufTy).Contents (Elt F) → (⟨S128x32x1, .f32⟩ : BufTy).Contents (Elt F)),
    unary main_v70 main_v72 (broadcastInDim S1x1x5685 ![2] bcast_S5685_S1x1x5685_2 : (⟨S5685, .f32⟩ : BufTy).Contents (Elt F) → (⟨S1x1x5685, .f32⟩ : BufTy).Contents (Elt F)),
    unary main_v71 main_v73 (broadcastInDim S128x32x5685 ![0, 1, 2] bcast_S128x32x1_S128x32x5685_0_1_2 : (⟨S128x32x1, .f32⟩ : BufTy).Contents (Elt F) → (⟨S128x32x5685, .f32⟩ : BufTy).Contents (Elt F)),
    unary main_v72 main_v74 (broadcastInDim S128x32x5685 ![0, 1, 2] bcast_S1x1x5685_S128x32x5685_0_1_2 : (⟨S1x1x5685, .f32⟩ : BufTy).Contents (Elt F) → (⟨S128x32x5685, .f32⟩ : BufTy).Contents (Elt F)),
    binary main_v73 main_v74 main_v75 (addf : (⟨S128x32x5685, .f32⟩ : BufTy).Contents (Elt F) → (⟨S128x32x5685, .f32⟩ : BufTy).Contents (Elt F) → (⟨S128x32x5685, .f32⟩ : BufTy).Contents (Elt F)),
    binary main_v75 main_v48 main_v76 (subf : (⟨S128x32x5685, .f32⟩ : BufTy).Contents (Elt F) → (⟨S128x32x5685, .f32⟩ : BufTy).Contents (Elt F) → (⟨S128x32x5685, .f32⟩ : BufTy).Contents (Elt F)),
    nullary main_cst_7 (constant S_ .f32 0x2EDBE6FF#32),
    unary main_cst_7 main_v77 (broadcastInDim S128x32x5685 ![] bcast_S_S128x32x5685 : (⟨S_, .f32⟩ : BufTy).Contents (Elt F) → (⟨S128x32x5685, .f32⟩ : BufTy).Contents (Elt F)),
    binary main_v76 main_v77 main_v78 (maximumf : (⟨S128x32x5685, .f32⟩ : BufTy).Contents (Elt F) → (⟨S128x32x5685, .f32⟩ : BufTy).Contents (Elt F) → (⟨S128x32x5685, .f32⟩ : BufTy).Contents (Elt F)),
    binary main_v48 main_v78 main_v79 (Host.divf : (⟨S128x32x5685, .f32⟩ : BufTy).Contents (Elt F) → (⟨S128x32x5685, .f32⟩ : BufTy).Contents (Elt F) → (⟨S128x32x5685, .f32⟩ : BufTy).Contents (Elt F)),
    nullary main_cst_8 (constant S_ .f32 0xFF800000#32) ]

/-- @main's operations 91 … 120 of 327 (window `main_part1`). -/
abbrev ops_part1_1 : List (HloOp τ sig (Elt F)) :=
  [ binary main_v79 main_cst_8 main_v80 ((fun x v => Host.reduce FloatOps.maximumf x v reducesTo_S128x32x5685_S128x5685_d1 h_S_) : (⟨S128x32x5685, .f32⟩ : BufTy).Contents (Elt F) → (⟨S_, .f32⟩ : BufTy).Contents (Elt F) → (⟨S128x5685, .f32⟩ : BufTy).Contents (Elt F)),
    TRef.nullary (TRef.of (T := ⟨S128x32x5685, .i32⟩) main_call0_v0) (iotaInDim S128x32x5685 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S128x32x5685, .f32⟩) main_v79) (TRef.of (T := ⟨S128x32x5685, .i32⟩) main_call0_v0) (TRef.of (T := ⟨S_, .f32⟩) main_call0_cst) (TRef.of (T := ⟨S_, .i32⟩) main_call0_c) (TRef.of (T := ⟨S128x5685, .f32⟩) main_call0_v1_0) (fun x y u v j => (Host.argReduce reducer_argmax_f32_i32 x y u v reducesTo_S128x32x5685_S128x5685_d1 h_S_ j).1),
    TRef.quaternary (TRef.of (T := ⟨S128x32x5685, .f32⟩) main_v79) (TRef.of (T := ⟨S128x32x5685, .i32⟩) main_call0_v0) (TRef.of (T := ⟨S_, .f32⟩) main_call0_cst) (TRef.of (T := ⟨S_, .i32⟩) main_call0_c) (TRef.of (T := ⟨S128x5685, .i32⟩) main_v81) (fun x y u v j => (Host.argReduce reducer_argmax_f32_i32 x y u v reducesTo_S128x32x5685_S128x5685_d1 h_S_ j).2),
    TRef.nullary (TRef.of (T := ⟨S128x32x5685, .i32⟩) main_call1_v0) (iotaInDim S128x32x5685 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S128x32x5685, .f32⟩) main_v79) (TRef.of (T := ⟨S128x32x5685, .i32⟩) main_call1_v0) (TRef.of (T := ⟨S_, .f32⟩) main_call1_cst) (TRef.of (T := ⟨S_, .i32⟩) main_call1_c) (TRef.of (T := ⟨S128x32, .f32⟩) main_call1_v1_0) (fun x y u v j => (Host.argReduce reducer_argmax_f32_i32 x y u v reducesTo_S128x32x5685_S128x32_d2 h_S_ j).1),
    TRef.quaternary (TRef.of (T := ⟨S128x32x5685, .f32⟩) main_v79) (TRef.of (T := ⟨S128x32x5685, .i32⟩) main_call1_v0) (TRef.of (T := ⟨S_, .f32⟩) main_call1_cst) (TRef.of (T := ⟨S_, .i32⟩) main_call1_c) (TRef.of (T := ⟨S128x32, .i32⟩) main_v82) (fun x y u v j => (Host.argReduce reducer_argmax_f32_i32 x y u v reducesTo_S128x32x5685_S128x32_d2 h_S_ j).2),
    nullary main_v83 (iotaInDim S128 32 0),
    unary main_v83 main_v84 (broadcastInDim S128x1 ![0] bcast_S128_S128x1_0 : (⟨S128, .i32⟩ : BufTy).Contents (Elt F) → (⟨S128x1, .i32⟩ : BufTy).Contents (Elt F)),
    nullary main_v85 (iotaInDim S32 32 0),
    unary main_v85 main_v86 (broadcastInDim S1x32 ![1] bcast_S32_S1x32_1 : (⟨S32, .i32⟩ : BufTy).Contents (Elt F) → (⟨S1x32, .i32⟩ : BufTy).Contents (Elt F)),
    nullary main_c (constantI S_ 32 0#32),
    unary main_c main_v87 (broadcastInDim S128x1 ![] bcast_S_S128x1 : (⟨S_, .i32⟩ : BufTy).Contents (Elt F) → (⟨S128x1, .i32⟩ : BufTy).Contents (Elt F)),
    binary main_v84 main_v87 main_v88 (cmpi .slt : (⟨S128x1, .i32⟩ : BufTy).Contents (Elt F) → (⟨S128x1, .i32⟩ : BufTy).Contents (Elt F) → (⟨S128x1, .i1⟩ : BufTy).Contents (Elt F)),
    nullary main_c_9 (constantI S_ 32 128#32),
    unary main_c_9 main_v89 (broadcastInDim S128x1 ![] bcast_S_S128x1 : (⟨S_, .i32⟩ : BufTy).Contents (Elt F) → (⟨S128x1, .i32⟩ : BufTy).Contents (Elt F)),
    binary main_v84 main_v89 main_v90 (addi : (⟨S128x1, .i32⟩ : BufTy).Contents (Elt F) → (⟨S128x1, .i32⟩ : BufTy).Contents (Elt F) → (⟨S128x1, .i32⟩ : BufTy).Contents (Elt F)),
    ternary main_v88 main_v90 main_v84 main_v91 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_10 (constantI S_ 32 0#32),
    unary main_c_10 main_v92 (broadcastInDim S128x32 ![] bcast_S_S128x32 : (⟨S_, .i32⟩ : BufTy).Contents (Elt F) → (⟨S128x32, .i32⟩ : BufTy).Contents (Elt F)),
    binary main_v82 main_v92 main_v93 (cmpi .slt : (⟨S128x32, .i32⟩ : BufTy).Contents (Elt F) → (⟨S128x32, .i32⟩ : BufTy).Contents (Elt F) → (⟨S128x32, .i1⟩ : BufTy).Contents (Elt F)),
    nullary main_c_11 (constantI S_ 32 5685#32),
    unary main_c_11 main_v94 (broadcastInDim S128x32 ![] bcast_S_S128x32 : (⟨S_, .i32⟩ : BufTy).Contents (Elt F) → (⟨S128x32, .i32⟩ : BufTy).Contents (Elt F)),
    binary main_v82 main_v94 main_v95 (addi : (⟨S128x32, .i32⟩ : BufTy).Contents (Elt F) → (⟨S128x32, .i32⟩ : BufTy).Contents (Elt F) → (⟨S128x32, .i32⟩ : BufTy).Contents (Elt F)),
    ternary main_v93 main_v95 main_v82 main_v96 (select : (⟨S128x32, .i1⟩ : BufTy).Contents (Elt F) → (⟨S128x32, .i32⟩ : BufTy).Contents (Elt F) → (⟨S128x32, .i32⟩ : BufTy).Contents (Elt F) → (⟨S128x32, .i32⟩ : BufTy).Contents (Elt F)),
    unary main_v91 main_v97 (broadcastInDim S128x32 ![0, 1] bcast_S128x1_S128x32_0_1 : (⟨S128x1, .i32⟩ : BufTy).Contents (Elt F) → (⟨S128x32, .i32⟩ : BufTy).Contents (Elt F)) ]

/-- @main's operations 121 … 128 of 327 (window `main_part1`). -/
abbrev ops_part1_2 : List (HloOp τ sig (Elt F)) :=
  [ unary main_v97 main_v98 (broadcastInDim S128x32x1 ![0, 1] bcast_S128x32_S128x32x1_0_1 : (⟨S128x32, .i32⟩ : BufTy).Contents (Elt F) → (⟨S128x32x1, .i32⟩ : BufTy).Contents (Elt F)),
    unary main_v96 main_v99 (broadcastInDim S128x32x1 ![0, 1] bcast_S128x32_S128x32x1_0_1 : (⟨S128x32, .i32⟩ : BufTy).Contents (Elt F) → (⟨S128x32x1, .i32⟩ : BufTy).Contents (Elt F)),
    binary main_v98 main_v99 main_v100 (fn_main_v100 (F := F)),
    unary main_v86 main_v101 (broadcastInDim S128x32 ![0, 1] bcast_S1x32_S128x32_0_1 : (⟨S1x32, .i32⟩ : BufTy).Contents (Elt F) → (⟨S128x32, .i32⟩ : BufTy).Contents (Elt F)),
    ternary main_v81 main_v100 main_v101 main_v102 ((fun x i u => Host.scatter scatter_S128x5685_S128x32x2_S128x32_n_01_01_2 (fun _ b => b) x i u) : (⟨S128x5685, .i32⟩ : BufTy).Contents (Elt F) → (⟨S128x32x2, .i32⟩ : BufTy).Contents (Elt F) → (⟨S128x32, .i32⟩ : BufTy).Contents (Elt F) → (⟨S128x5685, .i32⟩ : BufTy).Contents (Elt F)),
    nullary main_c_12 (constantI S_ 32 0#32),
    unary main_c_12 main_v103 (broadcastInDim S128x1 ![] bcast_S_S128x1 : (⟨S_, .i32⟩ : BufTy).Contents (Elt F) → (⟨S128x1, .i32⟩ : BufTy).Contents (Elt F)),
    binary main_v84 main_v103 main_v104 (cmpi .slt : (⟨S128x1, .i32⟩ : BufTy).Contents (Elt F) → (⟨S128x1, .i32⟩ : BufTy).Contents (Elt F) → (⟨S128x1, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 129 … 188 of 327 (window `main_part2`). -/
abbrev ops_part2 : List (HloOp τ sig (Elt F)) :=
  [ nullary main_c_13 (constantI S_ 32 128#32),
    unary main_c_13 main_v105 (broadcastInDim S128x1 ![] bcast_S_S128x1 : (⟨S_, .i32⟩ : BufTy).Contents (Elt F) → (⟨S128x1, .i32⟩ : BufTy).Contents (Elt F)),
    binary main_v84 main_v105 main_v106 (addi : (⟨S128x1, .i32⟩ : BufTy).Contents (Elt F) → (⟨S128x1, .i32⟩ : BufTy).Contents (Elt F) → (⟨S128x1, .i32⟩ : BufTy).Contents (Elt F)),
    ternary main_v104 main_v106 main_v84 main_v107 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_14 (constantI S_ 32 0#32),
    unary main_c_14 main_v108 (broadcastInDim S128x32 ![] bcast_S_S128x32 : (⟨S_, .i32⟩ : BufTy).Contents (Elt F) → (⟨S128x32, .i32⟩ : BufTy).Contents (Elt F)),
    binary main_v82 main_v108 main_v109 (cmpi .slt : (⟨S128x32, .i32⟩ : BufTy).Contents (Elt F) → (⟨S128x32, .i32⟩ : BufTy).Contents (Elt F) → (⟨S128x32, .i1⟩ : BufTy).Contents (Elt F)),
    nullary main_c_15 (constantI S_ 32 5685#32),
    unary main_c_15 main_v110 (broadcastInDim S128x32 ![] bcast_S_S128x32 : (⟨S_, .i32⟩ : BufTy).Contents (Elt F) → (⟨S128x32, .i32⟩ : BufTy).Contents (Elt F)),
    binary main_v82 main_v110 main_v111 (addi : (⟨S128x32, .i32⟩ : BufTy).Contents (Elt F) → (⟨S128x32, .i32⟩ : BufTy).Contents (Elt F) → (⟨S128x32, .i32⟩ : BufTy).Contents (Elt F)),
    ternary main_v109 main_v111 main_v82 main_v112 (select : (⟨S128x32, .i1⟩ : BufTy).Contents (Elt F) → (⟨S128x32, .i32⟩ : BufTy).Contents (Elt F) → (⟨S128x32, .i32⟩ : BufTy).Contents (Elt F) → (⟨S128x32, .i32⟩ : BufTy).Contents (Elt F)),
    unary main_v107 main_v113 (broadcastInDim S128x32 ![0, 1] bcast_S128x1_S128x32_0_1 : (⟨S128x1, .i32⟩ : BufTy).Contents (Elt F) → (⟨S128x32, .i32⟩ : BufTy).Contents (Elt F)),
    unary main_v113 main_v114 (broadcastInDim S128x32x1 ![0, 1] bcast_S128x32_S128x32x1_0_1 : (⟨S128x32, .i32⟩ : BufTy).Contents (Elt F) → (⟨S128x32x1, .i32⟩ : BufTy).Contents (Elt F)),
    unary main_v112 main_v115 (broadcastInDim S128x32x1 ![0, 1] bcast_S128x32_S128x32x1_0_1 : (⟨S128x32, .i32⟩ : BufTy).Contents (Elt F) → (⟨S128x32x1, .i32⟩ : BufTy).Contents (Elt F)),
    binary main_v114 main_v115 main_v116 (fn_main_v116 (F := F)),
    nullary main_cst_16 (constant S_ .f32 0x3F800000#32),
    unary main_cst_16 main_v117 (broadcastInDim S128x32 ![] bcast_S_S128x32 : (⟨S_, .f32⟩ : BufTy).Contents (Elt F) → (⟨S128x32, .f32⟩ : BufTy).Contents (Elt F)),
    ternary main_v80 main_v116 main_v117 main_v118 ((fun x i u => Host.scatter scatter_S128x5685_S128x32x2_S128x32_n_01_01_2 (fun _ b => b) x i u) : (⟨S128x5685, .f32⟩ : BufTy).Contents (Elt F) → (⟨S128x32x2, .i32⟩ : BufTy).Contents (Elt F) → (⟨S128x32, .f32⟩ : BufTy).Contents (Elt F) → (⟨S128x5685, .f32⟩ : BufTy).Contents (Elt F)),
    nullary main_c_17 (constantI S_ 32 0#32),
    unary main_c_17 main_v119 (broadcastInDim S128x1 ![] bcast_S_S128x1 : (⟨S_, .i32⟩ : BufTy).Contents (Elt F) → (⟨S128x1, .i32⟩ : BufTy).Contents (Elt F)),
    binary main_v84 main_v119 main_v120 (cmpi .slt : (⟨S128x1, .i32⟩ : BufTy).Contents (Elt F) → (⟨S128x1, .i32⟩ : BufTy).Contents (Elt F) → (⟨S128x1, .i1⟩ : BufTy).Contents (Elt F)),
    nullary main_c_18 (constantI S_ 32 128#32),
    unary main_c_18 main_v121 (broadcastInDim S128x1 ![] bcast_S_S128x1 : (⟨S_, .i32⟩ : BufTy).Contents (Elt F) → (⟨S128x1, .i32⟩ : BufTy).Contents (Elt F)),
    binary main_v84 main_v121 main_v122 (addi : (⟨S128x1, .i32⟩ : BufTy).Contents (Elt F) → (⟨S128x1, .i32⟩ : BufTy).Contents (Elt F) → (⟨S128x1, .i32⟩ : BufTy).Contents (Elt F)),
    ternary main_v120 main_v122 main_v84 main_v123 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_19 (constantI S_ 32 0#32),
    unary main_c_19 main_v124 (broadcastInDim S128x5685 ![] bcast_S_S128x5685 : (⟨S_, .i32⟩ : BufTy).Contents (Elt F) → (⟨S128x5685, .i32⟩ : BufTy).Contents (Elt F)),
    binary main_v102 main_v124 main_v125 (cmpi .slt : (⟨S128x5685, .i32⟩ : BufTy).Contents (Elt F) → (⟨S128x5685, .i32⟩ : BufTy).Contents (Elt F) → (⟨S128x5685, .i1⟩ : BufTy).Contents (Elt F)),
    nullary main_c_20 (constantI S_ 32 32#32),
    unary main_c_20 main_v126 (broadcastInDim S128x5685 ![] bcast_S_S128x5685 : (⟨S_, .i32⟩ : BufTy).Contents (Elt F) → (⟨S128x5685, .i32⟩ : BufTy).Contents (Elt F)),
    binary main_v102 main_v126 main_v127 (addi : (⟨S128x5685, .i32⟩ : BufTy).Contents (Elt F) → (⟨S128x5685, .i32⟩ : BufTy).Contents (Elt F) → (⟨S128x5685, .i32⟩ : BufTy).Contents (Elt F)),
    ternary main_v125 main_v127 main_v102 main_v128 (select : (⟨S128x5685, .i1⟩ : BufTy).Contents (Elt F) → (⟨S128x5685, .i32⟩ : BufTy).Contents (Elt F) → (⟨S128x5685, .i32⟩ : BufTy).Contents (Elt F) → (⟨S128x5685, .i32⟩ : BufTy).Contents (Elt F)),
    unary main_v123 main_v129 (broadcastInDim S128x5685 ![0, 1] bcast_S128x1_S128x5685_0_1 : (⟨S128x1, .i32⟩ : BufTy).Contents (Elt F) → (⟨S128x5685, .i32⟩ : BufTy).Contents (Elt F)),
    unary main_v129 main_v130 (broadcastInDim S128x5685x1 ![0, 1] bcast_S128x5685_S128x5685x1_0_1 : (⟨S128x5685, .i32⟩ : BufTy).Contents (Elt F) → (⟨S128x5685x1, .i32⟩ : BufTy).Contents (Elt F)),
    unary main_v128 main_v131 (broadcastInDim S128x5685x1 ![0, 1] bcast_S128x5685_S128x5685x1_0_1 : (⟨S128x5685, .i32⟩ : BufTy).Contents (Elt F) → (⟨S128x5685x1, .i32⟩ : BufTy).Contents (Elt F)),
    binary main_v130 main_v131 main_v132 (fn_main_v132 (F := F)),
    binary main_arg3 main_v132 main_v133 ((fun x i => Host.gather gather_S128x32_S128x5685x2_S128x5685_n_01_n_n_01_2_11 x i) : (⟨S128x32, .i32⟩ : BufTy).Contents (Elt F) → (⟨S128x5685x2, .i32⟩ : BufTy).Contents (Elt F) → (⟨S128x5685, .i32⟩ : BufTy).Contents (Elt F)),
    nullary main_c_21 (constantI S_ 32 0#32),
    unary main_c_21 main_v134 (broadcastInDim S128x5685 ![] bcast_S_S128x5685 : (⟨S_, .i32⟩ : BufTy).Contents (Elt F) → (⟨S128x5685, .i32⟩ : BufTy).Contents (Elt F)),
    nullary main_cst_22 (constant S_ .f32 0x3F000000#32),
    unary main_cst_22 main_v135 (broadcastInDim S128x5685 ![] bcast_S_S128x5685 : (⟨S_, .f32⟩ : BufTy).Contents (Elt F) → (⟨S128x5685, .f32⟩ : BufTy).Contents (Elt F)),
    binary main_v118 main_v135 main_v136 (cmpf .olt : (⟨S128x5685, .f32⟩ : BufTy).Contents (Elt F) → (⟨S128x5685, .f32⟩ : BufTy).Contents (Elt F) → (⟨S128x5685, .i1⟩ : BufTy).Contents (Elt F)),
    ternary main_v136 main_v134 main_v133 main_v137 (select : (⟨S128x5685, .i1⟩ : BufTy).Contents (Elt F) → (⟨S128x5685, .i32⟩ : BufTy).Contents (Elt F) → (⟨S128x5685, .i32⟩ : BufTy).Contents (Elt F) → (⟨S128x5685, .i32⟩ : BufTy).Contents (Elt F)),
    nullary main_c_23 (constantI S_ 32 0#32),
    unary main_c_23 main_v138 (broadcastInDim S128x1 ![] bcast_S_S128x1 : (⟨S_, .i32⟩ : BufTy).Contents (Elt F) → (⟨S128x1, .i32⟩ : BufTy).Contents (Elt F)),
    binary main_v84 main_v138 main_v139 (cmpi .slt : (⟨S128x1, .i32⟩ : BufTy).Contents (Elt F) → (⟨S128x1, .i32⟩ : BufTy).Contents (Elt F) → (⟨S128x1, .i1⟩ : BufTy).Contents (Elt F)),
    nullary main_c_24 (constantI S_ 32 128#32),
    unary main_c_24 main_v140 (broadcastInDim S128x1 ![] bcast_S_S128x1 : (⟨S_, .i32⟩ : BufTy).Contents (Elt F) → (⟨S128x1, .i32⟩ : BufTy).Contents (Elt F)),
    binary main_v84 main_v140 main_v141 (addi : (⟨S128x1, .i32⟩ : BufTy).Contents (Elt F) → (⟨S128x1, .i32⟩ : BufTy).Contents (Elt F) → (⟨S128x1, .i32⟩ : BufTy).Contents (Elt F)),
    ternary main_v139 main_v141 main_v84 main_v142 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_25 (constantI S_ 32 0#32),
    unary main_c_25 main_v143 (broadcastInDim S128x5685 ![] bcast_S_S128x5685 : (⟨S_, .i32⟩ : BufTy).Contents (Elt F) → (⟨S128x5685, .i32⟩ : BufTy).Contents (Elt F)),
    binary main_v102 main_v143 main_v144 (cmpi .slt : (⟨S128x5685, .i32⟩ : BufTy).Contents (Elt F) → (⟨S128x5685, .i32⟩ : BufTy).Contents (Elt F) → (⟨S128x5685, .i1⟩ : BufTy).Contents (Elt F)),
    nullary main_c_26 (constantI S_ 32 32#32),
    unary main_c_26 main_v145 (broadcastInDim S128x5685 ![] bcast_S_S128x5685 : (⟨S_, .i32⟩ : BufTy).Contents (Elt F) → (⟨S128x5685, .i32⟩ : BufTy).Contents (Elt F)),
    binary main_v102 main_v145 main_v146 (addi : (⟨S128x5685, .i32⟩ : BufTy).Contents (Elt F) → (⟨S128x5685, .i32⟩ : BufTy).Contents (Elt F) → (⟨S128x5685, .i32⟩ : BufTy).Contents (Elt F)),
    ternary main_v144 main_v146 main_v102 main_v147 (select : (⟨S128x5685, .i1⟩ : BufTy).Contents (Elt F) → (⟨S128x5685, .i32⟩ : BufTy).Contents (Elt F) → (⟨S128x5685, .i32⟩ : BufTy).Contents (Elt F) → (⟨S128x5685, .i32⟩ : BufTy).Contents (Elt F)),
    unary main_v142 main_v148 (broadcastInDim S128x5685 ![0, 1] bcast_S128x1_S128x5685_0_1 : (⟨S128x1, .i32⟩ : BufTy).Contents (Elt F) → (⟨S128x5685, .i32⟩ : BufTy).Contents (Elt F)),
    unary main_v148 main_v149 (broadcastInDim S128x5685x1 ![0, 1] bcast_S128x5685_S128x5685x1_0_1 : (⟨S128x5685, .i32⟩ : BufTy).Contents (Elt F) → (⟨S128x5685x1, .i32⟩ : BufTy).Contents (Elt F)),
    unary main_v147 main_v150 (broadcastInDim S128x5685x1 ![0, 1] bcast_S128x5685_S128x5685x1_0_1 : (⟨S128x5685, .i32⟩ : BufTy).Contents (Elt F) → (⟨S128x5685x1, .i32⟩ : BufTy).Contents (Elt F)) ]

/-- @main's operations 189 … 248 of 327 (window `main_part3`). -/
abbrev ops_part3 : List (HloOp τ sig (Elt F)) :=
  [ binary main_v149 main_v150 main_v151 (fn_main_v151 (F := F)),
    binary main_arg2 main_v151 main_v152 ((fun x i => Host.gather gather_S128x32x4_S128x5685x2_S128x5685x4_2_01_n_n_01_2_114 x i) : (⟨S128x32x4, .f32⟩ : BufTy).Contents (Elt F) → (⟨S128x5685x2, .i32⟩ : BufTy).Contents (Elt F) → (⟨S128x5685x4, .f32⟩ : BufTy).Contents (Elt F)),
    unary main_v152 main_v153 ((extractStridedSlice S128x5685x2 ![0, 0, 2] · slices_S128x5685x4_S128x5685x2_0_0_2) : (⟨S128x5685x4, .f32⟩ : BufTy).Contents (Elt F) → (⟨S128x5685x2, .f32⟩ : BufTy).Contents (Elt F)),
    unary main_v152 main_v154 ((extractStridedSlice S128x5685x2 ![0, 0, 0] · slices_S128x5685x4_S128x5685x2_0_0_0) : (⟨S128x5685x4, .f32⟩ : BufTy).Contents (Elt F) → (⟨S128x5685x2, .f32⟩ : BufTy).Contents (Elt F)),
    binary main_v153 main_v154 main_v155 (addf : (⟨S128x5685x2, .f32⟩ : BufTy).Contents (Elt F) → (⟨S128x5685x2, .f32⟩ : BufTy).Contents (Elt F) → (⟨S128x5685x2, .f32⟩ : BufTy).Contents (Elt F)),
    nullary main_cst_27 (constant S_ .f32 0x40000000#32),
    unary main_cst_27 main_v156 (broadcastInDim S128x5685x2 ![] bcast_S_S128x5685x2 : (⟨S_, .f32⟩ : BufTy).Contents (Elt F) → (⟨S128x5685x2, .f32⟩ : BufTy).Contents (Elt F)),
    binary main_v155 main_v156 main_v157 (Host.divf : (⟨S128x5685x2, .f32⟩ : BufTy).Contents (Elt F) → (⟨S128x5685x2, .f32⟩ : BufTy).Contents (Elt F) → (⟨S128x5685x2, .f32⟩ : BufTy).Contents (Elt F)),
    unary main_v152 main_v158 ((extractStridedSlice S128x5685x2 ![0, 0, 2] · slices_S128x5685x4_S128x5685x2_0_0_2) : (⟨S128x5685x4, .f32⟩ : BufTy).Contents (Elt F) → (⟨S128x5685x2, .f32⟩ : BufTy).Contents (Elt F)),
    unary main_v152 main_v159 ((extractStridedSlice S128x5685x2 ![0, 0, 0] · slices_S128x5685x4_S128x5685x2_0_0_0) : (⟨S128x5685x4, .f32⟩ : BufTy).Contents (Elt F) → (⟨S128x5685x2, .f32⟩ : BufTy).Contents (Elt F)),
    binary main_v158 main_v159 main_v160 (subf : (⟨S128x5685x2, .f32⟩ : BufTy).Contents (Elt F) → (⟨S128x5685x2, .f32⟩ : BufTy).Contents (Elt F) → (⟨S128x5685x2, .f32⟩ : BufTy).Contents (Elt F)),
    binary main_v157 main_v160 main_v161 (fn_main_v161 (F := F)),
    unary main_v161 main_v162 ((extractStridedSlice S128x5685x2 ![0, 0, 0] · slices_S128x5685x4_S128x5685x2_0_0_0) : (⟨S128x5685x4, .f32⟩ : BufTy).Contents (Elt F) → (⟨S128x5685x2, .f32⟩ : BufTy).Contents (Elt F)),
    unary main_v8 main_v163 ((extractStridedSlice S5685x2 ![0, 0] · slices_S5685x4_S5685x2_0_0) : (⟨S5685x4, .f32⟩ : BufTy).Contents (Elt F) → (⟨S5685x2, .f32⟩ : BufTy).Contents (Elt F)),
    unary main_v163 main_v164 (broadcastInDim S1x5685x2 ![1, 2] bcast_S5685x2_S1x5685x2_1_2 : (⟨S5685x2, .f32⟩ : BufTy).Contents (Elt F) → (⟨S1x5685x2, .f32⟩ : BufTy).Contents (Elt F)),
    unary main_v164 main_v165 (broadcastInDim S128x5685x2 ![0, 1, 2] bcast_S1x5685x2_S128x5685x2_0_1_2 : (⟨S1x5685x2, .f32⟩ : BufTy).Contents (Elt F) → (⟨S128x5685x2, .f32⟩ : BufTy).Contents (Elt F)),
    binary main_v162 main_v165 main_v166 (subf : (⟨S128x5685x2, .f32⟩ : BufTy).Contents (Elt F) → (⟨S128x5685x2, .f32⟩ : BufTy).Contents (Elt F) → (⟨S128x5685x2, .f32⟩ : BufTy).Contents (Elt F)),
    unary main_v8 main_v167 ((extractStridedSlice S5685x2 ![0, 2] · slices_S5685x4_S5685x2_0_2) : (⟨S5685x4, .f32⟩ : BufTy).Contents (Elt F) → (⟨S5685x2, .f32⟩ : BufTy).Contents (Elt F)),
    nullary main_cst_28 (constant S_ .f32 0x41200000#32),
    unary main_cst_28 main_v168 (broadcastInDim S5685x2 ![] bcast_S_S5685x2 : (⟨S_, .f32⟩ : BufTy).Contents (Elt F) → (⟨S5685x2, .f32⟩ : BufTy).Contents (Elt F)),
    binary main_v167 main_v168 main_v169 (Host.divf : (⟨S5685x2, .f32⟩ : BufTy).Contents (Elt F) → (⟨S5685x2, .f32⟩ : BufTy).Contents (Elt F) → (⟨S5685x2, .f32⟩ : BufTy).Contents (Elt F)),
    unary main_v169 main_v170 (broadcastInDim S1x5685x2 ![1, 2] bcast_S5685x2_S1x5685x2_1_2 : (⟨S5685x2, .f32⟩ : BufTy).Contents (Elt F) → (⟨S1x5685x2, .f32⟩ : BufTy).Contents (Elt F)),
    unary main_v170 main_v171 (broadcastInDim S128x5685x2 ![0, 1, 2] bcast_S1x5685x2_S128x5685x2_0_1_2 : (⟨S1x5685x2, .f32⟩ : BufTy).Contents (Elt F) → (⟨S128x5685x2, .f32⟩ : BufTy).Contents (Elt F)),
    binary main_v166 main_v171 main_v172 (Host.divf : (⟨S128x5685x2, .f32⟩ : BufTy).Contents (Elt F) → (⟨S128x5685x2, .f32⟩ : BufTy).Contents (Elt F) → (⟨S128x5685x2, .f32⟩ : BufTy).Contents (Elt F)),
    unary main_v161 main_v173 ((extractStridedSlice S128x5685x2 ![0, 0, 2] · slices_S128x5685x4_S128x5685x2_0_0_2) : (⟨S128x5685x4, .f32⟩ : BufTy).Contents (Elt F) → (⟨S128x5685x2, .f32⟩ : BufTy).Contents (Elt F)),
    nullary main_cst_29 (constant S_ .f32 0x358637BD#32),
    unary main_cst_29 main_v174 (broadcastInDim S128x5685x2 ![] bcast_S_S128x5685x2 : (⟨S_, .f32⟩ : BufTy).Contents (Elt F) → (⟨S128x5685x2, .f32⟩ : BufTy).Contents (Elt F)),
    binary main_v173 main_v174 main_v175 (maximumf : (⟨S128x5685x2, .f32⟩ : BufTy).Contents (Elt F) → (⟨S128x5685x2, .f32⟩ : BufTy).Contents (Elt F) → (⟨S128x5685x2, .f32⟩ : BufTy).Contents (Elt F)),
    unary main_v8 main_v176 ((extractStridedSlice S5685x2 ![0, 2] · slices_S5685x4_S5685x2_0_2) : (⟨S5685x4, .f32⟩ : BufTy).Contents (Elt F) → (⟨S5685x2, .f32⟩ : BufTy).Contents (Elt F)),
    nullary main_cst_30 (constant S_ .f32 0x358637BD#32),
    unary main_cst_30 main_v177 (broadcastInDim S5685x2 ![] bcast_S_S5685x2 : (⟨S_, .f32⟩ : BufTy).Contents (Elt F) → (⟨S5685x2, .f32⟩ : BufTy).Contents (Elt F)),
    binary main_v176 main_v177 main_v178 (maximumf : (⟨S5685x2, .f32⟩ : BufTy).Contents (Elt F) → (⟨S5685x2, .f32⟩ : BufTy).Contents (Elt F) → (⟨S5685x2, .f32⟩ : BufTy).Contents (Elt F)),
    unary main_v178 main_v179 (broadcastInDim S1x5685x2 ![1, 2] bcast_S5685x2_S1x5685x2_1_2 : (⟨S5685x2, .f32⟩ : BufTy).Contents (Elt F) → (⟨S1x5685x2, .f32⟩ : BufTy).Contents (Elt F)),
    unary main_v179 main_v180 (broadcastInDim S128x5685x2 ![0, 1, 2] bcast_S1x5685x2_S128x5685x2_0_1_2 : (⟨S1x5685x2, .f32⟩ : BufTy).Contents (Elt F) → (⟨S128x5685x2, .f32⟩ : BufTy).Contents (Elt F)),
    binary main_v175 main_v180 main_v181 (Host.divf : (⟨S128x5685x2, .f32⟩ : BufTy).Contents (Elt F) → (⟨S128x5685x2, .f32⟩ : BufTy).Contents (Elt F) → (⟨S128x5685x2, .f32⟩ : BufTy).Contents (Elt F)),
    unary main_v181 main_v182 (Host.log : (⟨S128x5685x2, .f32⟩ : BufTy).Contents (Elt F) → (⟨S128x5685x2, .f32⟩ : BufTy).Contents (Elt F)),
    nullary main_cst_31 (constant S_ .f32 0x40A00000#32),
    unary main_cst_31 main_v183 (broadcastInDim S128x5685x2 ![] bcast_S_S128x5685x2 : (⟨S_, .f32⟩ : BufTy).Contents (Elt F) → (⟨S128x5685x2, .f32⟩ : BufTy).Contents (Elt F)),
    binary main_v182 main_v183 main_v184 (mulf : (⟨S128x5685x2, .f32⟩ : BufTy).Contents (Elt F) → (⟨S128x5685x2, .f32⟩ : BufTy).Contents (Elt F) → (⟨S128x5685x2, .f32⟩ : BufTy).Contents (Elt F)),
    binary main_v172 main_v184 main_v185 (fn_main_v185 (F := F)),
    nullary main_c_32 (constantI S_ 32 0#32),
    unary main_c_32 main_v186 (broadcastInDim S128x5685 ![] bcast_S_S128x5685 : (⟨S_, .i32⟩ : BufTy).Contents (Elt F) → (⟨S128x5685, .i32⟩ : BufTy).Contents (Elt F)),
    binary main_v137 main_v186 main_v187 (cmpi .ne : (⟨S128x5685, .i32⟩ : BufTy).Contents (Elt F) → (⟨S128x5685, .i32⟩ : BufTy).Contents (Elt F) → (⟨S128x5685, .i1⟩ : BufTy).Contents (Elt F)),
    unary main_v187 main_v188 (uitofp .f32 : (⟨S128x5685, .i1⟩ : BufTy).Contents (Elt F) → (⟨S128x5685, .f32⟩ : BufTy).Contents (Elt F)),
    nullary main_cst_33 (constant S_ .f32 0x00000000#32),
    binary main_v188 main_cst_33 main_v189 ((fun x v => Host.reduceAdd x v reducesTo_S128x5685_S_d0_1 h_S_) : (⟨S128x5685, .f32⟩ : BufTy).Contents (Elt F) → (⟨S_, .f32⟩ : BufTy).Contents (Elt F) → (⟨S_, .f32⟩ : BufTy).Contents (Elt F)),
    nullary main_cst_34 (constant S_ .f32 0x40800000#32),
    binary main_v189 main_cst_34 main_v190 (mulf : (⟨S_, .f32⟩ : BufTy).Contents (Elt F) → (⟨S_, .f32⟩ : BufTy).Contents (Elt F) → (⟨S_, .f32⟩ : BufTy).Contents (Elt F)),
    nullary main_cst_35 (constant S_ .f32 0x3F800000#32),
    binary main_v190 main_cst_35 main_v191 (maximumf : (⟨S_, .f32⟩ : BufTy).Contents (Elt F) → (⟨S_, .f32⟩ : BufTy).Contents (Elt F) → (⟨S_, .f32⟩ : BufTy).Contents (Elt F)),
    binary main_v26 main_v185 main_v192 (subf : (⟨S128x5685x4, .f32⟩ : BufTy).Contents (Elt F) → (⟨S128x5685x4, .f32⟩ : BufTy).Contents (Elt F) → (⟨S128x5685x4, .f32⟩ : BufTy).Contents (Elt F)),
    unary main_v192 main_v193 (Host.absf : (⟨S128x5685x4, .f32⟩ : BufTy).Contents (Elt F) → (⟨S128x5685x4, .f32⟩ : BufTy).Contents (Elt F)),
    unary main_v188 main_v194 (broadcastInDim S128x5685x1 ![0, 1] bcast_S128x5685_S128x5685x1_0_1 : (⟨S128x5685, .f32⟩ : BufTy).Contents (Elt F) → (⟨S128x5685x1, .f32⟩ : BufTy).Contents (Elt F)),
    unary main_v194 main_v195 (broadcastInDim S128x5685x4 ![0, 1, 2] bcast_S128x5685x1_S128x5685x4_0_1_2 : (⟨S128x5685x1, .f32⟩ : BufTy).Contents (Elt F) → (⟨S128x5685x4, .f32⟩ : BufTy).Contents (Elt F)),
    binary main_v193 main_v195 main_v196 (mulf : (⟨S128x5685x4, .f32⟩ : BufTy).Contents (Elt F) → (⟨S128x5685x4, .f32⟩ : BufTy).Contents (Elt F) → (⟨S128x5685x4, .f32⟩ : BufTy).Contents (Elt F)),
    nullary main_cst_36 (constant S_ .f32 0x00000000#32),
    binary main_v196 main_cst_36 main_v197 ((fun x v => Host.reduceAdd x v reducesTo_S128x5685x4_S_d0_1_2 h_S_) : (⟨S128x5685x4, .f32⟩ : BufTy).Contents (Elt F) → (⟨S_, .f32⟩ : BufTy).Contents (Elt F) → (⟨S_, .f32⟩ : BufTy).Contents (Elt F)),
    binary main_v197 main_v191 main_v198 (Host.divf : (⟨S_, .f32⟩ : BufTy).Contents (Elt F) → (⟨S_, .f32⟩ : BufTy).Contents (Elt F) → (⟨S_, .f32⟩ : BufTy).Contents (Elt F)),
    nullary main_cst_37 (constant S_ .f32 0x00000000#32),
    binary main_v188 main_cst_37 main_v199 ((fun x v => Host.reduceAdd x v reducesTo_S128x5685_S128_d1 h_S_) : (⟨S128x5685, .f32⟩ : BufTy).Contents (Elt F) → (⟨S_, .f32⟩ : BufTy).Contents (Elt F) → (⟨S128, .f32⟩ : BufTy).Contents (Elt F)) ]

/-- @main's operations 249 … 308 of 327 (window `main_part4`). -/
abbrev ops_part4 : List (HloOp τ sig (Elt F)) :=
  [ nullary main_cst_38 (constant S_ .f32 0x40400000#32),
    unary main_cst_38 main_v200 (broadcastInDim S128 ![] bcast_S_S128 : (⟨S_, .f32⟩ : BufTy).Contents (Elt F) → (⟨S128, .f32⟩ : BufTy).Contents (Elt F)),
    binary main_v200 main_v199 main_v201 (mulf : (⟨S128, .f32⟩ : BufTy).Contents (Elt F) → (⟨S128, .f32⟩ : BufTy).Contents (Elt F) → (⟨S128, .f32⟩ : BufTy).Contents (Elt F)),
    nullary main_cst_39 (constant S_ .f32 0xFF800000#32),
    binary main_arg1 main_cst_39 main_v202 ((fun x v => Host.reduce FloatOps.maximumf x v reducesTo_S128x5685x21_S128x5685_d2 h_S_) : (⟨S128x5685x21, .f32⟩ : BufTy).Contents (Elt F) → (⟨S_, .f32⟩ : BufTy).Contents (Elt F) → (⟨S128x5685, .f32⟩ : BufTy).Contents (Elt F)),
    unary main_v202 main_v203 (broadcastInDim S128x5685x1 ![0, 1] bcast_S128x5685_S128x5685x1_0_1 : (⟨S128x5685, .f32⟩ : BufTy).Contents (Elt F) → (⟨S128x5685x1, .f32⟩ : BufTy).Contents (Elt F)),
    unary main_v203 main_v204 (broadcastInDim S128x5685x21 ![0, 1, 2] bcast_S128x5685x1_S128x5685x21_0_1_2 : (⟨S128x5685x1, .f32⟩ : BufTy).Contents (Elt F) → (⟨S128x5685x21, .f32⟩ : BufTy).Contents (Elt F)),
    binary main_arg1 main_v204 main_v205 (subf : (⟨S128x5685x21, .f32⟩ : BufTy).Contents (Elt F) → (⟨S128x5685x21, .f32⟩ : BufTy).Contents (Elt F) → (⟨S128x5685x21, .f32⟩ : BufTy).Contents (Elt F)),
    unary main_v203 main_v206 (broadcastInDim S128x5685x21 ![0, 1, 2] bcast_S128x5685x1_S128x5685x21_0_1_2 : (⟨S128x5685x1, .f32⟩ : BufTy).Contents (Elt F) → (⟨S128x5685x21, .f32⟩ : BufTy).Contents (Elt F)),
    binary main_arg1 main_v206 main_v207 (subf : (⟨S128x5685x21, .f32⟩ : BufTy).Contents (Elt F) → (⟨S128x5685x21, .f32⟩ : BufTy).Contents (Elt F) → (⟨S128x5685x21, .f32⟩ : BufTy).Contents (Elt F)),
    unary main_v207 main_v208 (Host.exp : (⟨S128x5685x21, .f32⟩ : BufTy).Contents (Elt F) → (⟨S128x5685x21, .f32⟩ : BufTy).Contents (Elt F)),
    nullary main_cst_40 (constant S_ .f32 0x00000000#32),
    binary main_v208 main_cst_40 main_v209 ((fun x v => Host.reduceAdd x v reducesTo_S128x5685x21_S128x5685_d2 h_S_) : (⟨S128x5685x21, .f32⟩ : BufTy).Contents (Elt F) → (⟨S_, .f32⟩ : BufTy).Contents (Elt F) → (⟨S128x5685, .f32⟩ : BufTy).Contents (Elt F)),
    unary main_v209 main_v210 (broadcastInDim S128x5685x1 ![0, 1] bcast_S128x5685_S128x5685x1_0_1 : (⟨S128x5685, .f32⟩ : BufTy).Contents (Elt F) → (⟨S128x5685x1, .f32⟩ : BufTy).Contents (Elt F)),
    unary main_v210 main_v211 (Host.log : (⟨S128x5685x1, .f32⟩ : BufTy).Contents (Elt F) → (⟨S128x5685x1, .f32⟩ : BufTy).Contents (Elt F)),
    unary main_v211 main_v212 (broadcastInDim S128x5685x21 ![0, 1, 2] bcast_S128x5685x1_S128x5685x21_0_1_2 : (⟨S128x5685x1, .f32⟩ : BufTy).Contents (Elt F) → (⟨S128x5685x21, .f32⟩ : BufTy).Contents (Elt F)),
    binary main_v205 main_v212 main_v213 (subf : (⟨S128x5685x21, .f32⟩ : BufTy).Contents (Elt F) → (⟨S128x5685x21, .f32⟩ : BufTy).Contents (Elt F) → (⟨S128x5685x21, .f32⟩ : BufTy).Contents (Elt F)),
    nullary main_v214 (iotaInDim S128 32 0),
    unary main_v214 main_v215 (broadcastInDim S128x1 ![0] bcast_S128_S128x1_0 : (⟨S128, .i32⟩ : BufTy).Contents (Elt F) → (⟨S128x1, .i32⟩ : BufTy).Contents (Elt F)),
    nullary main_v216 (iotaInDim S5685 32 0),
    unary main_v216 main_v217 (broadcastInDim S1x5685 ![1] bcast_S5685_S1x5685_1 : (⟨S5685, .i32⟩ : BufTy).Contents (Elt F) → (⟨S1x5685, .i32⟩ : BufTy).Contents (Elt F)),
    nullary main_c_41 (constantI S_ 32 0#32),
    unary main_c_41 main_v218 (broadcastInDim S128x1 ![] bcast_S_S128x1 : (⟨S_, .i32⟩ : BufTy).Contents (Elt F) → (⟨S128x1, .i32⟩ : BufTy).Contents (Elt F)),
    binary main_v215 main_v218 main_v219 (cmpi .slt : (⟨S128x1, .i32⟩ : BufTy).Contents (Elt F) → (⟨S128x1, .i32⟩ : BufTy).Contents (Elt F) → (⟨S128x1, .i1⟩ : BufTy).Contents (Elt F)),
    nullary main_c_42 (constantI S_ 32 128#32),
    unary main_c_42 main_v220 (broadcastInDim S128x1 ![] bcast_S_S128x1 : (⟨S_, .i32⟩ : BufTy).Contents (Elt F) → (⟨S128x1, .i32⟩ : BufTy).Contents (Elt F)),
    binary main_v215 main_v220 main_v221 (addi : (⟨S128x1, .i32⟩ : BufTy).Contents (Elt F) → (⟨S128x1, .i32⟩ : BufTy).Contents (Elt F) → (⟨S128x1, .i32⟩ : BufTy).Contents (Elt F)),
    ternary main_v219 main_v221 main_v215 main_v222 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_43 (constantI S_ 32 0#32),
    unary main_c_43 main_v223 (broadcastInDim S1x5685 ![] bcast_S_S1x5685 : (⟨S_, .i32⟩ : BufTy).Contents (Elt F) → (⟨S1x5685, .i32⟩ : BufTy).Contents (Elt F)),
    binary main_v217 main_v223 main_v224 (cmpi .slt : (⟨S1x5685, .i32⟩ : BufTy).Contents (Elt F) → (⟨S1x5685, .i32⟩ : BufTy).Contents (Elt F) → (⟨S1x5685, .i1⟩ : BufTy).Contents (Elt F)),
    nullary main_c_44 (constantI S_ 32 5685#32),
    unary main_c_44 main_v225 (broadcastInDim S1x5685 ![] bcast_S_S1x5685 : (⟨S_, .i32⟩ : BufTy).Contents (Elt F) → (⟨S1x5685, .i32⟩ : BufTy).Contents (Elt F)),
    binary main_v217 main_v225 main_v226 (addi : (⟨S1x5685, .i32⟩ : BufTy).Contents (Elt F) → (⟨S1x5685, .i32⟩ : BufTy).Contents (Elt F) → (⟨S1x5685, .i32⟩ : BufTy).Contents (Elt F)),
    ternary main_v224 main_v226 main_v217 main_v227 (select : (⟨S1x5685, .i1⟩ : BufTy).Contents (Elt F) → (⟨S1x5685, .i32⟩ : BufTy).Contents (Elt F) → (⟨S1x5685, .i32⟩ : BufTy).Contents (Elt F) → (⟨S1x5685, .i32⟩ : BufTy).Contents (Elt F)),
    nullary main_c_45 (constantI S_ 32 0#32),
    unary main_c_45 main_v228 (broadcastInDim S128x5685 ![] bcast_S_S128x5685 : (⟨S_, .i32⟩ : BufTy).Contents (Elt F) → (⟨S128x5685, .i32⟩ : BufTy).Contents (Elt F)),
    binary main_v137 main_v228 main_v229 (cmpi .slt : (⟨S128x5685, .i32⟩ : BufTy).Contents (Elt F) → (⟨S128x5685, .i32⟩ : BufTy).Contents (Elt F) → (⟨S128x5685, .i1⟩ : BufTy).Contents (Elt F)),
    nullary main_c_46 (constantI S_ 32 21#32),
    unary main_c_46 main_v230 (broadcastInDim S128x5685 ![] bcast_S_S128x5685 : (⟨S_, .i32⟩ : BufTy).Contents (Elt F) → (⟨S128x5685, .i32⟩ : BufTy).Contents (Elt F)),
    binary main_v137 main_v230 main_v231 (addi : (⟨S128x5685, .i32⟩ : BufTy).Contents (Elt F) → (⟨S128x5685, .i32⟩ : BufTy).Contents (Elt F) → (⟨S128x5685, .i32⟩ : BufTy).Contents (Elt F)),
    ternary main_v229 main_v231 main_v137 main_v232 (select : (⟨S128x5685, .i1⟩ : BufTy).Contents (Elt F) → (⟨S128x5685, .i32⟩ : BufTy).Contents (Elt F) → (⟨S128x5685, .i32⟩ : BufTy).Contents (Elt F) → (⟨S128x5685, .i32⟩ : BufTy).Contents (Elt F)),
    unary main_v222 main_v233 (broadcastInDim S128x5685 ![0, 1] bcast_S128x1_S128x5685_0_1 : (⟨S128x1, .i32⟩ : BufTy).Contents (Elt F) → (⟨S128x5685, .i32⟩ : BufTy).Contents (Elt F)),
    unary main_v227 main_v234 (broadcastInDim S128x5685 ![0, 1] bcast_S1x5685_S128x5685_0_1 : (⟨S1x5685, .i32⟩ : BufTy).Contents (Elt F) → (⟨S128x5685, .i32⟩ : BufTy).Contents (Elt F)),
    unary main_v233 main_v235 (broadcastInDim S128x5685x1 ![0, 1] bcast_S128x5685_S128x5685x1_0_1 : (⟨S128x5685, .i32⟩ : BufTy).Contents (Elt F) → (⟨S128x5685x1, .i32⟩ : BufTy).Contents (Elt F)),
    unary main_v234 main_v236 (broadcastInDim S128x5685x1 ![0, 1] bcast_S128x5685_S128x5685x1_0_1 : (⟨S128x5685, .i32⟩ : BufTy).Contents (Elt F) → (⟨S128x5685x1, .i32⟩ : BufTy).Contents (Elt F)),
    unary main_v232 main_v237 (broadcastInDim S128x5685x1 ![0, 1] bcast_S128x5685_S128x5685x1_0_1 : (⟨S128x5685, .i32⟩ : BufTy).Contents (Elt F) → (⟨S128x5685x1, .i32⟩ : BufTy).Contents (Elt F)),
    nary ![main_v235, main_v236, main_v237] main_v238 (fun u => fn_main_v238 (F := F) (u 0) (u 1) (u 2)),
    binary main_v213 main_v238 main_v239 ((fun x i => Host.gather gather_S128x5685x21_S128x5685x3_S128x5685_n_012_n_n_012_2_111 x i) : (⟨S128x5685x21, .f32⟩ : BufTy).Contents (Elt F) → (⟨S128x5685x3, .i32⟩ : BufTy).Contents (Elt F) → (⟨S128x5685, .f32⟩ : BufTy).Contents (Elt F)),
    unary main_v239 main_v240 (Host.negf : (⟨S128x5685, .f32⟩ : BufTy).Contents (Elt F) → (⟨S128x5685, .f32⟩ : BufTy).Contents (Elt F)),
    binary main_v240 main_v188 main_v241 (mulf : (⟨S128x5685, .f32⟩ : BufTy).Contents (Elt F) → (⟨S128x5685, .f32⟩ : BufTy).Contents (Elt F) → (⟨S128x5685, .f32⟩ : BufTy).Contents (Elt F)),
    nullary main_cst_47 (constant S_ .f32 0x00000000#32),
    binary main_v241 main_cst_47 main_v242 ((fun x v => Host.reduceAdd x v reducesTo_S128x5685_S_d0_1 h_S_) : (⟨S128x5685, .f32⟩ : BufTy).Contents (Elt F) → (⟨S_, .f32⟩ : BufTy).Contents (Elt F) → (⟨S_, .f32⟩ : BufTy).Contents (Elt F)),
    nullary main_cst_48 (constant S_ .f32 0x00000000#32),
    unary main_cst_48 main_v243 (broadcastInDim S128x5685 ![] bcast_S_S128x5685 : (⟨S_, .f32⟩ : BufTy).Contents (Elt F) → (⟨S128x5685, .f32⟩ : BufTy).Contents (Elt F)),
    ternary main_v187 main_v243 main_v240 main_v244 (select : (⟨S128x5685, .i1⟩ : BufTy).Contents (Elt F) → (⟨S128x5685, .f32⟩ : BufTy).Contents (Elt F) → (⟨S128x5685, .f32⟩ : BufTy).Contents (Elt F) → (⟨S128x5685, .f32⟩ : BufTy).Contents (Elt F)),
    unary main_v244 main_v245 (Host.negf : (⟨S128x5685, .f32⟩ : BufTy).Contents (Elt F) → (⟨S128x5685, .f32⟩ : BufTy).Contents (Elt F)),
    unary main_v245 main_v246 ((fun x => Host.sort S128x5685 1 comparator_f32_d1 x) : (⟨S128x5685, .f32⟩ : BufTy).Contents (Elt F) → (⟨S128x5685, .f32⟩ : BufTy).Contents (Elt F)),
    unary main_v246 main_v247 (Host.negf : (⟨S128x5685, .f32⟩ : BufTy).Contents (Elt F) → (⟨S128x5685, .f32⟩ : BufTy).Contents (Elt F)),
    nullary main_v248 (iotaInDim S5685 32 0) ]

/-- @main's operations 309 … 327 of 327 (window `main_part5`). -/
abbrev ops_part5 : List (HloOp τ sig (Elt F)) :=
  [ unary main_v248 main_v249 (sitofp .f32 : (⟨S5685, .i32⟩ : BufTy).Contents (Elt F) → (⟨S5685, .f32⟩ : BufTy).Contents (Elt F)),
    unary main_v249 main_v250 (broadcastInDim S1x5685 ![1] bcast_S5685_S1x5685_1 : (⟨S5685, .f32⟩ : BufTy).Contents (Elt F) → (⟨S1x5685, .f32⟩ : BufTy).Contents (Elt F)),
    unary main_v201 main_v251 (broadcastInDim S128x1 ![0] bcast_S128_S128x1_0 : (⟨S128, .f32⟩ : BufTy).Contents (Elt F) → (⟨S128x1, .f32⟩ : BufTy).Contents (Elt F)),
    unary main_v250 main_v252 (broadcastInDim S128x5685 ![0, 1] bcast_S1x5685_S128x5685_0_1 : (⟨S1x5685, .f32⟩ : BufTy).Contents (Elt F) → (⟨S128x5685, .f32⟩ : BufTy).Contents (Elt F)),
    unary main_v251 main_v253 (broadcastInDim S128x5685 ![0, 1] bcast_S128x1_S128x5685_0_1 : (⟨S128x1, .f32⟩ : BufTy).Contents (Elt F) → (⟨S128x5685, .f32⟩ : BufTy).Contents (Elt F)),
    binary main_v252 main_v253 main_v254 (cmpf .olt : (⟨S128x5685, .f32⟩ : BufTy).Contents (Elt F) → (⟨S128x5685, .f32⟩ : BufTy).Contents (Elt F) → (⟨S128x5685, .i1⟩ : BufTy).Contents (Elt F)),
    unary main_v254 main_v255 (uitofp .f32 : (⟨S128x5685, .i1⟩ : BufTy).Contents (Elt F) → (⟨S128x5685, .f32⟩ : BufTy).Contents (Elt F)),
    binary main_v247 main_v255 main_v256 (mulf : (⟨S128x5685, .f32⟩ : BufTy).Contents (Elt F) → (⟨S128x5685, .f32⟩ : BufTy).Contents (Elt F) → (⟨S128x5685, .f32⟩ : BufTy).Contents (Elt F)),
    nullary main_cst_49 (constant S_ .f32 0x00000000#32),
    binary main_v256 main_cst_49 main_v257 ((fun x v => Host.reduceAdd x v reducesTo_S128x5685_S_d0_1 h_S_) : (⟨S128x5685, .f32⟩ : BufTy).Contents (Elt F) → (⟨S_, .f32⟩ : BufTy).Contents (Elt F) → (⟨S_, .f32⟩ : BufTy).Contents (Elt F)),
    binary main_v257 main_v242 main_v258 (addf : (⟨S_, .f32⟩ : BufTy).Contents (Elt F) → (⟨S_, .f32⟩ : BufTy).Contents (Elt F) → (⟨S_, .f32⟩ : BufTy).Contents (Elt F)),
    nullary main_cst_50 (constant S_ .f32 0x00000000#32),
    binary main_v199 main_cst_50 main_v259 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_51 (constant S_ .f32 0x3F800000#32),
    binary main_v259 main_cst_51 main_v260 (maximumf : (⟨S_, .f32⟩ : BufTy).Contents (Elt F) → (⟨S_, .f32⟩ : BufTy).Contents (Elt F) → (⟨S_, .f32⟩ : BufTy).Contents (Elt F)),
    binary main_v258 main_v260 main_v261 (Host.divf : (⟨S_, .f32⟩ : BufTy).Contents (Elt F) → (⟨S_, .f32⟩ : BufTy).Contents (Elt F) → (⟨S_, .f32⟩ : BufTy).Contents (Elt F)),
    nullary main_cst_52 (constant S_ .f32 0x3F800000#32),
    binary main_cst_52 main_v198 main_v262 (mulf : (⟨S_, .f32⟩ : BufTy).Contents (Elt F) → (⟨S_, .f32⟩ : BufTy).Contents (Elt F) → (⟨S_, .f32⟩ : BufTy).Contents (Elt F)),
    binary main_v261 main_v262 main_v263 (addf : (⟨S_, .f32⟩ : BufTy).Contents (Elt F) → (⟨S_, .f32⟩ : BufTy).Contents (Elt F) → (⟨S_, .f32⟩ : BufTy).Contents (Elt F)) ]

/-- @main's 327 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., binary_bufs_sub .., binary_bufs_sub .., reshape_bufs_sub .., unary_bufs_sub .., reshape_bufs_sub .., unary_bufs_sub .., reshape_bufs_sub .., nullary_bufs_sub .., binary_bufs_sub .., nullary_bufs_sub .., binary_bufs_sub .., nullary_bufs_sub .., binary_bufs_sub .., nullary_bufs_sub .., binary_bufs_sub .., unary_bufs_sub .., unary_bufs_sub .., unary_bufs_sub .., unary_bufs_sub .., nary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., unary_bufs_sub .., binary_bufs_sub .., unary_bufs_sub .., ternary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., binary_bufs_sub .., nullary_bufs_sub .., binary_bufs_sub .., nullary_bufs_sub .., binary_bufs_sub .., binary_bufs_sub .., unary_bufs_sub .., unary_bufs_sub .., unary_bufs_sub .., binary_bufs_sub .., nullary_bufs_sub .., binary_bufs_sub .., binary_bufs_sub .., nullary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨nullary_bufs_sub .., unary_bufs_sub .., binary_bufs_sub .., nullary_bufs_sub .., binary_bufs_sub .., unary_bufs_sub .., unary_bufs_sub .., binary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub .., unary_bufs_sub .., binary_bufs_sub .., nullary_bufs_sub .., binary_bufs_sub .., nullary_bufs_sub .., unary_bufs_sub .., ternary_bufs_sub .., unary_bufs_sub .., unary_bufs_sub .., unary_bufs_sub .., nullary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_sub : (ops_part5 : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_sub op h, List.forall_iff_forall_mem.mp ops_part4_sub op h, List.forall_iff_forall_mem.mp ops_part5_sub op h]
theorem ops_fresh : ∀ op ∈ (ops : List (HloOp τ sig (Elt F))), op.fresh = ∅ := fun op h => by
    simp only [ops, ops_part1, List.mem_append, or_assoc] at h
    rcases h with h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_fresh op h, List.forall_iff_forall_mem.mp ops_part4_fresh op h, List.forall_iff_forall_mem.mp ops_part5_fresh op h]

set_option maxRecDepth 8192 in
/-- `main_v8`'s composed term of the arguments (named: it is used 3 times). -/
def res_main_v8 (V0 : Valuation τ sig (Elt F)) : (Proc.devRef .tc main_v8 : DevRef τ sig).ty.Contents (Elt F) :=
  concatenate S5685x4 1 [⟨S5685x2, (Host.divf (addf (extractStridedSlice S5685x2 ![0, 2] (V0 (Proc.devRef .tc main_arg4)) slices_S5685x4_S5685x2_0_2) (extractStridedSlice S5685x2 ![0, 0] (V0 (Proc.devRef .tc main_arg4)) slices_S5685x4_S5685x2_0_0)) (broadcastInDim S5685x2 ![] bcast_S_S5685x2 (constant S_ .f32 0x40000000#32)))⟩, ⟨S5685x2, (subf (extractStridedSlice S5685x2 ![0, 2] (V0 (Proc.devRef .tc main_arg4)) slices_S5685x4_S5685x2_0_2) (extractStridedSlice S5685x2 ![0, 0] (V0 (Proc.devRef .tc main_arg4)) slices_S5685x4_S5685x2_0_0))⟩] concatenates_S5685x2_S5685x2_S5685x4_d1

set_option maxRecDepth 8192 in
/-- `main_v9`'s composed term of the arguments (named: it is used 2 times). -/
def res_main_v9 (V0 : Valuation τ sig (Elt F)) : (Proc.devRef .tc main_v9 : DevRef τ sig).ty.Contents (Elt F) :=
  shapeCast _ (V0 (Proc.devRef .tc main_arg0)) shapeCasts_S128x5685x18_S128x5685x2x9

set_option maxRecDepth 8192 in
/-- `main_v11`'s composed term of the arguments (named: it is used 2 times). -/
def res_main_v11 (V0 : Valuation τ sig (Elt F)) : (Proc.devRef .tc main_v11 : DevRef τ sig).ty.Contents (Elt F) :=
  shapeCast _ (extractStridedSlice S128x5685x1x9 ![0, 0, 0, 0] (res_main_v9 V0) slices_S128x5685x2x9_S128x5685x1x9_0_0_0_0) shapeCasts_S128x5685x1x9_S128x5685x9

set_option maxRecDepth 8192 in
/-- `main_v13`'s composed term of the arguments (named: it is used 2 times). -/
def res_main_v13 (V0 : Valuation τ sig (Elt F)) : (Proc.devRef .tc main_v13 : DevRef τ sig).ty.Contents (Elt F) :=
  shapeCast _ (extractStridedSlice S128x5685x1x9 ![0, 0, 1, 0] (res_main_v9 V0) slices_S128x5685x2x9_S128x5685x1x9_0_0_1_0) shapeCasts_S128x5685x1x9_S128x5685x9

set_option maxRecDepth 8192 in
/-- `main_v43`'s composed term of the arguments (named: it is used 2 times). -/
def res_main_v43 (V0 : Valuation τ sig (Elt F)) : (Proc.devRef .tc main_v43 : DevRef τ sig).ty.Contents (Elt F) :=
  maximumf (subf (minimumf (broadcastInDim S128x32x5685x2 ![0, 1, 2, 3] bcast_S128x32x1x2_S128x32x5685x2_0_1_2_3 (broadcastInDim S128x32x1x2 ![0, 1, 3] bcast_S128x32x2_S128x32x1x2_0_1_3 (extractStridedSlice S128x32x2 ![0, 0, 2] (V0 (Proc.devRef .tc main_arg2)) slices_S128x32x4_S128x32x2_0_0_2))) (broadcastInDim S128x32x5685x2 ![0, 1, 2, 3] bcast_S1x1x5685x2_S128x32x5685x2_0_1_2_3 (broadcastInDim S1x1x5685x2 ![2, 3] bcast_S5685x2_S1x1x5685x2_2_3 (extractStridedSlice S5685x2 ![0, 2] (V0 (Proc.devRef .tc main_arg4)) slices_S5685x4_S5685x2_0_2)))) (maximumf (broadcastInDim S128x32x5685x2 ![0, 1, 2, 3] bcast_S128x32x1x2_S128x32x5685x2_0_1_2_3 (broadcastInDim S128x32x1x2 ![0, 1, 3] bcast_S128x32x2_S128x32x1x2_0_1_3 (extractStridedSlice S128x32x2 ![0, 0, 0] (V0 (Proc.devRef .tc main_arg2)) slices_S128x32x4_S128x32x2_0_0_0))) (broadcastInDim S128x32x5685x2 ![0, 1, 2, 3] bcast_S1x1x5685x2_S128x32x5685x2_0_1_2_3 (broadcastInDim S1x1x5685x2 ![2, 3] bcast_S5685x2_S1x1x5685x2_2_3 (extractStridedSlice S5685x2 ![0, 0] (V0 (Proc.devRef .tc main_arg4)) slices_S5685x4_S5685x2_0_0))))) (broadcastInDim S128x32x5685x2 ![] bcast_S_S128x32x5685x2 (constant S_ .f32 0x00000000#32))

set_option maxRecDepth 8192 in
/-- `main_v48`'s composed term of the arguments (named: it is used 2 times). -/
def res_main_v48 (V0 : Valuation τ sig (Elt F)) : (Proc.devRef .tc main_v48 : DevRef τ sig).ty.Contents (Elt F) :=
  mulf (shapeCast _ (extractStridedSlice S128x32x5685x1 ![0, 0, 0, 0] (res_main_v43 V0) slices_S128x32x5685x2_S128x32x5685x1_0_0_0_0) shapeCasts_S128x32x5685x1_S128x32x5685) (shapeCast _ (extractStridedSlice S128x32x5685x1 ![0, 0, 0, 1] (res_main_v43 V0) slices_S128x32x5685x2_S128x32x5685x1_0_0_0_1) shapeCasts_S128x32x5685x1_S128x32x5685)

set_option maxRecDepth 8192 in
/-- `main_v79`'s composed term of the arguments (named: it is used 5 times). -/
def res_main_v79 (V0 : Valuation τ sig (Elt F)) : (Proc.devRef .tc main_v79 : DevRef τ sig).ty.Contents (Elt F) :=
  Host.divf (res_main_v48 V0) (maximumf (subf (addf (broadcastInDim S128x32x5685 ![0, 1, 2] bcast_S128x32x1_S128x32x5685_0_1_2 (broadcastInDim S128x32x1 ![0, 1] bcast_S128x32_S128x32x1_0_1 (mulf (subf (shapeCast _ (extractStridedSlice S128x32x1 ![0, 0, 2] (V0 (Proc.devRef .tc main_arg2)) slices_S128x32x4_S128x32x1_0_0_2) shapeCasts_S128x32x1_S128x32) (shapeCast _ (extractStridedSlice S128x32x1 ![0, 0, 0] (V0 (Proc.devRef .tc main_arg2)) slices_S128x32x4_S128x32x1_0_0_0) shapeCasts_S128x32x1_S128x32)) (subf (shapeCast _ (extractStridedSlice S128x32x1 ![0, 0, 3] (V0 (Proc.devRef .tc main_arg2)) slices_S128x32x4_S128x32x1_0_0_3) shapeCasts_S128x32x1_S128x32) (shapeCast _ (extractStridedSlice S128x32x1 ![0, 0, 1] (V0 (Proc.devRef .tc main_arg2)) slices_S128x32x4_S128x32x1_0_0_1) shapeCasts_S128x32x1_S128x32))))) (broadcastInDim S128x32x5685 ![0, 1, 2] bcast_S1x1x5685_S128x32x5685_0_1_2 (broadcastInDim S1x1x5685 ![2] bcast_S5685_S1x1x5685_2 (mulf (subf (shapeCast _ (extractStridedSlice S5685x1 ![0, 2] (V0 (Proc.devRef .tc main_arg4)) slices_S5685x4_S5685x1_0_2) shapeCasts_S5685x1_S5685) (shapeCast _ (extractStridedSlice S5685x1 ![0, 0] (V0 (Proc.devRef .tc main_arg4)) slices_S5685x4_S5685x1_0_0) shapeCasts_S5685x1_S5685)) (subf (shapeCast _ (extractStridedSlice S5685x1 ![0, 3] (V0 (Proc.devRef .tc main_arg4)) slices_S5685x4_S5685x1_0_3) shapeCasts_S5685x1_S5685) (shapeCast _ (extractStridedSlice S5685x1 ![0, 1] (V0 (Proc.devRef .tc main_arg4)) slices_S5685x4_S5685x1_0_1) shapeCasts_S5685x1_S5685)))))) (res_main_v48 V0)) (broadcastInDim S128x32x5685 ![] bcast_S_S128x32x5685 (constant S_ .f32 0x2EDBE6FF#32)))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S128x32x5685 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S128x32x5685 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v82`'s composed term of the arguments (named: it is used 6 times). -/
def res_main_v82 (V0 : Valuation τ sig (Elt F)) : (Proc.devRef .tc main_v82 : DevRef τ sig).ty.Contents (Elt F) :=
  fun j => (Host.argReduce reducer_argmax_f32_i32 (res_main_v79 V0) (res_main_call1_v0 V0) (res_main_call1_cst V0) (res_main_call1_c V0) reducesTo_S128x32x5685_S128x32_d2 h_S_ j).2

set_option maxRecDepth 8192 in
/-- `main_v84`'s composed term of the arguments (named: it is used 12 times). -/
def res_main_v84 (V0 : Valuation τ sig (Elt F)) : (Proc.devRef .tc main_v84 : DevRef τ sig).ty.Contents (Elt F) :=
  broadcastInDim S128x1 ![0] bcast_S128_S128x1_0 (iotaInDim S128 32 0)

set_option maxRecDepth 8192 in
/-- `main_v102`'s composed term of the arguments (named: it is used 6 times). -/
def res_main_v102 (V0 : Valuation τ sig (Elt F)) : (Proc.devRef .tc main_v102 : DevRef τ sig).ty.Contents (Elt F) :=
  Host.scatter scatter_S128x5685_S128x32x2_S128x32_n_01_01_2 (fun _ b => b) (fun j => (Host.argReduce reducer_argmax_f32_i32 (res_main_v79 V0) (res_main_call0_v0 V0) (res_main_call0_cst V0) (res_main_call0_c V0) reducesTo_S128x32x5685_S128x5685_d1 h_S_ j).2) (concatenate S128x32x2 2 [⟨S128x32x1, (broadcastInDim S128x32x1 ![0, 1] bcast_S128x32_S128x32x1_0_1 (broadcastInDim S128x32 ![0, 1] bcast_S128x1_S128x32_0_1 (select (cmpi .slt (res_main_v84 V0) (broadcastInDim S128x1 ![] bcast_S_S128x1 (constantI S_ 32 0#32))) (addi (res_main_v84 V0) (broadcastInDim S128x1 ![] bcast_S_S128x1 (constantI S_ 32 128#32))) (res_main_v84 V0))))⟩, ⟨S128x32x1, (broadcastInDim S128x32x1 ![0, 1] bcast_S128x32_S128x32x1_0_1 (select (cmpi .slt (res_main_v82 V0) (broadcastInDim S128x32 ![] bcast_S_S128x32 (constantI S_ 32 0#32))) (addi (res_main_v82 V0) (broadcastInDim S128x32 ![] bcast_S_S128x32 (constantI S_ 32 5685#32))) (res_main_v82 V0)))⟩] concatenates_S128x32x1_S128x32x1_S128x32x2_d2) (broadcastInDim S128x32 ![0, 1] bcast_S1x32_S128x32_0_1 (broadcastInDim S1x32 ![1] bcast_S32_S1x32_1 (iotaInDim S32 32 0)))

set_option maxRecDepth 8192 in
/-- `main_v137`'s composed term of the arguments (named: it is used 4 times). -/
def res_main_v137 (V0 : Valuation τ sig (Elt F)) : (Proc.devRef .tc main_v137 : DevRef τ sig).ty.Contents (Elt F) :=
  select (cmpf .olt (Host.scatter scatter_S128x5685_S128x32x2_S128x32_n_01_01_2 (fun _ b => b) (Host.reduce FloatOps.maximumf (res_main_v79 V0) (constant S_ .f32 0xFF800000#32) reducesTo_S128x32x5685_S128x5685_d1 h_S_) (concatenate S128x32x2 2 [⟨S128x32x1, (broadcastInDim S128x32x1 ![0, 1] bcast_S128x32_S128x32x1_0_1 (broadcastInDim S128x32 ![0, 1] bcast_S128x1_S128x32_0_1 (select (cmpi .slt (res_main_v84 V0) (broadcastInDim S128x1 ![] bcast_S_S128x1 (constantI S_ 32 0#32))) (addi (res_main_v84 V0) (broadcastInDim S128x1 ![] bcast_S_S128x1 (constantI S_ 32 128#32))) (res_main_v84 V0))))⟩, ⟨S128x32x1, (broadcastInDim S128x32x1 ![0, 1] bcast_S128x32_S128x32x1_0_1 (select (cmpi .slt (res_main_v82 V0) (broadcastInDim S128x32 ![] bcast_S_S128x32 (constantI S_ 32 0#32))) (addi (res_main_v82 V0) (broadcastInDim S128x32 ![] bcast_S_S128x32 (constantI S_ 32 5685#32))) (res_main_v82 V0)))⟩] concatenates_S128x32x1_S128x32x1_S128x32x2_d2) (broadcastInDim S128x32 ![] bcast_S_S128x32 (constant S_ .f32 0x3F800000#32))) (broadcastInDim S128x5685 ![] bcast_S_S128x5685 (constant S_ .f32 0x3F000000#32))) (broadcastInDim S128x5685 ![] bcast_S_S128x5685 (constantI S_ 32 0#32)) (Host.gather gather_S128x32_S128x5685x2_S128x5685_n_01_n_n_01_2_11 (V0 (Proc.devRef .tc main_arg3)) (concatenate S128x5685x2 2 [⟨S128x5685x1, (broadcastInDim S128x5685x1 ![0, 1] bcast_S128x5685_S128x5685x1_0_1 (broadcastInDim S128x5685 ![0, 1] bcast_S128x1_S128x5685_0_1 (select (cmpi .slt (res_main_v84 V0) (broadcastInDim S128x1 ![] bcast_S_S128x1 (constantI S_ 32 0#32))) (addi (res_main_v84 V0) (broadcastInDim S128x1 ![] bcast_S_S128x1 (constantI S_ 32 128#32))) (res_main_v84 V0))))⟩, ⟨S128x5685x1, (broadcastInDim S128x5685x1 ![0, 1] bcast_S128x5685_S128x5685x1_0_1 (select (cmpi .slt (res_main_v102 V0) (broadcastInDim S128x5685 ![] bcast_S_S128x5685 (constantI S_ 32 0#32))) (addi (res_main_v102 V0) (broadcastInDim S128x5685 ![] bcast_S_S128x5685 (constantI S_ 32 32#32))) (res_main_v102 V0)))⟩] concatenates_S128x5685x1_S128x5685x1_S128x5685x2_d2))

set_option maxRecDepth 8192 in
/-- `main_v152`'s composed term of the arguments (named: it is used 4 times). -/
def res_main_v152 (V0 : Valuation τ sig (Elt F)) : (Proc.devRef .tc main_v152 : DevRef τ sig).ty.Contents (Elt F) :=
  Host.gather gather_S128x32x4_S128x5685x2_S128x5685x4_2_01_n_n_01_2_114 (V0 (Proc.devRef .tc main_arg2)) (concatenate S128x5685x2 2 [⟨S128x5685x1, (broadcastInDim S128x5685x1 ![0, 1] bcast_S128x5685_S128x5685x1_0_1 (broadcastInDim S128x5685 ![0, 1] bcast_S128x1_S128x5685_0_1 (select (cmpi .slt (res_main_v84 V0) (broadcastInDim S128x1 ![] bcast_S_S128x1 (constantI S_ 32 0#32))) (addi (res_main_v84 V0) (broadcastInDim S128x1 ![] bcast_S_S128x1 (constantI S_ 32 128#32))) (res_main_v84 V0))))⟩, ⟨S128x5685x1, (broadcastInDim S128x5685x1 ![0, 1] bcast_S128x5685_S128x5685x1_0_1 (select (cmpi .slt (res_main_v102 V0) (broadcastInDim S128x5685 ![] bcast_S_S128x5685 (constantI S_ 32 0#32))) (addi (res_main_v102 V0) (broadcastInDim S128x5685 ![] bcast_S_S128x5685 (constantI S_ 32 32#32))) (res_main_v102 V0)))⟩] concatenates_S128x5685x1_S128x5685x1_S128x5685x2_d2)

set_option maxRecDepth 8192 in
/-- `main_v161`'s composed term of the arguments (named: it is used 2 times). -/
def res_main_v161 (V0 : Valuation τ sig (Elt F)) : (Proc.devRef .tc main_v161 : DevRef τ sig).ty.Contents (Elt F) :=
  concatenate S128x5685x4 2 [⟨S128x5685x2, (Host.divf (addf (extractStridedSlice S128x5685x2 ![0, 0, 2] (res_main_v152 V0) slices_S128x5685x4_S128x5685x2_0_0_2) (extractStridedSlice S128x5685x2 ![0, 0, 0] (res_main_v152 V0) slices_S128x5685x4_S128x5685x2_0_0_0)) (broadcastInDim S128x5685x2 ![] bcast_S_S128x5685x2 (constant S_ .f32 0x40000000#32)))⟩, ⟨S128x5685x2, (subf (extractStridedSlice S128x5685x2 ![0, 0, 2] (res_main_v152 V0) slices_S128x5685x4_S128x5685x2_0_0_2) (extractStridedSlice S128x5685x2 ![0, 0, 0] (res_main_v152 V0) slices_S128x5685x4_S128x5685x2_0_0_0))⟩] concatenates_S128x5685x2_S128x5685x2_S128x5685x4_d2

set_option maxRecDepth 8192 in
/-- `main_v187`'s composed term of the arguments (named: it is used 2 times). -/
def res_main_v187 (V0 : Valuation τ sig (Elt F)) : (Proc.devRef .tc main_v187 : DevRef τ sig).ty.Contents (Elt F) :=
  cmpi .ne (res_main_v137 V0) (broadcastInDim S128x5685 ![] bcast_S_S128x5685 (constantI S_ 32 0#32))

set_option maxRecDepth 8192 in
/-- `main_v188`'s composed term of the arguments (named: it is used 4 times). -/
def res_main_v188 (V0 : Valuation τ sig (Elt F)) : (Proc.devRef .tc main_v188 : DevRef τ sig).ty.Contents (Elt F) :=
  uitofp .f32 (res_main_v187 V0)

set_option maxRecDepth 8192 in
/-- `main_v199`'s composed term of the arguments (named: it is used 2 times). -/
def res_main_v199 (V0 : Valuation τ sig (Elt F)) : (Proc.devRef .tc main_v199 : DevRef τ sig).ty.Contents (Elt F) :=
  Host.reduceAdd (res_main_v188 V0) (constant S_ .f32 0x00000000#32) reducesTo_S128x5685_S128_d1 h_S_

set_option maxRecDepth 8192 in
/-- `main_v203`'s composed term of the arguments (named: it is used 2 times). -/
def res_main_v203 (V0 : Valuation τ sig (Elt F)) : (Proc.devRef .tc main_v203 : DevRef τ sig).ty.Contents (Elt F) :=
  broadcastInDim S128x5685x1 ![0, 1] bcast_S128x5685_S128x5685x1_0_1 (Host.reduce FloatOps.maximumf (V0 (Proc.devRef .tc main_arg1)) (constant S_ .f32 0xFF800000#32) reducesTo_S128x5685x21_S128x5685_d2 h_S_)

set_option maxRecDepth 8192 in
/-- `main_v215`'s composed term of the arguments (named: it is used 3 times). -/
def res_main_v215 (V0 : Valuation τ sig (Elt F)) : (Proc.devRef .tc main_v215 : DevRef τ sig).ty.Contents (Elt F) :=
  broadcastInDim S128x1 ![0] bcast_S128_S128x1_0 (iotaInDim S128 32 0)

set_option maxRecDepth 8192 in
/-- `main_v217`'s composed term of the arguments (named: it is used 3 times). -/
def res_main_v217 (V0 : Valuation τ sig (Elt F)) : (Proc.devRef .tc main_v217 : DevRef τ sig).ty.Contents (Elt F) :=
  broadcastInDim S1x5685 ![1] bcast_S5685_S1x5685_1 (iotaInDim S5685 32 0)

set_option maxRecDepth 8192 in
/-- `main_v240`'s composed term of the arguments (named: it is used 2 times). -/
def res_main_v240 (V0 : Valuation τ sig (Elt F)) : (Proc.devRef .tc main_v240 : DevRef τ sig).ty.Contents (Elt F) :=
  Host.negf (Host.gather gather_S128x5685x21_S128x5685x3_S128x5685_n_012_n_n_012_2_111 (subf (subf (V0 (Proc.devRef .tc main_arg1)) (broadcastInDim S128x5685x21 ![0, 1, 2] bcast_S128x5685x1_S128x5685x21_0_1_2 (res_main_v203 V0))) (broadcastInDim S128x5685x21 ![0, 1, 2] bcast_S128x5685x1_S128x5685x21_0_1_2 (Host.log (broadcastInDim S128x5685x1 ![0, 1] bcast_S128x5685_S128x5685x1_0_1 (Host.reduceAdd (Host.exp (subf (V0 (Proc.devRef .tc main_arg1)) (broadcastInDim S128x5685x21 ![0, 1, 2] bcast_S128x5685x1_S128x5685x21_0_1_2 (res_main_v203 V0)))) (constant S_ .f32 0x00000000#32) reducesTo_S128x5685x21_S128x5685_d2 h_S_))))) ((concatenate S128x5685x3 2 [⟨S128x5685x1, ((broadcastInDim S128x5685x1 ![0, 1] bcast_S128x5685_S128x5685x1_0_1 (broadcastInDim S128x5685 ![0, 1] bcast_S128x1_S128x5685_0_1 (select (cmpi .slt (res_main_v215 V0) (broadcastInDim S128x1 ![] bcast_S_S128x1 (constantI S_ 32 0#32))) (addi (res_main_v215 V0) (broadcastInDim S128x1 ![] bcast_S_S128x1 (constantI S_ 32 128#32))) (res_main_v215 V0)))) : (⟨S128x5685x1, .i32⟩ : BufTy).Contents (Elt F))⟩, ⟨S128x5685x1, ((broadcastInDim S128x5685x1 ![0, 1] bcast_S128x5685_S128x5685x1_0_1 (broadcastInDim S128x5685 ![0, 1] bcast_S1x5685_S128x5685_0_1 (select (cmpi .slt (res_main_v217 V0) (broadcastInDim S1x5685 ![] bcast_S_S1x5685 (constantI S_ 32 0#32))) (addi (res_main_v217 V0) (broadcastInDim S1x5685 ![] bcast_S_S1x5685 (constantI S_ 32 5685#32))) (res_main_v217 V0)))) : (⟨S128x5685x1, .i32⟩ : BufTy).Contents (Elt F))⟩, ⟨S128x5685x1, ((broadcastInDim S128x5685x1 ![0, 1] bcast_S128x5685_S128x5685x1_0_1 (select (cmpi .slt (res_main_v137 V0) (broadcastInDim S128x5685 ![] bcast_S_S128x5685 (constantI S_ 32 0#32))) (addi (res_main_v137 V0) (broadcastInDim S128x5685 ![] bcast_S_S128x5685 (constantI S_ 32 21#32))) (res_main_v137 V0))) : (⟨S128x5685x1, .i32⟩ : BufTy).Contents (Elt F))⟩] concatenates_S128x5685x1_S128x5685x1_S128x5685x1_S128x5685x3_d2 : (⟨S128x5685x3, .i32⟩ : BufTy).Contents (Elt F))))

set_option maxRecDepth 8192 in
/-- `main_v263`'s composed term of the arguments (named: it is long). -/
def res_main_v263 (V0 : Valuation τ sig (Elt F)) : (Proc.devRef .tc main_v263 : DevRef τ sig).ty.Contents (Elt F) :=
  addf (Host.divf (addf (Host.reduceAdd (mulf (Host.negf (Host.sort S128x5685 1 comparator_f32_d1 (Host.negf (select (res_main_v187 V0) (broadcastInDim S128x5685 ![] bcast_S_S128x5685 (constant S_ .f32 0x00000000#32)) (res_main_v240 V0))))) (uitofp .f32 (cmpf .olt (broadcastInDim S128x5685 ![0, 1] bcast_S1x5685_S128x5685_0_1 (broadcastInDim S1x5685 ![1] bcast_S5685_S1x5685_1 (sitofp .f32 (iotaInDim S5685 32 0)))) (broadcastInDim S128x5685 ![0, 1] bcast_S128x1_S128x5685_0_1 (broadcastInDim S128x1 ![0] bcast_S128_S128x1_0 (mulf (broadcastInDim S128 ![] bcast_S_S128 (constant S_ .f32 0x40400000#32)) (res_main_v199 V0))))))) (constant S_ .f32 0x00000000#32) reducesTo_S128x5685_S_d0_1 h_S_) (Host.reduceAdd (mulf (res_main_v240 V0) (res_main_v188 V0)) (constant S_ .f32 0x00000000#32) reducesTo_S128x5685_S_d0_1 h_S_)) (maximumf (Host.reduceAdd (res_main_v199 V0) (constant S_ .f32 0x00000000#32) reducesTo_S128_S_d0 h_S_) (constant S_ .f32 0x3F800000#32))) (mulf (constant S_ .f32 0x3F800000#32) (Host.divf (Host.reduceAdd (mulf (Host.absf (subf (minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32))) (concatenate S128x5685x4 2 [⟨S128x5685x2, (Host.divf (subf (extractStridedSlice S128x5685x2 ![0, 0, 0] (res_main_v161 V0) slices_S128x5685x4_S128x5685x2_0_0_0) (broadcastInDim S128x5685x2 ![0, 1, 2] bcast_S1x5685x2_S128x5685x2_0_1_2 (broadcastInDim S1x5685x2 ![1, 2] bcast_S5685x2_S1x5685x2_1_2 (extractStridedSlice S5685x2 ![0, 0] (res_main_v8 V0) slices_S5685x4_S5685x2_0_0)))) (broadcastInDim S128x5685x2 ![0, 1, 2] bcast_S1x5685x2_S128x5685x2_0_1_2 (broadcastInDim S1x5685x2 ![1, 2] bcast_S5685x2_S1x5685x2_1_2 (Host.divf (extractStridedSlice S5685x2 ![0, 2] (res_main_v8 V0) slices_S5685x4_S5685x2_0_2) (broadcastInDim S5685x2 ![] bcast_S_S5685x2 (constant S_ .f32 0x41200000#32))))))⟩, ⟨S128x5685x2, (mulf (Host.log (Host.divf (maximumf (extractStridedSlice S128x5685x2 ![0, 0, 2] (res_main_v161 V0) slices_S128x5685x4_S128x5685x2_0_0_2) (broadcastInDim S128x5685x2 ![] bcast_S_S128x5685x2 (constant S_ .f32 0x358637BD#32))) (broadcastInDim S128x5685x2 ![0, 1, 2] bcast_S1x5685x2_S128x5685x2_0_1_2 (broadcastInDim S1x5685x2 ![1, 2] bcast_S5685x2_S1x5685x2_1_2 (maximumf (extractStridedSlice S5685x2 ![0, 2] (res_main_v8 V0) slices_S5685x4_S5685x2_0_2) (broadcastInDim S5685x2 ![] bcast_S_S5685x2 (constant S_ .f32 0x358637BD#32))))))) (broadcastInDim S128x5685x2 ![] bcast_S_S128x5685x2 (constant S_ .f32 0x40A00000#32)))⟩] concatenates_S128x5685x2_S128x5685x2_S128x5685x4_d2))) (broadcastInDim S128x5685x4 ![0, 1, 2] bcast_S128x5685x1_S128x5685x4_0_1_2 (broadcastInDim S128x5685x1 ![0, 1] bcast_S128x5685_S128x5685x1_0_1 (res_main_v188 V0)))) (constant S_ .f32 0x00000000#32) reducesTo_S128x5685x4_S_d0_1_2 h_S_) (maximumf (mulf (Host.reduceAdd (res_main_v188 V0) (constant S_ .f32 0x00000000#32) reducesTo_S128x5685_S_d0_1 h_S_) (constant S_ .f32 0x40800000#32)) (constant S_ .f32 0x3F800000#32))))

/-- `res_main_v263` by its position among the values @main returns, 0 counting from 0: the name for hand proofs to cite, since
    a re-print renumbers `main_v263`. An abbreviation: it unfolds to the `res_main_v263` that `run` states. -/
abbrev res_out0 (V0 : Valuation τ sig (Elt F)) : (Proc.devRef .tc main_v263 : DevRef τ sig).ty.Contents (Elt F) := res_main_v263 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

end Cert.ReferenceIdeal.Value

end
-- ==== Proof.RefRun.lean ====
/- The reference program's run: stretch by stretch, which buffers it writes and what they then hold, and at the
   end the result buffer at its term of the arguments. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_cst, main_v3, main_v4, main_v5, main_v6, main_v7, main_v8, main_v9, main_v10, main_v11, main_v12, main_v13, main_cst_0, main_v14, main_cst_1, main_v15, main_cst_2, main_v16, main_cst_3, main_v17, main_v18, main_v19, main_v20, main_v21, main_v22, main_cst_4, main_v23, main_v24, main_cst_5, main_v25, main_v26, main_v27, main_v28, main_v29, main_v30, main_v31, main_v32, main_v33, main_v34, main_v35, main_v36, main_v37, main_v38, main_v39, main_v40, main_v41, main_cst_6, main_v42, main_v43, main_v44, main_v45, main_v46, main_v47, main_v48, main_v49, main_v50, main_v51]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
set_option maxRecDepth 8192 in
set_option maxHeartbeats 2000000 in
theorem val1_main_v8 (V0 : Valuation τ sig (Elt F)) : val1 V0 (no_index (Proc.devRef .tc main_v8)) = res_main_v8 V0 := by
  unfold val1
  simp only [ops_part0]
  after_results_simp
  try dsimp only [Matrix.cons_val]
  try after_results_simp
  simp only [val0_main_arg4] <;> rfl
set_option maxRecDepth 8192 in
set_option maxHeartbeats 2000000 in
theorem val1_main_v26 (V0 : Valuation τ sig (Elt F)) : val1 V0 (no_index (Proc.devRef .tc main_v26)) = minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32)) := by
  unfold val1
  simp only [ops_part0]
  after_results_simp
  try dsimp only [Matrix.cons_val]
  try after_results_simp
  simp only [val0_main_arg0] <;> rfl
set_option maxRecDepth 8192 in
set_option maxHeartbeats 2000000 in
theorem val1_main_v48 (V0 : Valuation τ sig (Elt F)) : val1 V0 (no_index (Proc.devRef .tc main_v48)) = res_main_v48 V0 := by
  unfold val1
  simp only [ops_part0]
  after_results_simp
  try dsimp only [Matrix.cons_val]
  try after_results_simp
  simp only [val0_main_arg4, val0_main_arg2] <;> rfl
set_option maxRecDepth 8192 in
set_option maxHeartbeats 2000000 in
theorem val1_main_v50 (V0 : Valuation τ sig (Elt F)) : val1 V0 (no_index (Proc.devRef .tc main_v50)) = shapeCast _ (extractStridedSlice S128x32x1 ![0, 0, 2] (V0 (Proc.devRef .tc main_arg2)) slices_S128x32x4_S128x32x1_0_0_2) shapeCasts_S128x32x1_S128x32 := by
  unfold val1
  simp only [ops_part0]
  after_results_simp
  try dsimp only [Matrix.cons_val]
  try after_results_simp
  simp only [val0_main_arg2] <;> rfl
set_option maxRecDepth 8192 in
set_option maxHeartbeats 2000000 in
theorem val1_main_v51 (V0 : Valuation τ sig (Elt F)) : val1 V0 (no_index (Proc.devRef .tc main_v51)) = extractStridedSlice S128x32x1 ![0, 0, 0] (V0 (Proc.devRef .tc main_arg2)) slices_S128x32x4_S128x32x1_0_0_0 := by
  unfold val1
  simp only [ops_part0]
  after_results_simp
  try dsimp only [Matrix.cons_val]
  try after_results_simp
  simp only [val0_main_arg2] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_cst_7, main_v77, main_v78, main_v79, main_cst_8]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_v8 (V0 : Valuation τ sig (Elt F)) : val1_1 V0 (no_index (Proc.devRef .tc main_v8)) = res_main_v8 V0 :=
  (val1_1_keep V0 main_v8 (by decide)).trans (val1_main_v8 V0)
theorem val1_1_main_v26 (V0 : Valuation τ sig (Elt F)) : val1_1 V0 (no_index (Proc.devRef .tc main_v26)) = minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32)) :=
  (val1_1_keep V0 main_v26 (by decide)).trans (val1_main_v26 V0)
set_option maxRecDepth 8192 in
set_option maxHeartbeats 2000000 in
theorem val1_1_main_v79 (V0 : Valuation τ sig (Elt F)) : val1_1 V0 (no_index (Proc.devRef .tc main_v79)) = res_main_v79 V0 := by
  unfold val1_1
  simp only [ops_part1_0]
  after_results_simp
  simp only [val1_main_arg4, val1_main_arg2, val1_main_v51, val1_main_v50, val1_main_v48] <;> rfl
set_option maxRecDepth 8192 in
set_option maxHeartbeats 2000000 in
theorem val1_1_main_cst_8 (V0 : Valuation τ sig (Elt F)) : val1_1 V0 (no_index (Proc.devRef .tc main_cst_8)) = constant S_ .f32 0xFF800000#32 := by
  unfold val1_1
  simp only [ops_part1_0]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v80, main_call0_v0, main_call0_cst, main_call0_c, main_call0_v1_0, main_v81, main_call1_v0, main_call1_cst, main_call1_c, main_call1_v1_0, main_v82, main_v83, main_v84, main_v85, main_v86, main_c, main_v87, main_v88, main_c_9, main_v89, main_v90, main_v91, main_c_10, main_v92, main_v93, main_c_11, main_v94, main_v95, main_v96, main_v97]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v8 (V0 : Valuation τ sig (Elt F)) : val1_2 V0 (no_index (Proc.devRef .tc main_v8)) = res_main_v8 V0 :=
  (val1_2_keep V0 main_v8 (by decide)).trans (val1_1_main_v8 V0)
theorem val1_2_main_v26 (V0 : Valuation τ sig (Elt F)) : val1_2 V0 (no_index (Proc.devRef .tc main_v26)) = minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32)) :=
  (val1_2_keep V0 main_v26 (by decide)).trans (val1_1_main_v26 V0)
set_option maxRecDepth 8192 in
set_option maxHeartbeats 2000000 in
theorem val1_2_main_v80 (V0 : Valuation τ sig (Elt F)) : val1_2 V0 (no_index (Proc.devRef .tc main_v80)) = Host.reduce FloatOps.maximumf (res_main_v79 V0) (constant S_ .f32 0xFF800000#32) reducesTo_S128x32x5685_S128x5685_d1 h_S_ := by
  unfold val1_2
  simp only [ops_part1_1, TRef.nullary, TRef.quaternary, TRef.toBuf, TRef.ofBuf, cast_eq]
  after_results_simp
  simp only [val1_1_main_cst_8, val1_1_main_v79] <;> rfl
set_option maxRecDepth 8192 in
set_option maxHeartbeats 2000000 in
theorem val1_2_main_v81 (V0 : Valuation τ sig (Elt F)) : val1_2 V0 (no_index (Proc.devRef .tc main_v81)) = fun j => (Host.argReduce reducer_argmax_f32_i32 (res_main_v79 V0) (res_main_call0_v0 V0) (res_main_call0_cst V0) (res_main_call0_c V0) reducesTo_S128x32x5685_S128x5685_d1 h_S_ j).2 := by
  unfold val1_2
  simp only [ops_part1_1, TRef.nullary, TRef.quaternary, TRef.toBuf, TRef.ofBuf, cast_eq]
  after_results_simp
  simp only [val1_1_main_v79] <;> rfl
set_option maxRecDepth 8192 in
set_option maxHeartbeats 2000000 in
theorem val1_2_main_v82 (V0 : Valuation τ sig (Elt F)) : val1_2 V0 (no_index (Proc.devRef .tc main_v82)) = res_main_v82 V0 := by
  unfold val1_2
  simp only [ops_part1_1, TRef.nullary, TRef.quaternary, TRef.toBuf, TRef.ofBuf, cast_eq]
  after_results_simp
  simp only [val1_1_main_v79] <;> rfl
set_option maxRecDepth 8192 in
set_option maxHeartbeats 2000000 in
theorem val1_2_main_v84 (V0 : Valuation τ sig (Elt F)) : val1_2 V0 (no_index (Proc.devRef .tc main_v84)) = res_main_v84 V0 := by
  unfold val1_2
  simp only [ops_part1_1, TRef.nullary, TRef.quaternary, TRef.toBuf, TRef.ofBuf, cast_eq]
  after_results_simp
  all_goals rfl
set_option maxRecDepth 8192 in
set_option maxHeartbeats 2000000 in
theorem val1_2_main_v86 (V0 : Valuation τ sig (Elt F)) : val1_2 V0 (no_index (Proc.devRef .tc main_v86)) = broadcastInDim S1x32 ![1] bcast_S32_S1x32_1 (iotaInDim S32 32 0) := by
  unfold val1_2
  simp only [ops_part1_1, TRef.nullary, TRef.quaternary, TRef.toBuf, TRef.ofBuf, cast_eq]
  after_results_simp
  all_goals rfl
set_option maxRecDepth 8192 in
set_option maxHeartbeats 2000000 in
theorem val1_2_main_v96 (V0 : Valuation τ sig (Elt F)) : val1_2 V0 (no_index (Proc.devRef .tc main_v96)) = select (cmpi .slt (res_main_v82 V0) (broadcastInDim S128x32 ![] bcast_S_S128x32 (constantI S_ 32 0#32))) (addi (res_main_v82 V0) (broadcastInDim S128x32 ![] bcast_S_S128x32 (constantI S_ 32 5685#32))) (res_main_v82 V0) := by
  unfold val1_2
  simp only [ops_part1_1, TRef.nullary, TRef.quaternary, TRef.toBuf, TRef.ofBuf, cast_eq]
  after_results_simp
  simp only [val1_1_main_v79] <;> rfl
set_option maxRecDepth 8192 in
set_option maxHeartbeats 2000000 in
theorem val1_2_main_v97 (V0 : Valuation τ sig (Elt F)) : val1_2 V0 (no_index (Proc.devRef .tc main_v97)) = broadcastInDim S128x32 ![0, 1] bcast_S128x1_S128x32_0_1 (select (cmpi .slt (res_main_v84 V0) (broadcastInDim S128x1 ![] bcast_S_S128x1 (constantI S_ 32 0#32))) (addi (res_main_v84 V0) (broadcastInDim S128x1 ![] bcast_S_S128x1 (constantI S_ 32 128#32))) (res_main_v84 V0)) := by
  unfold val1_2
  simp only [ops_part1_1, TRef.nullary, TRef.quaternary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v98, main_v99, main_v100, main_v101, main_v102, main_c_12, main_v103, main_v104]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v8 (V0 : Valuation τ sig (Elt F)) : val2 V0 (no_index (Proc.devRef .tc main_v8)) = res_main_v8 V0 :=
  (val2_keep V0 main_v8 (by decide)).trans (val1_2_main_v8 V0)
theorem val2_main_v26 (V0 : Valuation τ sig (Elt F)) : val2 V0 (no_index (Proc.devRef .tc main_v26)) = minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32)) :=
  (val2_keep V0 main_v26 (by decide)).trans (val1_2_main_v26 V0)
theorem val2_main_v80 (V0 : Valuation τ sig (Elt F)) : val2 V0 (no_index (Proc.devRef .tc main_v80)) = Host.reduce FloatOps.maximumf (res_main_v79 V0) (constant S_ .f32 0xFF800000#32) reducesTo_S128x32x5685_S128x5685_d1 h_S_ :=
  (val2_keep V0 main_v80 (by decide)).trans (val1_2_main_v80 V0)
theorem val2_main_v82 (V0 : Valuation τ sig (Elt F)) : val2 V0 (no_index (Proc.devRef .tc main_v82)) = res_main_v82 V0 :=
  (val2_keep V0 main_v82 (by decide)).trans (val1_2_main_v82 V0)
theorem val2_main_v84 (V0 : Valuation τ sig (Elt F)) : val2 V0 (no_index (Proc.devRef .tc main_v84)) = res_main_v84 V0 :=
  (val2_keep V0 main_v84 (by decide)).trans (val1_2_main_v84 V0)
set_option maxRecDepth 8192 in
theorem val2_main_v102 (V0 : Valuation τ sig (Elt F)) : val2 V0 (no_index (Proc.devRef .tc main_v102)) = res_main_v102 V0 := by
  unfold val2
  simp only [ops_part1_2]
  after_results_simp
  simp only [val1_2_main_v86, val1_2_main_v96, val1_2_main_v97, val1_2_main_v81] <;> rfl
set_option maxRecDepth 8192 in
theorem val2_main_v104 (V0 : Valuation τ sig (Elt F)) : val2 V0 (no_index (Proc.devRef .tc main_v104)) = cmpi .slt (res_main_v84 V0) (broadcastInDim S128x1 ![] bcast_S_S128x1 (constantI S_ 32 0#32)) := by
  unfold val2
  simp only [ops_part1_2]
  after_results_simp
  simp only [val1_2_main_v84] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_c_13, main_v105, main_v106, main_v107, main_c_14, main_v108, main_v109, main_c_15, main_v110, main_v111, main_v112, main_v113, main_v114, main_v115, main_v116, main_cst_16, main_v117, main_v118, main_c_17, main_v119, main_v120, main_c_18, main_v121, main_v122, main_v123, main_c_19, main_v124, main_v125, main_c_20, main_v126, main_v127, main_v128, main_v129, main_v130, main_v131, main_v132, main_v133, main_c_21, main_v134, main_cst_22, main_v135, main_v136, main_v137, main_c_23, main_v138, main_v139, main_c_24, main_v140, main_v141, main_v142, main_c_25, main_v143, main_v144, main_c_26, main_v145, main_v146, main_v147, main_v148, main_v149, main_v150]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v8 (V0 : Valuation τ sig (Elt F)) : val3 V0 (no_index (Proc.devRef .tc main_v8)) = res_main_v8 V0 :=
  (val3_keep V0 main_v8 (by decide)).trans (val2_main_v8 V0)
theorem val3_main_v26 (V0 : Valuation τ sig (Elt F)) : val3 V0 (no_index (Proc.devRef .tc main_v26)) = minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32)) :=
  (val3_keep V0 main_v26 (by decide)).trans (val2_main_v26 V0)
set_option maxRecDepth 8192 in
set_option maxHeartbeats 2000000 in
theorem val3_main_v137 (V0 : Valuation τ sig (Elt F)) : val3 V0 (no_index (Proc.devRef .tc main_v137)) = res_main_v137 V0 := by
  unfold val3
  simp only [ops_part2]
  after_results_simp
  simp only [val2_main_v102, val2_main_v84, val2_main_arg3, val2_main_v82, val2_main_v104, val2_main_v80] <;> rfl
set_option maxRecDepth 8192 in
set_option maxHeartbeats 2000000 in
theorem val3_main_v149 (V0 : Valuation τ sig (Elt F)) : val3 V0 (no_index (Proc.devRef .tc main_v149)) = broadcastInDim S128x5685x1 ![0, 1] bcast_S128x5685_S128x5685x1_0_1 (broadcastInDim S128x5685 ![0, 1] bcast_S128x1_S128x5685_0_1 (select (cmpi .slt (res_main_v84 V0) (broadcastInDim S128x1 ![] bcast_S_S128x1 (constantI S_ 32 0#32))) (addi (res_main_v84 V0) (broadcastInDim S128x1 ![] bcast_S_S128x1 (constantI S_ 32 128#32))) (res_main_v84 V0))) := by
  unfold val3
  simp only [ops_part2]
  after_results_simp
  simp only [val2_main_v84] <;> rfl
set_option maxRecDepth 8192 in
set_option maxHeartbeats 2000000 in
theorem val3_main_v150 (V0 : Valuation τ sig (Elt F)) : val3 V0 (no_index (Proc.devRef .tc main_v150)) = broadcastInDim S128x5685x1 ![0, 1] bcast_S128x5685_S128x5685x1_0_1 (select (cmpi .slt (res_main_v102 V0) (broadcastInDim S128x5685 ![] bcast_S_S128x5685 (constantI S_ 32 0#32))) (addi (res_main_v102 V0) (broadcastInDim S128x5685 ![] bcast_S_S128x5685 (constantI S_ 32 32#32))) (res_main_v102 V0)) := by
  unfold val3
  simp only [ops_part2]
  after_results_simp
  simp only [val2_main_v102] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v151, main_v152, main_v153, main_v154, main_v155, main_cst_27, main_v156, main_v157, main_v158, main_v159, main_v160, main_v161, main_v162, main_v163, main_v164, main_v165, main_v166, main_v167, main_cst_28, main_v168, main_v169, main_v170, main_v171, main_v172, main_v173, main_cst_29, main_v174, main_v175, main_v176, main_cst_30, main_v177, main_v178, main_v179, main_v180, main_v181, main_v182, main_cst_31, main_v183, main_v184, main_v185, main_c_32, main_v186, main_v187, main_v188, main_cst_33, main_v189, main_cst_34, main_v190, main_cst_35, main_v191, main_v192, main_v193, main_v194, main_v195, main_v196, main_cst_36, main_v197, main_v198, main_cst_37, main_v199]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v137 (V0 : Valuation τ sig (Elt F)) : val4 V0 (no_index (Proc.devRef .tc main_v137)) = res_main_v137 V0 :=
  (val4_keep V0 main_v137 (by decide)).trans (val3_main_v137 V0)
set_option maxRecDepth 8192 in
set_option maxHeartbeats 2000000 in
theorem val4_main_v187 (V0 : Valuation τ sig (Elt F)) : val4 V0 (no_index (Proc.devRef .tc main_v187)) = res_main_v187 V0 := by
  unfold val4
  simp only [ops_part3]
  after_results_simp
  simp only [val3_main_v137] <;> rfl
set_option maxRecDepth 8192 in
set_option maxHeartbeats 2000000 in
theorem val4_main_v188 (V0 : Valuation τ sig (Elt F)) : val4 V0 (no_index (Proc.devRef .tc main_v188)) = res_main_v188 V0 := by
  unfold val4
  simp only [ops_part3]
  after_results_simp
  simp only [val3_main_v137] <;> rfl
set_option maxRecDepth 8192 in
set_option maxHeartbeats 2000000 in
theorem val4_main_v198 (V0 : Valuation τ sig (Elt F)) : val4 V0 (no_index (Proc.devRef .tc main_v198)) = Host.divf (Host.reduceAdd (mulf (Host.absf (subf (minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32))) (concatenate S128x5685x4 2 [⟨S128x5685x2, (Host.divf (subf (extractStridedSlice S128x5685x2 ![0, 0, 0] (res_main_v161 V0) slices_S128x5685x4_S128x5685x2_0_0_0) (broadcastInDim S128x5685x2 ![0, 1, 2] bcast_S1x5685x2_S128x5685x2_0_1_2 (broadcastInDim S1x5685x2 ![1, 2] bcast_S5685x2_S1x5685x2_1_2 (extractStridedSlice S5685x2 ![0, 0] (res_main_v8 V0) slices_S5685x4_S5685x2_0_0)))) (broadcastInDim S128x5685x2 ![0, 1, 2] bcast_S1x5685x2_S128x5685x2_0_1_2 (broadcastInDim S1x5685x2 ![1, 2] bcast_S5685x2_S1x5685x2_1_2 (Host.divf (extractStridedSlice S5685x2 ![0, 2] (res_main_v8 V0) slices_S5685x4_S5685x2_0_2) (broadcastInDim S5685x2 ![] bcast_S_S5685x2 (constant S_ .f32 0x41200000#32))))))⟩, ⟨S128x5685x2, (mulf (Host.log (Host.divf (maximumf (extractStridedSlice S128x5685x2 ![0, 0, 2] (res_main_v161 V0) slices_S128x5685x4_S128x5685x2_0_0_2) (broadcastInDim S128x5685x2 ![] bcast_S_S128x5685x2 (constant S_ .f32 0x358637BD#32))) (broadcastInDim S128x5685x2 ![0, 1, 2] bcast_S1x5685x2_S128x5685x2_0_1_2 (broadcastInDim S1x5685x2 ![1, 2] bcast_S5685x2_S1x5685x2_1_2 (maximumf (extractStridedSlice S5685x2 ![0, 2] (res_main_v8 V0) slices_S5685x4_S5685x2_0_2) (broadcastInDim S5685x2 ![] bcast_S_S5685x2 (constant S_ .f32 0x358637BD#32))))))) (broadcastInDim S128x5685x2 ![] bcast_S_S128x5685x2 (constant S_ .f32 0x40A00000#32)))⟩] concatenates_S128x5685x2_S128x5685x2_S128x5685x4_d2))) (broadcastInDim S128x5685x4 ![0, 1, 2] bcast_S128x5685x1_S128x5685x4_0_1_2 (broadcastInDim S128x5685x1 ![0, 1] bcast_S128x5685_S128x5685x1_0_1 (res_main_v188 V0)))) (constant S_ .f32 0x00000000#32) reducesTo_S128x5685x4_S_d0_1_2 h_S_) (maximumf (mulf (Host.reduceAdd (res_main_v188 V0) (constant S_ .f32 0x00000000#32) reducesTo_S128x5685_S_d0_1 h_S_) (constant S_ .f32 0x40800000#32)) (constant S_ .f32 0x3F800000#32)) := by
  unfold val4
  simp only [ops_part3]
  after_results_simp
  simp only [val3_main_v137, val3_main_v8, val3_main_v150, val3_main_v149, val3_main_arg2, val3_main_v26] <;> rfl
set_option maxRecDepth 8192 in
set_option maxHeartbeats 2000000 in
theorem val4_main_v199 (V0 : Valuation τ sig (Elt F)) : val4 V0 (no_index (Proc.devRef .tc main_v199)) = res_main_v199 V0 := by
  unfold val4
  simp only [ops_part3]
  after_results_simp
  simp only [val3_main_v137] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_cst_38, main_v200, main_v201, main_cst_39, main_v202, main_v203, main_v204, main_v205, main_v206, main_v207, main_v208, main_cst_40, main_v209, main_v210, main_v211, main_v212, main_v213, main_v214, main_v215, main_v216, main_v217, main_c_41, main_v218, main_v219, main_c_42, main_v220, main_v221, main_v222, main_c_43, main_v223, main_v224, main_c_44, main_v225, main_v226, main_v227, main_c_45, main_v228, main_v229, main_c_46, main_v230, main_v231, main_v232, main_v233, main_v234, main_v235, main_v236, main_v237, main_v238, main_v239, main_v240, main_v241, main_cst_47, main_v242, main_cst_48, main_v243, main_v244, main_v245, main_v246, main_v247, main_v248]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_v198 (V0 : Valuation τ sig (Elt F)) : val5 V0 (no_index (Proc.devRef .tc main_v198)) = Host.divf (Host.reduceAdd (mulf (Host.absf (subf (minimumf (maximumf ((concatenate S128x5685x4 2 [⟨S128x5685x1, ((broadcastInDim S128x5685x1 ![0, 1] bcast_S128x5685_S128x5685x1_0_1 (Host.reduce FloatOps.minimumf (res_main_v11 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.minimumf (res_main_v13 V0) (constant S_ .f32 0x7F800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v11 V0) (constant S_ .f32 0xFF800000#32) reducesTo_S128x5685x9_S128x5685_d2 h_S_)) : (⟨S128x5685x1, .f32⟩ : BufTy).Contents (Elt F))⟩, ⟨S128x5685x1, ((broadcastInDim S128x5685x1 ![0, 1] bcast_S128x5685_S128x5685x1_0_1 (Host.reduce FloatOps.maximumf (res_main_v13 V0) (constant S_ .f32 0xFF800000#32) reducesTo_S128x5685x9_S128x5685_d2 h_S_)) : (⟨S128x5685x1, .f32⟩ : BufTy).Contents (Elt F))⟩] concatenates_S128x5685x1_S128x5685x1_S128x5685x1_S128x5685x1_S128x5685x4_d2 : (⟨S128x5685x4, .f32⟩ : BufTy).Contents (Elt F))) (broadcastInDim S128x5685x4 ![] bcast_S_S128x5685x4 (constant S_ .f32 0x00000000#32))) (broadcastInDim S128x5685x4 ![] bcast_S_S128x5685x4 (constant S_ .f32 0x3F800000#32))) (concatenate S128x5685x4 2 [⟨S128x5685x2, (Host.divf (subf (extractStridedSlice S128x5685x2 ![0, 0, 0] (res_main_v161 V0) slices_S128x5685x4_S128x5685x2_0_0_0) (broadcastInDim S128x5685x2 ![0, 1, 2] bcast_S1x5685x2_S128x5685x2_0_1_2 (broadcastInDim S1x5685x2 ![1, 2] bcast_S5685x2_S1x5685x2_1_2 (extractStridedSlice S5685x2 ![0, 0] (res_main_v8 V0) slices_S5685x4_S5685x2_0_0)))) (broadcastInDim S128x5685x2 ![0, 1, 2] bcast_S1x5685x2_S128x5685x2_0_1_2 (broadcastInDim S1x5685x2 ![1, 2] bcast_S5685x2_S1x5685x2_1_2 (Host.divf (extractStridedSlice S5685x2 ![0, 2] (res_main_v8 V0) slices_S5685x4_S5685x2_0_2) (broadcastInDim S5685x2 ![] bcast_S_S5685x2 (constant S_ .f32 0x41200000#32))))))⟩, ⟨S128x5685x2, (mulf (Host.log (Host.divf (maximumf (extractStridedSlice S128x5685x2 ![0, 0, 2] (res_main_v161 V0) slices_S128x5685x4_S128x5685x2_0_0_2) (broadcastInDim S128x5685x2 ![] bcast_S_S128x5685x2 (constant S_ .f32 0x358637BD#32))) (broadcastInDim S128x5685x2 ![0, 1, 2] bcast_S1x5685x2_S128x5685x2_0_1_2 (broadcastInDim S1x5685x2 ![1, 2] bcast_S5685x2_S1x5685x2_1_2 (maximumf (extractStridedSlice S5685x2 ![0, 2] (res_main_v8 V0) slices_S5685x4_S5685x2_0_2) (broadcastInDim S5685x2 ![] bcast_S_S5685x2 (constant S_ .f32 0x358637BD#32))))))) (broadcastInDim S128x5685x2 ![] bcast_S_S128x5685x2 (constant S_ .f32 0x40A00000#32)))⟩] concatenates_S128x5685x2_S128x5685x2_S128x5685x4_d2))) (broadcastInDim S128x5685x4 ![0, 1, 2] bcast_S128x5685x1_S128x5685x4_0_1_2 (broadcastInDim S128x5685x1 ![0, 1] bcast_S128x5685_S128x5685x1_0_1 (res_main_v188 V0)))) (constant S_ .f32 0x00000000#32) reducesTo_S128x5685x4_S_d0_1_2 h_S_) (maximumf (mulf (Host.reduceAdd (res_main_v188 V0) (constant S_ .f32 0x00000000#32) reducesTo_S128x5685_S_d0_1 h_S_) (constant S_ .f32 0x40800000#32)) (constant S_ .f32 0x3F800000#32)) :=
  (val5_keep V0 main_v198 (by decide)).trans (val4_main_v198 V0)
theorem val5_main_v199 (V0 : Valuation τ sig (Elt F)) : val5 V0 (no_index (Proc.devRef .tc main_v199)) = res_main_v199 V0 :=
  (val5_keep V0 main_v199 (by decide)).trans (val4_main_v199 V0)
set_option maxRecDepth 8192 in
set_option maxHeartbeats 2000000 in
theorem val5_main_v201 (V0 : Valuation τ sig (Elt F)) : val5 V0 (no_index (Proc.devRef .tc main_v201)) = mulf (broadcastInDim S128 ![] bcast_S_S128 (constant S_ .f32 0x40400000#32)) (res_main_v199 V0) := by
  unfold val5
  simp only [ops_part4]
  after_results_simp
  try dsimp only [Matrix.cons_val]
  try after_results_simp
  simp only [val4_main_v199] <;> rfl
set_option maxRecDepth 8192 in
set_option maxHeartbeats 2000000 in
theorem val5_main_v242 (V0 : Valuation τ sig (Elt F)) : val5 V0 (no_index (Proc.devRef .tc main_v242)) = Host.reduceAdd (mulf (res_main_v240 V0) (res_main_v188 V0)) (constant S_ .f32 0x00000000#32) reducesTo_S128x5685_S_d0_1 h_S_ := by
  unfold val5
  simp only [ops_part4]
  after_results_simp
  try dsimp only [Matrix.cons_val]
  try after_results_simp
  simp only [val4_main_v188, val4_main_v137, val4_main_arg1] <;> rfl
set_option maxRecDepth 8192 in
set_option maxHeartbeats 2000000 in
theorem val5_main_v247 (V0 : Valuation τ sig (Elt F)) : val5 V0 (no_index (Proc.devRef .tc main_v247)) = Host.negf (Host.sort S128x5685 1 comparator_f32_d1 (Host.negf (select (res_main_v187 V0) (broadcastInDim S128x5685 ![] bcast_S_S128x5685 (constant S_ .f32 0x00000000#32)) (res_main_v240 V0)))) := by
  unfold val5
  simp only [ops_part4]
  after_results_simp
  try dsimp only [Matrix.cons_val]
  try after_results_simp
  simp only [val4_main_v137, val4_main_arg1, val4_main_v187] <;> rfl
set_option maxRecDepth 8192 in
set_option maxHeartbeats 2000000 in
theorem val5_main_v248 (V0 : Valuation τ sig (Elt F)) : val5 V0 (no_index (Proc.devRef .tc main_v248)) = iotaInDim S5685 32 0 := by
  unfold val5
  simp only [ops_part4]
  after_results_simp
  try dsimp only [Matrix.cons_val]
  try after_results_simp
  all_goals rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v249, main_v250, main_v251, main_v252, main_v253, main_v254, main_v255, main_v256, main_cst_49, main_v257, main_v258, main_cst_50, main_v259, main_cst_51, main_v260, main_v261, main_cst_52, main_v262, main_v263]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
set_option maxRecDepth 8192 in
set_option maxHeartbeats 1900000 in
theorem val6_main_v263 (V0 : Valuation τ sig (Elt F)) : val6 V0 (no_index (Proc.devRef .tc main_v263)) = res_main_v263 V0 := by
  unfold val6
  simp only [ops_part5]
  after_results_simp
  simp only [val5_main_v198, val5_main_v199, val5_main_v242, val5_main_v201, val5_main_v248, val5_main_v247] <;> rfl

theorem after_ops (V0 : Valuation τ sig (Elt F)) : after ops V0 = val6 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v263) = res_main_v263 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v263).trans ((congrFun (after_ops (launchContents m c)) (Proc.devRef .tc main_v263)).trans (val6_main_v263 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c))),
      (h c main_arg3).trans ((congrFun (after_ops (launchContents m c)) (Proc.devRef .tc main_arg3)).trans (val6_main_arg3 (launchContents m c))),
      (h c main_arg4).trans ((congrFun (after_ops (launchContents m c)) (Proc.devRef .tc main_arg4)).trans (val6_main_arg4 (launchContents m c)))⟩)
    (run_seq scopedRefs_eq scopedSems_eq defs main (fun _ => ops) main_eq (fun _ => ops_sub) m ρ fun _ => ops_fresh)

end Cert.ReferenceIdeal.Value

end
-- ==== Proof.RefReadA.lean ====
/- The reference's matching stage, one definition per operation, each read at an index. -/
module

public import proofs.«01_k».proof.Proof.Gen.ReferenceIdeal
public import Idealize.ShloMosaic.Lib.StableHlo.Run
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x4 : (⟨S5685x4, .f32⟩ : BufTy).Contents (Elt F)) : (⟨S5685x2, .f32⟩ : BufTy).Contents (Elt F) :=
  extractStridedSlice S5685x2 ![0, 2] (x4) slices_S5685x4_S5685x2_0_2
abbrev idx_main_v0 (i : S5685x2.Idx) : S5685x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v0_apply (x4 : (⟨S5685x4, .f32⟩ : BufTy).Contents (Elt F)) (i : S5685x2.Idx) :
    val_main_v0 (F := F) x4 i = x4 (idx_main_v0 i) := by
  unfold val_main_v0
  exact extractStridedSlice_apply ![0, 2] x4 slices_S5685x4_S5685x2_0_2 i (idx_main_v0 i) (fun a => match a with
    | ⟨0, _⟩ => by show (i 0).val = 0 + (i 0).val; omega
    | ⟨1, _⟩ => by show 2 + (i 1).val = 2 + (i 1).val; omega)

def val_main_v1 (x4 : (⟨S5685x4, .f32⟩ : BufTy).Contents (Elt F)) : (⟨S5685x2, .f32⟩ : BufTy).Contents (Elt F) :=
  extractStridedSlice S5685x2 ![0, 0] (x4) slices_S5685x4_S5685x2_0_0
abbrev idx_main_v1 (i : S5685x2.Idx) : S5685x4.Idx := fun a => match a with
  | ⟨0, _⟩ => ⟨(i 0).val, (i 0).isLt⟩
  | ⟨1, _⟩ => ⟨(i 1).val, by have h1 : (i 1).val < 2 := (i 1).isLt; show (i 1).val < 4; omega⟩
theorem val_main_v1_apply (x4 : (⟨S5685x4, .f32⟩ : BufTy).Contents (Elt F)) (i : S5685x2.Idx) :
    val_main_v1 (F := F) x4 i = x4 (idx_main_v1 i) := by
  unfold val_main_v1
  exact extractStridedSlice_apply ![0, 0] x4 slices_S5685x4_S5685x2_0_0 i (idx_main_v1 i) (fun a => match a with
    | ⟨0, _⟩ => by show (i 0).val = 0 + (i 0).val; omega
    | ⟨1, _⟩ => by show (i 1).val = 0 + (i 1).val; omega)

def val_main_v2 (x4 : (⟨S5685x4, .f32⟩ : BufTy).Contents (Elt F)) : (⟨S5685x2, .f32⟩ : BufTy).Contents (Elt F) :=
  addf (val_main_v0 (F := F) x4) (val_main_v1 (F := F) x4)
theorem val_main_v2_apply (x4 : (⟨S5685x4, .f32⟩ : BufTy).Contents (Elt F)) (i : S5685x2.Idx) :
    val_main_v2 (F := F) x4 i = FloatOps.addf (val_main_v0 (F := F) x4 i) (val_main_v1 (F := F) x4 i) := rfl

def val_main_cst : (⟨S_, .f32⟩ : BufTy).Contents (Elt F) :=
  constant S_ .f32 0x40000000#32
theorem val_main_cst_apply (i : S_.Idx) :
    val_main_cst (F := F) i = FloatOps.ofBits .f32 0x40000000#32 := rfl

def val_main_v3 : (⟨S5685x2, .f32⟩ : BufTy).Contents (Elt F) :=
  broadcastInDim S5685x2 ![] bcast_S_S5685x2 (val_main_cst (F := F))
abbrev idx_main_v3 (i : S5685x2.Idx) : S_.Idx := fun a => a.elim0
theorem val_main_v3_apply (i : S5685x2.Idx) :
    val_main_v3 (F := F) i = val_main_cst (F := F) (idx_main_v3 i) := by
  unfold val_main_v3
  generalize val_main_cst (F := F) = y
  exact broadcastInDim_apply _ bcast_S_S5685x2 y i (idx_main_v3 i) (fun a => a.elim0)

def val_main_v4 (x4 : (⟨S5685x4, .f32⟩ : BufTy).Contents (Elt F)) : (⟨S5685x2, .f32⟩ : BufTy).Contents (Elt F) :=
  Host.divf (val_main_v2 (F := F) x4) (val_main_v3 (F := F))
theorem val_main_v4_apply (x4 : (⟨S5685x4, .f32⟩ : BufTy).Contents (Elt F)) (i : S5685x2.Idx) :
    val_main_v4 (F := F) x4 i = FloatOps.hostDivf (val_main_v2 (F := F) x4 i) (val_main_v3 (F := F) i) := rfl

def val_main_v5 (x4 : (⟨S5685x4, .f32⟩ : BufTy).Contents (Elt F)) : (⟨S5685x2, .f32⟩ : BufTy).Contents (Elt F) :=
  extractStridedSlice S5685x2 ![0, 2] (x4) slices_S5685x4_S5685x2_0_2
abbrev idx_main_v5 (i : S5685x2.Idx) : S5685x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v5_apply (x4 : (⟨S5685x4, .f32⟩ : BufTy).Contents (Elt F)) (i : S5685x2.Idx) :
    val_main_v5 (F := F) x4 i = x4 (idx_main_v5 i) := by
  unfold val_main_v5
  exact extractStridedSlice_apply ![0, 2] x4 slices_S5685x4_S5685x2_0_2 i (idx_main_v5 i) (fun a => match a with
    | ⟨0, _⟩ => by show (i 0).val = 0 + (i 0).val; omega
    | ⟨1, _⟩ => by show 2 + (i 1).val = 2 + (i 1).val; omega)

def val_main_v6 (x4 : (⟨S5685x4, .f32⟩ : BufTy).Contents (Elt F)) : (⟨S5685x2, .f32⟩ : BufTy).Contents (Elt F) :=
  extractStridedSlice S5685x2 ![0, 0] (x4) slices_S5685x4_S5685x2_0_0
abbrev idx_main_v6 (i : S5685x2.Idx) : S5685x4.Idx := fun a => match a with
  | ⟨0, _⟩ => ⟨(i 0).val, (i 0).isLt⟩
  | ⟨1, _⟩ => ⟨(i 1).val, by have h1 : (i 1).val < 2 := (i 1).isLt; show (i 1).val < 4; omega⟩
theorem val_main_v6_apply (x4 : (⟨S5685x4, .f32⟩ : BufTy).Contents (Elt F)) (i : S5685x2.Idx) :
    val_main_v6 (F := F) x4 i = x4 (idx_main_v6 i) := by
  unfold val_main_v6
  exact extractStridedSlice_apply ![0, 0] x4 slices_S5685x4_S5685x2_0_0 i (idx_main_v6 i) (fun a => match a with
    | ⟨0, _⟩ => by show (i 0).val = 0 + (i 0).val; omega
    | ⟨1, _⟩ => by show (i 1).val = 0 + (i 1).val; omega)

def val_main_v7 (x4 : (⟨S5685x4, .f32⟩ : BufTy).Contents (Elt F)) : (⟨S5685x2, .f32⟩ : BufTy).Contents (Elt F) :=
  subf (val_main_v5 (F := F) x4) (val_main_v6 (F := F) x4)
theorem val_main_v7_apply (x4 : (⟨S5685x4, .f32⟩ : BufTy).Contents (Elt F)) (i : S5685x2.Idx) :
    val_main_v7 (F := F) x4 i = FloatOps.subf (val_main_v5 (F := F) x4 i) (val_main_v6 (F := F) x4 i) := rfl

def val_main_v8 (x4 : (⟨S5685x4, .f32⟩ : BufTy).Contents (Elt F)) : (⟨S5685x4, .f32⟩ : BufTy).Contents (Elt F) :=
  concatenate S5685x4 1 [⟨S5685x2, (val_main_v4 (F := F) x4)⟩, ⟨S5685x2, (val_main_v7 (F := F) x4)⟩] concatenates_S5685x2_S5685x2_S5685x4_d1

def val_main_v9 (x0 : (⟨S128x5685x18, .f32⟩ : BufTy).Contents (Elt F)) : (⟨S128x5685x2x9, .f32⟩ : BufTy).Contents (Elt F) :=
  shapeCast _ (x0) shapeCasts_S128x5685x18_S128x5685x2x9
abbrev idx_main_v9 (i : S128x5685x2x9.Idx) : S128x5685x18.Idx := fun a => match a with
  | ⟨0, _⟩ => ⟨((((i 0).val * 5685 + (i 1).val) * 2 + (i 2).val) * 9 + (i 3).val) / 102330, by have h0 : (i 0).val < 128 := (i 0).isLt; have h1 : (i 1).val < 5685 := (i 1).isLt; have h2 : (i 2).val < 2 := (i 2).isLt; have h3 : (i 3).val < 9 := (i 3).isLt; show ((((i 0).val * 5685 + (i 1).val) * 2 + (i 2).val) * 9 + (i 3).val) / 102330 < 128; omega⟩
  | ⟨1, _⟩ => ⟨((((i 0).val * 5685 + (i 1).val) * 2 + (i 2).val) * 9 + (i 3).val) / 18 % 5685, by have h0 : (i 0).val < 128 := (i 0).isLt; have h1 : (i 1).val < 5685 := (i 1).isLt; have h2 : (i 2).val < 2 := (i 2).isLt; have h3 : (i 3).val < 9 := (i 3).isLt; show ((((i 0).val * 5685 + (i 1).val) * 2 + (i 2).val) * 9 + (i 3).val) / 18 % 5685 < 5685; omega⟩
  | ⟨2, _⟩ => ⟨((((i 0).val * 5685 + (i 1).val) * 2 + (i 2).val) * 9 + (i 3).val) % 18, by have h0 : (i 0).val < 128 := (i 0).isLt; have h1 : (i 1).val < 5685 := (i 1).isLt; have h2 : (i 2).val < 2 := (i 2).isLt; have h3 : (i 3).val < 9 := (i 3).isLt; show ((((i 0).val * 5685 + (i 1).val) * 2 + (i 2).val) * 9 + (i 3).val) % 18 < 18; omega⟩
theorem val_main_v9_apply (x0 : (⟨S128x5685x18, .f32⟩ : BufTy).Contents (Elt F)) (i : S128x5685x2x9.Idx) :
    val_main_v9 (F := F) x0 i = x0 (idx_main_v9 i) := by
  unfold val_main_v9
  exact shapeCast_apply x0 shapeCasts_S128x5685x18_S128x5685x2x9 i (idx_main_v9 i)
    (by rewrite [Shape.rowMajor_val_three, Shape.rowMajor_val_four]; have h0 : (i 0).val < 128 := (i 0).isLt; have h1 : (i 1).val < 5685 := (i 1).isLt; have h2 : (i 2).val < 2 := (i 2).isLt; have h3 : (i 3).val < 9 := (i 3).isLt; show (((((i 0).val * 5685 + (i 1).val) * 2 + (i 2).val) * 9 + (i 3).val) / 102330 * 5685 + ((((i 0).val * 5685 + (i 1).val) * 2 + (i 2).val) * 9 + (i 3).val) / 18 % 5685) * 18 + ((((i 0).val * 5685 + (i 1).val) * 2 + (i 2).val) * 9 + (i 3).val) % 18 = (((i 0).val * 5685 + (i 1).val) * 2 + (i 2).val) * 9 + (i 3).val; omega)

def val_main_v10 (x0 : (⟨S128x5685x18, .f32⟩ : BufTy).Contents (Elt F)) : (⟨S128x5685x1x9, .f32⟩ : BufTy).Contents (Elt F) :=
  extractStridedSlice S128x5685x1x9 ![0, 0, 0, 0] (val_main_v9 (F := F) x0) slices_S128x5685x2x9_S128x5685x1x9_0_0_0_0
abbrev idx_main_v10 (i : S128x5685x1x9.Idx) : S128x5685x2x9.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v10_apply (x0 : (⟨S128x5685x18, .f32⟩ : BufTy).Contents (Elt F)) (i : S128x5685x1x9.Idx) :
    val_main_v10 (F := F) x0 i = val_main_v9 (F := F) x0 (idx_main_v10 i) := by
  unfold val_main_v10
  generalize val_main_v9 (F := F) x0 = y
  exact extractStridedSlice_apply ![0, 0, 0, 0] y slices_S128x5685x2x9_S128x5685x1x9_0_0_0_0 i (idx_main_v10 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v11 (x0 : (⟨S128x5685x18, .f32⟩ : BufTy).Contents (Elt F)) : (⟨S128x5685x9, .f32⟩ : BufTy).Contents (Elt F) :=
  shapeCast _ (val_main_v10 (F := F) x0) shapeCasts_S128x5685x1x9_S128x5685x9
abbrev idx_main_v11 (i : S128x5685x9.Idx) : S128x5685x1x9.Idx := fun a => match a with
  | ⟨0, _⟩ => ⟨(((i 0).val * 5685 + (i 1).val) * 9 + (i 2).val) / 51165, by have h0 : (i 0).val < 128 := (i 0).isLt; have h1 : (i 1).val < 5685 := (i 1).isLt; have h2 : (i 2).val < 9 := (i 2).isLt; show (((i 0).val * 5685 + (i 1).val) * 9 + (i 2).val) / 51165 < 128; omega⟩
  | ⟨1, _⟩ => ⟨(((i 0).val * 5685 + (i 1).val) * 9 + (i 2).val) / 9 % 5685, by have h0 : (i 0).val < 128 := (i 0).isLt; have h1 : (i 1).val < 5685 := (i 1).isLt; have h2 : (i 2).val < 9 := (i 2).isLt; show (((i 0).val * 5685 + (i 1).val) * 9 + (i 2).val) / 9 % 5685 < 5685; omega⟩
  | ⟨2, _⟩ => ⟨0, Nat.one_pos⟩
  | ⟨3, _⟩ => ⟨(((i 0).val * 5685 + (i 1).val) * 9 + (i 2).val) % 9, by have h0 : (i 0).val < 128 := (i 0).isLt; have h1 : (i 1).val < 5685 := (i 1).isLt; have h2 : (i 2).val < 9 := (i 2).isLt; show (((i 0).val * 5685 + (i 1).val) * 9 + (i 2).val) % 9 < 9; omega⟩
theorem val_main_v11_apply (x0 : (⟨S128x5685x18, .f32⟩ : BufTy).Contents (Elt F)) (i : S128x5685x9.Idx) :
    val_main_v11 (F := F) x0 i = val_main_v10 (F := F) x0 (idx_main_v11 i) := by
  unfold val_main_v11
  generalize val_main_v10 (F := F) x0 = y
  exact shapeCast_apply y shapeCasts_S128x5685x1x9_S128x5685x9 i (idx_main_v11 i)
    (by rewrite [Shape.rowMajor_val_four, Shape.rowMajor_val_three]; have h0 : (i 0).val < 128 := (i 0).isLt; have h1 : (i 1).val < 5685 := (i 1).isLt; have h2 : (i 2).val < 9 := (i 2).isLt; show (((((i 0).val * 5685 + (i 1).val) * 9 + (i 2).val) / 51165 * 5685 + (((i 0).val * 5685 + (i 1).val) * 9 + (i 2).val) / 9 % 5685) * 1 + 0) * 9 + (((i 0).val * 5685 + (i 1).val) * 9 + (i 2).val) % 9 = ((i 0).val * 5685 + (i 1).val) * 9 + (i 2).val; omega)

def val_main_v12 (x0 : (⟨S128x5685x18, .f32⟩ : BufTy).Contents (Elt F)) : (⟨S128x5685x1x9, .f32⟩ : BufTy).Contents (Elt F) :=
  extractStridedSlice S128x5685x1x9 ![0, 0, 1, 0] (val_main_v9 (F := F) x0) slices_S128x5685x2x9_S128x5685x1x9_0_0_1_0
abbrev idx_main_v12 (i : S128x5685x1x9.Idx) : S128x5685x2x9.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v12_apply (x0 : (⟨S128x5685x18, .f32⟩ : BufTy).Contents (Elt F)) (i : S128x5685x1x9.Idx) :
    val_main_v12 (F := F) x0 i = val_main_v9 (F := F) x0 (idx_main_v12 i) := by
  unfold val_main_v12
  generalize val_main_v9 (F := F) x0 = y
  exact extractStridedSlice_apply ![0, 0, 1, 0] y slices_S128x5685x2x9_S128x5685x1x9_0_0_1_0 i (idx_main_v12 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v13 (x0 : (⟨S128x5685x18, .f32⟩ : BufTy).Contents (Elt F)) : (⟨S128x5685x9, .f32⟩ : BufTy).Contents (Elt F) :=
  shapeCast _ (val_main_v12 (F := F) x0) shapeCasts_S128x5685x1x9_S128x5685x9
abbrev idx_main_v13 (i : S128x5685x9.Idx) : S128x5685x1x9.Idx := fun a => match a with
  | ⟨0, _⟩ => ⟨(((i 0).val * 5685 + (i 1).val) * 9 + (i 2).val) / 51165, by have h0 : (i 0).val < 128 := (i 0).isLt; have h1 : (i 1).val < 5685 := (i 1).isLt; have h2 : (i 2).val < 9 := (i 2).isLt; show (((i 0).val * 5685 + (i 1).val) * 9 + (i 2).val) / 51165 < 128; omega⟩
  | ⟨1, _⟩ => ⟨(((i 0).val * 5685 + (i 1).val) * 9 + (i 2).val) / 9 % 5685, by have h0 : (i 0).val < 128 := (i 0).isLt; have h1 : (i 1).val < 5685 := (i 1).isLt; have h2 : (i 2).val < 9 := (i 2).isLt; show (((i 0).val * 5685 + (i 1).val) * 9 + (i 2).val) / 9 % 5685 < 5685; omega⟩
  | ⟨2, _⟩ => ⟨0, Nat.one_pos⟩
  | ⟨3, _⟩ => ⟨(((i 0).val * 5685 + (i 1).val) * 9 + (i 2).val) % 9, by have h0 : (i 0).val < 128 := (i 0).isLt; have h1 : (i 1).val < 5685 := (i 1).isLt; have h2 : (i 2).val < 9 := (i 2).isLt; show (((i 0).val * 5685 + (i 1).val) * 9 + (i 2).val) % 9 < 9; omega⟩
theorem val_main_v13_apply (x0 : (⟨S128x5685x18, .f32⟩ : BufTy).Contents (Elt F)) (i : S128x5685x9.Idx) :
    val_main_v13 (F := F) x0 i = val_main_v12 (F := F) x0 (idx_main_v13 i) := by
  unfold val_main_v13
  generalize val_main_v12 (F := F) x0 = y
  exact shapeCast_apply y shapeCasts_S128x5685x1x9_S128x5685x9 i (idx_main_v13 i)
    (by rewrite [Shape.rowMajor_val_four, Shape.rowMajor_val_three]; have h0 : (i 0).val < 128 := (i 0).isLt; have h1 : (i 1).val < 5685 := (i 1).isLt; have h2 : (i 2).val < 9 := (i 2).isLt; show (((((i 0).val * 5685 + (i 1).val) * 9 + (i 2).val) / 51165 * 5685 + (((i 0).val * 5685 + (i 1).val) * 9 + (i 2).val) / 9 % 5685) * 1 + 0) * 9 + (((i 0).val * 5685 + (i 1).val) * 9 + (i 2).val) % 9 = ((i 0).val * 5685 + (i 1).val) * 9 + (i 2).val; omega)

def val_main_cst_0 : (⟨S_, .f32⟩ : BufTy).Contents (Elt F) :=
  constant S_ .f32 0x7F800000#32
theorem val_main_cst_0_apply (i : S_.Idx) :
    val_main_cst_0 (F := F) i = FloatOps.ofBits .f32 0x7F800000#32 := rfl

def val_main_v14 (x0 : (⟨S128x5685x18, .f32⟩ : BufTy).Contents (Elt F)) : (⟨S128x5685, .f32⟩ : BufTy).Contents (Elt F) :=
  Host.reduce FloatOps.minimumf (val_main_v11 (F := F) x0) (val_main_cst_0 (F := F)) reducesTo_S128x5685x9_S128x5685_d2 h_S_

def val_main_cst_1 : (⟨S_, .f32⟩ : BufTy).Contents (Elt F) :=
  constant S_ .f32 0x7F800000#32
theorem val_main_cst_1_apply (i : S_.Idx) :
    val_main_cst_1 (F := F) i = FloatOps.ofBits .f32 0x7F800000#32 := rfl

def val_main_v15 (x0 : (⟨S128x5685x18, .f32⟩ : BufTy).Contents (Elt F)) : (⟨S128x5685, .f32⟩ : BufTy).Contents (Elt F) :=
  Host.reduce FloatOps.minimumf (val_main_v13 (F := F) x0) (val_main_cst_1 (F := F)) reducesTo_S128x5685x9_S128x5685_d2 h_S_

def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

def val_main_v16 (x0 : (⟨S128x5685x18, .f32⟩ : BufTy).Contents (Elt F)) : (⟨S128x5685, .f32⟩ : BufTy).Contents (Elt F) :=
  Host.reduce FloatOps.maximumf (val_main_v11 (F := F) x0) (val_main_cst_2 (F := F)) reducesTo_S128x5685x9_S128x5685_d2 h_S_

def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

def val_main_v17 (x0 : (⟨S128x5685x18, .f32⟩ : BufTy).Contents (Elt F)) : (⟨S128x5685, .f32⟩ : BufTy).Contents (Elt F) :=
  Host.reduce FloatOps.maximumf (val_main_v13 (F := F) x0) (val_main_cst_3 (F := F)) reducesTo_S128x5685x9_S128x5685_d2 h_S_

def val_main_v18 (x0 : (⟨S128x5685x18, .f32⟩ : BufTy).Contents (Elt F)) : (⟨S128x5685x1, .f32⟩ : BufTy).Contents (Elt F) :=
  broadcastInDim S128x5685x1 ![0, 1] bcast_S128x5685_S128x5685x1_0_1 (val_main_v14 (F := F) x0)
abbrev idx_main_v18 (i : S128x5685x1.Idx) : S128x5685.Idx := fun a => match a with
  | ⟨0, _⟩ => ⟨(i 0).val, (i 0).isLt⟩
  | ⟨1, _⟩ => ⟨(i 1).val, (i 1).isLt⟩
theorem val_main_v18_apply (x0 : (⟨S128x5685x18, .f32⟩ : BufTy).Contents (Elt F)) (i : S128x5685x1.Idx) :
    val_main_v18 (F := F) x0 i = val_main_v14 (F := F) x0 (idx_main_v18 i) := by
  unfold val_main_v18
  generalize val_main_v14 (F := F) x0 = y
  exact broadcastInDim_apply _ bcast_S128x5685_S128x5685x1_0_1 y i (idx_main_v18 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v19 (x0 : (⟨S128x5685x18, .f32⟩ : BufTy).Contents (Elt F)) : (⟨S128x5685x1, .f32⟩ : BufTy).Contents (Elt F) :=
  broadcastInDim S128x5685x1 ![0, 1] bcast_S128x5685_S128x5685x1_0_1 (val_main_v15 (F := F) x0)
abbrev idx_main_v19 (i : S128x5685x1.Idx) : S128x5685.Idx := fun a => match a with
  | ⟨0, _⟩ => ⟨(i 0).val, (i 0).isLt⟩
  | ⟨1, _⟩ => ⟨(i 1).val, (i 1).isLt⟩
theorem val_main_v19_apply (x0 : (⟨S128x5685x18, .f32⟩ : BufTy).Contents (Elt F)) (i : S128x5685x1.Idx) :
    val_main_v19 (F := F) x0 i = val_main_v15 (F := F) x0 (idx_main_v19 i) := by
  unfold val_main_v19
  generalize val_main_v15 (F := F) x0 = y
  exact broadcastInDim_apply _ bcast_S128x5685_S128x5685x1_0_1 y i (idx_main_v19 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v20 (x0 : (⟨S128x5685x18, .f32⟩ : BufTy).Contents (Elt F)) : (⟨S128x5685x1, .f32⟩ : BufTy).Contents (Elt F) :=
  broadcastInDim S128x5685x1 ![0, 1] bcast_S128x5685_S128x5685x1_0_1 (val_main_v16 (F := F) x0)
abbrev idx_main_v20 (i : S128x5685x1.Idx) : S128x5685.Idx := fun a => match a with
  | ⟨0, _⟩ => ⟨(i 0).val, (i 0).isLt⟩
  | ⟨1, _⟩ => ⟨(i 1).val, (i 1).isLt⟩
theorem val_main_v20_apply (x0 : (⟨S128x5685x18, .f32⟩ : BufTy).Contents (Elt F)) (i : S128x5685x1.Idx) :
    val_main_v20 (F := F) x0 i = val_main_v16 (F := F) x0 (idx_main_v20 i) := by
  unfold val_main_v20
  generalize val_main_v16 (F := F) x0 = y
  exact broadcastInDim_apply _ bcast_S128x5685_S128x5685x1_0_1 y i (idx_main_v20 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v21 (x0 : (⟨S128x5685x18, .f32⟩ : BufTy).Contents (Elt F)) : (⟨S128x5685x1, .f32⟩ : BufTy).Contents (Elt F) :=
  broadcastInDim S128x5685x1 ![0, 1] bcast_S128x5685_S128x5685x1_0_1 (val_main_v17 (F := F) x0)
abbrev idx_main_v21 (i : S128x5685x1.Idx) : S128x5685.Idx := fun a => match a with
  | ⟨0, _⟩ => ⟨(i 0).val, (i 0).isLt⟩
  | ⟨1, _⟩ => ⟨(i 1).val, (i 1).isLt⟩
theorem val_main_v21_apply (x0 : (⟨S128x5685x18, .f32⟩ : BufTy).Contents (Elt F)) (i : S128x5685x1.Idx) :
    val_main_v21 (F := F) x0 i = val_main_v17 (F := F) x0 (idx_main_v21 i) := by
  unfold val_main_v21
  generalize val_main_v17 (F := F) x0 = y
  exact broadcastInDim_apply _ bcast_S128x5685_S128x5685x1_0_1 y i (idx_main_v21 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v22 (x0 : (⟨S128x5685x18, .f32⟩ : BufTy).Contents (Elt F)) : (⟨S128x5685x4, .f32⟩ : BufTy).Contents (Elt F) :=
  (concatenate S128x5685x4 2 [⟨S128x5685x1, ((val_main_v18 (F := F) x0) : (⟨S128x5685x1, .f32⟩ : BufTy).Contents (Elt F))⟩, ⟨S128x5685x1, ((val_main_v19 (F := F) x0) : (⟨S128x5685x1, .f32⟩ : BufTy).Contents (Elt F))⟩, ⟨S128x5685x1, ((val_main_v20 (F := F) x0) : (⟨S128x5685x1, .f32⟩ : BufTy).Contents (Elt F))⟩, ⟨S128x5685x1, ((val_main_v21 (F := F) x0) : (⟨S128x5685x1, .f32⟩ : BufTy).Contents (Elt F))⟩] concatenates_S128x5685x1_S128x5685x1_S128x5685x1_S128x5685x1_S128x5685x4_d2 : (⟨S128x5685x4, .f32⟩ : BufTy).Contents (Elt F))

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_v23 : (⟨S128x5685x4, .f32⟩ : BufTy).Contents (Elt F) :=
  broadcastInDim S128x5685x4 ![] bcast_S_S128x5685x4 (val_main_cst_4 (F := F))
abbrev idx_main_v23 (i : S128x5685x4.Idx) : S_.Idx := fun a => a.elim0
theorem val_main_v23_apply (i : S128x5685x4.Idx) :
    val_main_v23 (F := F) i = val_main_cst_4 (F := F) (idx_main_v23 i) := by
  unfold val_main_v23
  generalize val_main_cst_4 (F := F) = y
  exact broadcastInDim_apply _ bcast_S_S128x5685x4 y i (idx_main_v23 i) (fun a => a.elim0)

def val_main_v24 (x0 : (⟨S128x5685x18, .f32⟩ : BufTy).Contents (Elt F)) : (⟨S128x5685x4, .f32⟩ : BufTy).Contents (Elt F) :=
  maximumf (val_main_v22 (F := F) x0) (val_main_v23 (F := F))
theorem val_main_v24_apply (x0 : (⟨S128x5685x18, .f32⟩ : BufTy).Contents (Elt F)) (i : S128x5685x4.Idx) :
    val_main_v24 (F := F) x0 i = FloatOps.maximumf (val_main_v22 (F := F) x0 i) (val_main_v23 (F := F) i) := rfl

def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl

def val_main_v25 : (⟨S128x5685x4, .f32⟩ : BufTy).Contents (Elt F) :=
  broadcastInDim S128x5685x4 ![] bcast_S_S128x5685x4 (val_main_cst_5 (F := F))
abbrev idx_main_v25 (i : S128x5685x4.Idx) : S_.Idx := fun a => a.elim0
theorem val_main_v25_apply (i : S128x5685x4.Idx) :
    val_main_v25 (F := F) i = val_main_cst_5 (F := F) (idx_main_v25 i) := by
  unfold val_main_v25
  generalize val_main_cst_5 (F := F) = y
  exact broadcastInDim_apply _ bcast_S_S128x5685x4 y i (idx_main_v25 i) (fun a => a.elim0)

def val_main_v26 (x0 : (⟨S128x5685x18, .f32⟩ : BufTy).Contents (Elt F)) : (⟨S128x5685x4, .f32⟩ : BufTy).Contents (Elt F) :=
  minimumf (val_main_v24 (F := F) x0) (val_main_v25 (F := F))
theorem val_main_v26_apply (x0 : (⟨S128x5685x18, .f32⟩ : BufTy).Contents (Elt F)) (i : S128x5685x4.Idx) :
    val_main_v26 (F := F) x0 i = FloatOps.minimumf (val_main_v24 (F := F) x0 i) (val_main_v25 (F := F) i) := rfl

def val_main_v27 (x2 : (⟨S128x32x4, .f32⟩ : BufTy).Contents (Elt F)) : (⟨S128x32x2, .f32⟩ : BufTy).Contents (Elt F) :=
  extractStridedSlice S128x32x2 ![0, 0, 0] (x2) slices_S128x32x4_S128x32x2_0_0_0
abbrev idx_main_v27 (i : S128x32x2.Idx) : S128x32x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 2 := (i 2).isLt; show (i 2).val < 4; omega⟩
theorem val_main_v27_apply (x2 : (⟨S128x32x4, .f32⟩ : BufTy).Contents (Elt F)) (i : S128x32x2.Idx) :
    val_main_v27 (F := F) x2 i = x2 (idx_main_v27 i) := by
  unfold val_main_v27
  exact extractStridedSlice_apply ![0, 0, 0] x2 slices_S128x32x4_S128x32x2_0_0_0 i (idx_main_v27 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v28 (x2 : (⟨S128x32x4, .f32⟩ : BufTy).Contents (Elt F)) : (⟨S128x32x1x2, .f32⟩ : BufTy).Contents (Elt F) :=
  broadcastInDim S128x32x1x2 ![0, 1, 3] bcast_S128x32x2_S128x32x1x2_0_1_3 (val_main_v27 (F := F) x2)
abbrev idx_main_v28 (i : S128x32x1x2.Idx) : S128x32x2.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v28_apply (x2 : (⟨S128x32x4, .f32⟩ : BufTy).Contents (Elt F)) (i : S128x32x1x2.Idx) :
    val_main_v28 (F := F) x2 i = val_main_v27 (F := F) x2 (idx_main_v28 i) := by
  unfold val_main_v28
  generalize val_main_v27 (F := F) x2 = y
  exact broadcastInDim_apply _ bcast_S128x32x2_S128x32x1x2_0_1_3 y i (idx_main_v28 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)]
    | ⟨2, _⟩ => by show (i 3).val = if (2 : Nat) = 1 then 0 else (i 3).val; rw [if_neg (by decide)])

def val_main_v29 (x4 : (⟨S5685x4, .f32⟩ : BufTy).Contents (Elt F)) : (⟨S5685x2, .f32⟩ : BufTy).Contents (Elt F) :=
  extractStridedSlice S5685x2 ![0, 0] (x4) slices_S5685x4_S5685x2_0_0
abbrev idx_main_v29 (i : S5685x2.Idx) : S5685x4.Idx := fun a => match a with
  | ⟨0, _⟩ => ⟨(i 0).val, (i 0).isLt⟩
  | ⟨1, _⟩ => ⟨(i 1).val, by have h1 : (i 1).val < 2 := (i 1).isLt; show (i 1).val < 4; omega⟩
theorem val_main_v29_apply (x4 : (⟨S5685x4, .f32⟩ : BufTy).Contents (Elt F)) (i : S5685x2.Idx) :
    val_main_v29 (F := F) x4 i = x4 (idx_main_v29 i) := by
  unfold val_main_v29
  exact extractStridedSlice_apply ![0, 0] x4 slices_S5685x4_S5685x2_0_0 i (idx_main_v29 i) (fun a => match a with
    | ⟨0, _⟩ => by show (i 0).val = 0 + (i 0).val; omega
    | ⟨1, _⟩ => by show (i 1).val = 0 + (i 1).val; omega)

def val_main_v30 (x4 : (⟨S5685x4, .f32⟩ : BufTy).Contents (Elt F)) : (⟨S1x1x5685x2, .f32⟩ : BufTy).Contents (Elt F) :=
  broadcastInDim S1x1x5685x2 ![2, 3] bcast_S5685x2_S1x1x5685x2_2_3 (val_main_v29 (F := F) x4)
abbrev idx_main_v30 (i : S1x1x5685x2.Idx) : S5685x2.Idx := fun a => match a with
  | ⟨0, _⟩ => ⟨(i 2).val, (i 2).isLt⟩
  | ⟨1, _⟩ => ⟨(i 3).val, (i 3).isLt⟩
theorem val_main_v30_apply (x4 : (⟨S5685x4, .f32⟩ : BufTy).Contents (Elt F)) (i : S1x1x5685x2.Idx) :
    val_main_v30 (F := F) x4 i = val_main_v29 (F := F) x4 (idx_main_v30 i) := by
  unfold val_main_v30
  generalize val_main_v29 (F := F) x4 = y
  exact broadcastInDim_apply _ bcast_S5685x2_S1x1x5685x2_2_3 y i (idx_main_v30 i) (fun a => match a with
    | ⟨0, _⟩ => by show (i 2).val = if (5685 : Nat) = 1 then 0 else (i 2).val; rw [if_neg (by decide)]
    | ⟨1, _⟩ => by show (i 3).val = if (2 : Nat) = 1 then 0 else (i 3).val; rw [if_neg (by decide)])

def val_main_v31 (x2 : (⟨S128x32x4, .f32⟩ : BufTy).Contents (Elt F)) : (⟨S128x32x5685x2, .f32⟩ : BufTy).Contents (Elt F) :=
  broadcastInDim S128x32x5685x2 ![0, 1, 2, 3] bcast_S128x32x1x2_S128x32x5685x2_0_1_2_3 (val_main_v28 (F := F) x2)
abbrev idx_main_v31 (i : S128x32x5685x2.Idx) : S128x32x1x2.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v31_apply (x2 : (⟨S128x32x4, .f32⟩ : BufTy).Contents (Elt F)) (i : S128x32x5685x2.Idx) :
    val_main_v31 (F := F) x2 i = val_main_v28 (F := F) x2 (idx_main_v31 i) := by
  unfold val_main_v31
  generalize val_main_v28 (F := F) x2 = y
  exact broadcastInDim_apply _ bcast_S128x32x1x2_S128x32x5685x2_0_1_2_3 y i (idx_main_v31 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)]
    | ⟨2, _⟩ => by show 0 = if (1 : Nat) = 1 then 0 else (i 2).val; rw [if_pos rfl]
    | ⟨3, _⟩ => by show (i 3).val = if (2 : Nat) = 1 then 0 else (i 3).val; rw [if_neg (by decide)])

def val_main_v32 (x4 : (⟨S5685x4, .f32⟩ : BufTy).Contents (Elt F)) : (⟨S128x32x5685x2, .f32⟩ : BufTy).Contents (Elt F) :=
  broadcastInDim S128x32x5685x2 ![0, 1, 2, 3] bcast_S1x1x5685x2_S128x32x5685x2_0_1_2_3 (val_main_v30 (F := F) x4)
abbrev idx_main_v32 (i : S128x32x5685x2.Idx) : S1x1x5685x2.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
theorem val_main_v32_apply (x4 : (⟨S5685x4, .f32⟩ : BufTy).Contents (Elt F)) (i : S128x32x5685x2.Idx) :
    val_main_v32 (F := F) x4 i = val_main_v30 (F := F) x4 (idx_main_v32 i) := by
  unfold val_main_v32
  generalize val_main_v30 (F := F) x4 = y
  exact broadcastInDim_apply _ bcast_S1x1x5685x2_S128x32x5685x2_0_1_2_3 y i (idx_main_v32 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (5685 : Nat) = 1 then 0 else (i 2).val; rw [if_neg (by decide)]
    | ⟨3, _⟩ => by show (i 3).val = if (2 : Nat) = 1 then 0 else (i 3).val; rw [if_neg (by decide)])

def val_main_v33 (x2 : (⟨S128x32x4, .f32⟩ : BufTy).Contents (Elt F)) (x4 : (⟨S5685x4, .f32⟩ : BufTy).Contents (Elt F)) : (⟨S128x32x5685x2, .f32⟩ : BufTy).Contents (Elt F) :=
  maximumf (val_main_v31 (F := F) x2) (val_main_v32 (F := F) x4)
theorem val_main_v33_apply (x2 : (⟨S128x32x4, .f32⟩ : BufTy).Contents (Elt F)) (x4 : (⟨S5685x4, .f32⟩ : BufTy).Contents (Elt F)) (i : S128x32x5685x2.Idx) :
    val_main_v33 (F := F) x2 x4 i = FloatOps.maximumf (val_main_v31 (F := F) x2 i) (val_main_v32 (F := F) x4 i) := rfl

def val_main_v34 (x2 : (⟨S128x32x4, .f32⟩ : BufTy).Contents (Elt F)) : (⟨S128x32x2, .f32⟩ : BufTy).Contents (Elt F) :=
  extractStridedSlice S128x32x2 ![0, 0, 2] (x2) slices_S128x32x4_S128x32x2_0_0_2
abbrev idx_main_v34 (i : S128x32x2.Idx) : S128x32x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 2 := (i 2).isLt; show 2 + (i 2).val < 4; omega⟩
theorem val_main_v34_apply (x2 : (⟨S128x32x4, .f32⟩ : BufTy).Contents (Elt F)) (i : S128x32x2.Idx) :
    val_main_v34 (F := F) x2 i = x2 (idx_main_v34 i) := by
  unfold val_main_v34
  exact extractStridedSlice_apply ![0, 0, 2] x2 slices_S128x32x4_S128x32x2_0_0_2 i (idx_main_v34 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_v35 (x2 : (⟨S128x32x4, .f32⟩ : BufTy).Contents (Elt F)) : (⟨S128x32x1x2, .f32⟩ : BufTy).Contents (Elt F) :=
  broadcastInDim S128x32x1x2 ![0, 1, 3] bcast_S128x32x2_S128x32x1x2_0_1_3 (val_main_v34 (F := F) x2)
abbrev idx_main_v35 (i : S128x32x1x2.Idx) : S128x32x2.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v35_apply (x2 : (⟨S128x32x4, .f32⟩ : BufTy).Contents (Elt F)) (i : S128x32x1x2.Idx) :
    val_main_v35 (F := F) x2 i = val_main_v34 (F := F) x2 (idx_main_v35 i) := by
  unfold val_main_v35
  generalize val_main_v34 (F := F) x2 = y
  exact broadcastInDim_apply _ bcast_S128x32x2_S128x32x1x2_0_1_3 y i (idx_main_v35 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)]
    | ⟨2, _⟩ => by show (i 3).val = if (2 : Nat) = 1 then 0 else (i 3).val; rw [if_neg (by decide)])

def val_main_v36 (x4 : (⟨S5685x4, .f32⟩ : BufTy).Contents (Elt F)) : (⟨S5685x2, .f32⟩ : BufTy).Contents (Elt F) :=
  extractStridedSlice S5685x2 ![0, 2] (x4) slices_S5685x4_S5685x2_0_2
abbrev idx_main_v36 (i : S5685x2.Idx) : S5685x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v36_apply (x4 : (⟨S5685x4, .f32⟩ : BufTy).Contents (Elt F)) (i : S5685x2.Idx) :
    val_main_v36 (F := F) x4 i = x4 (idx_main_v36 i) := by
  unfold val_main_v36
  exact extractStridedSlice_apply ![0, 2] x4 slices_S5685x4_S5685x2_0_2 i (idx_main_v36 i) (fun a => match a with
    | ⟨0, _⟩ => by show (i 0).val = 0 + (i 0).val; omega
    | ⟨1, _⟩ => by show 2 + (i 1).val = 2 + (i 1).val; omega)

def val_main_v37 (x4 : (⟨S5685x4, .f32⟩ : BufTy).Contents (Elt F)) : (⟨S1x1x5685x2, .f32⟩ : BufTy).Contents (Elt F) :=
  broadcastInDim S1x1x5685x2 ![2, 3] bcast_S5685x2_S1x1x5685x2_2_3 (val_main_v36 (F := F) x4)
abbrev idx_main_v37 (i : S1x1x5685x2.Idx) : S5685x2.Idx := fun a => match a with
  | ⟨0, _⟩ => ⟨(i 2).val, (i 2).isLt⟩
  | ⟨1, _⟩ => ⟨(i 3).val, (i 3).isLt⟩
theorem val_main_v37_apply (x4 : (⟨S5685x4, .f32⟩ : BufTy).Contents (Elt F)) (i : S1x1x5685x2.Idx) :
    val_main_v37 (F := F) x4 i = val_main_v36 (F := F) x4 (idx_main_v37 i) := by
  unfold val_main_v37
  generalize val_main_v36 (F := F) x4 = y
  exact broadcastInDim_apply _ bcast_S5685x2_S1x1x5685x2_2_3 y i (idx_main_v37 i) (fun a => match a with
    | ⟨0, _⟩ => by show (i 2).val = if (5685 : Nat) = 1 then 0 else (i 2).val; rw [if_neg (by decide)]
    | ⟨1, _⟩ => by show (i 3).val = if (2 : Nat) = 1 then 0 else (i 3).val; rw [if_neg (by decide)])

def val_main_v38 (x2 : (⟨S128x32x4, .f32⟩ : BufTy).Contents (Elt F)) : (⟨S128x32x5685x2, .f32⟩ : BufTy).Contents (Elt F) :=
  broadcastInDim S128x32x5685x2 ![0, 1, 2, 3] bcast_S128x32x1x2_S128x32x5685x2_0_1_2_3 (val_main_v35 (F := F) x2)
abbrev idx_main_v38 (i : S128x32x5685x2.Idx) : S128x32x1x2.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v38_apply (x2 : (⟨S128x32x4, .f32⟩ : BufTy).Contents (Elt F)) (i : S128x32x5685x2.Idx) :
    val_main_v38 (F := F) x2 i = val_main_v35 (F := F) x2 (idx_main_v38 i) := by
  unfold val_main_v38
  generalize val_main_v35 (F := F) x2 = y
  exact broadcastInDim_apply _ bcast_S128x32x1x2_S128x32x5685x2_0_1_2_3 y i (idx_main_v38 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)]
    | ⟨2, _⟩ => by show 0 = if (1 : Nat) = 1 then 0 else (i 2).val; rw [if_pos rfl]
    | ⟨3, _⟩ => by show (i 3).val = if (2 : Nat) = 1 then 0 else (i 3).val; rw [if_neg (by decide)])

def val_main_v39 (x4 : (⟨S5685x4, .f32⟩ : BufTy).Contents (Elt F)) : (⟨S128x32x5685x2, .f32⟩ : BufTy).Contents (Elt F) :=
  broadcastInDim S128x32x5685x2 ![0, 1, 2, 3] bcast_S1x1x5685x2_S128x32x5685x2_0_1_2_3 (val_main_v37 (F := F) x4)
abbrev idx_main_v39 (i : S128x32x5685x2.Idx) : S1x1x5685x2.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
theorem val_main_v39_apply (x4 : (⟨S5685x4, .f32⟩ : BufTy).Contents (Elt F)) (i : S128x32x5685x2.Idx) :
    val_main_v39 (F := F) x4 i = val_main_v37 (F := F) x4 (idx_main_v39 i) := by
  unfold val_main_v39
  generalize val_main_v37 (F := F) x4 = y
  exact broadcastInDim_apply _ bcast_S1x1x5685x2_S128x32x5685x2_0_1_2_3 y i (idx_main_v39 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (5685 : Nat) = 1 then 0 else (i 2).val; rw [if_neg (by decide)]
    | ⟨3, _⟩ => by show (i 3).val = if (2 : Nat) = 1 then 0 else (i 3).val; rw [if_neg (by decide)])

def val_main_v40 (x2 : (⟨S128x32x4, .f32⟩ : BufTy).Contents (Elt F)) (x4 : (⟨S5685x4, .f32⟩ : BufTy).Contents (Elt F)) : (⟨S128x32x5685x2, .f32⟩ : BufTy).Contents (Elt F) :=
  minimumf (val_main_v38 (F := F) x2) (val_main_v39 (F := F) x4)
theorem val_main_v40_apply (x2 : (⟨S128x32x4, .f32⟩ : BufTy).Contents (Elt F)) (x4 : (⟨S5685x4, .f32⟩ : BufTy).Contents (Elt F)) (i : S128x32x5685x2.Idx) :
    val_main_v40 (F := F) x2 x4 i = FloatOps.minimumf (val_main_v38 (F := F) x2 i) (val_main_v39 (F := F) x4 i) := rfl

def val_main_v41 (x2 : (⟨S128x32x4, .f32⟩ : BufTy).Contents (Elt F)) (x4 : (⟨S5685x4, .f32⟩ : BufTy).Contents (Elt F)) : (⟨S128x32x5685x2, .f32⟩ : BufTy).Contents (Elt F) :=
  subf (val_main_v40 (F := F) x2 x4) (val_main_v33 (F := F) x2 x4)
theorem val_main_v41_apply (x2 : (⟨S128x32x4, .f32⟩ : BufTy).Contents (Elt F)) (x4 : (⟨S5685x4, .f32⟩ : BufTy).Contents (Elt F)) (i : S128x32x5685x2.Idx) :
    val_main_v41 (F := F) x2 x4 i = FloatOps.subf (val_main_v40 (F := F) x2 x4 i) (val_main_v33 (F := F) x2 x4 i) := rfl

def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

def val_main_v42 : (⟨S128x32x5685x2, .f32⟩ : BufTy).Contents (Elt F) :=
  broadcastInDim S128x32x5685x2 ![] bcast_S_S128x32x5685x2 (val_main_cst_6 (F := F))
abbrev idx_main_v42 (i : S128x32x5685x2.Idx) : S_.Idx := fun a => a.elim0
theorem val_main_v42_apply (i : S128x32x5685x2.Idx) :
    val_main_v42 (F := F) i = val_main_cst_6 (F := F) (idx_main_v42 i) := by
  unfold val_main_v42
  generalize val_main_cst_6 (F := F) = y
  exact broadcastInDim_apply _ bcast_S_S128x32x5685x2 y i (idx_main_v42 i) (fun a => a.elim0)

def val_main_v43 (x2 : (⟨S128x32x4, .f32⟩ : BufTy).Contents (Elt F)) (x4 : (⟨S5685x4, .f32⟩ : BufTy).Contents (Elt F)) : (⟨S128x32x5685x2, .f32⟩ : BufTy).Contents (Elt F) :=
  maximumf (val_main_v41 (F := F) x2 x4) (val_main_v42 (F := F))
theorem val_main_v43_apply (x2 : (⟨S128x32x4, .f32⟩ : BufTy).Contents (Elt F)) (x4 : (⟨S5685x4, .f32⟩ : BufTy).Contents (Elt F)) (i : S128x32x5685x2.Idx) :
    val_main_v43 (F := F) x2 x4 i = FloatOps.maximumf (val_main_v41 (F := F) x2 x4 i) (val_main_v42 (F := F) i) := rfl

def val_main_v44 (x2 : (⟨S128x32x4, .f32⟩ : BufTy).Contents (Elt F)) (x4 : (⟨S5685x4, .f32⟩ : BufTy).Contents (Elt F)) : (⟨S128x32x5685x1, .f32⟩ : BufTy).Contents (Elt F) :=
  extractStridedSlice S128x32x5685x1 ![0, 0, 0, 0] (val_main_v43 (F := F) x2 x4) slices_S128x32x5685x2_S128x32x5685x1_0_0_0_0
abbrev idx_main_v44 (i : S128x32x5685x1.Idx) : S128x32x5685x2.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, by have h3 : (i 3).val < 1 := (i 3).isLt; show (i 3).val < 2; omega⟩
theorem val_main_v44_apply (x2 : (⟨S128x32x4, .f32⟩ : BufTy).Contents (Elt F)) (x4 : (⟨S5685x4, .f32⟩ : BufTy).Contents (Elt F)) (i : S128x32x5685x1.Idx) :
    val_main_v44 (F := F) x2 x4 i = val_main_v43 (F := F) x2 x4 (idx_main_v44 i) := by
  unfold val_main_v44
  generalize val_main_v43 (F := F) x2 x4 = y
  exact extractStridedSlice_apply ![0, 0, 0, 0] y slices_S128x32x5685x2_S128x32x5685x1_0_0_0_0 i (idx_main_v44 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v45 (x2 : (⟨S128x32x4, .f32⟩ : BufTy).Contents (Elt F)) (x4 : (⟨S5685x4, .f32⟩ : BufTy).Contents (Elt F)) : (⟨S128x32x5685, .f32⟩ : BufTy).Contents (Elt F) :=
  shapeCast _ (val_main_v44 (F := F) x2 x4) shapeCasts_S128x32x5685x1_S128x32x5685
abbrev idx_main_v45 (i : S128x32x5685.Idx) : S128x32x5685x1.Idx := fun a => match a with
  | ⟨0, _⟩ => ⟨(((i 0).val * 32 + (i 1).val) * 5685 + (i 2).val) / 181920, by have h0 : (i 0).val < 128 := (i 0).isLt; have h1 : (i 1).val < 32 := (i 1).isLt; have h2 : (i 2).val < 5685 := (i 2).isLt; show (((i 0).val * 32 + (i 1).val) * 5685 + (i 2).val) / 181920 < 128; omega⟩
  | ⟨1, _⟩ => ⟨(((i 0).val * 32 + (i 1).val) * 5685 + (i 2).val) / 5685 % 32, by have h0 : (i 0).val < 128 := (i 0).isLt; have h1 : (i 1).val < 32 := (i 1).isLt; have h2 : (i 2).val < 5685 := (i 2).isLt; show (((i 0).val * 32 + (i 1).val) * 5685 + (i 2).val) / 5685 % 32 < 32; omega⟩
  | ⟨2, _⟩ => ⟨(((i 0).val * 32 + (i 1).val) * 5685 + (i 2).val) / 1 % 5685, by have h0 : (i 0).val < 128 := (i 0).isLt; have h1 : (i 1).val < 32 := (i 1).isLt; have h2 : (i 2).val < 5685 := (i 2).isLt; show (((i 0).val * 32 + (i 1).val) * 5685 + (i 2).val) / 1 % 5685 < 5685; omega⟩
  | ⟨3, _⟩ => ⟨0, Nat.one_pos⟩
theorem val_main_v45_apply (x2 : (⟨S128x32x4, .f32⟩ : BufTy).Contents (Elt F)) (x4 : (⟨S5685x4, .f32⟩ : BufTy).Contents (Elt F)) (i : S128x32x5685.Idx) :
    val_main_v45 (F := F) x2 x4 i = val_main_v44 (F := F) x2 x4 (idx_main_v45 i) := by
  unfold val_main_v45
  generalize val_main_v44 (F := F) x2 x4 = y
  exact shapeCast_apply y shapeCasts_S128x32x5685x1_S128x32x5685 i (idx_main_v45 i)
    (by rewrite [Shape.rowMajor_val_four, Shape.rowMajor_val_three]; have h0 : (i 0).val < 128 := (i 0).isLt; have h1 : (i 1).val < 32 := (i 1).isLt; have h2 : (i 2).val < 5685 := (i 2).isLt; show (((((i 0).val * 32 + (i 1).val) * 5685 + (i 2).val) / 181920 * 32 + (((i 0).val * 32 + (i 1).val) * 5685 + (i 2).val) / 5685 % 32) * 5685 + (((i 0).val * 32 + (i 1).val) * 5685 + (i 2).val) / 1 % 5685) * 1 + 0 = ((i 0).val * 32 + (i 1).val) * 5685 + (i 2).val; omega)

def val_main_v46 (x2 : (⟨S128x32x4, .f32⟩ : BufTy).Contents (Elt F)) (x4 : (⟨S5685x4, .f32⟩ : BufTy).Contents (Elt F)) : (⟨S128x32x5685x1, .f32⟩ : BufTy).Contents (Elt F) :=
  extractStridedSlice S128x32x5685x1 ![0, 0, 0, 1] (val_main_v43 (F := F) x2 x4) slices_S128x32x5685x2_S128x32x5685x1_0_0_0_1
abbrev idx_main_v46 (i : S128x32x5685x1.Idx) : S128x32x5685x2.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨1 + (i 3).val, by have h3 : (i 3).val < 1 := (i 3).isLt; show 1 + (i 3).val < 2; omega⟩
theorem val_main_v46_apply (x2 : (⟨S128x32x4, .f32⟩ : BufTy).Contents (Elt F)) (x4 : (⟨S5685x4, .f32⟩ : BufTy).Contents (Elt F)) (i : S128x32x5685x1.Idx) :
    val_main_v46 (F := F) x2 x4 i = val_main_v43 (F := F) x2 x4 (idx_main_v46 i) := by
  unfold val_main_v46
  generalize val_main_v43 (F := F) x2 x4 = y
  exact extractStridedSlice_apply ![0, 0, 0, 1] y slices_S128x32x5685x2_S128x32x5685x1_0_0_0_1 i (idx_main_v46 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 1 + (i 3).val = 1 + (i 3).val; omega)

def val_main_v47 (x2 : (⟨S128x32x4, .f32⟩ : BufTy).Contents (Elt F)) (x4 : (⟨S5685x4, .f32⟩ : BufTy).Contents (Elt F)) : (⟨S128x32x5685, .f32⟩ : BufTy).Contents (Elt F) :=
  shapeCast _ (val_main_v46 (F := F) x2 x4) shapeCasts_S128x32x5685x1_S128x32x5685
abbrev idx_main_v47 (i : S128x32x5685.Idx) : S128x32x5685x1.Idx := fun a => match a with
  | ⟨0, _⟩ => ⟨(((i 0).val * 32 + (i 1).val) * 5685 + (i 2).val) / 181920, by have h0 : (i 0).val < 128 := (i 0).isLt; have h1 : (i 1).val < 32 := (i 1).isLt; have h2 : (i 2).val < 5685 := (i 2).isLt; show (((i 0).val * 32 + (i 1).val) * 5685 + (i 2).val) / 181920 < 128; omega⟩
  | ⟨1, _⟩ => ⟨(((i 0).val * 32 + (i 1).val) * 5685 + (i 2).val) / 5685 % 32, by have h0 : (i 0).val < 128 := (i 0).isLt; have h1 : (i 1).val < 32 := (i 1).isLt; have h2 : (i 2).val < 5685 := (i 2).isLt; show (((i 0).val * 32 + (i 1).val) * 5685 + (i 2).val) / 5685 % 32 < 32; omega⟩
  | ⟨2, _⟩ => ⟨(((i 0).val * 32 + (i 1).val) * 5685 + (i 2).val) / 1 % 5685, by have h0 : (i 0).val < 128 := (i 0).isLt; have h1 : (i 1).val < 32 := (i 1).isLt; have h2 : (i 2).val < 5685 := (i 2).isLt; show (((i 0).val * 32 + (i 1).val) * 5685 + (i 2).val) / 1 % 5685 < 5685; omega⟩
  | ⟨3, _⟩ => ⟨0, Nat.one_pos⟩
theorem val_main_v47_apply (x2 : (⟨S128x32x4, .f32⟩ : BufTy).Contents (Elt F)) (x4 : (⟨S5685x4, .f32⟩ : BufTy).Contents (Elt F)) (i : S128x32x5685.Idx) :
    val_main_v47 (F := F) x2 x4 i = val_main_v46 (F := F) x2 x4 (idx_main_v47 i) := by
  unfold val_main_v47
  generalize val_main_v46 (F := F) x2 x4 = y
  exact shapeCast_apply y shapeCasts_S128x32x5685x1_S128x32x5685 i (idx_main_v47 i)
    (by rewrite [Shape.rowMajor_val_four, Shape.rowMajor_val_three]; have h0 : (i 0).val < 128 := (i 0).isLt; have h1 : (i 1).val < 32 := (i 1).isLt; have h2 : (i 2).val < 5685 := (i 2).isLt; show (((((i 0).val * 32 + (i 1).val) * 5685 + (i 2).val) / 181920 * 32 + (((i 0).val * 32 + (i 1).val) * 5685 + (i 2).val) / 5685 % 32) * 5685 + (((i 0).val * 32 + (i 1).val) * 5685 + (i 2).val) / 1 % 5685) * 1 + 0 = ((i 0).val * 32 + (i 1).val) * 5685 + (i 2).val; omega)

def val_main_v48 (x2 : (⟨S128x32x4, .f32⟩ : BufTy).Contents (Elt F)) (x4 : (⟨S5685x4, .f32⟩ : BufTy).Contents (Elt F)) : (⟨S128x32x5685, .f32⟩ : BufTy).Contents (Elt F) :=
  mulf (val_main_v45 (F := F) x2 x4) (val_main_v47 (F := F) x2 x4)
theorem val_main_v48_apply (x2 : (⟨S128x32x4, .f32⟩ : BufTy).Contents (Elt F)) (x4 : (⟨S5685x4, .f32⟩ : BufTy).Contents (Elt F)) (i : S128x32x5685.Idx) :
    val_main_v48 (F := F) x2 x4 i = FloatOps.mulf (val_main_v45 (F := F) x2 x4 i) (val_main_v47 (F := F) x2 x4 i) := rfl

def val_main_v49 (x2 : (⟨S128x32x4, .f32⟩ : BufTy).Contents (Elt F)) : (⟨S128x32x1, .f32⟩ : BufTy).Contents (Elt F) :=
  extractStridedSlice S128x32x1 ![0, 0, 2] (x2) slices_S128x32x4_S128x32x1_0_0_2
abbrev idx_main_v49 (i : S128x32x1.Idx) : S128x32x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 4; omega⟩
theorem val_main_v49_apply (x2 : (⟨S128x32x4, .f32⟩ : BufTy).Contents (Elt F)) (i : S128x32x1.Idx) :
    val_main_v49 (F := F) x2 i = x2 (idx_main_v49 i) := by
  unfold val_main_v49
  exact extractStridedSlice_apply ![0, 0, 2] x2 slices_S128x32x4_S128x32x1_0_0_2 i (idx_main_v49 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_v50 (x2 : (⟨S128x32x4, .f32⟩ : BufTy).Contents (Elt F)) : (⟨S128x32, .f32⟩ : BufTy).Contents (Elt F) :=
  shapeCast _ (val_main_v49 (F := F) x2) shapeCasts_S128x32x1_S128x32
abbrev idx_main_v50 (i : S128x32.Idx) : S128x32x1.Idx := fun a => match a with
  | ⟨0, _⟩ => ⟨((i 0).val * 32 + (i 1).val) / 32, by have h0 : (i 0).val < 128 := (i 0).isLt; have h1 : (i 1).val < 32 := (i 1).isLt; show ((i 0).val * 32 + (i 1).val) / 32 < 128; omega⟩
  | ⟨1, _⟩ => ⟨((i 0).val * 32 + (i 1).val) / 1 % 32, by have h0 : (i 0).val < 128 := (i 0).isLt; have h1 : (i 1).val < 32 := (i 1).isLt; show ((i 0).val * 32 + (i 1).val) / 1 % 32 < 32; omega⟩
  | ⟨2, _⟩ => ⟨0, Nat.one_pos⟩
theorem val_main_v50_apply (x2 : (⟨S128x32x4, .f32⟩ : BufTy).Contents (Elt F)) (i : S128x32.Idx) :
    val_main_v50 (F := F) x2 i = val_main_v49 (F := F) x2 (idx_main_v50 i) := by
  unfold val_main_v50
  generalize val_main_v49 (F := F) x2 = y
  exact shapeCast_apply y shapeCasts_S128x32x1_S128x32 i (idx_main_v50 i)
    (by rewrite [Shape.rowMajor_val_three, Shape.rowMajor_val_two]; have h0 : (i 0).val < 128 := (i 0).isLt; have h1 : (i 1).val < 32 := (i 1).isLt; show (((i 0).val * 32 + (i 1).val) / 32 * 32 + ((i 0).val * 32 + (i 1).val) / 1 % 32) * 1 + 0 = (i 0).val * 32 + (i 1).val; omega)

def val_main_v51 (x2 : (⟨S128x32x4, .f32⟩ : BufTy).Contents (Elt F)) : (⟨S128x32x1, .f32⟩ : BufTy).Contents (Elt F) :=
  extractStridedSlice S128x32x1 ![0, 0, 0] (x2) slices_S128x32x4_S128x32x1_0_0_0
abbrev idx_main_v51 (i : S128x32x1.Idx) : S128x32x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 4; omega⟩
theorem val_main_v51_apply (x2 : (⟨S128x32x4, .f32⟩ : BufTy).Contents (Elt F)) (i : S128x32x1.Idx) :
    val_main_v51 (F := F) x2 i = x2 (idx_main_v51 i) := by
  unfold val_main_v51
  exact extractStridedSlice_apply ![0, 0, 0] x2 slices_S128x32x4_S128x32x1_0_0_0 i (idx_main_v51 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v52 (x2 : (⟨S128x32x4, .f32⟩ : BufTy).Contents (Elt F)) : (⟨S128x32, .f32⟩ : BufTy).Contents (Elt F) :=
  shapeCast _ (val_main_v51 (F := F) x2) shapeCasts_S128x32x1_S128x32
abbrev idx_main_v52 (i : S128x32.Idx) : S128x32x1.Idx := fun a => match a with
  | ⟨0, _⟩ => ⟨((i 0).val * 32 + (i 1).val) / 32, by have h0 : (i 0).val < 128 := (i 0).isLt; have h1 : (i 1).val < 32 := (i 1).isLt; show ((i 0).val * 32 + (i 1).val) / 32 < 128; omega⟩
  | ⟨1, _⟩ => ⟨((i 0).val * 32 + (i 1).val) / 1 % 32, by have h0 : (i 0).val < 128 := (i 0).isLt; have h1 : (i 1).val < 32 := (i 1).isLt; show ((i 0).val * 32 + (i 1).val) / 1 % 32 < 32; omega⟩
  | ⟨2, _⟩ => ⟨0, Nat.one_pos⟩
theorem val_main_v52_apply (x2 : (⟨S128x32x4, .f32⟩ : BufTy).Contents (Elt F)) (i : S128x32.Idx) :
    val_main_v52 (F := F) x2 i = val_main_v51 (F := F) x2 (idx_main_v52 i) := by
  unfold val_main_v52
  generalize val_main_v51 (F := F) x2 = y
  exact shapeCast_apply y shapeCasts_S128x32x1_S128x32 i (idx_main_v52 i)
    (by rewrite [Shape.rowMajor_val_three, Shape.rowMajor_val_two]; have h0 : (i 0).val < 128 := (i 0).isLt; have h1 : (i 1).val < 32 := (i 1).isLt; show (((i 0).val * 32 + (i 1).val) / 32 * 32 + ((i 0).val * 32 + (i 1).val) / 1 % 32) * 1 + 0 = (i 0).val * 32 + (i 1).val; omega)

def val_main_v53 (x2 : (⟨S128x32x4, .f32⟩ : BufTy).Contents (Elt F)) : (⟨S128x32, .f32⟩ : BufTy).Contents (Elt F) :=
  subf (val_main_v50 (F := F) x2) (val_main_v52 (F := F) x2)
theorem val_main_v53_apply (x2 : (⟨S128x32x4, .f32⟩ : BufTy).Contents (Elt F)) (i : S128x32.Idx) :
    val_main_v53 (F := F) x2 i = FloatOps.subf (val_main_v50 (F := F) x2 i) (val_main_v52 (F := F) x2 i) := rfl

def val_main_v54 (x2 : (⟨S128x32x4, .f32⟩ : BufTy).Contents (Elt F)) : (⟨S128x32x1, .f32⟩ : BufTy).Contents (Elt F) :=
  extractStridedSlice S128x32x1 ![0, 0, 3] (x2) slices_S128x32x4_S128x32x1_0_0_3
abbrev idx_main_v54 (i : S128x32x1.Idx) : S128x32x4.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 4; omega⟩
theorem val_main_v54_apply (x2 : (⟨S128x32x4, .f32⟩ : BufTy).Contents (Elt F)) (i : S128x32x1.Idx) :
    val_main_v54 (F := F) x2 i = x2 (idx_main_v54 i) := by
  unfold val_main_v54
  exact extractStridedSlice_apply ![0, 0, 3] x2 slices_S128x32x4_S128x32x1_0_0_3 i (idx_main_v54 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega)

def val_main_v55 (x2 : (⟨S128x32x4, .f32⟩ : BufTy).Contents (Elt F)) : (⟨S128x32, .f32⟩ : BufTy).Contents (Elt F) :=
  shapeCast _ (val_main_v54 (F := F) x2) shapeCasts_S128x32x1_S128x32
abbrev idx_main_v55 (i : S128x32.Idx) : S128x32x1.Idx := fun a => match a with
  | ⟨0, _⟩ => ⟨((i 0).val * 32 + (i 1).val) / 32, by have h0 : (i 0).val < 128 := (i 0).isLt; have h1 : (i 1).val < 32 := (i 1).isLt; show ((i 0).val * 32 + (i 1).val) / 32 < 128; omega⟩
  | ⟨1, _⟩ => ⟨((i 0).val * 32 + (i 1).val) / 1 % 32, by have h0 : (i 0).val < 128 := (i 0).isLt; have h1 : (i 1).val < 32 := (i 1).isLt; show ((i 0).val * 32 + (i 1).val) / 1 % 32 < 32; omega⟩
  | ⟨2, _⟩ => ⟨0, Nat.one_pos⟩
theorem val_main_v55_apply (x2 : (⟨S128x32x4, .f32⟩ : BufTy).Contents (Elt F)) (i : S128x32.Idx) :
    val_main_v55 (F := F) x2 i = val_main_v54 (F := F) x2 (idx_main_v55 i) := by
  unfold val_main_v55
  generalize val_main_v54 (F := F) x2 = y
  exact shapeCast_apply y shapeCasts_S128x32x1_S128x32 i (idx_main_v55 i)
    (by rewrite [Shape.rowMajor_val_three, Shape.rowMajor_val_two]; have h0 : (i 0).val < 128 := (i 0).isLt; have h1 : (i 1).val < 32 := (i 1).isLt; show (((i 0).val * 32 + (i 1).val) / 32 * 32 + ((i 0).val * 32 + (i 1).val) / 1 % 32) * 1 + 0 = (i 0).val * 32 + (i 1).val; omega)

def val_main_v56 (x2 : (⟨S128x32x4, .f32⟩ : BufTy).Contents (Elt F)) : (⟨S128x32x1, .f32⟩ : BufTy).Contents (Elt F) :=
  extractStridedSlice S128x32x1 ![0, 0, 1] (x2) slices_S128x32x4_S128x32x1_0_0_1
abbrev idx_main_v56 (i : S128x32x1.Idx) : S128x32x4.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 4; omega⟩
theorem val_main_v56_apply (x2 : (⟨S128x32x4, .f32⟩ : BufTy).Contents (Elt F)) (i : S128x32x1.Idx) :
    val_main_v56 (F := F) x2 i = x2 (idx_main_v56 i) := by
  unfold val_main_v56
  exact extractStridedSlice_apply ![0, 0, 1] x2 slices_S128x32x4_S128x32x1_0_0_1 i (idx_main_v56 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_v57 (x2 : (⟨S128x32x4, .f32⟩ : BufTy).Contents (Elt F)) : (⟨S128x32, .f32⟩ : BufTy).Contents (Elt F) :=
  shapeCast _ (val_main_v56 (F := F) x2) shapeCasts_S128x32x1_S128x32
abbrev idx_main_v57 (i : S128x32.Idx) : S128x32x1.Idx := fun a => match a with
  | ⟨0, _⟩ => ⟨((i 0).val * 32 + (i 1).val) / 32, by have h0 : (i 0).val < 128 := (i 0).isLt; have h1 : (i 1).val < 32 := (i 1).isLt; show ((i 0).val * 32 + (i 1).val) / 32 < 128; omega⟩
  | ⟨1, _⟩ => ⟨((i 0).val * 32 + (i 1).val) / 1 % 32, by have h0 : (i 0).val < 128 := (i 0).isLt; have h1 : (i 1).val < 32 := (i 1).isLt; show ((i 0).val * 32 + (i 1).val) / 1 % 32 < 32; omega⟩
  | ⟨2, _⟩ => ⟨0, Nat.one_pos⟩
theorem val_main_v57_apply (x2 : (⟨S128x32x4, .f32⟩ : BufTy).Contents (Elt F)) (i : S128x32.Idx) :
    val_main_v57 (F := F) x2 i = val_main_v56 (F := F) x2 (idx_main_v57 i) := by
  unfold val_main_v57
  generalize val_main_v56 (F := F) x2 = y
  exact shapeCast_apply y shapeCasts_S128x32x1_S128x32 i (idx_main_v57 i)
    (by rewrite [Shape.rowMajor_val_three, Shape.rowMajor_val_two]; have h0 : (i 0).val < 128 := (i 0).isLt; have h1 : (i 1).val < 32 := (i 1).isLt; show (((i 0).val * 32 + (i 1).val) / 32 * 32 + ((i 0).val * 32 + (i 1).val) / 1 % 32) * 1 + 0 = (i 0).val * 32 + (i 1).val; omega)

def val_main_v58 (x2 : (⟨S128x32x4, .f32⟩ : BufTy).Contents (Elt F)) : (⟨S128x32, .f32⟩ : BufTy).Contents (Elt F) :=
  subf (val_main_v55 (F := F) x2) (val_main_v57 (F := F) x2)
theorem val_main_v58_apply (x2 : (⟨S128x32x4, .f32⟩ : BufTy).Contents (Elt F)) (i : S128x32.Idx) :
    val_main_v58 (F := F) x2 i = FloatOps.subf (val_main_v55 (F := F) x2 i) (val_main_v57 (F := F) x2 i) := rfl

def val_main_v59 (x2 : (⟨S128x32x4, .f32⟩ : BufTy).Contents (Elt F)) : (⟨S128x32, .f32⟩ : BufTy).Contents (Elt F) :=
  mulf (val_main_v53 (F := F) x2) (val_main_v58 (F := F) x2)
theorem val_main_v59_apply (x2 : (⟨S128x32x4, .f32⟩ : BufTy).Contents (Elt F)) (i : S128x32.Idx) :
    val_main_v59 (F := F) x2 i = FloatOps.mulf (val_main_v53 (F := F) x2 i) (val_main_v58 (F := F) x2 i) := rfl

def val_main_v60 (x4 : (⟨S5685x4, .f32⟩ : BufTy).Contents (Elt F)) : (⟨S5685x1, .f32⟩ : BufTy).Contents (Elt F) :=
  extractStridedSlice S5685x1 ![0, 2] (x4) slices_S5685x4_S5685x1_0_2
abbrev idx_main_v60 (i : S5685x1.Idx) : S5685x4.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
theorem val_main_v60_apply (x4 : (⟨S5685x4, .f32⟩ : BufTy).Contents (Elt F)) (i : S5685x1.Idx) :
    val_main_v60 (F := F) x4 i = x4 (idx_main_v60 i) := by
  unfold val_main_v60
  exact extractStridedSlice_apply ![0, 2] x4 slices_S5685x4_S5685x1_0_2 i (idx_main_v60 i) (fun a => match a with
    | ⟨0, _⟩ => by show (i 0).val = 0 + (i 0).val; omega
    | ⟨1, _⟩ => by show 2 + (i 1).val = 2 + (i 1).val; omega)

def val_main_v61 (x4 : (⟨S5685x4, .f32⟩ : BufTy).Contents (Elt F)) : (⟨S5685, .f32⟩ : BufTy).Contents (Elt F) :=
  shapeCast _ (val_main_v60 (F := F) x4) shapeCasts_S5685x1_S5685
abbrev idx_main_v61 (i : S5685.Idx) : S5685x1.Idx := fun a => match a with
  | ⟨0, _⟩ => ⟨((i 0).val) / 1, by have h0 : (i 0).val < 5685 := (i 0).isLt; show ((i 0).val) / 1 < 5685; omega⟩
  | ⟨1, _⟩ => ⟨0, Nat.one_pos⟩
theorem val_main_v61_apply (x4 : (⟨S5685x4, .f32⟩ : BufTy).Contents (Elt F)) (i : S5685.Idx) :
    val_main_v61 (F := F) x4 i = val_main_v60 (F := F) x4 (idx_main_v61 i) := by
  unfold val_main_v61
  generalize val_main_v60 (F := F) x4 = y
  exact shapeCast_apply y shapeCasts_S5685x1_S5685 i (idx_main_v61 i)
    (by rewrite [Shape.rowMajor_val_two, Shape.rowMajor_val_one]; have h0 : (i 0).val < 5685 := (i 0).isLt; show ((i 0).val) / 1 * 1 + 0 = (i 0).val; omega)

def val_main_v62 (x4 : (⟨S5685x4, .f32⟩ : BufTy).Contents (Elt F)) : (⟨S5685x1, .f32⟩ : BufTy).Contents (Elt F) :=
  extractStridedSlice S5685x1 ![0, 0] (x4) slices_S5685x4_S5685x1_0_0
abbrev idx_main_v62 (i : S5685x1.Idx) : S5685x4.Idx := fun a => match a with
  | ⟨0, _⟩ => ⟨(i 0).val, (i 0).isLt⟩
  | ⟨1, _⟩ => ⟨(i 1).val, by have h1 : (i 1).val < 1 := (i 1).isLt; show (i 1).val < 4; omega⟩
theorem val_main_v62_apply (x4 : (⟨S5685x4, .f32⟩ : BufTy).Contents (Elt F)) (i : S5685x1.Idx) :
    val_main_v62 (F := F) x4 i = x4 (idx_main_v62 i) := by
  unfold val_main_v62
  exact extractStridedSlice_apply ![0, 0] x4 slices_S5685x4_S5685x1_0_0 i (idx_main_v62 i) (fun a => match a with
    | ⟨0, _⟩ => by show (i 0).val = 0 + (i 0).val; omega
    | ⟨1, _⟩ => by show (i 1).val = 0 + (i 1).val; omega)

def val_main_v63 (x4 : (⟨S5685x4, .f32⟩ : BufTy).Contents (Elt F)) : (⟨S5685, .f32⟩ : BufTy).Contents (Elt F) :=
  shapeCast _ (val_main_v62 (F := F) x4) shapeCasts_S5685x1_S5685
abbrev idx_main_v63 (i : S5685.Idx) : S5685x1.Idx := fun a => match a with
  | ⟨0, _⟩ => ⟨((i 0).val) / 1, by have h0 : (i 0).val < 5685 := (i 0).isLt; show ((i 0).val) / 1 < 5685; omega⟩
  | ⟨1, _⟩ => ⟨0, Nat.one_pos⟩
theorem val_main_v63_apply (x4 : (⟨S5685x4, .f32⟩ : BufTy).Contents (Elt F)) (i : S5685.Idx) :
    val_main_v63 (F := F) x4 i = val_main_v62 (F := F) x4 (idx_main_v63 i) := by
  unfold val_main_v63
  generalize val_main_v62 (F := F) x4 = y
  exact shapeCast_apply y shapeCasts_S5685x1_S5685 i (idx_main_v63 i)
    (by rewrite [Shape.rowMajor_val_two, Shape.rowMajor_val_one]; have h0 : (i 0).val < 5685 := (i 0).isLt; show ((i 0).val) / 1 * 1 + 0 = (i 0).val; omega)

def val_main_v64 (x4 : (⟨S5685x4, .f32⟩ : BufTy).Contents (Elt F)) : (⟨S5685, .f32⟩ : BufTy).Contents (Elt F) :=
  subf (val_main_v61 (F := F) x4) (val_main_v63 (F := F) x4)
theorem val_main_v64_apply (x4 : (⟨S5685x4, .f32⟩ : BufTy).Contents (Elt F)) (i : S5685.Idx) :
    val_main_v64 (F := F) x4 i = FloatOps.subf (val_main_v61 (F := F) x4 i) (val_main_v63 (F := F) x4 i) := rfl

def val_main_v65 (x4 : (⟨S5685x4, .f32⟩ : BufTy).Contents (Elt F)) : (⟨S5685x1, .f32⟩ : BufTy).Contents (Elt F) :=
  extractStridedSlice S5685x1 ![0, 3] (x4) slices_S5685x4_S5685x1_0_3
abbrev idx_main_v65 (i : S5685x1.Idx) : S5685x4.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
theorem val_main_v65_apply (x4 : (⟨S5685x4, .f32⟩ : BufTy).Contents (Elt F)) (i : S5685x1.Idx) :
    val_main_v65 (F := F) x4 i = x4 (idx_main_v65 i) := by
  unfold val_main_v65
  exact extractStridedSlice_apply ![0, 3] x4 slices_S5685x4_S5685x1_0_3 i (idx_main_v65 i) (fun a => match a with
    | ⟨0, _⟩ => by show (i 0).val = 0 + (i 0).val; omega
    | ⟨1, _⟩ => by show 3 + (i 1).val = 3 + (i 1).val; omega)

def val_main_v66 (x4 : (⟨S5685x4, .f32⟩ : BufTy).Contents (Elt F)) : (⟨S5685, .f32⟩ : BufTy).Contents (Elt F) :=
  shapeCast _ (val_main_v65 (F := F) x4) shapeCasts_S5685x1_S5685
abbrev idx_main_v66 (i : S5685.Idx) : S5685x1.Idx := fun a => match a with
  | ⟨0, _⟩ => ⟨((i 0).val) / 1, by have h0 : (i 0).val < 5685 := (i 0).isLt; show ((i 0).val) / 1 < 5685; omega⟩
  | ⟨1, _⟩ => ⟨0, Nat.one_pos⟩
theorem val_main_v66_apply (x4 : (⟨S5685x4, .f32⟩ : BufTy).Contents (Elt F)) (i : S5685.Idx) :
    val_main_v66 (F := F) x4 i = val_main_v65 (F := F) x4 (idx_main_v66 i) := by
  unfold val_main_v66
  generalize val_main_v65 (F := F) x4 = y
  exact shapeCast_apply y shapeCasts_S5685x1_S5685 i (idx_main_v66 i)
    (by rewrite [Shape.rowMajor_val_two, Shape.rowMajor_val_one]; have h0 : (i 0).val < 5685 := (i 0).isLt; show ((i 0).val) / 1 * 1 + 0 = (i 0).val; omega)

def val_main_v67 (x4 : (⟨S5685x4, .f32⟩ : BufTy).Contents (Elt F)) : (⟨S5685x1, .f32⟩ : BufTy).Contents (Elt F) :=
  extractStridedSlice S5685x1 ![0, 1] (x4) slices_S5685x4_S5685x1_0_1
abbrev idx_main_v67 (i : S5685x1.Idx) : S5685x4.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
theorem val_main_v67_apply (x4 : (⟨S5685x4, .f32⟩ : BufTy).Contents (Elt F)) (i : S5685x1.Idx) :
    val_main_v67 (F := F) x4 i = x4 (idx_main_v67 i) := by
  unfold val_main_v67
  exact extractStridedSlice_apply ![0, 1] x4 slices_S5685x4_S5685x1_0_1 i (idx_main_v67 i) (fun a => match a with
    | ⟨0, _⟩ => by show (i 0).val = 0 + (i 0).val; omega
    | ⟨1, _⟩ => by show 1 + (i 1).val = 1 + (i 1).val; omega)

def val_main_v68 (x4 : (⟨S5685x4, .f32⟩ : BufTy).Contents (Elt F)) : (⟨S5685, .f32⟩ : BufTy).Contents (Elt F) :=
  shapeCast _ (val_main_v67 (F := F) x4) shapeCasts_S5685x1_S5685
abbrev idx_main_v68 (i : S5685.Idx) : S5685x1.Idx := fun a => match a with
  | ⟨0, _⟩ => ⟨((i 0).val) / 1, by have h0 : (i 0).val < 5685 := (i 0).isLt; show ((i 0).val) / 1 < 5685; omega⟩
  | ⟨1, _⟩ => ⟨0, Nat.one_pos⟩
theorem val_main_v68_apply (x4 : (⟨S5685x4, .f32⟩ : BufTy).Contents (Elt F)) (i : S5685.Idx) :
    val_main_v68 (F := F) x4 i = val_main_v67 (F := F) x4 (idx_main_v68 i) := by
  unfold val_main_v68
  generalize val_main_v67 (F := F) x4 = y
  exact shapeCast_apply y shapeCasts_S5685x1_S5685 i (idx_main_v68 i)
    (by rewrite [Shape.rowMajor_val_two, Shape.rowMajor_val_one]; have h0 : (i 0).val < 5685 := (i 0).isLt; show ((i 0).val) / 1 * 1 + 0 = (i 0).val; omega)

def val_main_v69 (x4 : (⟨S5685x4, .f32⟩ : BufTy).Contents (Elt F)) : (⟨S5685, .f32⟩ : BufTy).Contents (Elt F) :=
  subf (val_main_v66 (F := F) x4) (val_main_v68 (F := F) x4)
theorem val_main_v69_apply (x4 : (⟨S5685x4, .f32⟩ : BufTy).Contents (Elt F)) (i : S5685.Idx) :
    val_main_v69 (F := F) x4 i = FloatOps.subf (val_main_v66 (F := F) x4 i) (val_main_v68 (F := F) x4 i) := rfl

def val_main_v70 (x4 : (⟨S5685x4, .f32⟩ : BufTy).Contents (Elt F)) : (⟨S5685, .f32⟩ : BufTy).Contents (Elt F) :=
  mulf (val_main_v64 (F := F) x4) (val_main_v69 (F := F) x4)
theorem val_main_v70_apply (x4 : (⟨S5685x4, .f32⟩ : BufTy).Contents (Elt F)) (i : S5685.Idx) :
    val_main_v70 (F := F) x4 i = FloatOps.mulf (val_main_v64 (F := F) x4 i) (val_main_v69 (F := F) x4 i) := rfl

def val_main_v71 (x2 : (⟨S128x32x4, .f32⟩ : BufTy).Contents (Elt F)) : (⟨S128x32x1, .f32⟩ : BufTy).Contents (Elt F) :=
  broadcastInDim S128x32x1 ![0, 1] bcast_S128x32_S128x32x1_0_1 (val_main_v59 (F := F) x2)
abbrev idx_main_v71 (i : S128x32x1.Idx) : S128x32.Idx := fun a => match a with
  | ⟨0, _⟩ => ⟨(i 0).val, (i 0).isLt⟩
  | ⟨1, _⟩ => ⟨(i 1).val, (i 1).isLt⟩
theorem val_main_v71_apply (x2 : (⟨S128x32x4, .f32⟩ : BufTy).Contents (Elt F)) (i : S128x32x1.Idx) :
    val_main_v71 (F := F) x2 i = val_main_v59 (F := F) x2 (idx_main_v71 i) := by
  unfold val_main_v71
  generalize val_main_v59 (F := F) x2 = y
  exact broadcastInDim_apply _ bcast_S128x32_S128x32x1_0_1 y i (idx_main_v71 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)])

def val_main_v72 (x4 : (⟨S5685x4, .f32⟩ : BufTy).Contents (Elt F)) : (⟨S1x1x5685, .f32⟩ : BufTy).Contents (Elt F) :=
  broadcastInDim S1x1x5685 ![2] bcast_S5685_S1x1x5685_2 (val_main_v70 (F := F) x4)
abbrev idx_main_v72 (i : S1x1x5685.Idx) : S5685.Idx := fun a => match a with
  | ⟨0, _⟩ => ⟨(i 2).val, (i 2).isLt⟩
theorem val_main_v72_apply (x4 : (⟨S5685x4, .f32⟩ : BufTy).Contents (Elt F)) (i : S1x1x5685.Idx) :
    val_main_v72 (F := F) x4 i = val_main_v70 (F := F) x4 (idx_main_v72 i) := by
  unfold val_main_v72
  generalize val_main_v70 (F := F) x4 = y
  exact broadcastInDim_apply _ bcast_S5685_S1x1x5685_2 y i (idx_main_v72 i) (fun a => match a with
    | ⟨0, _⟩ => by show (i 2).val = if (5685 : Nat) = 1 then 0 else (i 2).val; rw [if_neg (by decide)])

def val_main_v73 (x2 : (⟨S128x32x4, .f32⟩ : BufTy).Contents (Elt F)) : (⟨S128x32x5685, .f32⟩ : BufTy).Contents (Elt F) :=
  broadcastInDim S128x32x5685 ![0, 1, 2] bcast_S128x32x1_S128x32x5685_0_1_2 (val_main_v71 (F := F) x2)
abbrev idx_main_v73 (i : S128x32x5685.Idx) : S128x32x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v73_apply (x2 : (⟨S128x32x4, .f32⟩ : BufTy).Contents (Elt F)) (i : S128x32x5685.Idx) :
    val_main_v73 (F := F) x2 i = val_main_v71 (F := F) x2 (idx_main_v73 i) := by
  unfold val_main_v73
  generalize val_main_v71 (F := F) x2 = y
  exact broadcastInDim_apply _ bcast_S128x32x1_S128x32x5685_0_1_2 y i (idx_main_v73 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)]
    | ⟨2, _⟩ => by show 0 = if (1 : Nat) = 1 then 0 else (i 2).val; rw [if_pos rfl])

def val_main_v74 (x4 : (⟨S5685x4, .f32⟩ : BufTy).Contents (Elt F)) : (⟨S128x32x5685, .f32⟩ : BufTy).Contents (Elt F) :=
  broadcastInDim S128x32x5685 ![0, 1, 2] bcast_S1x1x5685_S128x32x5685_0_1_2 (val_main_v72 (F := F) x4)
abbrev idx_main_v74 (i : S128x32x5685.Idx) : S1x1x5685.Idx := fun a => match a with
  | ⟨0, _⟩ => ⟨0, Nat.one_pos⟩
  | ⟨1, _⟩ => ⟨0, Nat.one_pos⟩
  | ⟨2, _⟩ => ⟨(i 2).val, (i 2).isLt⟩
theorem val_main_v74_apply (x4 : (⟨S5685x4, .f32⟩ : BufTy).Contents (Elt F)) (i : S128x32x5685.Idx) :
    val_main_v74 (F := F) x4 i = val_main_v72 (F := F) x4 (idx_main_v74 i) := by
  unfold val_main_v74
  generalize val_main_v72 (F := F) x4 = y
  exact broadcastInDim_apply _ bcast_S1x1x5685_S128x32x5685_0_1_2 y i (idx_main_v74 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (5685 : Nat) = 1 then 0 else (i 2).val; rw [if_neg (by decide)])

def val_main_v75 (x2 : (⟨S128x32x4, .f32⟩ : BufTy).Contents (Elt F)) (x4 : (⟨S5685x4, .f32⟩ : BufTy).Contents (Elt F)) : (⟨S128x32x5685, .f32⟩ : BufTy).Contents (Elt F) :=
  addf (val_main_v73 (F := F) x2) (val_main_v74 (F := F) x4)
theorem val_main_v75_apply (x2 : (⟨S128x32x4, .f32⟩ : BufTy).Contents (Elt F)) (x4 : (⟨S5685x4, .f32⟩ : BufTy).Contents (Elt F)) (i : S128x32x5685.Idx) :
    val_main_v75 (F := F) x2 x4 i = FloatOps.addf (val_main_v73 (F := F) x2 i) (val_main_v74 (F := F) x4 i) := rfl

def val_main_v76 (x2 : (⟨S128x32x4, .f32⟩ : BufTy).Contents (Elt F)) (x4 : (⟨S5685x4, .f32⟩ : BufTy).Contents (Elt F)) : (⟨S128x32x5685, .f32⟩ : BufTy).Contents (Elt F) :=
  subf (val_main_v75 (F := F) x2 x4) (val_main_v48 (F := F) x2 x4)
theorem val_main_v76_apply (x2 : (⟨S128x32x4, .f32⟩ : BufTy).Contents (Elt F)) (x4 : (⟨S5685x4, .f32⟩ : BufTy).Contents (Elt F)) (i : S128x32x5685.Idx) :
    val_main_v76 (F := F) x2 x4 i = FloatOps.subf (val_main_v75 (F := F) x2 x4 i) (val_main_v48 (F := F) x2 x4 i) := rfl

def val_main_cst_7 : (⟨S_, .f32⟩ : BufTy).Contents (Elt F) :=
  constant S_ .f32 0x2EDBE6FF#32
theorem val_main_cst_7_apply (i : S_.Idx) :
    val_main_cst_7 (F := F) i = FloatOps.ofBits .f32 0x2EDBE6FF#32 := rfl

def val_main_v77 : (⟨S128x32x5685, .f32⟩ : BufTy).Contents (Elt F) :=
  broadcastInDim S128x32x5685 ![] bcast_S_S128x32x5685 (val_main_cst_7 (F := F))
abbrev idx_main_v77 (i : S128x32x5685.Idx) : S_.Idx := fun a => a.elim0
theorem val_main_v77_apply (i : S128x32x5685.Idx) :
    val_main_v77 (F := F) i = val_main_cst_7 (F := F) (idx_main_v77 i) := by
  unfold val_main_v77
  generalize val_main_cst_7 (F := F) = y
  exact broadcastInDim_apply _ bcast_S_S128x32x5685 y i (idx_main_v77 i) (fun a => a.elim0)

def val_main_v78 (x2 : (⟨S128x32x4, .f32⟩ : BufTy).Contents (Elt F)) (x4 : (⟨S5685x4, .f32⟩ : BufTy).Contents (Elt F)) : (⟨S128x32x5685, .f32⟩ : BufTy).Contents (Elt F) :=
  maximumf (val_main_v76 (F := F) x2 x4) (val_main_v77 (F := F))
theorem val_main_v78_apply (x2 : (⟨S128x32x4, .f32⟩ : BufTy).Contents (Elt F)) (x4 : (⟨S5685x4, .f32⟩ : BufTy).Contents (Elt F)) (i : S128x32x5685.Idx) :
    val_main_v78 (F := F) x2 x4 i = FloatOps.maximumf (val_main_v76 (F := F) x2 x4 i) (val_main_v77 (F := F) i) := rfl

def val_main_v79 (x2 : (⟨S128x32x4, .f32⟩ : BufTy).Contents (Elt F)) (x4 : (⟨S5685x4, .f32⟩ : BufTy).Contents (Elt F)) : (⟨S128x32x5685, .f32⟩ : BufTy).Contents (Elt F) :=
  Host.divf (val_main_v48 (F := F) x2 x4) (val_main_v78 (F := F) x2 x4)
theorem val_main_v79_apply (x2 : (⟨S128x32x4, .f32⟩ : BufTy).Contents (Elt F)) (x4 : (⟨S5685x4, .f32⟩ : BufTy).Contents (Elt F)) (i : S128x32x5685.Idx) :
    val_main_v79 (F := F) x2 x4 i = FloatOps.hostDivf (val_main_v48 (F := F) x2 x4 i) (val_main_v78 (F := F) x2 x4 i) := rfl

def val_main_cst_8 : (⟨S_, .f32⟩ : BufTy).Contents (Elt F) :=
  constant S_ .f32 0xFF800000#32
theorem val_main_cst_8_apply (i : S_.Idx) :
    val_main_cst_8 (F := F) i = FloatOps.ofBits .f32 0xFF800000#32 := rfl

def val_main_v80 (x2 : (⟨S128x32x4, .f32⟩ : BufTy).Contents (Elt F)) (x4 : (⟨S5685x4, .f32⟩ : BufTy).Contents (Elt F)) : (⟨S128x5685, .f32⟩ : BufTy).Contents (Elt F) :=
  Host.reduce FloatOps.maximumf (val_main_v79 (F := F) x2 x4) (val_main_cst_8 (F := F)) reducesTo_S128x32x5685_S128x5685_d1 h_S_

-- @argmax's %0 = stablehlo.iota dim = 1 : tensor<128x32x5685xi32>, in %81 = func.call @argmax(…) (record main_call0)
def val_main_call0_v0 : (⟨S128x32x5685, .i32⟩ : BufTy).Contents (Elt F) :=
  iotaInDim S128x32x5685 32 1
theorem val_main_call0_v0_apply (i : S128x32x5685.Idx) :
    val_main_call0_v0 (F := F) i = BitVec.ofNat 32 (i 1).val := rfl

-- @argmax's %cst = stablehlo.constant dense<0xFF800000> : tensor<f32>, in %81 = func.call @argmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @argmax's %c = stablehlo.constant dense<0> : tensor<i32>, in %81 = func.call @argmax(…) (record main_call0)
def val_main_call0_c : (⟨S_, .i32⟩ : BufTy).Contents (Elt F) :=
  constantI S_ 32 0#32
theorem val_main_call0_c_apply (i : S_.Idx) :
    val_main_call0_c (F := F) i = 0#32 := rfl

-- @argmax's %1:2 = stablehlo.reduce(%arg0 init: %cst), (%0 init: %c) across dimensions = [1] : (tensor<128x32x5685xf32>, tensor<128x32x5685xi32>, tensor<f32>, tensor<i32>) -> (tensor<128x5685xf32>, tensor<128x5685xi32>) reducer(%arg1: tensor<f32>, %arg3: tensor<f32>) (%arg2: tensor<i32>, %arg4: tensor<i32>) {, in %81 = func.call @argmax(…) (record main_call0)
def val_main_call0_v1_0 (x2 : (⟨S128x32x4, .f32⟩ : BufTy).Contents (Elt F)) (x4 : (⟨S5685x4, .f32⟩ : BufTy).Contents (Elt F)) : (⟨S128x5685, .f32⟩ : BufTy).Contents (Elt F) :=
  fun j => (Host.argReduce reducer_argmax_f32_i32 (val_main_v79 (F := F) x2 x4) (val_main_call0_v0 (F := F)) (val_main_call0_cst (F := F)) (val_main_call0_c (F := F)) reducesTo_S128x32x5685_S128x5685_d1 h_S_ j).1

def val_main_v81 (x2 : (⟨S128x32x4, .f32⟩ : BufTy).Contents (Elt F)) (x4 : (⟨S5685x4, .f32⟩ : BufTy).Contents (Elt F)) : (⟨S128x5685, .i32⟩ : BufTy).Contents (Elt F) :=
  fun j => (Host.argReduce reducer_argmax_f32_i32 (val_main_v79 (F := F) x2 x4) (val_main_call0_v0 (F := F)) (val_main_call0_cst (F := F)) (val_main_call0_c (F := F)) reducesTo_S128x32x5685_S128x5685_d1 h_S_ j).2

-- @argmax_0's %0 = stablehlo.iota dim = 2 : tensor<128x32x5685xi32>, in %82 = func.call @argmax_0(…) (record main_call1)
def val_main_call1_v0 : (⟨S128x32x5685, .i32⟩ : BufTy).Contents (Elt F) :=
  iotaInDim S128x32x5685 32 2
theorem val_main_call1_v0_apply (i : S128x32x5685.Idx) :
    val_main_call1_v0 (F := F) i = BitVec.ofNat 32 (i 2).val := rfl

-- @argmax_0's %cst = stablehlo.constant dense<0xFF800000> : tensor<f32>, in %82 = func.call @argmax_0(…) (record main_call1)
def val_main_call1_cst : (⟨S_, .f32⟩ : BufTy).Contents (Elt F) :=
  constant S_ .f32 0xFF800000#32
theorem val_main_call1_cst_apply (i : S_.Idx) :
    val_main_call1_cst (F := F) i = FloatOps.ofBits .f32 0xFF800000#32 := rfl

-- @argmax_0's %c = stablehlo.constant dense<0> : tensor<i32>, in %82 = func.call @argmax_0(…) (record main_call1)
def val_main_call1_c : (⟨S_, .i32⟩ : BufTy).Contents (Elt F) :=
  constantI S_ 32 0#32
theorem val_main_call1_c_apply (i : S_.Idx) :
    val_main_call1_c (F := F) i = 0#32 := rfl

-- @argmax_0's %1:2 = stablehlo.reduce(%arg0 init: %cst), (%0 init: %c) across dimensions = [2] : (tensor<128x32x5685xf32>, tensor<128x32x5685xi32>, tensor<f32>, tensor<i32>) -> (tensor<128x32xf32>, tensor<128x32xi32>) reducer(%arg1: tensor<f32>, %arg3: tensor<f32>) (%arg2: tensor<i32>, %arg4: tensor<i32>) {, in %82 = func.call @argmax_0(…) (record main_call1)
def val_main_call1_v1_0 (x2 : (⟨S128x32x4, .f32⟩ : BufTy).Contents (Elt F)) (x4 : (⟨S5685x4, .f32⟩ : BufTy).Contents (Elt F)) : (⟨S128x32, .f32⟩ : BufTy).Contents (Elt F) :=
  fun j => (Host.argReduce reducer_argmax_f32_i32 (val_main_v79 (F := F) x2 x4) (val_main_call1_v0 (F := F)) (val_main_call1_cst (F := F)) (val_main_call1_c (F := F)) reducesTo_S128x32x5685_S128x32_d2 h_S_ j).1

def val_main_v82 (x2 : (⟨S128x32x4, .f32⟩ : BufTy).Contents (Elt F)) (x4 : (⟨S5685x4, .f32⟩ : BufTy).Contents (Elt F)) : (⟨S128x32, .i32⟩ : BufTy).Contents (Elt F) :=
  fun j => (Host.argReduce reducer_argmax_f32_i32 (val_main_v79 (F := F) x2 x4) (val_main_call1_v0 (F := F)) (val_main_call1_cst (F := F)) (val_main_call1_c (F := F)) reducesTo_S128x32x5685_S128x32_d2 h_S_ j).2

def val_main_v83 : (⟨S128, .i32⟩ : BufTy).Contents (Elt F) :=
  iotaInDim S128 32 0
theorem val_main_v83_apply (i : S128.Idx) :
    val_main_v83 (F := F) i = BitVec.ofNat 32 (i 0).val := rfl

def val_main_v84 : (⟨S128x1, .i32⟩ : BufTy).Contents (Elt F) :=
  broadcastInDim S128x1 ![0] bcast_S128_S128x1_0 (val_main_v83 (F := F))
abbrev idx_main_v84 (i : S128x1.Idx) : S128.Idx := fun a => match a with
  | ⟨0, _⟩ => ⟨(i 0).val, (i 0).isLt⟩
theorem val_main_v84_apply (i : S128x1.Idx) :
    val_main_v84 (F := F) i = val_main_v83 (F := F) (idx_main_v84 i) := by
  unfold val_main_v84
  generalize val_main_v83 (F := F) = y
  exact broadcastInDim_apply _ bcast_S128_S128x1_0 y i (idx_main_v84 i) (fun a => match a with
    | ⟨0, _⟩ => by show (i 0).val = if (128 : Nat) = 1 then 0 else (i 0).val; rw [if_neg (by decide)])

def val_main_v85 : (⟨S32, .i32⟩ : BufTy).Contents (Elt F) :=
  iotaInDim S32 32 0
theorem val_main_v85_apply (i : S32.Idx) :
    val_main_v85 (F := F) i = BitVec.ofNat 32 (i 0).val := rfl

def val_main_v86 : (⟨S1x32, .i32⟩ : BufTy).Contents (Elt F) :=
  broadcastInDim S1x32 ![1] bcast_S32_S1x32_1 (val_main_v85 (F := F))
abbrev idx_main_v86 (i : S1x32.Idx) : S32.Idx := fun a => match a with
  | ⟨0, _⟩ => ⟨(i 1).val, (i 1).isLt⟩
theorem val_main_v86_apply (i : S1x32.Idx) :
    val_main_v86 (F := F) i = val_main_v85 (F := F) (idx_main_v86 i) := by
  unfold val_main_v86
  generalize val_main_v85 (F := F) = y
  exact broadcastInDim_apply _ bcast_S32_S1x32_1 y i (idx_main_v86 i) (fun a => match a with
    | ⟨0, _⟩ => by show (i 1).val = if (32 : Nat) = 1 then 0 else (i 1).val; rw [if_neg (by decide)])

def val_main_c : (⟨S_, .i32⟩ : BufTy).Contents (Elt F) :=
  constantI S_ 32 0#32
theorem val_main_c_apply (i : S_.Idx) :
    val_main_c (F := F) i = 0#32 := rfl

def val_main_v87 : (⟨S128x1, .i32⟩ : BufTy).Contents (Elt F) :=
  broadcastInDim S128x1 ![] bcast_S_S128x1 (val_main_c (F := F))
abbrev idx_main_v87 (i : S128x1.Idx) : S_.Idx := fun a => a.elim0
theorem val_main_v87_apply (i : S128x1.Idx) :
    val_main_v87 (F := F) i = val_main_c (F := F) (idx_main_v87 i) := by
  unfold val_main_v87
  generalize val_main_c (F := F) = y
  exact broadcastInDim_apply _ bcast_S_S128x1 y i (idx_main_v87 i) (fun a => a.elim0)

def val_main_v88 : (⟨S128x1, .i1⟩ : BufTy).Contents (Elt F) :=
  cmpi .slt (val_main_v84 (F := F)) (val_main_v87 (F := F))
theorem val_main_v88_apply (i : S128x1.Idx) :
    val_main_v88 (F := F) i = IntOp.cmpi .slt (val_main_v84 (F := F) i) (val_main_v87 (F := F) i) := rfl

def val_main_c_9 : (⟨S_, .i32⟩ : BufTy).Contents (Elt F) :=
  constantI S_ 32 128#32
theorem val_main_c_9_apply (i : S_.Idx) :
    val_main_c_9 (F := F) i = 128#32 := rfl

def val_main_v89 : (⟨S128x1, .i32⟩ : BufTy).Contents (Elt F) :=
  broadcastInDim S128x1 ![] bcast_S_S128x1 (val_main_c_9 (F := F))
abbrev idx_main_v89 (i : S128x1.Idx) : S_.Idx := fun a => a.elim0
theorem val_main_v89_apply (i : S128x1.Idx) :
    val_main_v89 (F := F) i = val_main_c_9 (F := F) (idx_main_v89 i) := by
  unfold val_main_v89
  generalize val_main_c_9 (F := F) = y
  exact broadcastInDim_apply _ bcast_S_S128x1 y i (idx_main_v89 i) (fun a => a.elim0)

def val_main_v90 : (⟨S128x1, .i32⟩ : BufTy).Contents (Elt F) :=
  addi (val_main_v84 (F := F)) (val_main_v89 (F := F))
theorem val_main_v90_apply (i : S128x1.Idx) :
    val_main_v90 (F := F) i = IntOp.addi (val_main_v84 (F := F) i) (val_main_v89 (F := F) i) := rfl

def val_main_v91 : (⟨S128x1, .i32⟩ : BufTy).Contents (Elt F) :=
  select (val_main_v88 (F := F)) (val_main_v90 (F := F)) (val_main_v84 (F := F))
theorem val_main_v91_apply (i : S128x1.Idx) :
    val_main_v91 (F := F) i = Scalar.select (val_main_v88 (F := F) i) (val_main_v90 (F := F) i) (val_main_v84 (F := F) i) := rfl

def val_main_c_10 : (⟨S_, .i32⟩ : BufTy).Contents (Elt F) :=
  constantI S_ 32 0#32
theorem val_main_c_10_apply (i : S_.Idx) :
    val_main_c_10 (F := F) i = 0#32 := rfl

def val_main_v92 : (⟨S128x32, .i32⟩ : BufTy).Contents (Elt F) :=
  broadcastInDim S128x32 ![] bcast_S_S128x32 (val_main_c_10 (F := F))
abbrev idx_main_v92 (i : S128x32.Idx) : S_.Idx := fun a => a.elim0
theorem val_main_v92_apply (i : S128x32.Idx) :
    val_main_v92 (F := F) i = val_main_c_10 (F := F) (idx_main_v92 i) := by
  unfold val_main_v92
  generalize val_main_c_10 (F := F) = y
  exact broadcastInDim_apply _ bcast_S_S128x32 y i (idx_main_v92 i) (fun a => a.elim0)

def val_main_v93 (x2 : (⟨S128x32x4, .f32⟩ : BufTy).Contents (Elt F)) (x4 : (⟨S5685x4, .f32⟩ : BufTy).Contents (Elt F)) : (⟨S128x32, .i1⟩ : BufTy).Contents (Elt F) :=
  cmpi .slt (val_main_v82 (F := F) x2 x4) (val_main_v92 (F := F))
theorem val_main_v93_apply (x2 : (⟨S128x32x4, .f32⟩ : BufTy).Contents (Elt F)) (x4 : (⟨S5685x4, .f32⟩ : BufTy).Contents (Elt F)) (i : S128x32.Idx) :
    val_main_v93 (F := F) x2 x4 i = IntOp.cmpi .slt (val_main_v82 (F := F) x2 x4 i) (val_main_v92 (F := F) i) := rfl

def val_main_c_11 : (⟨S_, .i32⟩ : BufTy).Contents (Elt F) :=
  constantI S_ 32 5685#32
theorem val_main_c_11_apply (i : S_.Idx) :
    val_main_c_11 (F := F) i = 5685#32 := rfl

def val_main_v94 : (⟨S128x32, .i32⟩ : BufTy).Contents (Elt F) :=
  broadcastInDim S128x32 ![] bcast_S_S128x32 (val_main_c_11 (F := F))
abbrev idx_main_v94 (i : S128x32.Idx) : S_.Idx := fun a => a.elim0
theorem val_main_v94_apply (i : S128x32.Idx) :
    val_main_v94 (F := F) i = val_main_c_11 (F := F) (idx_main_v94 i) := by
  unfold val_main_v94
  generalize val_main_c_11 (F := F) = y
  exact broadcastInDim_apply _ bcast_S_S128x32 y i (idx_main_v94 i) (fun a => a.elim0)

def val_main_v95 (x2 : (⟨S128x32x4, .f32⟩ : BufTy).Contents (Elt F)) (x4 : (⟨S5685x4, .f32⟩ : BufTy).Contents (Elt F)) : (⟨S128x32, .i32⟩ : BufTy).Contents (Elt F) :=
  addi (val_main_v82 (F := F) x2 x4) (val_main_v94 (F := F))
theorem val_main_v95_apply (x2 : (⟨S128x32x4, .f32⟩ : BufTy).Contents (Elt F)) (x4 : (⟨S5685x4, .f32⟩ : BufTy).Contents (Elt F)) (i : S128x32.Idx) :
    val_main_v95 (F := F) x2 x4 i = IntOp.addi (val_main_v82 (F := F) x2 x4 i) (val_main_v94 (F := F) i) := rfl

def val_main_v96 (x2 : (⟨S128x32x4, .f32⟩ : BufTy).Contents (Elt F)) (x4 : (⟨S5685x4, .f32⟩ : BufTy).Contents (Elt F)) : (⟨S128x32, .i32⟩ : BufTy).Contents (Elt F) :=
  select (val_main_v93 (F := F) x2 x4) (val_main_v95 (F := F) x2 x4) (val_main_v82 (F := F) x2 x4)
theorem val_main_v96_apply (x2 : (⟨S128x32x4, .f32⟩ : BufTy).Contents (Elt F)) (x4 : (⟨S5685x4, .f32⟩ : BufTy).Contents (Elt F)) (i : S128x32.Idx) :
    val_main_v96 (F := F) x2 x4 i = Scalar.select (val_main_v93 (F := F) x2 x4 i) (val_main_v95 (F := F) x2 x4 i) (val_main_v82 (F := F) x2 x4 i) := rfl

def val_main_v97 : (⟨S128x32, .i32⟩ : BufTy).Contents (Elt F) :=
  broadcastInDim S128x32 ![0, 1] bcast_S128x1_S128x32_0_1 (val_main_v91 (F := F))
abbrev idx_main_v97 (i : S128x32.Idx) : S128x1.Idx := fun a => match a with
  | ⟨0, _⟩ => ⟨(i 0).val, (i 0).isLt⟩
  | ⟨1, _⟩ => ⟨0, Nat.one_pos⟩
theorem val_main_v97_apply (i : S128x32.Idx) :
    val_main_v97 (F := F) i = val_main_v91 (F := F) (idx_main_v97 i) := by
  unfold val_main_v97
  generalize val_main_v91 (F := F) = y
  exact broadcastInDim_apply _ bcast_S128x1_S128x32_0_1 y i (idx_main_v97 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v98 : (⟨S128x32x1, .i32⟩ : BufTy).Contents (Elt F) :=
  broadcastInDim S128x32x1 ![0, 1] bcast_S128x32_S128x32x1_0_1 (val_main_v97 (F := F))
abbrev idx_main_v98 (i : S128x32x1.Idx) : S128x32.Idx := fun a => match a with
  | ⟨0, _⟩ => ⟨(i 0).val, (i 0).isLt⟩
  | ⟨1, _⟩ => ⟨(i 1).val, (i 1).isLt⟩
theorem val_main_v98_apply (i : S128x32x1.Idx) :
    val_main_v98 (F := F) i = val_main_v97 (F := F) (idx_main_v98 i) := by
  unfold val_main_v98
  generalize val_main_v97 (F := F) = y
  exact broadcastInDim_apply _ bcast_S128x32_S128x32x1_0_1 y i (idx_main_v98 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)])

def val_main_v99 (x2 : (⟨S128x32x4, .f32⟩ : BufTy).Contents (Elt F)) (x4 : (⟨S5685x4, .f32⟩ : BufTy).Contents (Elt F)) : (⟨S128x32x1, .i32⟩ : BufTy).Contents (Elt F) :=
  broadcastInDim S128x32x1 ![0, 1] bcast_S128x32_S128x32x1_0_1 (val_main_v96 (F := F) x2 x4)
abbrev idx_main_v99 (i : S128x32x1.Idx) : S128x32.Idx := fun a => match a with
  | ⟨0, _⟩ => ⟨(i 0).val, (i 0).isLt⟩
  | ⟨1, _⟩ => ⟨(i 1).val, (i 1).isLt⟩
theorem val_main_v99_apply (x2 : (⟨S128x32x4, .f32⟩ : BufTy).Contents (Elt F)) (x4 : (⟨S5685x4, .f32⟩ : BufTy).Contents (Elt F)) (i : S128x32x1.Idx) :
    val_main_v99 (F := F) x2 x4 i = val_main_v96 (F := F) x2 x4 (idx_main_v99 i) := by
  unfold val_main_v99
  generalize val_main_v96 (F := F) x2 x4 = y
  exact broadcastInDim_apply _ bcast_S128x32_S128x32x1_0_1 y i (idx_main_v99 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)])

def val_main_v100 (x2 : (⟨S128x32x4, .f32⟩ : BufTy).Contents (Elt F)) (x4 : (⟨S5685x4, .f32⟩ : BufTy).Contents (Elt F)) : (⟨S128x32x2, .i32⟩ : BufTy).Contents (Elt F) :=
  concatenate S128x32x2 2 [⟨S128x32x1, (val_main_v98 (F := F))⟩, ⟨S128x32x1, (val_main_v99 (F := F) x2 x4)⟩] concatenates_S128x32x1_S128x32x1_S128x32x2_d2

def val_main_v101 : (⟨S128x32, .i32⟩ : BufTy).Contents (Elt F) :=
  broadcastInDim S128x32 ![0, 1] bcast_S1x32_S128x32_0_1 (val_main_v86 (F := F))
abbrev idx_main_v101 (i : S128x32.Idx) : S1x32.Idx := fun a => match a with
  | ⟨0, _⟩ => ⟨0, Nat.one_pos⟩
  | ⟨1, _⟩ => ⟨(i 1).val, (i 1).isLt⟩
theorem val_main_v101_apply (i : S128x32.Idx) :
    val_main_v101 (F := F) i = val_main_v86 (F := F) (idx_main_v101 i) := by
  unfold val_main_v101
  generalize val_main_v86 (F := F) = y
  exact broadcastInDim_apply _ bcast_S1x32_S128x32_0_1 y i (idx_main_v101 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v102 (x2 : (⟨S128x32x4, .f32⟩ : BufTy).Contents (Elt F)) (x4 : (⟨S5685x4, .f32⟩ : BufTy).Contents (Elt F)) : (⟨S128x5685, .i32⟩ : BufTy).Contents (Elt F) :=
  Host.scatter scatter_S128x5685_S128x32x2_S128x32_n_01_01_2 (fun _ b => b) (val_main_v81 (F := F) x2 x4) (val_main_v100 (F := F) x2 x4) (val_main_v101 (F := F))

def val_main_c_12 : (⟨S_, .i32⟩ : BufTy).Contents (Elt F) :=
  constantI S_ 32 0#32
theorem val_main_c_12_apply (i : S_.Idx) :
    val_main_c_12 (F := F) i = 0#32 := rfl

def val_main_v103 : (⟨S128x1, .i32⟩ : BufTy).Contents (Elt F) :=
  broadcastInDim S128x1 ![] bcast_S_S128x1 (val_main_c_12 (F := F))
abbrev idx_main_v103 (i : S128x1.Idx) : S_.Idx := fun a => a.elim0
theorem val_main_v103_apply (i : S128x1.Idx) :
    val_main_v103 (F := F) i = val_main_c_12 (F := F) (idx_main_v103 i) := by
  unfold val_main_v103
  generalize val_main_c_12 (F := F) = y
  exact broadcastInDim_apply _ bcast_S_S128x1 y i (idx_main_v103 i) (fun a => a.elim0)

def val_main_v104 : (⟨S128x1, .i1⟩ : BufTy).Contents (Elt F) :=
  cmpi .slt (val_main_v84 (F := F)) (val_main_v103 (F := F))
theorem val_main_v104_apply (i : S128x1.Idx) :
    val_main_v104 (F := F) i = IntOp.cmpi .slt (val_main_v84 (F := F) i) (val_main_v103 (F := F) i) := rfl

def val_main_c_13 : (⟨S_, .i32⟩ : BufTy).Contents (Elt F) :=
  constantI S_ 32 128#32
theorem val_main_c_13_apply (i : S_.Idx) :
    val_main_c_13 (F := F) i = 128#32 := rfl

def val_main_v105 : (⟨S128x1, .i32⟩ : BufTy).Contents (Elt F) :=
  broadcastInDim S128x1 ![] bcast_S_S128x1 (val_main_c_13 (F := F))
abbrev idx_main_v105 (i : S128x1.Idx) : S_.Idx := fun a => a.elim0
theorem val_main_v105_apply (i : S128x1.Idx) :
    val_main_v105 (F := F) i = val_main_c_13 (F := F) (idx_main_v105 i) := by
  unfold val_main_v105
  generalize val_main_c_13 (F := F) = y
  exact broadcastInDim_apply _ bcast_S_S128x1 y i (idx_main_v105 i) (fun a => a.elim0)

def val_main_v106 : (⟨S128x1, .i32⟩ : BufTy).Contents (Elt F) :=
  addi (val_main_v84 (F := F)) (val_main_v105 (F := F))
theorem val_main_v106_apply (i : S128x1.Idx) :
    val_main_v106 (F := F) i = IntOp.addi (val_main_v84 (F := F) i) (val_main_v105 (F := F) i) := rfl

def val_main_v107 : (⟨S128x1, .i32⟩ : BufTy).Contents (Elt F) :=
  select (val_main_v104 (F := F)) (val_main_v106 (F := F)) (val_main_v84 (F := F))
theorem val_main_v107_apply (i : S128x1.Idx) :
    val_main_v107 (F := F) i = Scalar.select (val_main_v104 (F := F) i) (val_main_v106 (F := F) i) (val_main_v84 (F := F) i) := rfl

def val_main_c_14 : (⟨S_, .i32⟩ : BufTy).Contents (Elt F) :=
  constantI S_ 32 0#32
theorem val_main_c_14_apply (i : S_.Idx) :
    val_main_c_14 (F := F) i = 0#32 := rfl

def val_main_v108 : (⟨S128x32, .i32⟩ : BufTy).Contents (Elt F) :=
  broadcastInDim S128x32 ![] bcast_S_S128x32 (val_main_c_14 (F := F))
abbrev idx_main_v108 (i : S128x32.Idx) : S_.Idx := fun a => a.elim0
theorem val_main_v108_apply (i : S128x32.Idx) :
    val_main_v108 (F := F) i = val_main_c_14 (F := F) (idx_main_v108 i) := by
  unfold val_main_v108
  generalize val_main_c_14 (F := F) = y
  exact broadcastInDim_apply _ bcast_S_S128x32 y i (idx_main_v108 i) (fun a => a.elim0)

def val_main_v109 (x2 : (⟨S128x32x4, .f32⟩ : BufTy).Contents (Elt F)) (x4 : (⟨S5685x4, .f32⟩ : BufTy).Contents (Elt F)) : (⟨S128x32, .i1⟩ : BufTy).Contents (Elt F) :=
  cmpi .slt (val_main_v82 (F := F) x2 x4) (val_main_v108 (F := F))
theorem val_main_v109_apply (x2 : (⟨S128x32x4, .f32⟩ : BufTy).Contents (Elt F)) (x4 : (⟨S5685x4, .f32⟩ : BufTy).Contents (Elt F)) (i : S128x32.Idx) :
    val_main_v109 (F := F) x2 x4 i = IntOp.cmpi .slt (val_main_v82 (F := F) x2 x4 i) (val_main_v108 (F := F) i) := rfl

def val_main_c_15 : (⟨S_, .i32⟩ : BufTy).Contents (Elt F) :=
  constantI S_ 32 5685#32
theorem val_main_c_15_apply (i : S_.Idx) :
    val_main_c_15 (F := F) i = 5685#32 := rfl

def val_main_v110 : (⟨S128x32, .i32⟩ : BufTy).Contents (Elt F) :=
  broadcastInDim S128x32 ![] bcast_S_S128x32 (val_main_c_15 (F := F))
abbrev idx_main_v110 (i : S128x32.Idx) : S_.Idx := fun a => a.elim0
theorem val_main_v110_apply (i : S128x32.Idx) :
    val_main_v110 (F := F) i = val_main_c_15 (F := F) (idx_main_v110 i) := by
  unfold val_main_v110
  generalize val_main_c_15 (F := F) = y
  exact broadcastInDim_apply _ bcast_S_S128x32 y i (idx_main_v110 i) (fun a => a.elim0)

def val_main_v111 (x2 : (⟨S128x32x4, .f32⟩ : BufTy).Contents (Elt F)) (x4 : (⟨S5685x4, .f32⟩ : BufTy).Contents (Elt F)) : (⟨S128x32, .i32⟩ : BufTy).Contents (Elt F) :=
  addi (val_main_v82 (F := F) x2 x4) (val_main_v110 (F := F))
theorem val_main_v111_apply (x2 : (⟨S128x32x4, .f32⟩ : BufTy).Contents (Elt F)) (x4 : (⟨S5685x4, .f32⟩ : BufTy).Contents (Elt F)) (i : S128x32.Idx) :
    val_main_v111 (F := F) x2 x4 i = IntOp.addi (val_main_v82 (F := F) x2 x4 i) (val_main_v110 (F := F) i) := rfl

def val_main_v112 (x2 : (⟨S128x32x4, .f32⟩ : BufTy).Contents (Elt F)) (x4 : (⟨S5685x4, .f32⟩ : BufTy).Contents (Elt F)) : (⟨S128x32, .i32⟩ : BufTy).Contents (Elt F) :=
  select (val_main_v109 (F := F) x2 x4) (val_main_v111 (F := F) x2 x4) (val_main_v82 (F := F) x2 x4)
theorem val_main_v112_apply (x2 : (⟨S128x32x4, .f32⟩ : BufTy).Contents (Elt F)) (x4 : (⟨S5685x4, .f32⟩ : BufTy).Contents (Elt F)) (i : S128x32.Idx) :
    val_main_v112 (F := F) x2 x4 i = Scalar.select (val_main_v109 (F := F) x2 x4 i) (val_main_v111 (F := F) x2 x4 i) (val_main_v82 (F := F) x2 x4 i) := rfl

def val_main_v113 : (⟨S128x32, .i32⟩ : BufTy).Contents (Elt F) :=
  broadcastInDim S128x32 ![0, 1] bcast_S128x1_S128x32_0_1 (val_main_v107 (F := F))
abbrev idx_main_v113 (i : S128x32.Idx) : S128x1.Idx := fun a => match a with
  | ⟨0, _⟩ => ⟨(i 0).val, (i 0).isLt⟩
  | ⟨1, _⟩ => ⟨0, Nat.one_pos⟩
theorem val_main_v113_apply (i : S128x32.Idx) :
    val_main_v113 (F := F) i = val_main_v107 (F := F) (idx_main_v113 i) := by
  unfold val_main_v113
  generalize val_main_v107 (F := F) = y
  exact broadcastInDim_apply _ bcast_S128x1_S128x32_0_1 y i (idx_main_v113 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v114 : (⟨S128x32x1, .i32⟩ : BufTy).Contents (Elt F) :=
  broadcastInDim S128x32x1 ![0, 1] bcast_S128x32_S128x32x1_0_1 (val_main_v113 (F := F))
abbrev idx_main_v114 (i : S128x32x1.Idx) : S128x32.Idx := fun a => match a with
  | ⟨0, _⟩ => ⟨(i 0).val, (i 0).isLt⟩
  | ⟨1, _⟩ => ⟨(i 1).val, (i 1).isLt⟩
theorem val_main_v114_apply (i : S128x32x1.Idx) :
    val_main_v114 (F := F) i = val_main_v113 (F := F) (idx_main_v114 i) := by
  unfold val_main_v114
  generalize val_main_v113 (F := F) = y
  exact broadcastInDim_apply _ bcast_S128x32_S128x32x1_0_1 y i (idx_main_v114 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)])

def val_main_v115 (x2 : (⟨S128x32x4, .f32⟩ : BufTy).Contents (Elt F)) (x4 : (⟨S5685x4, .f32⟩ : BufTy).Contents (Elt F)) : (⟨S128x32x1, .i32⟩ : BufTy).Contents (Elt F) :=
  broadcastInDim S128x32x1 ![0, 1] bcast_S128x32_S128x32x1_0_1 (val_main_v112 (F := F) x2 x4)
abbrev idx_main_v115 (i : S128x32x1.Idx) : S128x32.Idx := fun a => match a with
  | ⟨0, _⟩ => ⟨(i 0).val, (i 0).isLt⟩
  | ⟨1, _⟩ => ⟨(i 1).val, (i 1).isLt⟩
theorem val_main_v115_apply (x2 : (⟨S128x32x4, .f32⟩ : BufTy).Contents (Elt F)) (x4 : (⟨S5685x4, .f32⟩ : BufTy).Contents (Elt F)) (i : S128x32x1.Idx) :
    val_main_v115 (F := F) x2 x4 i = val_main_v112 (F := F) x2 x4 (idx_main_v115 i) := by
  unfold val_main_v115
  generalize val_main_v112 (F := F) x2 x4 = y
  exact broadcastInDim_apply _ bcast_S128x32_S128x32x1_0_1 y i (idx_main_v115 i) (fun a => match a with
    | ⟨0, _⟩ => by show (i 0).val = if (128 : Nat) = 1 then 0 else (i 0).val; rw [if_neg (by decide)]
    | ⟨1, _⟩ => by show (i 1).val = if (32 : Nat) = 1 then 0 else (i 1).val; rw [if_neg (by decide)])

def val_main_v116 (x2 : (⟨S128x32x4, .f32⟩ : BufTy).Contents (Elt F)) (x4 : (⟨S5685x4, .f32⟩ : BufTy).Contents (Elt F)) : (⟨S128x32x2, .i32⟩ : BufTy).Contents (Elt F) :=
  concatenate S128x32x2 2 [⟨S128x32x1, (val_main_v114 (F := F))⟩, ⟨S128x32x1, (val_main_v115 (F := F) x2 x4)⟩] concatenates_S128x32x1_S128x32x1_S128x32x2_d2

def val_main_cst_16 : (⟨S_, .f32⟩ : BufTy).Contents (Elt F) :=
  constant S_ .f32 0x3F800000#32
theorem val_main_cst_16_apply (i : S_.Idx) :
    val_main_cst_16 (F := F) i = FloatOps.ofBits .f32 0x3F800000#32 := rfl

def val_main_v117 : (⟨S128x32, .f32⟩ : BufTy).Contents (Elt F) :=
  broadcastInDim S128x32 ![] bcast_S_S128x32 (val_main_cst_16 (F := F))
abbrev idx_main_v117 (i : S128x32.Idx) : S_.Idx := fun a => a.elim0
theorem val_main_v117_apply (i : S128x32.Idx) :
    val_main_v117 (F := F) i = val_main_cst_16 (F := F) (idx_main_v117 i) := by
  unfold val_main_v117
  generalize val_main_cst_16 (F := F) = y
  exact broadcastInDim_apply _ bcast_S_S128x32 y i (idx_main_v117 i) (fun a => a.elim0)

def val_main_v118 (x2 : (⟨S128x32x4, .f32⟩ : BufTy).Contents (Elt F)) (x4 : (⟨S5685x4, .f32⟩ : BufTy).Contents (Elt F)) : (⟨S128x5685, .f32⟩ : BufTy).Contents (Elt F) :=
  Host.scatter scatter_S128x5685_S128x32x2_S128x32_n_01_01_2 (fun _ b => b) (val_main_v80 (F := F) x2 x4) (val_main_v116 (F := F) x2 x4) (val_main_v117 (F := F))

def val_main_c_17 : (⟨S_, .i32⟩ : BufTy).Contents (Elt F) :=
  constantI S_ 32 0#32
theorem val_main_c_17_apply (i : S_.Idx) :
    val_main_c_17 (F := F) i = 0#32 := rfl

end Cert.ReferenceIdeal.Read

end
-- ==== Proof.RefReadB.lean ====
/- The reference's loss stages, one definition per operation, each read at an index. -/
module

public import proofs.«01_k».proof.Proof.RefReadA

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v119 : (⟨S128x1, .i32⟩ : BufTy).Contents (Elt F) :=
  broadcastInDim S128x1 ![] bcast_S_S128x1 (val_main_c_17 (F := F))
abbrev idx_main_v119 (i : S128x1.Idx) : S_.Idx := fun a => a.elim0
theorem val_main_v119_apply (i : S128x1.Idx) :
    val_main_v119 (F := F) i = val_main_c_17 (F := F) (idx_main_v119 i) := by
  unfold val_main_v119
  generalize val_main_c_17 (F := F) = y
  exact broadcastInDim_apply _ bcast_S_S128x1 y i (idx_main_v119 i) (fun a => a.elim0)

def val_main_v120 : (⟨S128x1, .i1⟩ : BufTy).Contents (Elt F) :=
  cmpi .slt (val_main_v84 (F := F)) (val_main_v119 (F := F))
theorem val_main_v120_apply (i : S128x1.Idx) :
    val_main_v120 (F := F) i = IntOp.cmpi .slt (val_main_v84 (F := F) i) (val_main_v119 (F := F) i) := rfl

def val_main_c_18 : (⟨S_, .i32⟩ : BufTy).Contents (Elt F) :=
  constantI S_ 32 128#32
theorem val_main_c_18_apply (i : S_.Idx) :
    val_main_c_18 (F := F) i = 128#32 := rfl

def val_main_v121 : (⟨S128x1, .i32⟩ : BufTy).Contents (Elt F) :=
  broadcastInDim S128x1 ![] bcast_S_S128x1 (val_main_c_18 (F := F))
abbrev idx_main_v121 (i : S128x1.Idx) : S_.Idx := fun a => a.elim0
theorem val_main_v121_apply (i : S128x1.Idx) :
    val_main_v121 (F := F) i = val_main_c_18 (F := F) (idx_main_v121 i) := by
  unfold val_main_v121
  generalize val_main_c_18 (F := F) = y
  exact broadcastInDim_apply _ bcast_S_S128x1 y i (idx_main_v121 i) (fun a => a.elim0)

def val_main_v122 : (⟨S128x1, .i32⟩ : BufTy).Contents (Elt F) :=
  addi (val_main_v84 (F := F)) (val_main_v121 (F := F))
theorem val_main_v122_apply (i : S128x1.Idx) :
    val_main_v122 (F := F) i = IntOp.addi (val_main_v84 (F := F) i) (val_main_v121 (F := F) i) := rfl

def val_main_v123 : (⟨S128x1, .i32⟩ : BufTy).Contents (Elt F) :=
  select (val_main_v120 (F := F)) (val_main_v122 (F := F)) (val_main_v84 (F := F))
theorem val_main_v123_apply (i : S128x1.Idx) :
    val_main_v123 (F := F) i = Scalar.select (val_main_v120 (F := F) i) (val_main_v122 (F := F) i) (val_main_v84 (F := F) i) := rfl

def val_main_c_19 : (⟨S_, .i32⟩ : BufTy).Contents (Elt F) :=
  constantI S_ 32 0#32
theorem val_main_c_19_apply (i : S_.Idx) :
    val_main_c_19 (F := F) i = 0#32 := rfl

def val_main_v124 : (⟨S128x5685, .i32⟩ : BufTy).Contents (Elt F) :=
  broadcastInDim S128x5685 ![] bcast_S_S128x5685 (val_main_c_19 (F := F))
abbrev idx_main_v124 (i : S128x5685.Idx) : S_.Idx := fun a => a.elim0
theorem val_main_v124_apply (i : S128x5685.Idx) :
    val_main_v124 (F := F) i = val_main_c_19 (F := F) (idx_main_v124 i) := by
  unfold val_main_v124
  generalize val_main_c_19 (F := F) = y
  exact broadcastInDim_apply _ bcast_S_S128x5685 y i (idx_main_v124 i) (fun a => a.elim0)

def val_main_v125 (x2 : (⟨S128x32x4, .f32⟩ : BufTy).Contents (Elt F)) (x4 : (⟨S5685x4, .f32⟩ : BufTy).Contents (Elt F)) : (⟨S128x5685, .i1⟩ : BufTy).Contents (Elt F) :=
  cmpi .slt (val_main_v102 (F := F) x2 x4) (val_main_v124 (F := F))
theorem val_main_v125_apply (x2 : (⟨S128x32x4, .f32⟩ : BufTy).Contents (Elt F)) (x4 : (⟨S5685x4, .f32⟩ : BufTy).Contents (Elt F)) (i : S128x5685.Idx) :
    val_main_v125 (F := F) x2 x4 i = IntOp.cmpi .slt (val_main_v102 (F := F) x2 x4 i) (val_main_v124 (F := F) i) := rfl

def val_main_c_20 : (⟨S_, .i32⟩ : BufTy).Contents (Elt F) :=
  constantI S_ 32 32#32
theorem val_main_c_20_apply (i : S_.Idx) :
    val_main_c_20 (F := F) i = 32#32 := rfl

def val_main_v126 : (⟨S128x5685, .i32⟩ : BufTy).Contents (Elt F) :=
  broadcastInDim S128x5685 ![] bcast_S_S128x5685 (val_main_c_20 (F := F))
abbrev idx_main_v126 (i : S128x5685.Idx) : S_.Idx := fun a => a.elim0
theorem val_main_v126_apply (i : S128x5685.Idx) :
    val_main_v126 (F := F) i = val_main_c_20 (F := F) (idx_main_v126 i) := by
  unfold val_main_v126
  generalize val_main_c_20 (F := F) = y
  exact broadcastInDim_apply _ bcast_S_S128x5685 y i (idx_main_v126 i) (fun a => a.elim0)

def val_main_v127 (x2 : (⟨S128x32x4, .f32⟩ : BufTy).Contents (Elt F)) (x4 : (⟨S5685x4, .f32⟩ : BufTy).Contents (Elt F)) : (⟨S128x5685, .i32⟩ : BufTy).Contents (Elt F) :=
  addi (val_main_v102 (F := F) x2 x4) (val_main_v126 (F := F))
theorem val_main_v127_apply (x2 : (⟨S128x32x4, .f32⟩ : BufTy).Contents (Elt F)) (x4 : (⟨S5685x4, .f32⟩ : BufTy).Contents (Elt F)) (i : S128x5685.Idx) :
    val_main_v127 (F := F) x2 x4 i = IntOp.addi (val_main_v102 (F := F) x2 x4 i) (val_main_v126 (F := F) i) := rfl

def val_main_v128 (x2 : (⟨S128x32x4, .f32⟩ : BufTy).Contents (Elt F)) (x4 : (⟨S5685x4, .f32⟩ : BufTy).Contents (Elt F)) : (⟨S128x5685, .i32⟩ : BufTy).Contents (Elt F) :=
  select (val_main_v125 (F := F) x2 x4) (val_main_v127 (F := F) x2 x4) (val_main_v102 (F := F) x2 x4)
theorem val_main_v128_apply (x2 : (⟨S128x32x4, .f32⟩ : BufTy).Contents (Elt F)) (x4 : (⟨S5685x4, .f32⟩ : BufTy).Contents (Elt F)) (i : S128x5685.Idx) :
    val_main_v128 (F := F) x2 x4 i = Scalar.select (val_main_v125 (F := F) x2 x4 i) (val_main_v127 (F := F) x2 x4 i) (val_main_v102 (F := F) x2 x4 i) := rfl

def val_main_v129 : (⟨S128x5685, .i32⟩ : BufTy).Contents (Elt F) :=
  broadcastInDim S128x5685 ![0, 1] bcast_S128x1_S128x5685_0_1 (val_main_v123 (F := F))
abbrev idx_main_v129 (i : S128x5685.Idx) : S128x1.Idx := fun a => match a with
  | ⟨0, _⟩ => ⟨(i 0).val, (i 0).isLt⟩
  | ⟨1, _⟩ => ⟨0, Nat.one_pos⟩
theorem val_main_v129_apply (i : S128x5685.Idx) :
    val_main_v129 (F := F) i = val_main_v123 (F := F) (idx_main_v129 i) := by
  unfold val_main_v129
  generalize val_main_v123 (F := F) = y
  exact broadcastInDim_apply _ bcast_S128x1_S128x5685_0_1 y i (idx_main_v129 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v130 : (⟨S128x5685x1, .i32⟩ : BufTy).Contents (Elt F) :=
  broadcastInDim S128x5685x1 ![0, 1] bcast_S128x5685_S128x5685x1_0_1 (val_main_v129 (F := F))
abbrev idx_main_v130 (i : S128x5685x1.Idx) : S128x5685.Idx := fun a => match a with
  | ⟨0, _⟩ => ⟨(i 0).val, (i 0).isLt⟩
  | ⟨1, _⟩ => ⟨(i 1).val, (i 1).isLt⟩
theorem val_main_v130_apply (i : S128x5685x1.Idx) :
    val_main_v130 (F := F) i = val_main_v129 (F := F) (idx_main_v130 i) := by
  unfold val_main_v130
  generalize val_main_v129 (F := F) = y
  exact broadcastInDim_apply _ bcast_S128x5685_S128x5685x1_0_1 y i (idx_main_v130 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v131 (x2 : (⟨S128x32x4, .f32⟩ : BufTy).Contents (Elt F)) (x4 : (⟨S5685x4, .f32⟩ : BufTy).Contents (Elt F)) : (⟨S128x5685x1, .i32⟩ : BufTy).Contents (Elt F) :=
  broadcastInDim S128x5685x1 ![0, 1] bcast_S128x5685_S128x5685x1_0_1 (val_main_v128 (F := F) x2 x4)
abbrev idx_main_v131 (i : S128x5685x1.Idx) : S128x5685.Idx := fun a => match a with
  | ⟨0, _⟩ => ⟨(i 0).val, (i 0).isLt⟩
  | ⟨1, _⟩ => ⟨(i 1).val, (i 1).isLt⟩
theorem val_main_v131_apply (x2 : (⟨S128x32x4, .f32⟩ : BufTy).Contents (Elt F)) (x4 : (⟨S5685x4, .f32⟩ : BufTy).Contents (Elt F)) (i : S128x5685x1.Idx) :
    val_main_v131 (F := F) x2 x4 i = val_main_v128 (F := F) x2 x4 (idx_main_v131 i) := by
  unfold val_main_v131
  generalize val_main_v128 (F := F) x2 x4 = y
  exact broadcastInDim_apply _ bcast_S128x5685_S128x5685x1_0_1 y i (idx_main_v131 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v132 (x2 : (⟨S128x32x4, .f32⟩ : BufTy).Contents (Elt F)) (x4 : (⟨S5685x4, .f32⟩ : BufTy).Contents (Elt F)) : (⟨S128x5685x2, .i32⟩ : BufTy).Contents (Elt F) :=
  concatenate S128x5685x2 2 [⟨S128x5685x1, (val_main_v130 (F := F))⟩, ⟨S128x5685x1, (val_main_v131 (F := F) x2 x4)⟩] concatenates_S128x5685x1_S128x5685x1_S128x5685x2_d2

def val_main_v133 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i32⟩ : BufTy).Contents (Elt F) :=
  Host.gather gather_S128x32_S128x5685x2_S128x5685_n_01_n_n_01_2_11 (x3) (val_main_v132 (F := F) x2 x4)

def val_main_c_21 : (⟨S_, .i32⟩ : BufTy).Contents (Elt F) :=
  constantI S_ 32 0#32
theorem val_main_c_21_apply (i : S_.Idx) :
    val_main_c_21 (F := F) i = 0#32 := rfl

def val_main_v134 : (⟨S128x5685, .i32⟩ : BufTy).Contents (Elt F) :=
  broadcastInDim S128x5685 ![] bcast_S_S128x5685 (val_main_c_21 (F := F))
abbrev idx_main_v134 (i : S128x5685.Idx) : S_.Idx := fun a => a.elim0
theorem val_main_v134_apply (i : S128x5685.Idx) :
    val_main_v134 (F := F) i = val_main_c_21 (F := F) (idx_main_v134 i) := by
  unfold val_main_v134
  generalize val_main_c_21 (F := F) = y
  exact broadcastInDim_apply _ bcast_S_S128x5685 y i (idx_main_v134 i) (fun a => a.elim0)

def val_main_cst_22 : (⟨S_, .f32⟩ : BufTy).Contents (Elt F) :=
  constant S_ .f32 0x3F000000#32
theorem val_main_cst_22_apply (i : S_.Idx) :
    val_main_cst_22 (F := F) i = FloatOps.ofBits .f32 0x3F000000#32 := rfl

def val_main_v135 : (⟨S128x5685, .f32⟩ : BufTy).Contents (Elt F) :=
  broadcastInDim S128x5685 ![] bcast_S_S128x5685 (val_main_cst_22 (F := F))
abbrev idx_main_v135 (i : S128x5685.Idx) : S_.Idx := fun a => a.elim0
theorem val_main_v135_apply (i : S128x5685.Idx) :
    val_main_v135 (F := F) i = val_main_cst_22 (F := F) (idx_main_v135 i) := by
  unfold val_main_v135
  generalize val_main_cst_22 (F := F) = y
  exact broadcastInDim_apply _ bcast_S_S128x5685 y i (idx_main_v135 i) (fun a => a.elim0)

def val_main_v136 (x2 : (⟨S128x32x4, .f32⟩ : BufTy).Contents (Elt F)) (x4 : (⟨S5685x4, .f32⟩ : BufTy).Contents (Elt F)) : (⟨S128x5685, .i1⟩ : BufTy).Contents (Elt F) :=
  cmpf .olt (val_main_v118 (F := F) x2 x4) (val_main_v135 (F := F))
theorem val_main_v136_apply (x2 : (⟨S128x32x4, .f32⟩ : BufTy).Contents (Elt F)) (x4 : (⟨S5685x4, .f32⟩ : BufTy).Contents (Elt F)) (i : S128x5685.Idx) :
    val_main_v136 (F := F) x2 x4 i = FloatOps.cmpf .olt (val_main_v118 (F := F) x2 x4 i) (val_main_v135 (F := F) i) := rfl

def val_main_v137 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i32⟩ : BufTy).Contents (Elt F) :=
  select (val_main_v136 (F := F) x2 x4) (val_main_v134 (F := F)) (val_main_v133 (F := F) x2 x3 x4)
theorem val_main_v137_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v137 (F := F) x2 x3 x4 i = Scalar.select (val_main_v136 (F := F) x2 x4 i) (val_main_v134 (F := F) i) (val_main_v133 (F := F) x2 x3 x4 i) := rfl

def val_main_c_23 : (⟨S_, .i32⟩ : BufTy).Contents (Elt F) :=
  constantI S_ 32 0#32
theorem val_main_c_23_apply (i : S_.Idx) :
    val_main_c_23 (F := F) i = 0#32 := rfl

def val_main_v138 : (⟨S128x1, .i32⟩ : BufTy).Contents (Elt F) :=
  broadcastInDim S128x1 ![] bcast_S_S128x1 (val_main_c_23 (F := F))
abbrev idx_main_v138 (i : S128x1.Idx) : S_.Idx := fun a => a.elim0
theorem val_main_v138_apply (i : S128x1.Idx) :
    val_main_v138 (F := F) i = val_main_c_23 (F := F) (idx_main_v138 i) := by
  unfold val_main_v138
  generalize val_main_c_23 (F := F) = y
  exact broadcastInDim_apply _ bcast_S_S128x1 y i (idx_main_v138 i) (fun a => a.elim0)

def val_main_v139 : (⟨S128x1, .i1⟩ : BufTy).Contents (Elt F) :=
  cmpi .slt (val_main_v84 (F := F)) (val_main_v138 (F := F))
theorem val_main_v139_apply (i : S128x1.Idx) :
    val_main_v139 (F := F) i = IntOp.cmpi .slt (val_main_v84 (F := F) i) (val_main_v138 (F := F) i) := rfl

def val_main_c_24 : (⟨S_, .i32⟩ : BufTy).Contents (Elt F) :=
  constantI S_ 32 128#32
theorem val_main_c_24_apply (i : S_.Idx) :
    val_main_c_24 (F := F) i = 128#32 := rfl

def val_main_v140 : (⟨S128x1, .i32⟩ : BufTy).Contents (Elt F) :=
  broadcastInDim S128x1 ![] bcast_S_S128x1 (val_main_c_24 (F := F))
abbrev idx_main_v140 (i : S128x1.Idx) : S_.Idx := fun a => a.elim0
theorem val_main_v140_apply (i : S128x1.Idx) :
    val_main_v140 (F := F) i = val_main_c_24 (F := F) (idx_main_v140 i) := by
  unfold val_main_v140
  generalize val_main_c_24 (F := F) = y
  exact broadcastInDim_apply _ bcast_S_S128x1 y i (idx_main_v140 i) (fun a => a.elim0)

def val_main_v141 : (⟨S128x1, .i32⟩ : BufTy).Contents (Elt F) :=
  addi (val_main_v84 (F := F)) (val_main_v140 (F := F))
theorem val_main_v141_apply (i : S128x1.Idx) :
    val_main_v141 (F := F) i = IntOp.addi (val_main_v84 (F := F) i) (val_main_v140 (F := F) i) := rfl

def val_main_v142 : (⟨S128x1, .i32⟩ : BufTy).Contents (Elt F) :=
  select (val_main_v139 (F := F)) (val_main_v141 (F := F)) (val_main_v84 (F := F))
theorem val_main_v142_apply (i : S128x1.Idx) :
    val_main_v142 (F := F) i = Scalar.select (val_main_v139 (F := F) i) (val_main_v141 (F := F) i) (val_main_v84 (F := F) i) := rfl

def val_main_c_25 : (⟨S_, .i32⟩ : BufTy).Contents (Elt F) :=
  constantI S_ 32 0#32
theorem val_main_c_25_apply (i : S_.Idx) :
    val_main_c_25 (F := F) i = 0#32 := rfl

def val_main_v143 : (⟨S128x5685, .i32⟩ : BufTy).Contents (Elt F) :=
  broadcastInDim S128x5685 ![] bcast_S_S128x5685 (val_main_c_25 (F := F))
abbrev idx_main_v143 (i : S128x5685.Idx) : S_.Idx := fun a => a.elim0
theorem val_main_v143_apply (i : S128x5685.Idx) :
    val_main_v143 (F := F) i = val_main_c_25 (F := F) (idx_main_v143 i) := by
  unfold val_main_v143
  generalize val_main_c_25 (F := F) = y
  exact broadcastInDim_apply _ bcast_S_S128x5685 y i (idx_main_v143 i) (fun a => a.elim0)

def val_main_v144 (x2 : (⟨S128x32x4, .f32⟩ : BufTy).Contents (Elt F)) (x4 : (⟨S5685x4, .f32⟩ : BufTy).Contents (Elt F)) : (⟨S128x5685, .i1⟩ : BufTy).Contents (Elt F) :=
  cmpi .slt (val_main_v102 (F := F) x2 x4) (val_main_v143 (F := F))
theorem val_main_v144_apply (x2 : (⟨S128x32x4, .f32⟩ : BufTy).Contents (Elt F)) (x4 : (⟨S5685x4, .f32⟩ : BufTy).Contents (Elt F)) (i : S128x5685.Idx) :
    val_main_v144 (F := F) x2 x4 i = IntOp.cmpi .slt (val_main_v102 (F := F) x2 x4 i) (val_main_v143 (F := F) i) := rfl

def val_main_c_26 : (⟨S_, .i32⟩ : BufTy).Contents (Elt F) :=
  constantI S_ 32 32#32
theorem val_main_c_26_apply (i : S_.Idx) :
    val_main_c_26 (F := F) i = 32#32 := rfl

def val_main_v145 : (⟨S128x5685, .i32⟩ : BufTy).Contents (Elt F) :=
  broadcastInDim S128x5685 ![] bcast_S_S128x5685 (val_main_c_26 (F := F))
abbrev idx_main_v145 (i : S128x5685.Idx) : S_.Idx := fun a => a.elim0
theorem val_main_v145_apply (i : S128x5685.Idx) :
    val_main_v145 (F := F) i = val_main_c_26 (F := F) (idx_main_v145 i) := by
  unfold val_main_v145
  generalize val_main_c_26 (F := F) = y
  exact broadcastInDim_apply _ bcast_S_S128x5685 y i (idx_main_v145 i) (fun a => a.elim0)

def val_main_v146 (x2 : (⟨S128x32x4, .f32⟩ : BufTy).Contents (Elt F)) (x4 : (⟨S5685x4, .f32⟩ : BufTy).Contents (Elt F)) : (⟨S128x5685, .i32⟩ : BufTy).Contents (Elt F) :=
  addi (val_main_v102 (F := F) x2 x4) (val_main_v145 (F := F))
theorem val_main_v146_apply (x2 : (⟨S128x32x4, .f32⟩ : BufTy).Contents (Elt F)) (x4 : (⟨S5685x4, .f32⟩ : BufTy).Contents (Elt F)) (i : S128x5685.Idx) :
    val_main_v146 (F := F) x2 x4 i = IntOp.addi (val_main_v102 (F := F) x2 x4 i) (val_main_v145 (F := F) i) := rfl

def val_main_v147 (x2 : (⟨S128x32x4, .f32⟩ : BufTy).Contents (Elt F)) (x4 : (⟨S5685x4, .f32⟩ : BufTy).Contents (Elt F)) : (⟨S128x5685, .i32⟩ : BufTy).Contents (Elt F) :=
  select (val_main_v144 (F := F) x2 x4) (val_main_v146 (F := F) x2 x4) (val_main_v102 (F := F) x2 x4)
theorem val_main_v147_apply (x2 : (⟨S128x32x4, .f32⟩ : BufTy).Contents (Elt F)) (x4 : (⟨S5685x4, .f32⟩ : BufTy).Contents (Elt F)) (i : S128x5685.Idx) :
    val_main_v147 (F := F) x2 x4 i = Scalar.select (val_main_v144 (F := F) x2 x4 i) (val_main_v146 (F := F) x2 x4 i) (val_main_v102 (F := F) x2 x4 i) := rfl

def val_main_v148 : (⟨S128x5685, .i32⟩ : BufTy).Contents (Elt F) :=
  broadcastInDim S128x5685 ![0, 1] bcast_S128x1_S128x5685_0_1 (val_main_v142 (F := F))
abbrev idx_main_v148 (i : S128x5685.Idx) : S128x1.Idx := fun a => match a with
  | ⟨0, _⟩ => ⟨(i 0).val, (i 0).isLt⟩
  | ⟨1, _⟩ => ⟨0, Nat.one_pos⟩
theorem val_main_v148_apply (i : S128x5685.Idx) :
    val_main_v148 (F := F) i = val_main_v142 (F := F) (idx_main_v148 i) := by
  unfold val_main_v148
  generalize val_main_v142 (F := F) = y
  exact broadcastInDim_apply _ bcast_S128x1_S128x5685_0_1 y i (idx_main_v148 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v149 : (⟨S128x5685x1, .i32⟩ : BufTy).Contents (Elt F) :=
  broadcastInDim S128x5685x1 ![0, 1] bcast_S128x5685_S128x5685x1_0_1 (val_main_v148 (F := F))
abbrev idx_main_v149 (i : S128x5685x1.Idx) : S128x5685.Idx := fun a => match a with
  | ⟨0, _⟩ => ⟨(i 0).val, (i 0).isLt⟩
  | ⟨1, _⟩ => ⟨(i 1).val, (i 1).isLt⟩
theorem val_main_v149_apply (i : S128x5685x1.Idx) :
    val_main_v149 (F := F) i = val_main_v148 (F := F) (idx_main_v149 i) := by
  unfold val_main_v149
  generalize val_main_v148 (F := F) = y
  exact broadcastInDim_apply _ bcast_S128x5685_S128x5685x1_0_1 y i (idx_main_v149 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v150 (x2 : (⟨S128x32x4, .f32⟩ : BufTy).Contents (Elt F)) (x4 : (⟨S5685x4, .f32⟩ : BufTy).Contents (Elt F)) : (⟨S128x5685x1, .i32⟩ : BufTy).Contents (Elt F) :=
  broadcastInDim S128x5685x1 ![0, 1] bcast_S128x5685_S128x5685x1_0_1 (val_main_v147 (F := F) x2 x4)
abbrev idx_main_v150 (i : S128x5685x1.Idx) : S128x5685.Idx := fun a => match a with
  | ⟨0, _⟩ => ⟨(i 0).val, (i 0).isLt⟩
  | ⟨1, _⟩ => ⟨(i 1).val, (i 1).isLt⟩
theorem val_main_v150_apply (x2 : (⟨S128x32x4, .f32⟩ : BufTy).Contents (Elt F)) (x4 : (⟨S5685x4, .f32⟩ : BufTy).Contents (Elt F)) (i : S128x5685x1.Idx) :
    val_main_v150 (F := F) x2 x4 i = val_main_v147 (F := F) x2 x4 (idx_main_v150 i) := by
  unfold val_main_v150
  generalize val_main_v147 (F := F) x2 x4 = y
  exact broadcastInDim_apply _ bcast_S128x5685_S128x5685x1_0_1 y i (idx_main_v150 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v151 (x2 : (⟨S128x32x4, .f32⟩ : BufTy).Contents (Elt F)) (x4 : (⟨S5685x4, .f32⟩ : BufTy).Contents (Elt F)) : (⟨S128x5685x2, .i32⟩ : BufTy).Contents (Elt F) :=
  concatenate S128x5685x2 2 [⟨S128x5685x1, (val_main_v149 (F := F))⟩, ⟨S128x5685x1, (val_main_v150 (F := F) x2 x4)⟩] concatenates_S128x5685x1_S128x5685x1_S128x5685x2_d2

def val_main_v152 (x2 : (⟨S128x32x4, .f32⟩ : BufTy).Contents (Elt F)) (x4 : (⟨S5685x4, .f32⟩ : BufTy).Contents (Elt F)) : (⟨S128x5685x4, .f32⟩ : BufTy).Contents (Elt F) :=
  Host.gather gather_S128x32x4_S128x5685x2_S128x5685x4_2_01_n_n_01_2_114 (x2) (val_main_v151 (F := F) x2 x4)

def val_main_v153 (x2 : (⟨S128x32x4, .f32⟩ : BufTy).Contents (Elt F)) (x4 : (⟨S5685x4, .f32⟩ : BufTy).Contents (Elt F)) : (⟨S128x5685x2, .f32⟩ : BufTy).Contents (Elt F) :=
  extractStridedSlice S128x5685x2 ![0, 0, 2] (val_main_v152 (F := F) x2 x4) slices_S128x5685x4_S128x5685x2_0_0_2
abbrev idx_main_v153 (i : S128x5685x2.Idx) : S128x5685x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 2 := (i 2).isLt; show 2 + (i 2).val < 4; omega⟩
theorem val_main_v153_apply (x2 : (⟨S128x32x4, .f32⟩ : BufTy).Contents (Elt F)) (x4 : (⟨S5685x4, .f32⟩ : BufTy).Contents (Elt F)) (i : S128x5685x2.Idx) :
    val_main_v153 (F := F) x2 x4 i = val_main_v152 (F := F) x2 x4 (idx_main_v153 i) := by
  unfold val_main_v153
  generalize val_main_v152 (F := F) x2 x4 = y
  exact extractStridedSlice_apply ![0, 0, 2] y slices_S128x5685x4_S128x5685x2_0_0_2 i (idx_main_v153 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_v154 (x2 : (⟨S128x32x4, .f32⟩ : BufTy).Contents (Elt F)) (x4 : (⟨S5685x4, .f32⟩ : BufTy).Contents (Elt F)) : (⟨S128x5685x2, .f32⟩ : BufTy).Contents (Elt F) :=
  extractStridedSlice S128x5685x2 ![0, 0, 0] (val_main_v152 (F := F) x2 x4) slices_S128x5685x4_S128x5685x2_0_0_0
abbrev idx_main_v154 (i : S128x5685x2.Idx) : S128x5685x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 2 := (i 2).isLt; show (i 2).val < 4; omega⟩
theorem val_main_v154_apply (x2 : (⟨S128x32x4, .f32⟩ : BufTy).Contents (Elt F)) (x4 : (⟨S5685x4, .f32⟩ : BufTy).Contents (Elt F)) (i : S128x5685x2.Idx) :
    val_main_v154 (F := F) x2 x4 i = val_main_v152 (F := F) x2 x4 (idx_main_v154 i) := by
  unfold val_main_v154
  generalize val_main_v152 (F := F) x2 x4 = y
  exact extractStridedSlice_apply ![0, 0, 0] y slices_S128x5685x4_S128x5685x2_0_0_0 i (idx_main_v154 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v155 (x2 : (⟨S128x32x4, .f32⟩ : BufTy).Contents (Elt F)) (x4 : (⟨S5685x4, .f32⟩ : BufTy).Contents (Elt F)) : (⟨S128x5685x2, .f32⟩ : BufTy).Contents (Elt F) :=
  addf (val_main_v153 (F := F) x2 x4) (val_main_v154 (F := F) x2 x4)
theorem val_main_v155_apply (x2 : (⟨S128x32x4, .f32⟩ : BufTy).Contents (Elt F)) (x4 : (⟨S5685x4, .f32⟩ : BufTy).Contents (Elt F)) (i : S128x5685x2.Idx) :
    val_main_v155 (F := F) x2 x4 i = FloatOps.addf (val_main_v153 (F := F) x2 x4 i) (val_main_v154 (F := F) x2 x4 i) := rfl

def val_main_cst_27 : (⟨S_, .f32⟩ : BufTy).Contents (Elt F) :=
  constant S_ .f32 0x40000000#32
theorem val_main_cst_27_apply (i : S_.Idx) :
    val_main_cst_27 (F := F) i = FloatOps.ofBits .f32 0x40000000#32 := rfl

def val_main_v156 : (⟨S128x5685x2, .f32⟩ : BufTy).Contents (Elt F) :=
  broadcastInDim S128x5685x2 ![] bcast_S_S128x5685x2 (val_main_cst_27 (F := F))
abbrev idx_main_v156 (i : S128x5685x2.Idx) : S_.Idx := fun a => a.elim0
theorem val_main_v156_apply (i : S128x5685x2.Idx) :
    val_main_v156 (F := F) i = val_main_cst_27 (F := F) (idx_main_v156 i) := by
  unfold val_main_v156
  generalize val_main_cst_27 (F := F) = y
  exact broadcastInDim_apply _ bcast_S_S128x5685x2 y i (idx_main_v156 i) (fun a => a.elim0)

def val_main_v157 (x2 : (⟨S128x32x4, .f32⟩ : BufTy).Contents (Elt F)) (x4 : (⟨S5685x4, .f32⟩ : BufTy).Contents (Elt F)) : (⟨S128x5685x2, .f32⟩ : BufTy).Contents (Elt F) :=
  Host.divf (val_main_v155 (F := F) x2 x4) (val_main_v156 (F := F))
theorem val_main_v157_apply (x2 : (⟨S128x32x4, .f32⟩ : BufTy).Contents (Elt F)) (x4 : (⟨S5685x4, .f32⟩ : BufTy).Contents (Elt F)) (i : S128x5685x2.Idx) :
    val_main_v157 (F := F) x2 x4 i = FloatOps.hostDivf (val_main_v155 (F := F) x2 x4 i) (val_main_v156 (F := F) i) := rfl

def val_main_v158 (x2 : (⟨S128x32x4, .f32⟩ : BufTy).Contents (Elt F)) (x4 : (⟨S5685x4, .f32⟩ : BufTy).Contents (Elt F)) : (⟨S128x5685x2, .f32⟩ : BufTy).Contents (Elt F) :=
  extractStridedSlice S128x5685x2 ![0, 0, 2] (val_main_v152 (F := F) x2 x4) slices_S128x5685x4_S128x5685x2_0_0_2
abbrev idx_main_v158 (i : S128x5685x2.Idx) : S128x5685x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 2 := (i 2).isLt; show 2 + (i 2).val < 4; omega⟩
theorem val_main_v158_apply (x2 : (⟨S128x32x4, .f32⟩ : BufTy).Contents (Elt F)) (x4 : (⟨S5685x4, .f32⟩ : BufTy).Contents (Elt F)) (i : S128x5685x2.Idx) :
    val_main_v158 (F := F) x2 x4 i = val_main_v152 (F := F) x2 x4 (idx_main_v158 i) := by
  unfold val_main_v158
  generalize val_main_v152 (F := F) x2 x4 = y
  exact extractStridedSlice_apply ![0, 0, 2] y slices_S128x5685x4_S128x5685x2_0_0_2 i (idx_main_v158 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_v159 (x2 : (⟨S128x32x4, .f32⟩ : BufTy).Contents (Elt F)) (x4 : (⟨S5685x4, .f32⟩ : BufTy).Contents (Elt F)) : (⟨S128x5685x2, .f32⟩ : BufTy).Contents (Elt F) :=
  extractStridedSlice S128x5685x2 ![0, 0, 0] (val_main_v152 (F := F) x2 x4) slices_S128x5685x4_S128x5685x2_0_0_0
abbrev idx_main_v159 (i : S128x5685x2.Idx) : S128x5685x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 2 := (i 2).isLt; show (i 2).val < 4; omega⟩
theorem val_main_v159_apply (x2 : (⟨S128x32x4, .f32⟩ : BufTy).Contents (Elt F)) (x4 : (⟨S5685x4, .f32⟩ : BufTy).Contents (Elt F)) (i : S128x5685x2.Idx) :
    val_main_v159 (F := F) x2 x4 i = val_main_v152 (F := F) x2 x4 (idx_main_v159 i) := by
  unfold val_main_v159
  generalize val_main_v152 (F := F) x2 x4 = y
  exact extractStridedSlice_apply ![0, 0, 0] y slices_S128x5685x4_S128x5685x2_0_0_0 i (idx_main_v159 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v160 (x2 : (⟨S128x32x4, .f32⟩ : BufTy).Contents (Elt F)) (x4 : (⟨S5685x4, .f32⟩ : BufTy).Contents (Elt F)) : (⟨S128x5685x2, .f32⟩ : BufTy).Contents (Elt F) :=
  subf (val_main_v158 (F := F) x2 x4) (val_main_v159 (F := F) x2 x4)
theorem val_main_v160_apply (x2 : (⟨S128x32x4, .f32⟩ : BufTy).Contents (Elt F)) (x4 : (⟨S5685x4, .f32⟩ : BufTy).Contents (Elt F)) (i : S128x5685x2.Idx) :
    val_main_v160 (F := F) x2 x4 i = FloatOps.subf (val_main_v158 (F := F) x2 x4 i) (val_main_v159 (F := F) x2 x4 i) := rfl

def val_main_v161 (x2 : (⟨S128x32x4, .f32⟩ : BufTy).Contents (Elt F)) (x4 : (⟨S5685x4, .f32⟩ : BufTy).Contents (Elt F)) : (⟨S128x5685x4, .f32⟩ : BufTy).Contents (Elt F) :=
  concatenate S128x5685x4 2 [⟨S128x5685x2, (val_main_v157 (F := F) x2 x4)⟩, ⟨S128x5685x2, (val_main_v160 (F := F) x2 x4)⟩] concatenates_S128x5685x2_S128x5685x2_S128x5685x4_d2

def val_main_v162 (x2 : (⟨S128x32x4, .f32⟩ : BufTy).Contents (Elt F)) (x4 : (⟨S5685x4, .f32⟩ : BufTy).Contents (Elt F)) : (⟨S128x5685x2, .f32⟩ : BufTy).Contents (Elt F) :=
  extractStridedSlice S128x5685x2 ![0, 0, 0] (val_main_v161 (F := F) x2 x4) slices_S128x5685x4_S128x5685x2_0_0_0
abbrev idx_main_v162 (i : S128x5685x2.Idx) : S128x5685x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 2 := (i 2).isLt; show (i 2).val < 4; omega⟩
theorem val_main_v162_apply (x2 : (⟨S128x32x4, .f32⟩ : BufTy).Contents (Elt F)) (x4 : (⟨S5685x4, .f32⟩ : BufTy).Contents (Elt F)) (i : S128x5685x2.Idx) :
    val_main_v162 (F := F) x2 x4 i = val_main_v161 (F := F) x2 x4 (idx_main_v162 i) := by
  unfold val_main_v162
  generalize val_main_v161 (F := F) x2 x4 = y
  exact extractStridedSlice_apply ![0, 0, 0] y slices_S128x5685x4_S128x5685x2_0_0_0 i (idx_main_v162 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v163 (x4 : (⟨S5685x4, .f32⟩ : BufTy).Contents (Elt F)) : (⟨S5685x2, .f32⟩ : BufTy).Contents (Elt F) :=
  extractStridedSlice S5685x2 ![0, 0] (val_main_v8 (F := F) x4) slices_S5685x4_S5685x2_0_0
abbrev idx_main_v163 (i : S5685x2.Idx) : S5685x4.Idx := fun a => match a with
  | ⟨0, _⟩ => ⟨(i 0).val, (i 0).isLt⟩
  | ⟨1, _⟩ => ⟨(i 1).val, by have h1 : (i 1).val < 2 := (i 1).isLt; show (i 1).val < 4; omega⟩
theorem val_main_v163_apply (x4 : (⟨S5685x4, .f32⟩ : BufTy).Contents (Elt F)) (i : S5685x2.Idx) :
    val_main_v163 (F := F) x4 i = val_main_v8 (F := F) x4 (idx_main_v163 i) := by
  unfold val_main_v163
  generalize val_main_v8 (F := F) x4 = y
  exact extractStridedSlice_apply ![0, 0] y slices_S5685x4_S5685x2_0_0 i (idx_main_v163 i) (fun a => match a with
    | ⟨0, _⟩ => by show (i 0).val = 0 + (i 0).val; omega
    | ⟨1, _⟩ => by show (i 1).val = 0 + (i 1).val; omega)

def val_main_v164 (x4 : (⟨S5685x4, .f32⟩ : BufTy).Contents (Elt F)) : (⟨S1x5685x2, .f32⟩ : BufTy).Contents (Elt F) :=
  broadcastInDim S1x5685x2 ![1, 2] bcast_S5685x2_S1x5685x2_1_2 (val_main_v163 (F := F) x4)
abbrev idx_main_v164 (i : S1x5685x2.Idx) : S5685x2.Idx := fun a => match a with
  | ⟨0, _⟩ => ⟨(i 1).val, (i 1).isLt⟩
  | ⟨1, _⟩ => ⟨(i 2).val, (i 2).isLt⟩
theorem val_main_v164_apply (x4 : (⟨S5685x4, .f32⟩ : BufTy).Contents (Elt F)) (i : S1x5685x2.Idx) :
    val_main_v164 (F := F) x4 i = val_main_v163 (F := F) x4 (idx_main_v164 i) := by
  unfold val_main_v164
  generalize val_main_v163 (F := F) x4 = y
  exact broadcastInDim_apply _ bcast_S5685x2_S1x5685x2_1_2 y i (idx_main_v164 i) (fun a => match a with
    | ⟨0, _⟩ => by show (i 1).val = if (5685 : Nat) = 1 then 0 else (i 1).val; rw [if_neg (by decide)]
    | ⟨1, _⟩ => by show (i 2).val = if (2 : Nat) = 1 then 0 else (i 2).val; rw [if_neg (by decide)])

def val_main_v165 (x4 : (⟨S5685x4, .f32⟩ : BufTy).Contents (Elt F)) : (⟨S128x5685x2, .f32⟩ : BufTy).Contents (Elt F) :=
  broadcastInDim S128x5685x2 ![0, 1, 2] bcast_S1x5685x2_S128x5685x2_0_1_2 (val_main_v164 (F := F) x4)
abbrev idx_main_v165 (i : S128x5685x2.Idx) : S1x5685x2.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v165_apply (x4 : (⟨S5685x4, .f32⟩ : BufTy).Contents (Elt F)) (i : S128x5685x2.Idx) :
    val_main_v165 (F := F) x4 i = val_main_v164 (F := F) x4 (idx_main_v165 i) := by
  unfold val_main_v165
  generalize val_main_v164 (F := F) x4 = y
  exact broadcastInDim_apply _ bcast_S1x5685x2_S128x5685x2_0_1_2 y i (idx_main_v165 i) (fun a => match a with
    | ⟨0, _⟩ => by show 0 = if (1 : Nat) = 1 then 0 else (i 0).val; rw [if_pos rfl]
    | ⟨1, _⟩ => by show (i 1).val = if (5685 : Nat) = 1 then 0 else (i 1).val; rw [if_neg (by decide)]
    | ⟨2, _⟩ => by show (i 2).val = if (2 : Nat) = 1 then 0 else (i 2).val; rw [if_neg (by decide)])

def val_main_v166 (x2 : (⟨S128x32x4, .f32⟩ : BufTy).Contents (Elt F)) (x4 : (⟨S5685x4, .f32⟩ : BufTy).Contents (Elt F)) : (⟨S128x5685x2, .f32⟩ : BufTy).Contents (Elt F) :=
  subf (val_main_v162 (F := F) x2 x4) (val_main_v165 (F := F) x4)
theorem val_main_v166_apply (x2 : (⟨S128x32x4, .f32⟩ : BufTy).Contents (Elt F)) (x4 : (⟨S5685x4, .f32⟩ : BufTy).Contents (Elt F)) (i : S128x5685x2.Idx) :
    val_main_v166 (F := F) x2 x4 i = FloatOps.subf (val_main_v162 (F := F) x2 x4 i) (val_main_v165 (F := F) x4 i) := rfl

def val_main_v167 (x4 : (⟨S5685x4, .f32⟩ : BufTy).Contents (Elt F)) : (⟨S5685x2, .f32⟩ : BufTy).Contents (Elt F) :=
  extractStridedSlice S5685x2 ![0, 2] (val_main_v8 (F := F) x4) slices_S5685x4_S5685x2_0_2
abbrev idx_main_v167 (i : S5685x2.Idx) : S5685x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v167_apply (x4 : (⟨S5685x4, .f32⟩ : BufTy).Contents (Elt F)) (i : S5685x2.Idx) :
    val_main_v167 (F := F) x4 i = val_main_v8 (F := F) x4 (idx_main_v167 i) := by
  unfold val_main_v167
  generalize val_main_v8 (F := F) x4 = y
  exact extractStridedSlice_apply ![0, 2] y slices_S5685x4_S5685x2_0_2 i (idx_main_v167 i) (fun a => match a with
    | ⟨0, _⟩ => by show (i 0).val = 0 + (i 0).val; omega
    | ⟨1, _⟩ => by show 2 + (i 1).val = 2 + (i 1).val; omega)

def val_main_cst_28 : (⟨S_, .f32⟩ : BufTy).Contents (Elt F) :=
  constant S_ .f32 0x41200000#32
theorem val_main_cst_28_apply (i : S_.Idx) :
    val_main_cst_28 (F := F) i = FloatOps.ofBits .f32 0x41200000#32 := rfl

def val_main_v168 : (⟨S5685x2, .f32⟩ : BufTy).Contents (Elt F) :=
  broadcastInDim S5685x2 ![] bcast_S_S5685x2 (val_main_cst_28 (F := F))
abbrev idx_main_v168 (i : S5685x2.Idx) : S_.Idx := fun a => a.elim0
theorem val_main_v168_apply (i : S5685x2.Idx) :
    val_main_v168 (F := F) i = val_main_cst_28 (F := F) (idx_main_v168 i) := by
  unfold val_main_v168
  generalize val_main_cst_28 (F := F) = y
  exact broadcastInDim_apply _ bcast_S_S5685x2 y i (idx_main_v168 i) (fun a => a.elim0)

def val_main_v169 (x4 : (⟨S5685x4, .f32⟩ : BufTy).Contents (Elt F)) : (⟨S5685x2, .f32⟩ : BufTy).Contents (Elt F) :=
  Host.divf (val_main_v167 (F := F) x4) (val_main_v168 (F := F))
theorem val_main_v169_apply (x4 : (⟨S5685x4, .f32⟩ : BufTy).Contents (Elt F)) (i : S5685x2.Idx) :
    val_main_v169 (F := F) x4 i = FloatOps.hostDivf (val_main_v167 (F := F) x4 i) (val_main_v168 (F := F) i) := rfl

def val_main_v170 (x4 : (⟨S5685x4, .f32⟩ : BufTy).Contents (Elt F)) : (⟨S1x5685x2, .f32⟩ : BufTy).Contents (Elt F) :=
  broadcastInDim S1x5685x2 ![1, 2] bcast_S5685x2_S1x5685x2_1_2 (val_main_v169 (F := F) x4)
abbrev idx_main_v170 (i : S1x5685x2.Idx) : S5685x2.Idx := fun a => match a with
  | ⟨0, _⟩ => ⟨(i 1).val, (i 1).isLt⟩
  | ⟨1, _⟩ => ⟨(i 2).val, (i 2).isLt⟩
theorem val_main_v170_apply (x4 : (⟨S5685x4, .f32⟩ : BufTy).Contents (Elt F)) (i : S1x5685x2.Idx) :
    val_main_v170 (F := F) x4 i = val_main_v169 (F := F) x4 (idx_main_v170 i) := by
  unfold val_main_v170
  generalize val_main_v169 (F := F) x4 = y
  exact broadcastInDim_apply _ bcast_S5685x2_S1x5685x2_1_2 y i (idx_main_v170 i) (fun a => match a with
    | ⟨0, _⟩ => by show (i 1).val = if (5685 : Nat) = 1 then 0 else (i 1).val; rw [if_neg (by decide)]
    | ⟨1, _⟩ => by show (i 2).val = if (2 : Nat) = 1 then 0 else (i 2).val; rw [if_neg (by decide)])

def val_main_v171 (x4 : (⟨S5685x4, .f32⟩ : BufTy).Contents (Elt F)) : (⟨S128x5685x2, .f32⟩ : BufTy).Contents (Elt F) :=
  broadcastInDim S128x5685x2 ![0, 1, 2] bcast_S1x5685x2_S128x5685x2_0_1_2 (val_main_v170 (F := F) x4)
abbrev idx_main_v171 (i : S128x5685x2.Idx) : S1x5685x2.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v171_apply (x4 : (⟨S5685x4, .f32⟩ : BufTy).Contents (Elt F)) (i : S128x5685x2.Idx) :
    val_main_v171 (F := F) x4 i = val_main_v170 (F := F) x4 (idx_main_v171 i) := by
  unfold val_main_v171
  generalize val_main_v170 (F := F) x4 = y
  exact broadcastInDim_apply _ bcast_S1x5685x2_S128x5685x2_0_1_2 y i (idx_main_v171 i) (fun a => match a with
    | ⟨0, _⟩ => by show 0 = if (1 : Nat) = 1 then 0 else (i 0).val; rw [if_pos rfl]
    | ⟨1, _⟩ => by show (i 1).val = if (5685 : Nat) = 1 then 0 else (i 1).val; rw [if_neg (by decide)]
    | ⟨2, _⟩ => by show (i 2).val = if (2 : Nat) = 1 then 0 else (i 2).val; rw [if_neg (by decide)])

def val_main_v172 (x2 : (⟨S128x32x4, .f32⟩ : BufTy).Contents (Elt F)) (x4 : (⟨S5685x4, .f32⟩ : BufTy).Contents (Elt F)) : (⟨S128x5685x2, .f32⟩ : BufTy).Contents (Elt F) :=
  Host.divf (val_main_v166 (F := F) x2 x4) (val_main_v171 (F := F) x4)
theorem val_main_v172_apply (x2 : (⟨S128x32x4, .f32⟩ : BufTy).Contents (Elt F)) (x4 : (⟨S5685x4, .f32⟩ : BufTy).Contents (Elt F)) (i : S128x5685x2.Idx) :
    val_main_v172 (F := F) x2 x4 i = FloatOps.hostDivf (val_main_v166 (F := F) x2 x4 i) (val_main_v171 (F := F) x4 i) := rfl

def val_main_v173 (x2 : (⟨S128x32x4, .f32⟩ : BufTy).Contents (Elt F)) (x4 : (⟨S5685x4, .f32⟩ : BufTy).Contents (Elt F)) : (⟨S128x5685x2, .f32⟩ : BufTy).Contents (Elt F) :=
  extractStridedSlice S128x5685x2 ![0, 0, 2] (val_main_v161 (F := F) x2 x4) slices_S128x5685x4_S128x5685x2_0_0_2
abbrev idx_main_v173 (i : S128x5685x2.Idx) : S128x5685x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 2 := (i 2).isLt; show 2 + (i 2).val < 4; omega⟩
theorem val_main_v173_apply (x2 : (⟨S128x32x4, .f32⟩ : BufTy).Contents (Elt F)) (x4 : (⟨S5685x4, .f32⟩ : BufTy).Contents (Elt F)) (i : S128x5685x2.Idx) :
    val_main_v173 (F := F) x2 x4 i = val_main_v161 (F := F) x2 x4 (idx_main_v173 i) := by
  unfold val_main_v173
  generalize val_main_v161 (F := F) x2 x4 = y
  exact extractStridedSlice_apply ![0, 0, 2] y slices_S128x5685x4_S128x5685x2_0_0_2 i (idx_main_v173 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_cst_29 : (⟨S_, .f32⟩ : BufTy).Contents (Elt F) :=
  constant S_ .f32 0x358637BD#32
theorem val_main_cst_29_apply (i : S_.Idx) :
    val_main_cst_29 (F := F) i = FloatOps.ofBits .f32 0x358637BD#32 := rfl

def val_main_v174 : (⟨S128x5685x2, .f32⟩ : BufTy).Contents (Elt F) :=
  broadcastInDim S128x5685x2 ![] bcast_S_S128x5685x2 (val_main_cst_29 (F := F))
abbrev idx_main_v174 (i : S128x5685x2.Idx) : S_.Idx := fun a => a.elim0
theorem val_main_v174_apply (i : S128x5685x2.Idx) :
    val_main_v174 (F := F) i = val_main_cst_29 (F := F) (idx_main_v174 i) := by
  unfold val_main_v174
  generalize val_main_cst_29 (F := F) = y
  exact broadcastInDim_apply _ bcast_S_S128x5685x2 y i (idx_main_v174 i) (fun a => a.elim0)

def val_main_v175 (x2 : (⟨S128x32x4, .f32⟩ : BufTy).Contents (Elt F)) (x4 : (⟨S5685x4, .f32⟩ : BufTy).Contents (Elt F)) : (⟨S128x5685x2, .f32⟩ : BufTy).Contents (Elt F) :=
  maximumf (val_main_v173 (F := F) x2 x4) (val_main_v174 (F := F))
theorem val_main_v175_apply (x2 : (⟨S128x32x4, .f32⟩ : BufTy).Contents (Elt F)) (x4 : (⟨S5685x4, .f32⟩ : BufTy).Contents (Elt F)) (i : S128x5685x2.Idx) :
    val_main_v175 (F := F) x2 x4 i = FloatOps.maximumf (val_main_v173 (F := F) x2 x4 i) (val_main_v174 (F := F) i) := rfl

def val_main_v176 (x4 : (⟨S5685x4, .f32⟩ : BufTy).Contents (Elt F)) : (⟨S5685x2, .f32⟩ : BufTy).Contents (Elt F) :=
  extractStridedSlice S5685x2 ![0, 2] (val_main_v8 (F := F) x4) slices_S5685x4_S5685x2_0_2
abbrev idx_main_v176 (i : S5685x2.Idx) : S5685x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v176_apply (x4 : (⟨S5685x4, .f32⟩ : BufTy).Contents (Elt F)) (i : S5685x2.Idx) :
    val_main_v176 (F := F) x4 i = val_main_v8 (F := F) x4 (idx_main_v176 i) := by
  unfold val_main_v176
  generalize val_main_v8 (F := F) x4 = y
  exact extractStridedSlice_apply ![0, 2] y slices_S5685x4_S5685x2_0_2 i (idx_main_v176 i) (fun a => match a with
    | ⟨0, _⟩ => by show (i 0).val = 0 + (i 0).val; omega
    | ⟨1, _⟩ => by show 2 + (i 1).val = 2 + (i 1).val; omega)

def val_main_cst_30 : (⟨S_, .f32⟩ : BufTy).Contents (Elt F) :=
  constant S_ .f32 0x358637BD#32
theorem val_main_cst_30_apply (i : S_.Idx) :
    val_main_cst_30 (F := F) i = FloatOps.ofBits .f32 0x358637BD#32 := rfl

def val_main_v177 : (⟨S5685x2, .f32⟩ : BufTy).Contents (Elt F) :=
  broadcastInDim S5685x2 ![] bcast_S_S5685x2 (val_main_cst_30 (F := F))
abbrev idx_main_v177 (i : S5685x2.Idx) : S_.Idx := fun a => a.elim0
theorem val_main_v177_apply (i : S5685x2.Idx) :
    val_main_v177 (F := F) i = val_main_cst_30 (F := F) (idx_main_v177 i) := by
  unfold val_main_v177
  generalize val_main_cst_30 (F := F) = y
  exact broadcastInDim_apply _ bcast_S_S5685x2 y i (idx_main_v177 i) (fun a => a.elim0)

def val_main_v178 (x4 : (⟨S5685x4, .f32⟩ : BufTy).Contents (Elt F)) : (⟨S5685x2, .f32⟩ : BufTy).Contents (Elt F) :=
  maximumf (val_main_v176 (F := F) x4) (val_main_v177 (F := F))
theorem val_main_v178_apply (x4 : (⟨S5685x4, .f32⟩ : BufTy).Contents (Elt F)) (i : S5685x2.Idx) :
    val_main_v178 (F := F) x4 i = FloatOps.maximumf (val_main_v176 (F := F) x4 i) (val_main_v177 (F := F) i) := rfl

def val_main_v179 (x4 : (⟨S5685x4, .f32⟩ : BufTy).Contents (Elt F)) : (⟨S1x5685x2, .f32⟩ : BufTy).Contents (Elt F) :=
  broadcastInDim S1x5685x2 ![1, 2] bcast_S5685x2_S1x5685x2_1_2 (val_main_v178 (F := F) x4)
abbrev idx_main_v179 (i : S1x5685x2.Idx) : S5685x2.Idx := fun a => match a with
  | ⟨0, _⟩ => ⟨(i 1).val, (i 1).isLt⟩
  | ⟨1, _⟩ => ⟨(i 2).val, (i 2).isLt⟩
theorem val_main_v179_apply (x4 : (⟨S5685x4, .f32⟩ : BufTy).Contents (Elt F)) (i : S1x5685x2.Idx) :
    val_main_v179 (F := F) x4 i = val_main_v178 (F := F) x4 (idx_main_v179 i) := by
  unfold val_main_v179
  generalize val_main_v178 (F := F) x4 = y
  exact broadcastInDim_apply _ bcast_S5685x2_S1x5685x2_1_2 y i (idx_main_v179 i) (fun a => match a with
    | ⟨0, _⟩ => by show (i 1).val = if (5685 : Nat) = 1 then 0 else (i 1).val; rw [if_neg (by decide)]
    | ⟨1, _⟩ => by show (i 2).val = if (2 : Nat) = 1 then 0 else (i 2).val; rw [if_neg (by decide)])

def val_main_v180 (x4 : (⟨S5685x4, .f32⟩ : BufTy).Contents (Elt F)) : (⟨S128x5685x2, .f32⟩ : BufTy).Contents (Elt F) :=
  broadcastInDim S128x5685x2 ![0, 1, 2] bcast_S1x5685x2_S128x5685x2_0_1_2 (val_main_v179 (F := F) x4)
abbrev idx_main_v180 (i : S128x5685x2.Idx) : S1x5685x2.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v180_apply (x4 : (⟨S5685x4, .f32⟩ : BufTy).Contents (Elt F)) (i : S128x5685x2.Idx) :
    val_main_v180 (F := F) x4 i = val_main_v179 (F := F) x4 (idx_main_v180 i) := by
  unfold val_main_v180
  generalize val_main_v179 (F := F) x4 = y
  exact broadcastInDim_apply _ bcast_S1x5685x2_S128x5685x2_0_1_2 y i (idx_main_v180 i) (fun a => match a with
    | ⟨0, _⟩ => by show 0 = if (1 : Nat) = 1 then 0 else (i 0).val; rw [if_pos rfl]
    | ⟨1, _⟩ => by show (i 1).val = if (5685 : Nat) = 1 then 0 else (i 1).val; rw [if_neg (by decide)]
    | ⟨2, _⟩ => by show (i 2).val = if (2 : Nat) = 1 then 0 else (i 2).val; rw [if_neg (by decide)])

def val_main_v181 (x2 : (⟨S128x32x4, .f32⟩ : BufTy).Contents (Elt F)) (x4 : (⟨S5685x4, .f32⟩ : BufTy).Contents (Elt F)) : (⟨S128x5685x2, .f32⟩ : BufTy).Contents (Elt F) :=
  Host.divf (val_main_v175 (F := F) x2 x4) (val_main_v180 (F := F) x4)
theorem val_main_v181_apply (x2 : (⟨S128x32x4, .f32⟩ : BufTy).Contents (Elt F)) (x4 : (⟨S5685x4, .f32⟩ : BufTy).Contents (Elt F)) (i : S128x5685x2.Idx) :
    val_main_v181 (F := F) x2 x4 i = FloatOps.hostDivf (val_main_v175 (F := F) x2 x4 i) (val_main_v180 (F := F) x4 i) := rfl

def val_main_v182 (x2 : (⟨S128x32x4, .f32⟩ : BufTy).Contents (Elt F)) (x4 : (⟨S5685x4, .f32⟩ : BufTy).Contents (Elt F)) : (⟨S128x5685x2, .f32⟩ : BufTy).Contents (Elt F) :=
  Host.log (val_main_v181 (F := F) x2 x4)
theorem val_main_v182_apply (x2 : (⟨S128x32x4, .f32⟩ : BufTy).Contents (Elt F)) (x4 : (⟨S5685x4, .f32⟩ : BufTy).Contents (Elt F)) (i : S128x5685x2.Idx) :
    val_main_v182 (F := F) x2 x4 i = FloatOps.hostUnary .log (val_main_v181 (F := F) x2 x4 i) := rfl

def val_main_cst_31 : (⟨S_, .f32⟩ : BufTy).Contents (Elt F) :=
  constant S_ .f32 0x40A00000#32
theorem val_main_cst_31_apply (i : S_.Idx) :
    val_main_cst_31 (F := F) i = FloatOps.ofBits .f32 0x40A00000#32 := rfl

def val_main_v183 : (⟨S128x5685x2, .f32⟩ : BufTy).Contents (Elt F) :=
  broadcastInDim S128x5685x2 ![] bcast_S_S128x5685x2 (val_main_cst_31 (F := F))
abbrev idx_main_v183 (i : S128x5685x2.Idx) : S_.Idx := fun a => a.elim0
theorem val_main_v183_apply (i : S128x5685x2.Idx) :
    val_main_v183 (F := F) i = val_main_cst_31 (F := F) (idx_main_v183 i) := by
  unfold val_main_v183
  generalize val_main_cst_31 (F := F) = y
  exact broadcastInDim_apply _ bcast_S_S128x5685x2 y i (idx_main_v183 i) (fun a => a.elim0)

def val_main_v184 (x2 : (⟨S128x32x4, .f32⟩ : BufTy).Contents (Elt F)) (x4 : (⟨S5685x4, .f32⟩ : BufTy).Contents (Elt F)) : (⟨S128x5685x2, .f32⟩ : BufTy).Contents (Elt F) :=
  mulf (val_main_v182 (F := F) x2 x4) (val_main_v183 (F := F))
theorem val_main_v184_apply (x2 : (⟨S128x32x4, .f32⟩ : BufTy).Contents (Elt F)) (x4 : (⟨S5685x4, .f32⟩ : BufTy).Contents (Elt F)) (i : S128x5685x2.Idx) :
    val_main_v184 (F := F) x2 x4 i = FloatOps.mulf (val_main_v182 (F := F) x2 x4 i) (val_main_v183 (F := F) i) := rfl

def val_main_v185 (x2 : (⟨S128x32x4, .f32⟩ : BufTy).Contents (Elt F)) (x4 : (⟨S5685x4, .f32⟩ : BufTy).Contents (Elt F)) : (⟨S128x5685x4, .f32⟩ : BufTy).Contents (Elt F) :=
  concatenate S128x5685x4 2 [⟨S128x5685x2, (val_main_v172 (F := F) x2 x4)⟩, ⟨S128x5685x2, (val_main_v184 (F := F) x2 x4)⟩] concatenates_S128x5685x2_S128x5685x2_S128x5685x4_d2

def val_main_c_32 : (⟨S_, .i32⟩ : BufTy).Contents (Elt F) :=
  constantI S_ 32 0#32
theorem val_main_c_32_apply (i : S_.Idx) :
    val_main_c_32 (F := F) i = 0#32 := rfl

def val_main_v186 : (⟨S128x5685, .i32⟩ : BufTy).Contents (Elt F) :=
  broadcastInDim S128x5685 ![] bcast_S_S128x5685 (val_main_c_32 (F := F))
abbrev idx_main_v186 (i : S128x5685.Idx) : S_.Idx := fun a => a.elim0
theorem val_main_v186_apply (i : S128x5685.Idx) :
    val_main_v186 (F := F) i = val_main_c_32 (F := F) (idx_main_v186 i) := by
  unfold val_main_v186
  generalize val_main_c_32 (F := F) = y
  exact broadcastInDim_apply _ bcast_S_S128x5685 y i (idx_main_v186 i) (fun a => a.elim0)

def val_main_v187 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i1⟩ : BufTy).Contents (Elt F) :=
  cmpi .ne (val_main_v137 (F := F) x2 x3 x4) (val_main_v186 (F := F))
theorem val_main_v187_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v187 (F := F) x2 x3 x4 i = IntOp.cmpi .ne (val_main_v137 (F := F) x2 x3 x4 i) (val_main_v186 (F := F) i) := rfl

def val_main_v188 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  uitofp .f32 (val_main_v187 (F := F) x2 x3 x4)
theorem val_main_v188_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v188 (F := F) x2 x3 x4 i = FloatOps.uitofp .f32 (val_main_v187 (F := F) x2 x3 x4 i) := rfl

def val_main_cst_33 : (⟨S_, .f32⟩ : BufTy).Contents (Elt F) :=
  constant S_ .f32 0x00000000#32
theorem val_main_cst_33_apply (i : S_.Idx) :
    val_main_cst_33 (F := F) i = FloatOps.ofBits .f32 0x00000000#32 := rfl

def val_main_v189 (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.reduceAdd (val_main_v188 (F := F) x2 x3 x4) (val_main_cst_33 (F := F)) reducesTo_S128x5685_S_d0_1 h_S_
/-- Stated at `F := Ideal`, where the host's float sum is this sum; at a bit-exact instance it is an opaque function of its operand. -/
theorem val_main_v189_apply (x2 : (⟨S128x32x4, .f32⟩ : BufTy).Contents (Elt Ideal)) (x3 : (⟨S128x32, .i32⟩ : BufTy).Contents (Elt Ideal)) (x4 : (⟨S5685x4, .f32⟩ : BufTy).Contents (Elt Ideal)) (i : S_.Idx) :
    val_main_v189 (F := Ideal) x2 x3 x4 i = (val_main_cst_33 (F := Ideal)) (Shape.Idx.first h_S_) + ∑ j : S128x5685.Idx, (val_main_v188 (F := Ideal) x2 x3 x4) j := by
  unfold val_main_v189
  generalize val_main_v188 (F := Ideal) x2 x3 x4 = y0
  simp only [Host.reduceAdd, Ideal.hostReduceAdd_def]
  exact Ideal.hostReduceAdd_total reducesTo_S128x5685_S_d0_1 (fun b => b.elim0) y0 _ i

def val_main_cst_34 : (⟨S_, .f32⟩ : BufTy).Contents (Elt F) :=
  constant S_ .f32 0x40800000#32
theorem val_main_cst_34_apply (i : S_.Idx) :
    val_main_cst_34 (F := F) i = FloatOps.ofBits .f32 0x40800000#32 := rfl

def val_main_v190 (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  mulf (val_main_v189 (F := F) x2 x3 x4) (val_main_cst_34 (F := F))
theorem val_main_v190_apply (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v190 (F := F) x2 x3 x4 i = FloatOps.mulf (val_main_v189 (F := F) x2 x3 x4 i) (val_main_cst_34 (F := F) i) := rfl

def val_main_cst_35 : (⟨S_, .f32⟩ : BufTy).Contents (Elt F) :=
  constant S_ .f32 0x3F800000#32
theorem val_main_cst_35_apply (i : S_.Idx) :
    val_main_cst_35 (F := F) i = FloatOps.ofBits .f32 0x3F800000#32 := rfl

def val_main_v191 (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  maximumf (val_main_v190 (F := F) x2 x3 x4) (val_main_cst_35 (F := F))
theorem val_main_v191_apply (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v191 (F := F) x2 x3 x4 i = FloatOps.maximumf (val_main_v190 (F := F) x2 x3 x4 i) (val_main_cst_35 (F := F) i) := rfl

def val_main_v192 (x0 : (⟨S128x5685x18, .f32⟩ : BufTy).Contents (Elt F)) (x2 : (⟨S128x32x4, .f32⟩ : BufTy).Contents (Elt F)) (x4 : (⟨S5685x4, .f32⟩ : BufTy).Contents (Elt F)) : (⟨S128x5685x4, .f32⟩ : BufTy).Contents (Elt F) :=
  subf (val_main_v26 (F := F) x0) (val_main_v185 (F := F) x2 x4)
theorem val_main_v192_apply (x0 : (⟨S128x5685x18, .f32⟩ : BufTy).Contents (Elt F)) (x2 : (⟨S128x32x4, .f32⟩ : BufTy).Contents (Elt F)) (x4 : (⟨S5685x4, .f32⟩ : BufTy).Contents (Elt F)) (i : S128x5685x4.Idx) :
    val_main_v192 (F := F) x0 x2 x4 i = FloatOps.subf (val_main_v26 (F := F) x0 i) (val_main_v185 (F := F) x2 x4 i) := rfl

def val_main_v193 (x0 : (⟨S128x5685x18, .f32⟩ : BufTy).Contents (Elt F)) (x2 : (⟨S128x32x4, .f32⟩ : BufTy).Contents (Elt F)) (x4 : (⟨S5685x4, .f32⟩ : BufTy).Contents (Elt F)) : (⟨S128x5685x4, .f32⟩ : BufTy).Contents (Elt F) :=
  Host.absf (val_main_v192 (F := F) x0 x2 x4)
theorem val_main_v193_apply (x0 : (⟨S128x5685x18, .f32⟩ : BufTy).Contents (Elt F)) (x2 : (⟨S128x32x4, .f32⟩ : BufTy).Contents (Elt F)) (x4 : (⟨S5685x4, .f32⟩ : BufTy).Contents (Elt F)) (i : S128x5685x4.Idx) :
    val_main_v193 (F := F) x0 x2 x4 i = FloatOps.hostAbsf (val_main_v192 (F := F) x0 x2 x4 i) := rfl

def val_main_v194 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685x1, .f32⟩ : BufTy).Contents (Elt F) :=
  broadcastInDim S128x5685x1 ![0, 1] bcast_S128x5685_S128x5685x1_0_1 (val_main_v188 (F := F) x2 x3 x4)
abbrev idx_main_v194 (i : S128x5685x1.Idx) : S128x5685.Idx := fun a => match a with
  | ⟨0, _⟩ => ⟨(i 0).val, (i 0).isLt⟩
  | ⟨1, _⟩ => ⟨(i 1).val, (i 1).isLt⟩
theorem val_main_v194_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685x1.Idx) :
    val_main_v194 (F := F) x2 x3 x4 i = val_main_v188 (F := F) x2 x3 x4 (idx_main_v194 i) := by
  unfold val_main_v194
  generalize val_main_v188 (F := F) x2 x3 x4 = y
  exact broadcastInDim_apply _ bcast_S128x5685_S128x5685x1_0_1 y i (idx_main_v194 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v195 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685x4, .f32⟩ : BufTy).Contents (Elt F) :=
  broadcastInDim S128x5685x4 ![0, 1, 2] bcast_S128x5685x1_S128x5685x4_0_1_2 (val_main_v194 (F := F) x2 x3 x4)
abbrev idx_main_v195 (i : S128x5685x4.Idx) : S128x5685x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v195_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685x4.Idx) :
    val_main_v195 (F := F) x2 x3 x4 i = val_main_v194 (F := F) x2 x3 x4 (idx_main_v195 i) := by
  unfold val_main_v195
  generalize val_main_v194 (F := F) x2 x3 x4 = y
  exact broadcastInDim_apply _ bcast_S128x5685x1_S128x5685x4_0_1_2 y i (idx_main_v195 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)]
    | ⟨2, _⟩ => by show 0 = if (1 : Nat) = 1 then 0 else (i 2).val; rw [if_pos rfl])

def val_main_v196 (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685x4, .f32⟩ : BufTy).Contents (Elt F) :=
  mulf (val_main_v193 (F := F) x0 x2 x4) (val_main_v195 (F := F) x2 x3 x4)
theorem val_main_v196_apply (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685x4.Idx) :
    val_main_v196 (F := F) x0 x2 x3 x4 i = FloatOps.mulf (val_main_v193 (F := F) x0 x2 x4 i) (val_main_v195 (F := F) x2 x3 x4 i) := rfl

def val_main_cst_36 : (⟨S_, .f32⟩ : BufTy).Contents (Elt F) :=
  constant S_ .f32 0x00000000#32
theorem val_main_cst_36_apply (i : S_.Idx) :
    val_main_cst_36 (F := F) i = FloatOps.ofBits .f32 0x00000000#32 := rfl

def val_main_v197 (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.reduceAdd (val_main_v196 (F := F) x0 x2 x3 x4) (val_main_cst_36 (F := F)) reducesTo_S128x5685x4_S_d0_1_2 h_S_
/-- Stated at `F := Ideal`, where the host's float sum is this sum; at a bit-exact instance it is an opaque function of its operand. -/
theorem val_main_v197_apply (x0 : (⟨S128x5685x18, .f32⟩ : BufTy).Contents (Elt Ideal)) (x2 : (⟨S128x32x4, .f32⟩ : BufTy).Contents (Elt Ideal)) (x3 : (⟨S128x32, .i32⟩ : BufTy).Contents (Elt Ideal)) (x4 : (⟨S5685x4, .f32⟩ : BufTy).Contents (Elt Ideal)) (i : S_.Idx) :
    val_main_v197 (F := Ideal) x0 x2 x3 x4 i = (val_main_cst_36 (F := Ideal)) (Shape.Idx.first h_S_) + ∑ j : S128x5685x4.Idx, (val_main_v196 (F := Ideal) x0 x2 x3 x4) j := by
  unfold val_main_v197
  generalize val_main_v196 (F := Ideal) x0 x2 x3 x4 = y0
  simp only [Host.reduceAdd, Ideal.hostReduceAdd_def]
  exact Ideal.hostReduceAdd_total reducesTo_S128x5685x4_S_d0_1_2 (fun b => b.elim0) y0 _ i

def val_main_v198 (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.divf (val_main_v197 (F := F) x0 x2 x3 x4) (val_main_v191 (F := F) x2 x3 x4)
theorem val_main_v198_apply (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v198 (F := F) x0 x2 x3 x4 i = FloatOps.hostDivf (val_main_v197 (F := F) x0 x2 x3 x4 i) (val_main_v191 (F := F) x2 x3 x4 i) := rfl

def val_main_cst_37 : (⟨S_, .f32⟩ : BufTy).Contents (Elt F) :=
  constant S_ .f32 0x00000000#32
theorem val_main_cst_37_apply (i : S_.Idx) :
    val_main_cst_37 (F := F) i = FloatOps.ofBits .f32 0x00000000#32 := rfl

def val_main_v199 (x2 : (⟨S128x32x4, .f32⟩ : BufTy).Contents (Elt F)) (x3 : (⟨S128x32, .i32⟩ : BufTy).Contents (Elt F)) (x4 : (⟨S5685x4, .f32⟩ : BufTy).Contents (Elt F)) : (⟨S128, .f32⟩ : BufTy).Contents (Elt F) :=
  Host.reduceAdd (val_main_v188 (F := F) x2 x3 x4) (val_main_cst_37 (F := F)) reducesTo_S128x5685_S128_d1 h_S_
abbrev idx_main_v199 (i : S128.Idx) (k : Fin 5685) : S128x5685.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v199_apply (x2 : (⟨S128x32x4, .f32⟩ : BufTy).Contents (Elt Ideal)) (x3 : (⟨S128x32, .i32⟩ : BufTy).Contents (Elt Ideal)) (x4 : (⟨S5685x4, .f32⟩ : BufTy).Contents (Elt Ideal)) (i : S128.Idx) :
    val_main_v199 (F := Ideal) x2 x3 x4 i = (val_main_cst_37 (F := Ideal)) (Shape.Idx.first h_S_) + ∑ k : Fin 5685, (val_main_v188 (F := Ideal) x2 x3 x4) (idx_main_v199 i k) := by
  unfold val_main_v199
  generalize val_main_v188 (F := Ideal) x2 x3 x4 = y0
  simp only [Host.reduceAdd, Ideal.hostReduceAdd_def]
  rw [Ideal.hostReduceAdd_single reducesTo_S128x5685_S128_d1 (by decide)]
  refine congrArg (_ + ·) (Finset.sum_congr rfl fun k _ => ?_)
  exact congrArg y0 (funext fun a => Fin.ext (by match a with | ⟨0, _⟩ => rfl | ⟨1, _⟩ => rfl))

def val_main_cst_38 : (⟨S_, .f32⟩ : BufTy).Contents (Elt F) :=
  constant S_ .f32 0x40400000#32
theorem val_main_cst_38_apply (i : S_.Idx) :
    val_main_cst_38 (F := F) i = FloatOps.ofBits .f32 0x40400000#32 := rfl

def val_main_v200 : (⟨S128, .f32⟩ : BufTy).Contents (Elt F) :=
  broadcastInDim S128 ![] bcast_S_S128 (val_main_cst_38 (F := F))
abbrev idx_main_v200 (i : S128.Idx) : S_.Idx := fun a => a.elim0
theorem val_main_v200_apply (i : S128.Idx) :
    val_main_v200 (F := F) i = val_main_cst_38 (F := F) (idx_main_v200 i) := by
  unfold val_main_v200
  generalize val_main_cst_38 (F := F) = y
  exact broadcastInDim_apply _ bcast_S_S128 y i (idx_main_v200 i) (fun a => a.elim0)

def val_main_v201 (x2 : (⟨S128x32x4, .f32⟩ : BufTy).Contents (Elt F)) (x3 : (⟨S128x32, .i32⟩ : BufTy).Contents (Elt F)) (x4 : (⟨S5685x4, .f32⟩ : BufTy).Contents (Elt F)) : (⟨S128, .f32⟩ : BufTy).Contents (Elt F) :=
  mulf (val_main_v200 (F := F)) (val_main_v199 (F := F) x2 x3 x4)
theorem val_main_v201_apply (x2 : (⟨S128x32x4, .f32⟩ : BufTy).Contents (Elt F)) (x3 : (⟨S128x32, .i32⟩ : BufTy).Contents (Elt F)) (x4 : (⟨S5685x4, .f32⟩ : BufTy).Contents (Elt F)) (i : S128.Idx) :
    val_main_v201 (F := F) x2 x3 x4 i = FloatOps.mulf (val_main_v200 (F := F) i) (val_main_v199 (F := F) x2 x3 x4 i) := rfl

def val_main_cst_39 : (⟨S_, .f32⟩ : BufTy).Contents (Elt F) :=
  constant S_ .f32 0xFF800000#32
theorem val_main_cst_39_apply (i : S_.Idx) :
    val_main_cst_39 (F := F) i = FloatOps.ofBits .f32 0xFF800000#32 := rfl

def val_main_v202 (x1 : (⟨S128x5685x21, .f32⟩ : BufTy).Contents (Elt F)) : (⟨S128x5685, .f32⟩ : BufTy).Contents (Elt F) :=
  Host.reduce FloatOps.maximumf (x1) (val_main_cst_39 (F := F)) reducesTo_S128x5685x21_S128x5685_d2 h_S_

def val_main_v203 (x1 : (⟨S128x5685x21, .f32⟩ : BufTy).Contents (Elt F)) : (⟨S128x5685x1, .f32⟩ : BufTy).Contents (Elt F) :=
  broadcastInDim S128x5685x1 ![0, 1] bcast_S128x5685_S128x5685x1_0_1 (val_main_v202 (F := F) x1)
abbrev idx_main_v203 (i : S128x5685x1.Idx) : S128x5685.Idx := fun a => match a with
  | ⟨0, _⟩ => ⟨(i 0).val, (i 0).isLt⟩
  | ⟨1, _⟩ => ⟨(i 1).val, (i 1).isLt⟩
theorem val_main_v203_apply (x1 : (⟨S128x5685x21, .f32⟩ : BufTy).Contents (Elt F)) (i : S128x5685x1.Idx) :
    val_main_v203 (F := F) x1 i = val_main_v202 (F := F) x1 (idx_main_v203 i) := by
  unfold val_main_v203
  generalize val_main_v202 (F := F) x1 = y
  exact broadcastInDim_apply _ bcast_S128x5685_S128x5685x1_0_1 y i (idx_main_v203 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v204 (x1 : (⟨S128x5685x21, .f32⟩ : BufTy).Contents (Elt F)) : (⟨S128x5685x21, .f32⟩ : BufTy).Contents (Elt F) :=
  broadcastInDim S128x5685x21 ![0, 1, 2] bcast_S128x5685x1_S128x5685x21_0_1_2 (val_main_v203 (F := F) x1)
abbrev idx_main_v204 (i : S128x5685x21.Idx) : S128x5685x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v204_apply (x1 : (⟨S128x5685x21, .f32⟩ : BufTy).Contents (Elt F)) (i : S128x5685x21.Idx) :
    val_main_v204 (F := F) x1 i = val_main_v203 (F := F) x1 (idx_main_v204 i) := by
  unfold val_main_v204
  generalize val_main_v203 (F := F) x1 = y
  exact broadcastInDim_apply _ bcast_S128x5685x1_S128x5685x21_0_1_2 y i (idx_main_v204 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)]
    | ⟨2, _⟩ => by show 0 = if (1 : Nat) = 1 then 0 else (i 2).val; rw [if_pos rfl])

def val_main_v205 (x1 : (⟨S128x5685x21, .f32⟩ : BufTy).Contents (Elt F)) : (⟨S128x5685x21, .f32⟩ : BufTy).Contents (Elt F) :=
  subf (x1) (val_main_v204 (F := F) x1)
theorem val_main_v205_apply (x1 : (⟨S128x5685x21, .f32⟩ : BufTy).Contents (Elt F)) (i : S128x5685x21.Idx) :
    val_main_v205 (F := F) x1 i = FloatOps.subf (x1 i) (val_main_v204 (F := F) x1 i) := rfl

def val_main_v206 (x1 : (⟨S128x5685x21, .f32⟩ : BufTy).Contents (Elt F)) : (⟨S128x5685x21, .f32⟩ : BufTy).Contents (Elt F) :=
  broadcastInDim S128x5685x21 ![0, 1, 2] bcast_S128x5685x1_S128x5685x21_0_1_2 (val_main_v203 (F := F) x1)
abbrev idx_main_v206 (i : S128x5685x21.Idx) : S128x5685x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v206_apply (x1 : (⟨S128x5685x21, .f32⟩ : BufTy).Contents (Elt F)) (i : S128x5685x21.Idx) :
    val_main_v206 (F := F) x1 i = val_main_v203 (F := F) x1 (idx_main_v206 i) := by
  unfold val_main_v206
  generalize val_main_v203 (F := F) x1 = y
  exact broadcastInDim_apply _ bcast_S128x5685x1_S128x5685x21_0_1_2 y i (idx_main_v206 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)]
    | ⟨2, _⟩ => by show 0 = if (1 : Nat) = 1 then 0 else (i 2).val; rw [if_pos rfl])

def val_main_v207 (x1 : (⟨S128x5685x21, .f32⟩ : BufTy).Contents (Elt F)) : (⟨S128x5685x21, .f32⟩ : BufTy).Contents (Elt F) :=
  subf (x1) (val_main_v206 (F := F) x1)
theorem val_main_v207_apply (x1 : (⟨S128x5685x21, .f32⟩ : BufTy).Contents (Elt F)) (i : S128x5685x21.Idx) :
    val_main_v207 (F := F) x1 i = FloatOps.subf (x1 i) (val_main_v206 (F := F) x1 i) := rfl

def val_main_v208 (x1 : (⟨S128x5685x21, .f32⟩ : BufTy).Contents (Elt F)) : (⟨S128x5685x21, .f32⟩ : BufTy).Contents (Elt F) :=
  Host.exp (val_main_v207 (F := F) x1)
theorem val_main_v208_apply (x1 : (⟨S128x5685x21, .f32⟩ : BufTy).Contents (Elt F)) (i : S128x5685x21.Idx) :
    val_main_v208 (F := F) x1 i = FloatOps.hostUnary .exp (val_main_v207 (F := F) x1 i) := rfl

def val_main_cst_40 : (⟨S_, .f32⟩ : BufTy).Contents (Elt F) :=
  constant S_ .f32 0x00000000#32
theorem val_main_cst_40_apply (i : S_.Idx) :
    val_main_cst_40 (F := F) i = FloatOps.ofBits .f32 0x00000000#32 := rfl

def val_main_v209 (x1 : (⟨S128x5685x21, .f32⟩ : BufTy).Contents (Elt F)) : (⟨S128x5685, .f32⟩ : BufTy).Contents (Elt F) :=
  Host.reduceAdd (val_main_v208 (F := F) x1) (val_main_cst_40 (F := F)) reducesTo_S128x5685x21_S128x5685_d2 h_S_
abbrev idx_main_v209 (i : S128x5685.Idx) (k : Fin 21) : S128x5685x21.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v209_apply (x1 : (⟨S128x5685x21, .f32⟩ : BufTy).Contents (Elt Ideal)) (i : S128x5685.Idx) :
    val_main_v209 (F := Ideal) x1 i = (val_main_cst_40 (F := Ideal)) (Shape.Idx.first h_S_) + ∑ k : Fin 21, (val_main_v208 (F := Ideal) x1) (idx_main_v209 i k) := by
  unfold val_main_v209
  generalize val_main_v208 (F := Ideal) x1 = y0
  simp only [Host.reduceAdd, Ideal.hostReduceAdd_def]
  rw [Ideal.hostReduceAdd_single reducesTo_S128x5685x21_S128x5685_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v210 (x1 : (⟨S128x5685x21, .f32⟩ : BufTy).Contents (Elt F)) : (⟨S128x5685x1, .f32⟩ : BufTy).Contents (Elt F) :=
  broadcastInDim S128x5685x1 ![0, 1] bcast_S128x5685_S128x5685x1_0_1 (val_main_v209 (F := F) x1)
abbrev idx_main_v210 (i : S128x5685x1.Idx) : S128x5685.Idx := fun a => match a with
  | ⟨0, _⟩ => ⟨(i 0).val, (i 0).isLt⟩
  | ⟨1, _⟩ => ⟨(i 1).val, (i 1).isLt⟩
theorem val_main_v210_apply (x1 : (⟨S128x5685x21, .f32⟩ : BufTy).Contents (Elt F)) (i : S128x5685x1.Idx) :
    val_main_v210 (F := F) x1 i = val_main_v209 (F := F) x1 (idx_main_v210 i) := by
  unfold val_main_v210
  generalize val_main_v209 (F := F) x1 = y
  exact broadcastInDim_apply _ bcast_S128x5685_S128x5685x1_0_1 y i (idx_main_v210 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v211 (x1 : (⟨S128x5685x21, .f32⟩ : BufTy).Contents (Elt F)) : (⟨S128x5685x1, .f32⟩ : BufTy).Contents (Elt F) :=
  Host.log (val_main_v210 (F := F) x1)
theorem val_main_v211_apply (x1 : (⟨S128x5685x21, .f32⟩ : BufTy).Contents (Elt F)) (i : S128x5685x1.Idx) :
    val_main_v211 (F := F) x1 i = FloatOps.hostUnary .log (val_main_v210 (F := F) x1 i) := rfl

def val_main_v212 (x1 : (⟨S128x5685x21, .f32⟩ : BufTy).Contents (Elt F)) : (⟨S128x5685x21, .f32⟩ : BufTy).Contents (Elt F) :=
  broadcastInDim S128x5685x21 ![0, 1, 2] bcast_S128x5685x1_S128x5685x21_0_1_2 (val_main_v211 (F := F) x1)
abbrev idx_main_v212 (i : S128x5685x21.Idx) : S128x5685x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v212_apply (x1 : (⟨S128x5685x21, .f32⟩ : BufTy).Contents (Elt F)) (i : S128x5685x21.Idx) :
    val_main_v212 (F := F) x1 i = val_main_v211 (F := F) x1 (idx_main_v212 i) := by
  unfold val_main_v212
  generalize val_main_v211 (F := F) x1 = y
  exact broadcastInDim_apply _ bcast_S128x5685x1_S128x5685x21_0_1_2 y i (idx_main_v212 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)]
    | ⟨2, _⟩ => by show 0 = if (1 : Nat) = 1 then 0 else (i 2).val; rw [if_pos rfl])

def val_main_v213 (x1 : (⟨S128x5685x21, .f32⟩ : BufTy).Contents (Elt F)) : (⟨S128x5685x21, .f32⟩ : BufTy).Contents (Elt F) :=
  subf (val_main_v205 (F := F) x1) (val_main_v212 (F := F) x1)
theorem val_main_v213_apply (x1 : (⟨S128x5685x21, .f32⟩ : BufTy).Contents (Elt F)) (i : S128x5685x21.Idx) :
    val_main_v213 (F := F) x1 i = FloatOps.subf (val_main_v205 (F := F) x1 i) (val_main_v212 (F := F) x1 i) := rfl

def val_main_v214 : (⟨S128, .i32⟩ : BufTy).Contents (Elt F) :=
  iotaInDim S128 32 0
theorem val_main_v214_apply (i : S128.Idx) :
    val_main_v214 (F := F) i = BitVec.ofNat 32 (i 0).val := rfl

def val_main_v215 : (⟨S128x1, .i32⟩ : BufTy).Contents (Elt F) :=
  broadcastInDim S128x1 ![0] bcast_S128_S128x1_0 (val_main_v214 (F := F))
abbrev idx_main_v215 (i : S128x1.Idx) : S128.Idx := fun a => match a with
  | ⟨0, _⟩ => ⟨(i 0).val, (i 0).isLt⟩
theorem val_main_v215_apply (i : S128x1.Idx) :
    val_main_v215 (F := F) i = val_main_v214 (F := F) (idx_main_v215 i) := by
  unfold val_main_v215
  generalize val_main_v214 (F := F) = y
  exact broadcastInDim_apply _ bcast_S128_S128x1_0 y i (idx_main_v215 i) (fun a => match a with
    | ⟨0, _⟩ => by show (i 0).val = if (128 : Nat) = 1 then 0 else (i 0).val; rw [if_neg (by decide)])

def val_main_v216 : (⟨S5685, .i32⟩ : BufTy).Contents (Elt F) :=
  iotaInDim S5685 32 0
theorem val_main_v216_apply (i : S5685.Idx) :
    val_main_v216 (F := F) i = BitVec.ofNat 32 (i 0).val := rfl

def val_main_v217 : (⟨S1x5685, .i32⟩ : BufTy).Contents (Elt F) :=
  broadcastInDim S1x5685 ![1] bcast_S5685_S1x5685_1 (val_main_v216 (F := F))
abbrev idx_main_v217 (i : S1x5685.Idx) : S5685.Idx := fun a => match a with
  | ⟨0, _⟩ => ⟨(i 1).val, (i 1).isLt⟩
theorem val_main_v217_apply (i : S1x5685.Idx) :
    val_main_v217 (F := F) i = val_main_v216 (F := F) (idx_main_v217 i) := by
  unfold val_main_v217
  generalize val_main_v216 (F := F) = y
  exact broadcastInDim_apply _ bcast_S5685_S1x5685_1 y i (idx_main_v217 i) (fun a => match a with
    | ⟨0, _⟩ => by show (i 1).val = if (5685 : Nat) = 1 then 0 else (i 1).val; rw [if_neg (by decide)])

def val_main_c_41 : (⟨S_, .i32⟩ : BufTy).Contents (Elt F) :=
  constantI S_ 32 0#32
theorem val_main_c_41_apply (i : S_.Idx) :
    val_main_c_41 (F := F) i = 0#32 := rfl

def val_main_v218 : (⟨S128x1, .i32⟩ : BufTy).Contents (Elt F) :=
  broadcastInDim S128x1 ![] bcast_S_S128x1 (val_main_c_41 (F := F))
abbrev idx_main_v218 (i : S128x1.Idx) : S_.Idx := fun a => a.elim0
theorem val_main_v218_apply (i : S128x1.Idx) :
    val_main_v218 (F := F) i = val_main_c_41 (F := F) (idx_main_v218 i) := by
  unfold val_main_v218
  generalize val_main_c_41 (F := F) = y
  exact broadcastInDim_apply _ bcast_S_S128x1 y i (idx_main_v218 i) (fun a => a.elim0)

def val_main_v219 : (⟨S128x1, .i1⟩ : BufTy).Contents (Elt F) :=
  cmpi .slt (val_main_v215 (F := F)) (val_main_v218 (F := F))
theorem val_main_v219_apply (i : S128x1.Idx) :
    val_main_v219 (F := F) i = IntOp.cmpi .slt (val_main_v215 (F := F) i) (val_main_v218 (F := F) i) := rfl

def val_main_c_42 : (⟨S_, .i32⟩ : BufTy).Contents (Elt F) :=
  constantI S_ 32 128#32
theorem val_main_c_42_apply (i : S_.Idx) :
    val_main_c_42 (F := F) i = 128#32 := rfl

def val_main_v220 : (⟨S128x1, .i32⟩ : BufTy).Contents (Elt F) :=
  broadcastInDim S128x1 ![] bcast_S_S128x1 (val_main_c_42 (F := F))
abbrev idx_main_v220 (i : S128x1.Idx) : S_.Idx := fun a => a.elim0
theorem val_main_v220_apply (i : S128x1.Idx) :
    val_main_v220 (F := F) i = val_main_c_42 (F := F) (idx_main_v220 i) := by
  unfold val_main_v220
  generalize val_main_c_42 (F := F) = y
  exact broadcastInDim_apply _ bcast_S_S128x1 y i (idx_main_v220 i) (fun a => a.elim0)

def val_main_v221 : (⟨S128x1, .i32⟩ : BufTy).Contents (Elt F) :=
  addi (val_main_v215 (F := F)) (val_main_v220 (F := F))
theorem val_main_v221_apply (i : S128x1.Idx) :
    val_main_v221 (F := F) i = IntOp.addi (val_main_v215 (F := F) i) (val_main_v220 (F := F) i) := rfl

def val_main_v222 : (⟨S128x1, .i32⟩ : BufTy).Contents (Elt F) :=
  select (val_main_v219 (F := F)) (val_main_v221 (F := F)) (val_main_v215 (F := F))
theorem val_main_v222_apply (i : S128x1.Idx) :
    val_main_v222 (F := F) i = Scalar.select (val_main_v219 (F := F) i) (val_main_v221 (F := F) i) (val_main_v215 (F := F) i) := rfl

def val_main_c_43 : (⟨S_, .i32⟩ : BufTy).Contents (Elt F) :=
  constantI S_ 32 0#32
theorem val_main_c_43_apply (i : S_.Idx) :
    val_main_c_43 (F := F) i = 0#32 := rfl

def val_main_v223 : (⟨S1x5685, .i32⟩ : BufTy).Contents (Elt F) :=
  broadcastInDim S1x5685 ![] bcast_S_S1x5685 (val_main_c_43 (F := F))
abbrev idx_main_v223 (i : S1x5685.Idx) : S_.Idx := fun a => a.elim0
theorem val_main_v223_apply (i : S1x5685.Idx) :
    val_main_v223 (F := F) i = val_main_c_43 (F := F) (idx_main_v223 i) := by
  unfold val_main_v223
  generalize val_main_c_43 (F := F) = y
  exact broadcastInDim_apply _ bcast_S_S1x5685 y i (idx_main_v223 i) (fun a => a.elim0)

def val_main_v224 : (⟨S1x5685, .i1⟩ : BufTy).Contents (Elt F) :=
  cmpi .slt (val_main_v217 (F := F)) (val_main_v223 (F := F))
theorem val_main_v224_apply (i : S1x5685.Idx) :
    val_main_v224 (F := F) i = IntOp.cmpi .slt (val_main_v217 (F := F) i) (val_main_v223 (F := F) i) := rfl

def val_main_c_44 : (⟨S_, .i32⟩ : BufTy).Contents (Elt F) :=
  constantI S_ 32 5685#32
theorem val_main_c_44_apply (i : S_.Idx) :
    val_main_c_44 (F := F) i = 5685#32 := rfl

def val_main_v225 : (⟨S1x5685, .i32⟩ : BufTy).Contents (Elt F) :=
  broadcastInDim S1x5685 ![] bcast_S_S1x5685 (val_main_c_44 (F := F))
abbrev idx_main_v225 (i : S1x5685.Idx) : S_.Idx := fun a => a.elim0
theorem val_main_v225_apply (i : S1x5685.Idx) :
    val_main_v225 (F := F) i = val_main_c_44 (F := F) (idx_main_v225 i) := by
  unfold val_main_v225
  generalize val_main_c_44 (F := F) = y
  exact broadcastInDim_apply _ bcast_S_S1x5685 y i (idx_main_v225 i) (fun a => a.elim0)

def val_main_v226 : (⟨S1x5685, .i32⟩ : BufTy).Contents (Elt F) :=
  addi (val_main_v217 (F := F)) (val_main_v225 (F := F))
theorem val_main_v226_apply (i : S1x5685.Idx) :
    val_main_v226 (F := F) i = IntOp.addi (val_main_v217 (F := F) i) (val_main_v225 (F := F) i) := rfl

def val_main_v227 : (⟨S1x5685, .i32⟩ : BufTy).Contents (Elt F) :=
  select (val_main_v224 (F := F)) (val_main_v226 (F := F)) (val_main_v217 (F := F))
theorem val_main_v227_apply (i : S1x5685.Idx) :
    val_main_v227 (F := F) i = Scalar.select (val_main_v224 (F := F) i) (val_main_v226 (F := F) i) (val_main_v217 (F := F) i) := rfl

def val_main_c_45 : (⟨S_, .i32⟩ : BufTy).Contents (Elt F) :=
  constantI S_ 32 0#32
theorem val_main_c_45_apply (i : S_.Idx) :
    val_main_c_45 (F := F) i = 0#32 := rfl

def val_main_v228 : (⟨S128x5685, .i32⟩ : BufTy).Contents (Elt F) :=
  broadcastInDim S128x5685 ![] bcast_S_S128x5685 (val_main_c_45 (F := F))
abbrev idx_main_v228 (i : S128x5685.Idx) : S_.Idx := fun a => a.elim0
theorem val_main_v228_apply (i : S128x5685.Idx) :
    val_main_v228 (F := F) i = val_main_c_45 (F := F) (idx_main_v228 i) := by
  unfold val_main_v228
  generalize val_main_c_45 (F := F) = y
  exact broadcastInDim_apply _ bcast_S_S128x5685 y i (idx_main_v228 i) (fun a => a.elim0)

def val_main_v229 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i1⟩ : BufTy).Contents (Elt F) :=
  cmpi .slt (val_main_v137 (F := F) x2 x3 x4) (val_main_v228 (F := F))
theorem val_main_v229_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v229 (F := F) x2 x3 x4 i = IntOp.cmpi .slt (val_main_v137 (F := F) x2 x3 x4 i) (val_main_v228 (F := F) i) := rfl

def val_main_c_46 : (⟨S_, .i32⟩ : BufTy).Contents (Elt F) :=
  constantI S_ 32 21#32
theorem val_main_c_46_apply (i : S_.Idx) :
    val_main_c_46 (F := F) i = 21#32 := rfl

def val_main_v230 : (⟨S128x5685, .i32⟩ : BufTy).Contents (Elt F) :=
  broadcastInDim S128x5685 ![] bcast_S_S128x5685 (val_main_c_46 (F := F))
abbrev idx_main_v230 (i : S128x5685.Idx) : S_.Idx := fun a => a.elim0
theorem val_main_v230_apply (i : S128x5685.Idx) :
    val_main_v230 (F := F) i = val_main_c_46 (F := F) (idx_main_v230 i) := by
  unfold val_main_v230
  generalize val_main_c_46 (F := F) = y
  exact broadcastInDim_apply _ bcast_S_S128x5685 y i (idx_main_v230 i) (fun a => a.elim0)

def val_main_v231 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i32⟩ : BufTy).Contents (Elt F) :=
  addi (val_main_v137 (F := F) x2 x3 x4) (val_main_v230 (F := F))
theorem val_main_v231_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v231 (F := F) x2 x3 x4 i = IntOp.addi (val_main_v137 (F := F) x2 x3 x4 i) (val_main_v230 (F := F) i) := rfl

def val_main_v232 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i32⟩ : BufTy).Contents (Elt F) :=
  select (val_main_v229 (F := F) x2 x3 x4) (val_main_v231 (F := F) x2 x3 x4) (val_main_v137 (F := F) x2 x3 x4)
theorem val_main_v232_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v232 (F := F) x2 x3 x4 i = Scalar.select (val_main_v229 (F := F) x2 x3 x4 i) (val_main_v231 (F := F) x2 x3 x4 i) (val_main_v137 (F := F) x2 x3 x4 i) := rfl

def val_main_v233 : (⟨S128x5685, .i32⟩ : BufTy).Contents (Elt F) :=
  broadcastInDim S128x5685 ![0, 1] bcast_S128x1_S128x5685_0_1 (val_main_v222 (F := F))
abbrev idx_main_v233 (i : S128x5685.Idx) : S128x1.Idx := fun a => match a with
  | ⟨0, _⟩ => ⟨(i 0).val, (i 0).isLt⟩
  | ⟨1, _⟩ => ⟨0, Nat.one_pos⟩
theorem val_main_v233_apply (i : S128x5685.Idx) :
    val_main_v233 (F := F) i = val_main_v222 (F := F) (idx_main_v233 i) := by
  unfold val_main_v233
  generalize val_main_v222 (F := F) = y
  exact broadcastInDim_apply _ bcast_S128x1_S128x5685_0_1 y i (idx_main_v233 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v234 : (⟨S128x5685, .i32⟩ : BufTy).Contents (Elt F) :=
  broadcastInDim S128x5685 ![0, 1] bcast_S1x5685_S128x5685_0_1 (val_main_v227 (F := F))
abbrev idx_main_v234 (i : S128x5685.Idx) : S1x5685.Idx := fun a => match a with
  | ⟨0, _⟩ => ⟨0, Nat.one_pos⟩
  | ⟨1, _⟩ => ⟨(i 1).val, (i 1).isLt⟩
theorem val_main_v234_apply (i : S128x5685.Idx) :
    val_main_v234 (F := F) i = val_main_v227 (F := F) (idx_main_v234 i) := by
  unfold val_main_v234
  generalize val_main_v227 (F := F) = y
  exact broadcastInDim_apply _ bcast_S1x5685_S128x5685_0_1 y i (idx_main_v234 i) (fun a => match a with
    | ⟨0, _⟩ => by show 0 = if (1 : Nat) = 1 then 0 else (i 0).val; rw [if_pos rfl]
    | ⟨1, _⟩ => by show (i 1).val = if (5685 : Nat) = 1 then 0 else (i 1).val; rw [if_neg (by decide)])

def val_main_v235 : (⟨S128x5685x1, .i32⟩ : BufTy).Contents (Elt F) :=
  broadcastInDim S128x5685x1 ![0, 1] bcast_S128x5685_S128x5685x1_0_1 (val_main_v233 (F := F))
abbrev idx_main_v235 (i : S128x5685x1.Idx) : S128x5685.Idx := fun a => match a with
  | ⟨0, _⟩ => ⟨(i 0).val, (i 0).isLt⟩
  | ⟨1, _⟩ => ⟨(i 1).val, (i 1).isLt⟩
theorem val_main_v235_apply (i : S128x5685x1.Idx) :
    val_main_v235 (F := F) i = val_main_v233 (F := F) (idx_main_v235 i) := by
  unfold val_main_v235
  generalize val_main_v233 (F := F) = y
  exact broadcastInDim_apply _ bcast_S128x5685_S128x5685x1_0_1 y i (idx_main_v235 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v236 : (⟨S128x5685x1, .i32⟩ : BufTy).Contents (Elt F) :=
  broadcastInDim S128x5685x1 ![0, 1] bcast_S128x5685_S128x5685x1_0_1 (val_main_v234 (F := F))
abbrev idx_main_v236 (i : S128x5685x1.Idx) : S128x5685.Idx := fun a => match a with
  | ⟨0, _⟩ => ⟨(i 0).val, (i 0).isLt⟩
  | ⟨1, _⟩ => ⟨(i 1).val, (i 1).isLt⟩
theorem val_main_v236_apply (i : S128x5685x1.Idx) :
    val_main_v236 (F := F) i = val_main_v234 (F := F) (idx_main_v236 i) := by
  unfold val_main_v236
  generalize val_main_v234 (F := F) = y
  exact broadcastInDim_apply _ bcast_S128x5685_S128x5685x1_0_1 y i (idx_main_v236 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v237 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685x1, .i32⟩ : BufTy).Contents (Elt F) :=
  broadcastInDim S128x5685x1 ![0, 1] bcast_S128x5685_S128x5685x1_0_1 (val_main_v232 (F := F) x2 x3 x4)
abbrev idx_main_v237 (i : S128x5685x1.Idx) : S128x5685.Idx := fun a => match a with
  | ⟨0, _⟩ => ⟨(i 0).val, (i 0).isLt⟩
  | ⟨1, _⟩ => ⟨(i 1).val, (i 1).isLt⟩
theorem val_main_v237_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685x1.Idx) :
    val_main_v237 (F := F) x2 x3 x4 i = val_main_v232 (F := F) x2 x3 x4 (idx_main_v237 i) := by
  unfold val_main_v237
  generalize val_main_v232 (F := F) x2 x3 x4 = y
  exact broadcastInDim_apply _ bcast_S128x5685_S128x5685x1_0_1 y i (idx_main_v237 i) (fun a => match a with
    | ⟨0, _⟩ => by show (i 0).val = if (128 : Nat) = 1 then 0 else (i 0).val; rw [if_neg (by decide)]
    | ⟨1, _⟩ => by show (i 1).val = if (5685 : Nat) = 1 then 0 else (i 1).val; rw [if_neg (by decide)])

def val_main_v238 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685x3, .i32⟩ : BufTy).Contents (Elt F) :=
  (concatenate S128x5685x3 2 [⟨S128x5685x1, ((val_main_v235 (F := F)) : (⟨S128x5685x1, .i32⟩ : BufTy).Contents (Elt F))⟩, ⟨S128x5685x1, ((val_main_v236 (F := F)) : (⟨S128x5685x1, .i32⟩ : BufTy).Contents (Elt F))⟩, ⟨S128x5685x1, ((val_main_v237 (F := F) x2 x3 x4) : (⟨S128x5685x1, .i32⟩ : BufTy).Contents (Elt F))⟩] concatenates_S128x5685x1_S128x5685x1_S128x5685x1_S128x5685x3_d2 : (⟨S128x5685x3, .i32⟩ : BufTy).Contents (Elt F))

def val_main_v239 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  Host.gather gather_S128x5685x21_S128x5685x3_S128x5685_n_012_n_n_012_2_111 (val_main_v213 (F := F) x1) (val_main_v238 (F := F) x2 x3 x4)

def val_main_v240 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  Host.negf (val_main_v239 (F := F) x1 x2 x3 x4)
theorem val_main_v240_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v240 (F := F) x1 x2 x3 x4 i = FloatOps.hostNegf (val_main_v239 (F := F) x1 x2 x3 x4 i) := rfl

def val_main_v241 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  mulf (val_main_v240 (F := F) x1 x2 x3 x4) (val_main_v188 (F := F) x2 x3 x4)
theorem val_main_v241_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v241 (F := F) x1 x2 x3 x4 i = FloatOps.mulf (val_main_v240 (F := F) x1 x2 x3 x4 i) (val_main_v188 (F := F) x2 x3 x4 i) := rfl

def val_main_cst_47 : (⟨S_, .f32⟩ : BufTy).Contents (Elt F) :=
  constant S_ .f32 0x00000000#32
theorem val_main_cst_47_apply (i : S_.Idx) :
    val_main_cst_47 (F := F) i = FloatOps.ofBits .f32 0x00000000#32 := rfl

def val_main_v242 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.reduceAdd (val_main_v241 (F := F) x1 x2 x3 x4) (val_main_cst_47 (F := F)) reducesTo_S128x5685_S_d0_1 h_S_
/-- Stated at `F := Ideal`, where the host's float sum is this sum; at a bit-exact instance it is an opaque function of its operand. -/
theorem val_main_v242_apply (x1 : (⟨S128x5685x21, .f32⟩ : BufTy).Contents (Elt Ideal)) (x2 : (⟨S128x32x4, .f32⟩ : BufTy).Contents (Elt Ideal)) (x3 : (⟨S128x32, .i32⟩ : BufTy).Contents (Elt Ideal)) (x4 : (⟨S5685x4, .f32⟩ : BufTy).Contents (Elt Ideal)) (i : S_.Idx) :
    val_main_v242 (F := Ideal) x1 x2 x3 x4 i = (val_main_cst_47 (F := Ideal)) (Shape.Idx.first h_S_) + ∑ j : S128x5685.Idx, (val_main_v241 (F := Ideal) x1 x2 x3 x4) j := by
  unfold val_main_v242
  generalize val_main_v241 (F := Ideal) x1 x2 x3 x4 = y0
  simp only [Host.reduceAdd, Ideal.hostReduceAdd_def]
  exact Ideal.hostReduceAdd_total reducesTo_S128x5685_S_d0_1 (fun b => b.elim0) y0 _ i

def val_main_cst_48 : (⟨S_, .f32⟩ : BufTy).Contents (Elt F) :=
  constant S_ .f32 0x00000000#32
theorem val_main_cst_48_apply (i : S_.Idx) :
    val_main_cst_48 (F := F) i = FloatOps.ofBits .f32 0x00000000#32 := rfl

def val_main_v243 : (⟨S128x5685, .f32⟩ : BufTy).Contents (Elt F) :=
  broadcastInDim S128x5685 ![] bcast_S_S128x5685 (val_main_cst_48 (F := F))
abbrev idx_main_v243 (i : S128x5685.Idx) : S_.Idx := fun a => a.elim0
theorem val_main_v243_apply (i : S128x5685.Idx) :
    val_main_v243 (F := F) i = val_main_cst_48 (F := F) (idx_main_v243 i) := by
  unfold val_main_v243
  generalize val_main_cst_48 (F := F) = y
  exact broadcastInDim_apply _ bcast_S_S128x5685 y i (idx_main_v243 i) (fun a => a.elim0)

def val_main_v244 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  select (val_main_v187 (F := F) x2 x3 x4) (val_main_v243 (F := F)) (val_main_v240 (F := F) x1 x2 x3 x4)
theorem val_main_v244_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v244 (F := F) x1 x2 x3 x4 i = Scalar.select (val_main_v187 (F := F) x2 x3 x4 i) (val_main_v243 (F := F) i) (val_main_v240 (F := F) x1 x2 x3 x4 i) := rfl

def val_main_v245 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  Host.negf (val_main_v244 (F := F) x1 x2 x3 x4)
theorem val_main_v245_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v245 (F := F) x1 x2 x3 x4 i = FloatOps.hostNegf (val_main_v244 (F := F) x1 x2 x3 x4 i) := rfl

def val_main_v246 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  Host.sort S128x5685 1 comparator_f32_d1 (val_main_v245 (F := F) x1 x2 x3 x4)

def val_main_v247 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  Host.negf (val_main_v246 (F := F) x1 x2 x3 x4)
theorem val_main_v247_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v247 (F := F) x1 x2 x3 x4 i = FloatOps.hostNegf (val_main_v246 (F := F) x1 x2 x3 x4 i) := rfl

def val_main_v248 : (⟨S5685, .i32⟩ : BufTy).Contents (Elt F) :=
  iotaInDim S5685 32 0
theorem val_main_v248_apply (i : S5685.Idx) :
    val_main_v248 (F := F) i = BitVec.ofNat 32 (i 0).val := rfl

def val_main_v249 : (⟨S5685, .f32⟩ : BufTy).Contents (Elt F) :=
  sitofp .f32 (val_main_v248 (F := F))
theorem val_main_v249_apply (i : S5685.Idx) :
    val_main_v249 (F := F) i = FloatOps.sitofp .f32 (val_main_v248 (F := F) i) := rfl

def val_main_v250 : (⟨S1x5685, .f32⟩ : BufTy).Contents (Elt F) :=
  broadcastInDim S1x5685 ![1] bcast_S5685_S1x5685_1 (val_main_v249 (F := F))
abbrev idx_main_v250 (i : S1x5685.Idx) : S5685.Idx := fun a => match a with
  | ⟨0, _⟩ => ⟨(i 1).val, (i 1).isLt⟩
theorem val_main_v250_apply (i : S1x5685.Idx) :
    val_main_v250 (F := F) i = val_main_v249 (F := F) (idx_main_v250 i) := by
  unfold val_main_v250
  generalize val_main_v249 (F := F) = y
  exact broadcastInDim_apply _ bcast_S5685_S1x5685_1 y i (idx_main_v250 i) (fun a => match a with
    | ⟨0, _⟩ => by show (i 1).val = if (5685 : Nat) = 1 then 0 else (i 1).val; rw [if_neg (by decide)])

def val_main_v251 (x2 : (⟨S128x32x4, .f32⟩ : BufTy).Contents (Elt F)) (x3 : (⟨S128x32, .i32⟩ : BufTy).Contents (Elt F)) (x4 : (⟨S5685x4, .f32⟩ : BufTy).Contents (Elt F)) : (⟨S128x1, .f32⟩ : BufTy).Contents (Elt F) :=
  broadcastInDim S128x1 ![0] bcast_S128_S128x1_0 (val_main_v201 (F := F) x2 x3 x4)
abbrev idx_main_v251 (i : S128x1.Idx) : S128.Idx := fun a => match a with
  | ⟨0, _⟩ => ⟨(i 0).val, (i 0).isLt⟩
theorem val_main_v251_apply (x2 : (⟨S128x32x4, .f32⟩ : BufTy).Contents (Elt F)) (x3 : (⟨S128x32, .i32⟩ : BufTy).Contents (Elt F)) (x4 : (⟨S5685x4, .f32⟩ : BufTy).Contents (Elt F)) (i : S128x1.Idx) :
    val_main_v251 (F := F) x2 x3 x4 i = val_main_v201 (F := F) x2 x3 x4 (idx_main_v251 i) := by
  unfold val_main_v251
  generalize val_main_v201 (F := F) x2 x3 x4 = y
  exact broadcastInDim_apply _ bcast_S128_S128x1_0 y i (idx_main_v251 i) (fun a => match a with
    | ⟨0, _⟩ => by show (i 0).val = if (128 : Nat) = 1 then 0 else (i 0).val; rw [if_neg (by decide)])

def val_main_v252 : (⟨S128x5685, .f32⟩ : BufTy).Contents (Elt F) :=
  broadcastInDim S128x5685 ![0, 1] bcast_S1x5685_S128x5685_0_1 (val_main_v250 (F := F))
abbrev idx_main_v252 (i : S128x5685.Idx) : S1x5685.Idx := fun a => match a with
  | ⟨0, _⟩ => ⟨0, Nat.one_pos⟩
  | ⟨1, _⟩ => ⟨(i 1).val, (i 1).isLt⟩
theorem val_main_v252_apply (i : S128x5685.Idx) :
    val_main_v252 (F := F) i = val_main_v250 (F := F) (idx_main_v252 i) := by
  unfold val_main_v252
  generalize val_main_v250 (F := F) = y
  exact broadcastInDim_apply _ bcast_S1x5685_S128x5685_0_1 y i (idx_main_v252 i) (fun a => match a with
    | ⟨0, _⟩ => by show 0 = if (1 : Nat) = 1 then 0 else (i 0).val; rw [if_pos rfl]
    | ⟨1, _⟩ => by show (i 1).val = if (5685 : Nat) = 1 then 0 else (i 1).val; rw [if_neg (by decide)])

def val_main_v253 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  broadcastInDim S128x5685 ![0, 1] bcast_S128x1_S128x5685_0_1 (val_main_v251 (F := F) x2 x3 x4)
abbrev idx_main_v253 (i : S128x5685.Idx) : S128x1.Idx := fun a => match a with
  | ⟨0, _⟩ => ⟨(i 0).val, (i 0).isLt⟩
  | ⟨1, _⟩ => ⟨0, Nat.one_pos⟩
theorem val_main_v253_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v253 (F := F) x2 x3 x4 i = val_main_v251 (F := F) x2 x3 x4 (idx_main_v253 i) := by
  unfold val_main_v253
  generalize val_main_v251 (F := F) x2 x3 x4 = y
  exact broadcastInDim_apply _ bcast_S128x1_S128x5685_0_1 y i (idx_main_v253 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v254 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .i1⟩ : BufTy).Contents (Elt F) :=
  cmpf .olt (val_main_v252 (F := F)) (val_main_v253 (F := F) x2 x3 x4)
theorem val_main_v254_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v254 (F := F) x2 x3 x4 i = FloatOps.cmpf .olt (val_main_v252 (F := F) i) (val_main_v253 (F := F) x2 x3 x4 i) := rfl

def val_main_v255 (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  uitofp .f32 (val_main_v254 (F := F) x2 x3 x4)
theorem val_main_v255_apply (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v255 (F := F) x2 x3 x4 i = FloatOps.uitofp .f32 (val_main_v254 (F := F) x2 x3 x4 i) := rfl

def val_main_v256 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S128x5685, .f32⟩ : BufTy).Contents (Elt F) :=
  mulf (val_main_v247 (F := F) x1 x2 x3 x4) (val_main_v255 (F := F) x2 x3 x4)
theorem val_main_v256_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S128x5685.Idx) :
    val_main_v256 (F := F) x1 x2 x3 x4 i = FloatOps.mulf (val_main_v247 (F := F) x1 x2 x3 x4 i) (val_main_v255 (F := F) x2 x3 x4 i) := rfl

def val_main_cst_49 : (⟨S_, .f32⟩ : BufTy).Contents (Elt F) :=
  constant S_ .f32 0x00000000#32
theorem val_main_cst_49_apply (i : S_.Idx) :
    val_main_cst_49 (F := F) i = FloatOps.ofBits .f32 0x00000000#32 := rfl

def val_main_v257 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.reduceAdd (val_main_v256 (F := F) x1 x2 x3 x4) (val_main_cst_49 (F := F)) reducesTo_S128x5685_S_d0_1 h_S_
/-- Stated at `F := Ideal`, where the host's float sum is this sum; at a bit-exact instance it is an opaque function of its operand. -/
theorem val_main_v257_apply (x1 : (⟨S128x5685x21, .f32⟩ : BufTy).Contents (Elt Ideal)) (x2 : (⟨S128x32x4, .f32⟩ : BufTy).Contents (Elt Ideal)) (x3 : (⟨S128x32, .i32⟩ : BufTy).Contents (Elt Ideal)) (x4 : (⟨S5685x4, .f32⟩ : BufTy).Contents (Elt Ideal)) (i : S_.Idx) :
    val_main_v257 (F := Ideal) x1 x2 x3 x4 i = (val_main_cst_49 (F := Ideal)) (Shape.Idx.first h_S_) + ∑ j : S128x5685.Idx, (val_main_v256 (F := Ideal) x1 x2 x3 x4) j := by
  unfold val_main_v257
  generalize val_main_v256 (F := Ideal) x1 x2 x3 x4 = y0
  simp only [Host.reduceAdd, Ideal.hostReduceAdd_def]
  exact Ideal.hostReduceAdd_total reducesTo_S128x5685_S_d0_1 (fun b => b.elim0) y0 _ i

def val_main_v258 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  addf (val_main_v257 (F := F) x1 x2 x3 x4) (val_main_v242 (F := F) x1 x2 x3 x4)
theorem val_main_v258_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v258 (F := F) x1 x2 x3 x4 i = FloatOps.addf (val_main_v257 (F := F) x1 x2 x3 x4 i) (val_main_v242 (F := F) x1 x2 x3 x4 i) := rfl

def val_main_cst_50 : (⟨S_, .f32⟩ : BufTy).Contents (Elt F) :=
  constant S_ .f32 0x00000000#32
theorem val_main_cst_50_apply (i : S_.Idx) :
    val_main_cst_50 (F := F) i = FloatOps.ofBits .f32 0x00000000#32 := rfl

def val_main_v259 (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.reduceAdd (val_main_v199 (F := F) x2 x3 x4) (val_main_cst_50 (F := F)) reducesTo_S128_S_d0 h_S_
/-- Stated at `F := Ideal`, where the host's float sum is this sum; at a bit-exact instance it is an opaque function of its operand. -/
theorem val_main_v259_apply (x2 : (⟨S128x32x4, .f32⟩ : BufTy).Contents (Elt Ideal)) (x3 : (⟨S128x32, .i32⟩ : BufTy).Contents (Elt Ideal)) (x4 : (⟨S5685x4, .f32⟩ : BufTy).Contents (Elt Ideal)) (i : S_.Idx) :
    val_main_v259 (F := Ideal) x2 x3 x4 i = (val_main_cst_50 (F := Ideal)) (Shape.Idx.first h_S_) + ∑ j : S128.Idx, (val_main_v199 (F := Ideal) x2 x3 x4) j := by
  unfold val_main_v259
  generalize val_main_v199 (F := Ideal) x2 x3 x4 = y0
  simp only [Host.reduceAdd, Ideal.hostReduceAdd_def]
  exact Ideal.hostReduceAdd_total reducesTo_S128_S_d0 (fun b => b.elim0) y0 _ i

def val_main_cst_51 : (⟨S_, .f32⟩ : BufTy).Contents (Elt F) :=
  constant S_ .f32 0x3F800000#32
theorem val_main_cst_51_apply (i : S_.Idx) :
    val_main_cst_51 (F := F) i = FloatOps.ofBits .f32 0x3F800000#32 := rfl

def val_main_v260 (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  maximumf (val_main_v259 (F := F) x2 x3 x4) (val_main_cst_51 (F := F))
theorem val_main_v260_apply (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v260 (F := F) x2 x3 x4 i = FloatOps.maximumf (val_main_v259 (F := F) x2 x3 x4 i) (val_main_cst_51 (F := F) i) := rfl

def val_main_v261 (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  Host.divf (val_main_v258 (F := F) x1 x2 x3 x4) (val_main_v260 (F := F) x2 x3 x4)
theorem val_main_v261_apply (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v261 (F := F) x1 x2 x3 x4 i = FloatOps.hostDivf (val_main_v258 (F := F) x1 x2 x3 x4 i) (val_main_v260 (F := F) x2 x3 x4 i) := rfl

def val_main_cst_52 : (⟨S_, .f32⟩ : BufTy).Contents (Elt F) :=
  constant S_ .f32 0x3F800000#32
theorem val_main_cst_52_apply (i : S_.Idx) :
    val_main_cst_52 (F := F) i = FloatOps.ofBits .f32 0x3F800000#32 := rfl

def val_main_v262 (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  mulf (val_main_cst_52 (F := F)) (val_main_v198 (F := F) x0 x2 x3 x4)
theorem val_main_v262_apply (x0 : (⟨S128x5685x18, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v262 (F := F) x0 x2 x3 x4 i = FloatOps.mulf (val_main_cst_52 (F := F) i) (val_main_v198 (F := F) x0 x2 x3 x4 i) := rfl

def val_main_v263 (x0 : (⟨S128x5685x18, .f32⟩ : BufTy).Contents (Elt F)) (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) : (⟨S_, .f32⟩ : BufTy).Contents (Elt F) :=
  addf (val_main_v261 (F := F) x1 x2 x3 x4) (val_main_v262 (F := F) x0 x2 x3 x4)
theorem val_main_v263_apply (x0 : (⟨S128x5685x18, .f32⟩ : BufTy).Contents (Elt F)) (x1 : (⟨S128x5685x21, .f32⟩ : BufTy).Contents (Elt F)) (x2 : (⟨S128x32x4, .f32⟩ : BufTy).Contents (Elt F)) (x3 : (⟨S128x32, .i32⟩ : BufTy).Contents (Elt F)) (x4 : (⟨S5685x4, .f32⟩ : BufTy).Contents (Elt F)) (i : S_.Idx) :
    val_main_v263 (F := F) x0 x1 x2 x3 x4 i = FloatOps.addf (val_main_v261 (F := F) x1 x2 x3 x4 i) (val_main_v262 (F := F) x0 x2 x3 x4 i) := rfl

end Cert.ReferenceIdeal.Read

end
-- ==== Proof.RefValue.lean ====
/- The term that the reference's run leaves in its result buffer is the last stage. -/
module

public import proofs.«01_k».proof.Proof.RefReadB
public import proofs.«01_k».proof.Proof.RefRun

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The term the Run module states for `main_v263` over any contents `V0` is the stage. -/
theorem val_main_v263_eq (V0 : Valuation τ sig (Elt F)) :
    Cert.ReferenceIdeal.Value.res_main_v263 V0
      = val_main_v263 (F := F) (V0 (Proc.devRef .tc main_arg0)) (V0 (Proc.devRef .tc main_arg1)) (V0 (Proc.devRef .tc main_arg2)) (V0 (Proc.devRef .tc main_arg3)) (V0 (Proc.devRef .tc main_arg4)) := rfl

end Cert.ReferenceIdeal.Read

end
-- ==== Proof.RefArgmax.lean ====
/- What the reference's index operations give: an arg-max over one axis is the first position of the largest
   value, and a scatter that overwrites keeps the last update that lands. -/
module

public import proofs.«01_k».proof.Proof.RefReadA
public import proofs.«01_k».proof.Proof.Words
public import proofs.«01_k».proof.Proof.Apart
public import Idealize.ShloMosaic.Lib.Pointwise
public import Idealize.ShloMosaic.Lib.Routing.OpsPair

@[expose] public section

set_option maxRecDepth 16384

noncomputable section

namespace Cert.ReferenceIdeal.Read
open Cert.ReferenceIdeal Cert.ReferenceIdeal.Gen Cert.Loss
open Idealize.ShloMosaic Idealize.ShloMosaic.TcCoe Idealize.SL.Sem
open Idealize.ShloMosaic.Routing

/-! ## The arg-max -/

/-- One step of the arg-max keeps the left pair where it is larger, or equal and earlier. -/
theorem argmax_step (a b : EReal) (i j : ℕ) (hi : i < 2 ^ 31) (hj : j < 2 ^ 31) :
    reducer_argmax_f32_i32 (F := Ideal) (a, BitVec.ofNat 32 i) (b, BitVec.ofNat 32 j)
      = (max a b, BitVec.ofNat 32 (if b < a ∨ (a = b ∧ i < j) then i else j)) := by
  have h6 : IntOp.cmpi .slt (BitVec.ofNat 32 i) (BitVec.ofNat 32 j) = BitVec.ofBool (decide (i < j)) := by
    show BitVec.ofBool (decide ((BitVec.ofNat 32 i).toInt < (BitVec.ofNat 32 j).toInt)) = _
    rw [WordCmp.toInt_ofNat_of_lt hi, WordCmp.toInt_ofNat_of_lt hj]
    simp
  unfold reducer_argmax_f32_i32
  simp only [h6, Ideal.cmpf_def, Ideal.cmp]
  rcases lt_trichotomy a b with h | h | h
  · have h1 : ¬ b < a := not_lt.mpr h.le
    have h2 : a ≠ b := h.ne
    simp [h1, h2, max_eq_right h.le, IntOp.ori, IntOp.andi, Scalar.select]
  · subst h
    by_cases hij : i < j <;> simp [hij, IntOp.ori, IntOp.andi, Scalar.select]
  · have h2 : a ≠ b := h.ne'
    simp [h, h2, max_eq_left h.le, IntOp.ori, IntOp.andi, Scalar.select]

variable {n : ℕ} [NeZero n]

/-- What holds of the running pair once the positions in `S` have been seen. -/
def Seen (f : Fin n → EReal) (S : Set (Fin n)) (a : EReal × BitVec 32) : Prop :=
  ∃ k : Fin n, a.2 = BitVec.ofNat 32 k.val ∧ a.1 ≤ f k ∧ ∀ j ∈ S, f j ≤ a.1 ∧ (f j = a.1 → k ≤ j)

theorem seen_step (hn : n < 2 ^ 31) (f : Fin n → EReal) (S : Set (Fin n)) (a : EReal × BitVec 32) (h : Seen f S a) (j : Fin n) :
    Seen f (insert j S) (reducer_argmax_f32_i32 (F := Ideal) a (f j, BitVec.ofNat 32 j.val)) := by
  obtain ⟨k, hk, hle, hS⟩ := h
  obtain ⟨a1, a2⟩ := a
  obtain rfl : a2 = BitVec.ofNat 32 k.val := hk
  rw [argmax_step a1 (f j) k.val j.val (k.isLt.trans hn) (j.isLt.trans hn)]
  simp only at hle hS
  rcases lt_trichotomy a1 (f j) with h | h | h
  · refine ⟨j, by simp [not_lt.mpr h.le, h.ne], by simp [h.le], ?_⟩
    rintro i (rfl | hi)
    · simp [h.le]
    · have := (hS i hi).1
      refine ⟨by simp [this], fun e => ?_⟩
      simp only [max_eq_right h.le] at e
      exact absurd (e ▸ this) (not_le.mpr h)
  · subst h
    by_cases hkj : k.val < j.val
    · refine ⟨k, by simp [hkj], by simpa using hle, ?_⟩
      rintro i (rfl | hi)
      · exact ⟨by simp, fun _ => Fin.le_def.mpr hkj.le⟩
      · simpa using hS i hi
    · refine ⟨j, by simp [hkj], by simp, ?_⟩
      rintro i (rfl | hi)
      · simp
      · refine ⟨by simpa using (hS i hi).1, fun e => ?_⟩
        have := (hS i hi).2 (by simpa using e)
        exact le_trans (Fin.le_def.mpr (not_lt.mp hkj)) this
  · refine ⟨k, by simp [h], by simpa [max_eq_left h.le] using hle, ?_⟩
    rintro i (rfl | hi)
    · exact ⟨by simp, fun e => absurd (by simpa [max_eq_left h.le] using e) h.ne⟩
    · simpa [max_eq_left h.le] using hS i hi

theorem seen_fold (hn : n < 2 ^ 31) (f : Fin n → EReal) : ∀ (L : List (EReal × BitVec 32)) (S : Set (Fin n)) (a : EReal × BitVec 32),
    (∀ q ∈ L, ∃ j : Fin n, q = (f j, BitVec.ofNat 32 j.val)) → Seen f S a →
    Seen f (S ∪ {j | (f j, BitVec.ofNat 32 j.val) ∈ L}) (L.foldl (reducer_argmax_f32_i32 (F := Ideal)) a)
  | [], S, a, _, h => by simpa using h
  | q :: L, S, a, hL, h => by
    obtain ⟨i, rfl⟩ := hL q (by simp)
    have h1 := seen_fold hn f L _ _ (fun q hq => hL q (by simp [hq])) (seen_step hn f S a h i)
    refine ⟨h1.choose, h1.choose_spec.1, h1.choose_spec.2.1, fun j hj => h1.choose_spec.2.2 j ?_⟩
    rcases hj with hj | hj
    · exact .inl (.inr hj)
    · rcases List.mem_cons.mp hj with e | e
      · have e2 : BitVec.ofNat 32 j.val = BitVec.ofNat 32 i.val := (Prod.ext_iff.mp e).2
        have e3 := congrArg BitVec.toNat e2
        rw [BitVec.toNat_ofNat, BitVec.toNat_ofNat, Nat.mod_eq_of_lt (by omega), Nat.mod_eq_of_lt (by omega)] at e3
        exact .inl (.inl (Fin.ext e3))
      · exact .inr e

/-- The arg-max over a fiber that runs through `e` is the first position of the largest value. -/
theorem argmax_word {s t u : Shape} {axes : List (Fin s.rank)} (hn : n < 2 ^ 31) (x : FVec Ideal s .f32) (y : IVec s 32)
    (ix : FVec Ideal u .f32) (iy : IVec u 32) (h : s.ReducesTo axes t) (hu : 0 < u.numel) (j : t.Idx) (e : Fin n → s.Idx)
    (he : ∀ i, h.drop i = j ↔ ∃ k, i = e k) (hy : ∀ k, y (e k) = BitVec.ofNat 32 k.val)
    (hix : ∀ i, ix i = ⊥) (hiy : ∀ i, iy i = 0#32) :
    (Host.argReduce (reducer_argmax_f32_i32 (F := Ideal)) x y ix iy h hu j).2 = BitVec.ofNat 32 (firstMax fun k => x (e k)).val := by
  rw [Ideal.argReduce_eq_reduce2, Host.reduce2_eq_foldl_fiber, hix, hiy]
  have hmem : ∀ q, q ∈ Host.argReduceFiber x y h j ↔ ∃ k : Fin n, q = (x (e k), BitVec.ofNat 32 k.val) := fun q => by
    unfold Host.argReduceFiber
    simp only [List.mem_map, List.mem_filter, List.mem_finRange, true_and, decide_eq_true_eq]
    constructor
    · rintro ⟨m, hm, rfl⟩
      obtain ⟨k, hk⟩ := (he _).mp hm
      exact ⟨k, by rw [hk, hy]⟩
    · rintro ⟨k, rfl⟩
      exact ⟨s.rowMajor (e k), by rw [Equiv.symm_apply_apply]; exact (he _).mpr ⟨k, rfl⟩, by rw [Equiv.symm_apply_apply, hy]⟩
  obtain ⟨k, hk, hle, hS⟩ := seen_fold hn (fun k => x (e k)) (Host.argReduceFiber x y h j) ∅ (⊥, 0#32) (fun q hq => (hmem q).mp hq)
    ⟨0, by simp, bot_le, by simp⟩
  have hall : ∀ i : Fin n, i ∈ (∅ ∪ {i : Fin n | (x (e i), BitVec.ofNat 32 i.val) ∈ Host.argReduceFiber x y h j} : Set (Fin n)) :=
    fun i => .inr ((hmem _).mpr ⟨i, rfl⟩)
  rw [hk, firstMax_eq (fun k => x (e k)) k (fun i => ((hS i (hall i)).1).trans hle)
    (fun i hi => (hS i (hall i)).2 (le_antisymm (hS i (hall i)).1 (hle.trans hi.symm.le)))]

/-! ## The scatter -/

/-- A fold that overwrites keeps the last hit. -/
theorem foldl_last {α β : Type} [LinearOrder β] (P : β → Prop) [DecidablePred P] (v : β → α) (x0 : α) (m : β) :
    ∀ L : List β, L.Pairwise (· < ·) → m ∈ L → P m → (∀ k ∈ L, P k → k ≤ m) → L.foldl (fun a k => if P k then v k else a) x0 = v m := by
  intro L
  induction L using List.reverseRecOn with
  | nil => intro _ h; simp at h
  | append_singleton L k ih =>
    intro hL hm hP hmax
    rw [List.foldl_append, List.foldl_cons, List.foldl_nil]
    rw [List.pairwise_append] at hL
    by_cases hk : P k
    · have hkm := hmax k (by simp) hk
      rcases List.mem_append.mp hm with h | h
      · exact absurd (hL.2.2 m h k (by simp)) (not_lt.mpr hkm)
      · rw [if_pos hk, List.mem_singleton.mp h]
    · rw [if_neg hk]
      rcases List.mem_append.mp hm with h | h
      · exact ih hL.1 h hP fun k hk => hmax k (by simp [hk])
      · exact absurd (List.mem_singleton.mp h ▸ hP) hk

/-- A fold that overwrites and never hits keeps its start. -/
theorem foldl_never {α β : Type} (P : β → Prop) [DecidablePred P] (v : β → α) (x0 : α) :
    ∀ L : List β, (∀ k ∈ L, ¬ P k) → L.foldl (fun a k => if P k then v k else a) x0 = x0
  | [], _ => rfl
  | k :: L, h => by
    rw [List.foldl_cons, if_neg (h k (by simp))]
    exact foldl_never P v x0 L fun k hk => h k (by simp [hk])

section Scatter
variable {α : Type} (base : S128x5685.Idx → α) (idx : IVec S128x32x2 32) (upd : S128x32.Idx → α) (x : Fin 128 → Fin 32 → Fin 5685 → EReal)
  (h0 : ∀ b o, idx (ix3 b o 0) = BitVec.ofNat 32 b.val) (h1 : ∀ b o, idx (ix3 b o 1) = BitVec.ofNat 32 (bestPrior (x b) o).val)
include h0 h1

/-- The table of the scatter sends object `o` of image `b` to that image's prior which `o` overlaps most. -/
theorem lands (n : Fin S128x32.numel) (b : Fin 128) (p : Fin 5685) :
    scatter_S128x5685_S128x32x2_S128x32_n_01_01_2.resultIdx? (S128x32.rowMajor.symm n) idx = some (ix2 b p)
      ↔ ∃ o : Fin 32, n.val = b.val * 32 + o.val ∧ bestPrior (x b) o = p := by
  have hN : n.val < 4096 := n.isLt
  rw [show S128x32.rowMajor.symm n = ix2 (⟨n.val / 32, by omega⟩ : Fin 128) (⟨n.val % 32, by omega⟩ : Fin 32) from symm22 n _ _]
  refine (scatter_lands2 scatter_S128x5685_S128x32x2_S128x32_n_01_01_2 rfl rfl rfl idx _ _ b p).trans ?_
  have e0 : idx (ValueIdx.ix3 (⟨n.val / 32, by omega⟩ : Fin 128) (⟨n.val % 32, by omega⟩ : Fin 32) (0 : Fin 2)) = _ :=
    h0 ⟨n.val / 32, by omega⟩ ⟨n.val % 32, by omega⟩
  have e1 : idx (ValueIdx.ix3 (⟨n.val / 32, by omega⟩ : Fin 128) (⟨n.val % 32, by omega⟩ : Fin 32) (1 : Fin 2)) = _ :=
    h1 ⟨n.val / 32, by omega⟩ ⟨n.val % 32, by omega⟩
  rw [e0, e1, WordCmp.toInt_ofNat_of_lt (by dsimp only; omega), WordCmp.toInt_ofNat_of_lt (by omega)]
  dsimp only
  constructor
  · rintro ⟨hb, hp⟩
    have hb' : n.val / 32 = b.val := by exact_mod_cast hb
    refine ⟨⟨n.val % 32, by omega⟩, by dsimp only; omega, Fin.ext ?_⟩
    have e : (⟨n.val / 32, by omega⟩ : Fin 128) = b := Fin.ext hb'
    rw [e] at hp
    exact_mod_cast hp
  · rintro ⟨o, ho, rfl⟩
    have hb : (⟨n.val / 32, by omega⟩ : Fin 128) = b := Fin.ext (by dsimp only; omega)
    have ho' : (⟨n.val % 32, by omega⟩ : Fin 32) = o := Fin.ext (by dsimp only; omega)
    rw [hb, ho']
    exact ⟨by exact_mod_cast congrArg Fin.val hb, rfl⟩

theorem scatter_claims (b : Fin 128) (o : Fin 32) (p : Fin 5685) (h : Claims (x b) o p) :
    Host.scatter scatter_S128x5685_S128x32x2_S128x32_n_01_01_2 (fun _ v => v) base idx upd (ix2 b p) = upd (ix2 b o) := by
  have hm : b.val * 32 + o.val < S128x32.numel := by show _ < 4096; omega
  rw [scatter_at, foldl_last _ _ _ (⟨b.val * 32 + o.val, hm⟩ : Fin S128x32.numel) _ (List.pairwise_lt_finRange _) (List.mem_finRange _)
    ((lands idx x h0 h1 _ b p).mpr ⟨o, rfl, h.1⟩)]
  · refine congrArg upd ((symm22 _ (by dsimp only; omega) (by dsimp only; omega)).trans ?_)
    exact congrArg₂ ix2 (Fin.ext (by dsimp only; omega)) (Fin.ext (by dsimp only; omega))
  · intro k _ hk
    obtain ⟨o', ho', hp'⟩ := (lands idx x h0 h1 k b p).mp hk
    have := Fin.le_def.mp (h.2 o' hp')
    exact Fin.le_def.mpr (by dsimp only; omega)

theorem scatter_none (b : Fin 128) (p : Fin 5685) (h : ∀ o, bestPrior (x b) o ≠ p) :
    Host.scatter scatter_S128x5685_S128x32x2_S128x32_n_01_01_2 (fun _ v => v) base idx upd (ix2 b p) = base (ix2 b p) := by
  rw [scatter_at]
  refine foldl_never _ _ _ _ fun k _ hk => ?_
  obtain ⟨o, _, ho⟩ := (lands idx x h0 h1 k b p).mp hk
  exact h o ho

end Scatter

end Cert.ReferenceIdeal.Read
-- ==== Proof.RefGather.lean ====
/- The reference's three gathers, each read at an index whose table entries are known. -/
module

public import proofs.«01_k».proof.Proof.RefReadA
public import Idealize.ShloMosaic.Lib.Pointwise
public import Idealize.ShloMosaic.Lib.WordCmp

@[expose] public section

set_option maxRecDepth 16384

noncomputable section

namespace Cert.ReferenceIdeal.Read
open Cert.ReferenceIdeal Cert.ReferenceIdeal.Gen
open Idealize.ShloMosaic Idealize.ShloMosaic.TcCoe Idealize.SL.Sem

variable {α : Type}

/-- A table entry within range is the start it names. -/
theorem start_word (k n : ℕ) (hk : k ≤ n) (hn : n < 2 ^ 31) : min (BitVec.ofNat 32 k).toInt.toNat n = k := by
  rw [WordCmp.toInt_ofNat_of_lt (by omega), Int.toNat_natCast, min_eq_left hk]

theorem gather_label (x : S128x32.Idx → α) (idx : IVec S128x5685x2 32) (b : Fin 128) (p : Fin 5685) (r : Fin 128) (o : Fin 32)
    (h0 : idx (ix3 b p 0) = BitVec.ofNat 32 r.val) (h1 : idx (ix3 b p 1) = BitVec.ofNat 32 o.val) :
    Host.gather gather_S128x32_S128x5685x2_S128x5685_n_01_n_n_01_2_11 x idx (ix2 b p) = x (ix2 r o) := by
  have si : ∀ q : Fin 2, (gather_S128x32_S128x5685x2_S128x5685_n_01_n_n_01_2_11).siIdx (ix2 b p) q = ix3 b p q := fun q => by
    funext a; refine Fin.ext ?_
    match a with
    | ⟨0, _⟩ => rfl
    | ⟨1, _⟩ => rfl
    | ⟨2, _⟩ => rfl
  have e0 := si 0
  have e1 := si 1
  unfold Host.gather
  refine congrArg x (funext fun a => Fin.ext ?_)
  match a with
  | ⟨0, _⟩ =>
    show min (idx ((gather_S128x32_S128x5685x2_S128x5685_n_01_n_n_01_2_11).siIdx (ix2 b p) (0 : Fin 2))).toInt.toNat 127 + 0 + 0 = r.val
    rw [e0, h0, start_word _ _ (by omega) (by decide)]; rfl
  | ⟨1, _⟩ =>
    show min (idx ((gather_S128x32_S128x5685x2_S128x5685_n_01_n_n_01_2_11).siIdx (ix2 b p) (1 : Fin 2))).toInt.toNat 31 + 0 + 0 = o.val
    rw [e1, h1, start_word _ _ (by omega) (by decide)]; rfl

theorem gather_box (x : S128x32x4.Idx → α) (idx : IVec S128x5685x2 32) (b : Fin 128) (p : Fin 5685) (k : Fin 4) (r : Fin 128) (o : Fin 32)
    (h0 : idx (ix3 b p 0) = BitVec.ofNat 32 r.val) (h1 : idx (ix3 b p 1) = BitVec.ofNat 32 o.val) :
    Host.gather gather_S128x32x4_S128x5685x2_S128x5685x4_2_01_n_n_01_2_114 x idx (ix3 b p k) = x (ix3 r o k) := by
  have si : ∀ q : Fin 2, (gather_S128x32x4_S128x5685x2_S128x5685x4_2_01_n_n_01_2_114).siIdx (ix3 b p k) q = ix3 b p q := fun q => by
    funext a; refine Fin.ext ?_
    match a with
    | ⟨0, _⟩ => rfl
    | ⟨1, _⟩ => rfl
    | ⟨2, _⟩ => rfl
  have e0 := si 0
  have e1 := si 1
  unfold Host.gather
  refine congrArg x (funext fun a => Fin.ext ?_)
  match a with
  | ⟨0, _⟩ =>
    show min (idx ((gather_S128x32x4_S128x5685x2_S128x5685x4_2_01_n_n_01_2_114).siIdx (ix3 b p k) (0 : Fin 2))).toInt.toNat 127 + 0 + 0 = r.val
    rw [e0, h0, start_word _ _ (by omega) (by decide)]; rfl
  | ⟨1, _⟩ =>
    show min (idx ((gather_S128x32x4_S128x5685x2_S128x5685x4_2_01_n_n_01_2_114).siIdx (ix3 b p k) (1 : Fin 2))).toInt.toNat 31 + 0 + 0 = o.val
    rw [e1, h1, start_word _ _ (by omega) (by decide)]; rfl
  | ⟨2, _⟩ =>
    show 0 + 0 + k.val = k.val
    omega

theorem gather_score (x : S128x5685x21.Idx → α) (idx : IVec S128x5685x3 32) (b : Fin 128) (p : Fin 5685) (r : Fin 128) (q : Fin 5685) (c : Fin 21)
    (h0 : idx (ix3 b p 0) = BitVec.ofNat 32 r.val) (h1 : idx (ix3 b p 1) = BitVec.ofNat 32 q.val)
    (h2 : idx (ix3 b p 2) = BitVec.ofNat 32 c.val) :
    Host.gather gather_S128x5685x21_S128x5685x3_S128x5685_n_012_n_n_012_2_111 x idx (ix2 b p) = x (ix3 r q c) := by
  have si : ∀ q : Fin 3, (gather_S128x5685x21_S128x5685x3_S128x5685_n_012_n_n_012_2_111).siIdx (ix2 b p) q = ix3 b p q := fun q => by
    funext a; refine Fin.ext ?_
    match a with
    | ⟨0, _⟩ => rfl
    | ⟨1, _⟩ => rfl
    | ⟨2, _⟩ => rfl
  have e0 := si 0
  have e1 := si 1
  have e2 := si 2
  unfold Host.gather
  refine congrArg x (funext fun a => Fin.ext ?_)
  match a with
  | ⟨0, _⟩ =>
    show min (idx ((gather_S128x5685x21_S128x5685x3_S128x5685_n_012_n_n_012_2_111).siIdx (ix2 b p) (0 : Fin 3))).toInt.toNat 127 + 0 + 0 = r.val
    rw [e0, h0, start_word _ _ (by omega) (by decide)]; rfl
  | ⟨1, _⟩ =>
    show min (idx ((gather_S128x5685x21_S128x5685x3_S128x5685_n_012_n_n_012_2_111).siIdx (ix2 b p) (1 : Fin 3))).toInt.toNat 5684 + 0 + 0 = q.val
    rw [e1, h1, start_word _ _ (by omega) (by decide)]; rfl
  | ⟨2, _⟩ =>
    show min (idx ((gather_S128x5685x21_S128x5685x3_S128x5685_n_012_n_n_012_2_111).siIdx (ix2 b p) (2 : Fin 3))).toInt.toNat 20 + 0 + 0 = c.val
    rw [e2, h2, start_word _ _ (by omega) (by decide)]; rfl

end Cert.ReferenceIdeal.Read
-- ==== Proof.RefMatch.lean ====
/- The reference's matching stage, in the quantities of one image. -/
module

public import proofs.«01_k».proof.Proof.RefReadB
public import proofs.«01_k».proof.Proof.RefArgmax
public import proofs.«01_k».proof.Proof.RefGather
public import Idealize.ShloMosaic.Lib.Pointwise
public import Idealize.ShloMosaic.Lib.Routing.OpsPair

@[expose] public section

set_option maxRecDepth 16384

noncomputable section

namespace Cert.ReferenceIdeal.Read
open Cert.ReferenceIdeal Cert.ReferenceIdeal.Gen Cert.Loss
open Idealize.ShloMosaic Idealize.ShloMosaic.TcCoe Idealize.SL.Sem

variable (x2 : FVec Ideal S128x32x4 .f32) (x4 : FVec Ideal S5685x4 .f32)

/-- The overlaps of image `b`. -/
def ovl (b : Fin 128) (o : Fin 32) (p : Fin 5685) : EReal := overlap (fun k => x2 (ix3 b o k)) (fun k => x4 (ix2 p k))

theorem v79_apply (b : Fin 128) (o : Fin 32) (p : Fin 5685) : val_main_v79 (F := Ideal) x2 x4 (ix3 b o p) = ovl x2 x4 b o p := by
  pointwise [val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_6, val_main_cst_7]
  rfl

theorem drop_object (b : Fin 128) (p : Fin 5685) (i : S128x32x5685.Idx) :
    (reducesTo_S128x32x5685_S128x5685_d1).drop i = ix2 b p ↔ ∃ k : Fin 32, i = ix3 b k p := by
  constructor
  · intro h
    refine ⟨i 1, funext fun a => Fin.ext ?_⟩
    match a with
    | ⟨0, _⟩ => exact ((reducesTo_S128x32x5685_S128x5685_d1).drop_apply_val_of_eq i 0 0).symm.trans (congrArg Fin.val (congrFun h 0))
    | ⟨1, _⟩ => rfl
    | ⟨2, _⟩ => exact ((reducesTo_S128x32x5685_S128x5685_d1).drop_apply_val_of_eq i 1 2).symm.trans (congrArg Fin.val (congrFun h 1))
  · rintro ⟨k, rfl⟩
    refine funext fun a => Fin.ext ?_
    match a with
    | ⟨0, _⟩ => exact (reducesTo_S128x32x5685_S128x5685_d1).drop_apply_val_of_eq (ix3 b k p) 0 0
    | ⟨1, _⟩ => exact (reducesTo_S128x32x5685_S128x5685_d1).drop_apply_val_of_eq (ix3 b k p) 1 2

theorem drop_prior (b : Fin 128) (o : Fin 32) (i : S128x32x5685.Idx) :
    (reducesTo_S128x32x5685_S128x32_d2).drop i = ix2 b o ↔ ∃ k : Fin 5685, i = ix3 b o k := by
  constructor
  · intro h
    refine ⟨i 2, funext fun a => Fin.ext ?_⟩
    match a with
    | ⟨0, _⟩ => exact ((reducesTo_S128x32x5685_S128x32_d2).drop_apply_val_of_eq i 0 0).symm.trans (congrArg Fin.val (congrFun h 0))
    | ⟨1, _⟩ => exact ((reducesTo_S128x32x5685_S128x32_d2).drop_apply_val_of_eq i 1 1).symm.trans (congrArg Fin.val (congrFun h 1))
    | ⟨2, _⟩ => rfl
  · rintro ⟨k, rfl⟩
    refine funext fun a => Fin.ext ?_
    match a with
    | ⟨0, _⟩ => exact (reducesTo_S128x32x5685_S128x32_d2).drop_apply_val_of_eq (ix3 b o k) 0 0
    | ⟨1, _⟩ => exact (reducesTo_S128x32x5685_S128x32_d2).drop_apply_val_of_eq (ix3 b o k) 1 1

/- The two arg-maxes are opened as whole arrays: at an index, their pairs would be computed. -/
theorem v81_eq : val_main_v81 (F := Ideal) x2 x4 = fun j => (Host.argReduce (F := Ideal) (φ := .f32) (β := BitVec 32) (s := S128x32x5685) (u := S_) (reducer_argmax_f32_i32 (F := Ideal)) (val_main_v79 (F := Ideal) x2 x4)
    (val_main_call0_v0 (F := Ideal)) (val_main_call0_cst (F := Ideal)) (val_main_call0_c (F := Ideal)) reducesTo_S128x32x5685_S128x5685_d1 h_S_ j).2 := rfl
theorem v82_eq : val_main_v82 (F := Ideal) x2 x4 = fun j => (Host.argReduce (F := Ideal) (φ := .f32) (β := BitVec 32) (s := S128x32x5685) (u := S_) (reducer_argmax_f32_i32 (F := Ideal)) (val_main_v79 (F := Ideal) x2 x4)
    (val_main_call1_v0 (F := Ideal)) (val_main_call1_cst (F := Ideal)) (val_main_call1_c (F := Ideal)) reducesTo_S128x32x5685_S128x32_d2 h_S_ j).2 := rfl

theorem v81_apply (b : Fin 128) (p : Fin 5685) : val_main_v81 (F := Ideal) x2 x4 (ix2 b p) = BitVec.ofNat 32 (bestObj (ovl x2 x4 b) p).val := by
  have h : bestObj (ovl x2 x4 b) p = firstMax fun k : Fin 32 => val_main_v79 (F := Ideal) x2 x4 (ix3 b k p) := by
    simp only [v79_apply]; rfl
  rw [h]
  exact (congrFun (v81_eq x2 x4) (ix2 b p)).trans (argmax_word (n := 32) (by decide) _ _ _ _ reducesTo_S128x32x5685_S128x5685_d1 h_S_ (ix2 b p)
    (fun k : Fin 32 => ix3 b k p) (drop_object b p) (fun k => rfl) (fun _ => ofBits_negInf) (fun _ => rfl))

theorem v82_apply (b : Fin 128) (o : Fin 32) : val_main_v82 (F := Ideal) x2 x4 (ix2 b o) = BitVec.ofNat 32 (bestPrior (ovl x2 x4 b) o).val := by
  have h : bestPrior (ovl x2 x4 b) o = firstMax fun k : Fin 5685 => val_main_v79 (F := Ideal) x2 x4 (ix3 b o k) := by
    simp only [v79_apply]; rfl
  rw [h]
  exact (congrFun (v82_eq x2 x4) (ix2 b o)).trans (argmax_word (n := 5685) (by decide) _ _ _ _ reducesTo_S128x32x5685_S128x32_d2 h_S_ (ix2 b o)
    (fun k : Fin 5685 => ix3 b o k) (drop_prior b o) (fun k => rfl) (fun _ => ofBits_negInf) (fun _ => rfl))

end Cert.ReferenceIdeal.Read
-- ==== Proof.RefTable.lean ====
/- The reference's index tables, and what it scatters and gathers through them. -/
module

public import proofs.«01_k».proof.Proof.RefReadB
public import proofs.«01_k».proof.Proof.RefMatch
public import proofs.«01_k».proof.Proof.RefGather
public import Idealize.ShloMosaic.Lib.Pointwise
public import Idealize.ShloMosaic.Lib.Routing.OpsPair

@[expose] public section

set_option maxRecDepth 16384

noncomputable section

namespace Cert.ReferenceIdeal.Read
open Cert.ReferenceIdeal Cert.ReferenceIdeal.Gen Cert.Loss
open Idealize.ShloMosaic Idealize.ShloMosaic.TcCoe Idealize.SL.Sem

variable (x2 : FVec Ideal S128x32x4 .f32) (x4 : FVec Ideal S5685x4 .f32)

/-- An index that is not negative is not wrapped. -/
theorem wrap_word (k : ℕ) (hk : k < 2 ^ 31) (a : BitVec 32) :
    Scalar.select (IntOp.cmpi .slt (BitVec.ofNat 32 k) 0#32) a (BitVec.ofNat 32 k) = BitVec.ofNat 32 k :=
  Routing.wrap_of_lt _ _ (by rw [WordCmp.toNat_ofNat_of_lt (by omega)]; exact hk)

theorem v100_image (b : Fin 128) (o : Fin 32) : val_main_v100 (F := Ideal) x2 x4 (ix3 b o 0) = BitVec.ofNat 32 b.val := by
  pointwise [val_main_v83, val_main_v84, val_main_v87, val_main_v88, val_main_v89, val_main_v90, val_main_v91, val_main_v97, val_main_v98, val_main_v99, val_main_v100, val_main_c, val_main_c_9]
  exact wrap_word _ (by omega) _

theorem v100_prior (b : Fin 128) (o : Fin 32) : val_main_v100 (F := Ideal) x2 x4 (ix3 b o 1) = BitVec.ofNat 32 (bestPrior (ovl x2 x4 b) o).val := by
  pointwise [val_main_v92, val_main_v93, val_main_v94, val_main_v95, val_main_v96, val_main_v98, val_main_v99, val_main_v100, val_main_c_10, val_main_c_11]
  rw [v82_apply]
  exact wrap_word _ (by omega) _

theorem v101_apply (b : Fin 128) (o : Fin 32) : val_main_v101 (F := Ideal) (ix2 b o) = BitVec.ofNat 32 o.val := by
  pointwise [val_main_v85, val_main_v86, val_main_v101]

theorem v102_apply (b : Fin 128) (p : Fin 5685) : val_main_v102 (F := Ideal) x2 x4 (ix2 b p) = BitVec.ofNat 32 (obj (ovl x2 x4 b) p).val := by
  unfold val_main_v102
  rcases claims_or (ovl x2 x4 b) p with ⟨o, h⟩ | h
  · rw [scatter_claims _ _ _ (ovl x2 x4) (v100_image x2 x4) (v100_prior x2 x4) b o p h, obj_of_claims _ h, v101_apply]
  · rw [scatter_none _ _ _ (ovl x2 x4) (v100_image x2 x4) (v100_prior x2 x4) b p h, obj_of_none _ h, v81_apply]

theorem v116_image (b : Fin 128) (o : Fin 32) : val_main_v116 (F := Ideal) x2 x4 (ix3 b o 0) = BitVec.ofNat 32 b.val := by
  pointwise [val_main_v83, val_main_v84, val_main_v103, val_main_v104, val_main_v105, val_main_v106, val_main_v107, val_main_v113, val_main_v114, val_main_v115, val_main_v116, val_main_c_12, val_main_c_13]
  exact wrap_word _ (by omega) _

theorem v116_prior (b : Fin 128) (o : Fin 32) : val_main_v116 (F := Ideal) x2 x4 (ix3 b o 1) = BitVec.ofNat 32 (bestPrior (ovl x2 x4 b) o).val := by
  pointwise [val_main_v108, val_main_v109, val_main_v110, val_main_v111, val_main_v112, val_main_v114, val_main_v115, val_main_v116, val_main_c_14, val_main_c_15]
  rw [v82_apply]
  exact wrap_word _ (by omega) _

theorem v80_apply (b : Fin 128) (p : Fin 5685) : val_main_v80 (F := Ideal) x2 x4 (ix2 b p) = ovl x2 x4 b (bestObj (ovl x2 x4 b) p) p := by
  pointwise [val_main_v80, val_main_cst_8]
  simp only [v79_apply]
  exact fold_max (fun o => ovl x2 x4 b o p) _ ofBits_negInf

theorem v117_apply (b : Fin 128) (o : Fin 32) : val_main_v117 (F := Ideal) (ix2 b o) = (1 : EReal) := by
  pointwise [val_main_v117, val_main_cst_16]

theorem v118_apply (b : Fin 128) (p : Fin 5685) : val_main_v118 (F := Ideal) x2 x4 (ix2 b p) = score (ovl x2 x4 b) p := by
  unfold val_main_v118
  rcases claims_or (ovl x2 x4 b) p with ⟨o, h⟩ | h
  · rw [scatter_claims _ _ _ (ovl x2 x4) (v116_image x2 x4) (v116_prior x2 x4) b o p h, score_of_claims _ h, v117_apply]
  · rw [scatter_none _ _ _ (ovl x2 x4) (v116_image x2 x4) (v116_prior x2 x4) b p h, score_of_none _ h, v80_apply]

/-! ## The class and the box that go with a prior -/

theorem v132_image (b : Fin 128) (p : Fin 5685) : val_main_v132 (F := Ideal) x2 x4 (ix3 b p 0) = BitVec.ofNat 32 b.val := by
  pointwise [val_main_v83, val_main_v84, val_main_v119, val_main_v120, val_main_v121, val_main_v122, val_main_v123, val_main_v129, val_main_v130, val_main_v131, val_main_v132, val_main_c_17, val_main_c_18]
  exact wrap_word _ (by omega) _

theorem v132_obj (b : Fin 128) (p : Fin 5685) : val_main_v132 (F := Ideal) x2 x4 (ix3 b p 1) = BitVec.ofNat 32 (obj (ovl x2 x4 b) p).val := by
  pointwise [val_main_v124, val_main_v125, val_main_v126, val_main_v127, val_main_v128, val_main_v130, val_main_v131, val_main_v132, val_main_c_19, val_main_c_20]
  rw [v102_apply]
  exact wrap_word _ (by omega) _

theorem v151_image (b : Fin 128) (p : Fin 5685) : val_main_v151 (F := Ideal) x2 x4 (ix3 b p 0) = BitVec.ofNat 32 b.val := by
  pointwise [val_main_v83, val_main_v84, val_main_v138, val_main_v139, val_main_v140, val_main_v141, val_main_v142, val_main_v148, val_main_v149, val_main_v150, val_main_v151, val_main_c_23, val_main_c_24]
  exact wrap_word _ (by omega) _

theorem v151_obj (b : Fin 128) (p : Fin 5685) : val_main_v151 (F := Ideal) x2 x4 (ix3 b p 1) = BitVec.ofNat 32 (obj (ovl x2 x4 b) p).val := by
  pointwise [val_main_v143, val_main_v144, val_main_v145, val_main_v146, val_main_v147, val_main_v149, val_main_v150, val_main_v151, val_main_c_25, val_main_c_26]
  rw [v102_apply]
  exact wrap_word _ (by omega) _

variable (x3 : IVec S128x32 32)

theorem v133_apply (b : Fin 128) (p : Fin 5685) : val_main_v133 (F := Ideal) x2 x3 x4 (ix2 b p) = x3 (ix2 b (obj (ovl x2 x4 b) p)) := by
  unfold val_main_v133
  exact gather_label _ _ _ _ _ _ (v132_image x2 x4 b p) (v132_obj x2 x4 b p)

theorem v137_apply (b : Fin 128) (p : Fin 5685) :
    val_main_v137 (F := Ideal) x2 x3 x4 (ix2 b p) = cls (score (ovl x2 x4 b) p) (x3 (ix2 b (obj (ovl x2 x4 b) p))) := by
  rw [val_main_v137_apply, val_main_v136_apply, val_main_v135_apply, val_main_v134_apply, v118_apply, v133_apply,
    val_main_c_21_apply, val_main_cst_22_apply, Ideal.ofBits_def, ofBits_half, Ideal.cmpf_def]
  unfold cls
  by_cases h : score (ovl x2 x4 b) p < half <;> simp [Ideal.cmp, Scalar.select, h]

theorem v152_apply (b : Fin 128) (p : Fin 5685) (k : Fin 4) : val_main_v152 (F := Ideal) x2 x4 (ix3 b p k) = x2 (ix3 b (obj (ovl x2 x4 b) p) k) := by
  unfold val_main_v152
  exact gather_box _ _ _ _ _ _ _ (v151_image x2 x4 b p) (v151_obj x2 x4 b p)

end Cert.ReferenceIdeal.Read
-- ==== Proof.RefLoc.lean ====
/- The reference's localisation loss, in the quantities of one image. -/
module

public import proofs.«01_k».proof.Proof.RefTable

@[expose] public section

set_option maxRecDepth 16384

noncomputable section

namespace Cert.ReferenceIdeal.Read
open Cert.ReferenceIdeal Cert.ReferenceIdeal.Gen Cert.Loss
open Idealize.ShloMosaic Idealize.ShloMosaic.TcCoe Idealize.SL.Sem

variable (x0 : FVec Ideal S128x5685x18 .f32) (x1 : FVec Ideal S128x5685x21 .f32) (x2 : FVec Ideal S128x32x4 .f32)
  (x3 : IVec S128x32 32) (x4 : FVec Ideal S5685x4 .f32)

/-- Image `b` of the reference's arguments. -/
abbrev im (b : Fin 128) : Image := Image.ofArrays x0 x1 x2 x3 x4 b

theorem v137_class (b : Fin 128) (p : Fin 5685) : val_main_v137 (F := Ideal) x2 x3 x4 (ix2 b p) = (im x0 x1 x2 x3 x4 b).cl p :=
  v137_apply x2 x4 x3 b p

theorem v187_class (b : Fin 128) (p : Fin 5685) :
    val_main_v187 (F := Ideal) x2 x3 x4 (ix2 b p) = BitVec.ofBool (decide ((im x0 x1 x2 x3 x4 b).cl p ≠ 0#32)) := by
  rw [val_main_v187_apply, val_main_v186_apply, v137_class x0 x1]
  show BitVec.ofBool (_ != 0#32) = _
  congr 1
  by_cases h : (im x0 x1 x2 x3 x4 b).cl p = 0#32 <;> simp [h]

theorem v188_pos (b : Fin 128) (p : Fin 5685) : val_main_v188 (F := Ideal) x2 x3 x4 (ix2 b p) = (im x0 x1 x2 x3 x4 b).ps p := by
  rw [val_main_v188_apply, v187_class x0 x1]
  show (((BitVec.ofBool (decide ((im x0 x1 x2 x3 x4 b).cl p ≠ 0#32))).toNat : ℝ) : EReal) = pos _
  unfold pos
  by_cases h : (im x0 x1 x2 x3 x4 b).cl p = 0#32 <;> simp [h]

/-! ## The predicted boxes -/

theorem v11_apply (b : Fin 128) (p : Fin 5685) (k : Fin 9) : val_main_v11 (F := Ideal) x0 (ix3 b p k) = x0 (ix3 b p ⟨k, by omega⟩) := by
  rw [val_main_v11_apply, val_main_v10_apply, val_main_v9_apply]
  have hb : b.val < 128 := b.isLt
  have hp : p.val < 5685 := p.isLt
  have hk : k.val < 9 := k.isLt
  refine congrArg x0 (funext fun a => Fin.ext ?_)
  match a with
  | ⟨0, _⟩ => simp only [ix3]; omega
  | ⟨1, _⟩ => simp only [ix3]; omega
  | ⟨2, _⟩ => simp only [ix3]; omega

theorem v13_apply (b : Fin 128) (p : Fin 5685) (k : Fin 9) : val_main_v13 (F := Ideal) x0 (ix3 b p k) = x0 (ix3 b p ⟨9 + k, by omega⟩) := by
  rw [val_main_v13_apply, val_main_v12_apply, val_main_v9_apply]
  have hb : b.val < 128 := b.isLt
  have hp : p.val < 5685 := p.isLt
  have hk : k.val < 9 := k.isLt
  refine congrArg x0 (funext fun a => Fin.ext ?_)
  match a with
  | ⟨0, _⟩ => simp only [ix3]; omega
  | ⟨1, _⟩ => simp only [ix3]; omega
  | ⟨2, _⟩ => simp only [ix3]; omega

theorem v14_apply (b : Fin 128) (p : Fin 5685) : val_main_v14 (F := Ideal) x0 (ix2 b p) = least fun k => x0 (ix3 b p ⟨k, by omega⟩) := by
  unfold val_main_v14
  have h := v11_apply x0 b p
  generalize val_main_v11 (F := Ideal) x0 = y at h ⊢
  pointwise [val_main_cst_0]
  simp only [h]; rfl

theorem v15_apply (b : Fin 128) (p : Fin 5685) : val_main_v15 (F := Ideal) x0 (ix2 b p) = least fun k => x0 (ix3 b p ⟨9 + k, by omega⟩) := by
  unfold val_main_v15
  have h := v13_apply x0 b p
  generalize val_main_v13 (F := Ideal) x0 = y at h ⊢
  pointwise [val_main_cst_1]
  simp only [h]; rfl

theorem v16_apply (b : Fin 128) (p : Fin 5685) : val_main_v16 (F := Ideal) x0 (ix2 b p) = most fun k => x0 (ix3 b p ⟨k, by omega⟩) := by
  unfold val_main_v16
  have h := v11_apply x0 b p
  generalize val_main_v11 (F := Ideal) x0 = y at h ⊢
  pointwise [val_main_cst_2]
  simp only [h]; rfl

theorem v17_apply (b : Fin 128) (p : Fin 5685) : val_main_v17 (F := Ideal) x0 (ix2 b p) = most fun k => x0 (ix3 b p ⟨9 + k, by omega⟩) := by
  unfold val_main_v17
  have h := v13_apply x0 b p
  generalize val_main_v13 (F := Ideal) x0 = y at h ⊢
  pointwise [val_main_cst_3]
  simp only [h]; rfl

theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]
theorem ofBits_zero : Ideal.ofBits .f32 0x00000000#32 = 0 := by
  simp [Ideal.ofBits, Ideal.ieee]

theorem v26_clip (i : S128x5685x4.Idx) : val_main_v26 (F := Ideal) x0 i = clip (val_main_v22 (F := Ideal) x0 i) := by
  rw [val_main_v26_apply, val_main_v25_apply, val_main_v24_apply, val_main_v23_apply, val_main_cst_4_apply, val_main_cst_5_apply]
  unfold clip
  show min (max _ (Ideal.ofBits .f32 0x00000000#32)) (Ideal.ofBits .f32 0x3F800000#32) = _
  rw [min_comm, max_comm, ofBits_one, ofBits_zero]

theorem v22_0 (b : Fin 128) (p : Fin 5685) : val_main_v22 (F := Ideal) x0 (ix3 b p 0) = val_main_v14 (F := Ideal) x0 (ix2 b p) := by
  unfold val_main_v22 val_main_v18
  generalize val_main_v14 (F := Ideal) x0 = y
  generalize val_main_v19 (F := Ideal) x0 = y0
  generalize val_main_v20 (F := Ideal) x0 = y1
  generalize val_main_v21 (F := Ideal) x0 = y2
  pointwise

theorem v22_1 (b : Fin 128) (p : Fin 5685) : val_main_v22 (F := Ideal) x0 (ix3 b p 1) = val_main_v15 (F := Ideal) x0 (ix2 b p) := by
  unfold val_main_v22 val_main_v19
  generalize val_main_v15 (F := Ideal) x0 = y
  generalize val_main_v18 (F := Ideal) x0 = y0
  generalize val_main_v20 (F := Ideal) x0 = y1
  generalize val_main_v21 (F := Ideal) x0 = y2
  pointwise

theorem v22_2 (b : Fin 128) (p : Fin 5685) : val_main_v22 (F := Ideal) x0 (ix3 b p 2) = val_main_v16 (F := Ideal) x0 (ix2 b p) := by
  unfold val_main_v22 val_main_v20
  generalize val_main_v16 (F := Ideal) x0 = y
  generalize val_main_v18 (F := Ideal) x0 = y0
  generalize val_main_v19 (F := Ideal) x0 = y1
  generalize val_main_v21 (F := Ideal) x0 = y2
  pointwise

theorem v22_3 (b : Fin 128) (p : Fin 5685) : val_main_v22 (F := Ideal) x0 (ix3 b p 3) = val_main_v17 (F := Ideal) x0 (ix2 b p) := by
  unfold val_main_v22 val_main_v21
  generalize val_main_v17 (F := Ideal) x0 = y
  generalize val_main_v18 (F := Ideal) x0 = y0
  generalize val_main_v19 (F := Ideal) x0 = y1
  generalize val_main_v20 (F := Ideal) x0 = y2
  pointwise

/-! ## The encoded boxes -/

theorem div_two (x : EReal) : Ideal.div x (Ideal.ofBits .f32 0x40000000#32) = half * x := by
  rw [ofBits_two, Ideal.div, if_neg (by norm_num), ← EReal.coe_inv, mul_comm]
  unfold half
  norm_num

theorem div_ten (x : EReal) : Ideal.div x (Ideal.ofBits .f32 0x41200000#32) = x * tenth := by
  rw [ofBits_ten, Ideal.div, if_neg (by norm_num), ← EReal.coe_inv]
  rfl

theorem v185_0 (b : Fin 128) (p : Fin 5685) : val_main_v185 (F := Ideal) x2 x4 (ix3 b p 0)
    = offset (x2 (ix3 b (obj (ovl x2 x4 b) p) 0)) (x2 (ix3 b (obj (ovl x2 x4 b) p) 2)) (x4 (ix2 p 0)) (x4 (ix2 p 2)) := by
  pointwise [val_main_v0, val_main_v1, val_main_v2, val_main_v3, val_main_v4, val_main_v5, val_main_v6, val_main_v7, val_main_v8, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v185, val_main_cst, val_main_cst_27, val_main_cst_28]
  rw [v152_apply, v152_apply, div_two, div_two, div_ten]
  unfold offset
  rw [add_comm (x2 _), add_comm (x4 _)]

theorem v185_1 (b : Fin 128) (p : Fin 5685) : val_main_v185 (F := Ideal) x2 x4 (ix3 b p 1)
    = offset (x2 (ix3 b (obj (ovl x2 x4 b) p) 1)) (x2 (ix3 b (obj (ovl x2 x4 b) p) 3)) (x4 (ix2 p 1)) (x4 (ix2 p 3)) := by
  pointwise [val_main_v0, val_main_v1, val_main_v2, val_main_v3, val_main_v4, val_main_v5, val_main_v6, val_main_v7, val_main_v8, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v185, val_main_cst, val_main_cst_27, val_main_cst_28]
  rw [v152_apply, v152_apply, div_two, div_two, div_ten]
  unfold offset
  rw [add_comm (x2 _), add_comm (x4 _)]

theorem v185_2 (b : Fin 128) (p : Fin 5685) : val_main_v185 (F := Ideal) x2 x4 (ix3 b p 2)
    = scale (x2 (ix3 b (obj (ovl x2 x4 b) p) 0)) (x2 (ix3 b (obj (ovl x2 x4 b) p) 2)) (x4 (ix2 p 0)) (x4 (ix2 p 2)) := by
  pointwise [val_main_v0, val_main_v1, val_main_v2, val_main_v3, val_main_v4, val_main_v5, val_main_v6, val_main_v7, val_main_v8, val_main_v158, val_main_v159, val_main_v160, val_main_v161, val_main_v173, val_main_v174, val_main_v175, val_main_v176, val_main_v177, val_main_v178, val_main_v179, val_main_v180, val_main_v181, val_main_v182, val_main_v183, val_main_v184, val_main_v185, val_main_cst_29, val_main_cst_30, val_main_cst_31]
  rw [v152_apply, v152_apply]
  rfl

theorem v185_3 (b : Fin 128) (p : Fin 5685) : val_main_v185 (F := Ideal) x2 x4 (ix3 b p 3)
    = scale (x2 (ix3 b (obj (ovl x2 x4 b) p) 1)) (x2 (ix3 b (obj (ovl x2 x4 b) p) 3)) (x4 (ix2 p 1)) (x4 (ix2 p 3)) := by
  pointwise [val_main_v0, val_main_v1, val_main_v2, val_main_v3, val_main_v4, val_main_v5, val_main_v6, val_main_v7, val_main_v8, val_main_v158, val_main_v159, val_main_v160, val_main_v161, val_main_v173, val_main_v174, val_main_v175, val_main_v176, val_main_v177, val_main_v178, val_main_v179, val_main_v180, val_main_v181, val_main_v182, val_main_v183, val_main_v184, val_main_v185, val_main_cst_29, val_main_cst_30, val_main_cst_31]
  rw [v152_apply, v152_apply]
  rfl

/-! ## The sums -/

theorem v196_sum (b : Fin 128) (p : Fin 5685) :
    ∑ k : Fin 4, (val_main_v196 (F := Ideal) x0 x2 x3 x4 (ix3 b p k) : EReal) = (im x0 x1 x2 x3 x4 b).ll p := by
  have h : ∀ k : Fin 4, (val_main_v196 (F := Ideal) x0 x2 x3 x4 (ix3 b p k) : EReal)
      = dist (val_main_v26 (F := Ideal) x0 (ix3 b p k)) (val_main_v185 (F := Ideal) x2 x4 (ix3 b p k)) * (im x0 x1 x2 x3 x4 b).ps p := fun k => by
    rw [val_main_v196_apply, val_main_v193_apply, val_main_v192_apply, val_main_v195_apply, val_main_v194_apply]
    have e : idx_main_v194 (idx_main_v195 (ix3 b p k)) = ix2 b p :=
      funext fun a => Fin.ext (by match a with | ⟨0, _⟩ => rfl | ⟨1, _⟩ => rfl)
    rw [e, v188_pos x0 x1]
    rfl
  simp only [h, Fin.sum_univ_four, v26_clip, v22_0, v22_1, v22_2, v22_3, v14_apply, v15_apply, v16_apply, v17_apply, v185_0, v185_1, v185_2, v185_3]
  unfold Image.ll Image.ps pos locLoss
  by_cases hc : (im x0 x1 x2 x3 x4 b).cl p = 0#32
  · simp [hc]
  · simp only [if_neg hc, mul_one]
    rfl

theorem v197_apply (i : S_.Idx) : (val_main_v197 (F := Ideal) x0 x2 x3 x4 i : EReal) = ∑ b, ∑ p, (im x0 x1 x2 x3 x4 b).ll p := by
  rw [val_main_v197_apply, val_main_cst_36_apply, Ideal.ofBits_def, ofBits_zero, zero_add]
  refine (sum_idx3 (n0 := 128) (n1 := 5685) (n2 := 4) _).trans ?_
  exact Finset.sum_congr rfl fun b _ => Finset.sum_congr rfl fun p _ => v196_sum x0 x1 x2 x3 x4 b p

theorem v189_apply (i : S_.Idx) : (val_main_v189 (F := Ideal) x2 x3 x4 i : EReal) = ∑ b, ∑ p, (im x0 x1 x2 x3 x4 b).ps p := by
  rw [val_main_v189_apply, val_main_cst_33_apply, Ideal.ofBits_def, ofBits_zero, zero_add]
  refine (sum_idx2 (n0 := 128) (n1 := 5685) _).trans ?_
  exact Finset.sum_congr rfl fun b _ => Finset.sum_congr rfl fun p _ => v188_pos x0 x1 x2 x3 x4 b p

theorem v198_apply (i : S_.Idx) : (val_main_v198 (F := Ideal) x0 x2 x3 x4 i : EReal)
    = Ideal.div (∑ b, ∑ p, (im x0 x1 x2 x3 x4 b).ll p) (max ((∑ b, ∑ p, (im x0 x1 x2 x3 x4 b).ps p) * Ideal.ofBits .f32 0x40800000#32) 1) := by
  rw [val_main_v198_apply, val_main_v191_apply, val_main_v190_apply, v197_apply x0 x1, v189_apply x0 x1, val_main_cst_34_apply, val_main_cst_35_apply]
  show Ideal.div _ (max _ (Ideal.ofBits .f32 0x3F800000#32)) = _
  rw [ofBits_one]
  rfl

theorem v199_apply (b : Fin 128) : (val_main_v199 (F := Ideal) x2 x3 x4 (ix1 b) : EReal) = ∑ p, (im x0 x1 x2 x3 x4 b).ps p := by
  rw [val_main_v199_apply, val_main_cst_37_apply, Ideal.ofBits_def, ofBits_zero, zero_add]
  refine Finset.sum_congr rfl fun p _ => ?_
  have e : idx_main_v199 (ix1 b) p = ix2 b p :=
    funext fun a => Fin.ext (by match a with | ⟨0, _⟩ => rfl | ⟨1, _⟩ => rfl)
  rw [e, v188_pos x0 x1]

end Cert.ReferenceIdeal.Read
-- ==== Proof.RefConf.lean ====
/- The reference's confidence loss, in the quantities of one image. -/
module

public import proofs.«01_k».proof.Proof.RefLoc

@[expose] public section

set_option maxRecDepth 16384

noncomputable section

namespace Cert.Loss
open Idealize.ShloMosaic

/-! ## The logarithm of a softmax -/

/-- The logarithm of a sum of exponentials of numbers is a number. -/
theorem log_sum_exp (r : Fin 21 → ℝ) : Ideal.log (∑ k, Ideal.exp (r k : EReal)) = ((Real.log (∑ k, Real.exp (r k)) : ℝ) : EReal) := by
  have h : ∑ k, Ideal.exp (r k : EReal) = ((∑ k, Real.exp (r k) : ℝ) : EReal) := (coe_sum _ _).symm
  have hpos : 0 < ∑ k, Real.exp (r k) := Finset.sum_pos (fun k _ => Real.exp_pos _) ⟨0, Finset.mem_univ _⟩
  rw [h]
  exact if_neg (not_le.mpr hpos)

/-- Subtracting one number from all scores leaves the negative log-softmax as it is. -/
theorem neg_log_softmax (r : Fin 21 → ℝ) (t : ℝ) (c : Fin 21) :
    -(((r c : EReal) - t) - Ideal.log (∑ k, Ideal.exp ((r k : EReal) - t))) = Ideal.log (∑ k, Ideal.exp (r k : EReal)) - r c := by
  have h := log_sum_exp fun k => r k - t
  simp only [EReal.coe_sub] at h
  have hpos : 0 < ∑ k, Real.exp (r k) := Finset.sum_pos (fun k _ => Real.exp_pos _) ⟨0, Finset.mem_univ _⟩
  have e : Real.log (∑ k, Real.exp (r k - t)) = Real.log (∑ k, Real.exp (r k)) - t := by
    simp only [Real.exp_sub]
    rw [← Finset.sum_div, Real.log_div hpos.ne' (Real.exp_pos t).ne', Real.log_exp]
  rw [h, log_sum_exp, e]
  norm_cast
  ring

/-- The score of a class, picked from the sum over all classes. -/
theorem pick_score (s : Fin 21 → EReal) (c : BitVec 32) (h : c.toNat < 21) :
    (∑ k : Fin 21, if c = BitVec.ofNat 32 k.val then s k else 0) = s ⟨c.toNat, h⟩ := by
  have hc : ∀ k : Fin 21, c = BitVec.ofNat 32 k.val ↔ k = ⟨c.toNat, h⟩ := fun k => by
    constructor
    · intro e
      refine Fin.ext ?_
      have := congrArg BitVec.toNat e
      rw [BitVec.toNat_ofNat, Nat.mod_eq_of_lt (by omega)] at this
      exact this.symm
    · rintro rfl
      exact (by simp)
  simp only [hc, Finset.sum_ite_eq', Finset.mem_univ, if_true]

/-- The confidence loss of finite scores is a number, and not negative. -/
theorem confLoss_real (s : Fin 21 → EReal) (r : Fin 21 → ℝ) (hs : ∀ k, s k = r k) (c : BitVec 32) (h : c.toNat < 21) :
    confLoss s c = ((Real.log (∑ k, Real.exp (r k)) - r ⟨c.toNat, h⟩ : ℝ) : EReal) ∧ 0 ≤ Real.log (∑ k, Real.exp (r k)) - r ⟨c.toNat, h⟩ := by
  constructor
  · unfold confLoss
    rw [pick_score s c h]
    simp only [hs]
    rw [log_sum_exp, EReal.coe_sub]
  · have hle : Real.exp (r ⟨c.toNat, h⟩) ≤ ∑ k, Real.exp (r k) :=
      Finset.single_le_sum (f := fun k => Real.exp (r k)) (fun k _ => (Real.exp_pos _).le) (Finset.mem_univ _)
    have := Real.log_le_log (Real.exp_pos _) hle
    rw [Real.log_exp] at this
    linarith

end Cert.Loss

namespace Cert.ReferenceIdeal.Read
open Cert.ReferenceIdeal Cert.ReferenceIdeal.Gen Cert.Loss
open Idealize.ShloMosaic Idealize.ShloMosaic.TcCoe Idealize.SL.Sem

variable (x0 : FVec Ideal S128x5685x18 .f32) (x1 : FVec Ideal S128x5685x21 .f32) (x2 : FVec Ideal S128x32x4 .f32)
  (x3 : IVec S128x32 32) (x4 : FVec Ideal S5685x4 .f32)

theorem v202_apply (b : Fin 128) (p : Fin 5685) :
    (val_main_v202 (F := Ideal) x1 (ix2 b p) : EReal) = x1 (ix3 b p (firstMax fun k : Fin 21 => (x1 (ix3 b p k) : EReal))) := by
  pointwise [val_main_v202, val_main_cst_39]
  exact fold_max (fun k : Fin 21 => (x1 (ix3 b p k) : EReal)) _ ofBits_negInf

theorem v213_apply (b : Fin 128) (p : Fin 5685) (k : Fin 21) : (val_main_v213 (F := Ideal) x1 (ix3 b p k) : EReal)
    = (x1 (ix3 b p k) - val_main_v202 (F := Ideal) x1 (ix2 b p))
      - Ideal.log (∑ j : Fin 21, Ideal.exp (x1 (ix3 b p j) - val_main_v202 (F := Ideal) x1 (ix2 b p))) := by
  pointwise [val_main_v203, val_main_v204, val_main_v205, val_main_v206, val_main_v207, val_main_v208, val_main_v209, val_main_v210, val_main_v211, val_main_v212, val_main_v213, val_main_cst_40]

theorem v238_image (b : Fin 128) (p : Fin 5685) : val_main_v238 (F := Ideal) x2 x3 x4 (ix3 b p 0) = BitVec.ofNat 32 b.val := by
  unfold val_main_v238
  generalize val_main_v236 (F := Ideal) = y1
  generalize val_main_v237 (F := Ideal) x2 x3 x4 = y2
  pointwise [val_main_v214, val_main_v215, val_main_v218, val_main_v219, val_main_v220, val_main_v221, val_main_v222, val_main_v233, val_main_v235, val_main_c_41, val_main_c_42]
  exact wrap_word _ (by omega) _

theorem v238_prior (b : Fin 128) (p : Fin 5685) : val_main_v238 (F := Ideal) x2 x3 x4 (ix3 b p 1) = BitVec.ofNat 32 p.val := by
  unfold val_main_v238
  generalize val_main_v235 (F := Ideal) = y1
  generalize val_main_v237 (F := Ideal) x2 x3 x4 = y2
  pointwise [val_main_v216, val_main_v217, val_main_v223, val_main_v224, val_main_v225, val_main_v226, val_main_v227, val_main_v234, val_main_v236, val_main_c_43, val_main_c_44]
  exact wrap_word _ (by omega) _

theorem v238_word (b : Fin 128) (p : Fin 5685) : val_main_v238 (F := Ideal) x2 x3 x4 (ix3 b p 2) = val_main_v232 (F := Ideal) x2 x3 x4 (ix2 b p) := by
  unfold val_main_v238 val_main_v237
  generalize val_main_v235 (F := Ideal) = y1
  generalize val_main_v236 (F := Ideal) = y2
  generalize val_main_v232 (F := Ideal) x2 x3 x4 = y
  pointwise

variable (b : Fin 128) (hc : (im x0 x1 x2 x3 x4 b).Classes)

include hc in
theorem v238_class (p : Fin 5685) : val_main_v238 (F := Ideal) x2 x3 x4 (ix3 b p 2) = BitVec.ofNat 32 ((im x0 x1 x2 x3 x4 b).cl p).toNat := by
  have h := Image.cl_lt _ hc p
  rw [v238_word, val_main_v232_apply, val_main_v229_apply, val_main_v228_apply, val_main_c_45_apply, v137_class x0 x1]
  refine (Routing.wrap_of_lt _ _ (by omega)).trans (by simp)

include hc in
theorem v240_apply (hf : (im x0 x1 x2 x3 x4 b).Finite) (p : Fin 5685) :
    (val_main_v240 (F := Ideal) x1 x2 x3 x4 (ix2 b p) : EReal) = (im x0 x1 x2 x3 x4 b).cf p := by
  have h := Image.cl_lt _ hc p
  have e : val_main_v239 (F := Ideal) x1 x2 x3 x4 (ix2 b p) = val_main_v213 (F := Ideal) x1 (ix3 b p ⟨((im x0 x1 x2 x3 x4 b).cl p).toNat, h⟩) := by
    unfold val_main_v239
    exact gather_score _ _ _ _ _ _ _ (v238_image x2 x3 x4 b p) (v238_prior x2 x3 x4 b p) (v238_class x0 x1 x2 x3 x4 b hc p)
  rw [val_main_v240_apply, e, v213_apply, v202_apply]
  choose r hr using hf p
  have hr' : ∀ k : Fin 21, (x1 (ix3 b p k) : EReal) = r k := hr
  show -(_ - _ - _) = confLoss _ _
  simp only [hr']
  rw [neg_log_softmax]
  unfold confLoss
  rw [pick_score _ _ h]
  simp only [hr]

end Cert.ReferenceIdeal.Read
-- ==== Proof.RefSort.lean ====
/- The reference's hard negatives: its sort puts the priors of an image in order of falling loss, and the sum of
   the first ones is what the loss takes. -/
module

public import proofs.«01_k».proof.Proof.RefConf
public import Idealize.ShloMosaic.Lib.SortFacts

@[expose] public section

set_option maxRecDepth 16384

noncomputable section

namespace Cert.ReferenceIdeal.Read
open Cert.ReferenceIdeal Cert.ReferenceIdeal.Gen Cert.Loss
open Idealize.ShloMosaic Idealize.ShloMosaic.TcCoe Idealize.SL.Sem

/-! ## The sort of one row -/

theorem comparator_iff (l r : EReal) : (comparator_f32_d1 (F := Ideal) l r == 1#1) = decide (l < r) := by
  have ho : CmpDirection.lt.ordered = .olt := rfl
  have hb : ∀ c : Prop, ∀ [Decidable c], (BitVec.ofBool (decide c) == 1#1) = decide c := fun c _ => by
    by_cases h : c <;> simp [h]
  unfold comparator_f32_d1
  by_cases hl : l = 0 <;> by_cases hr : r = 0 <;>
    simp [Ideal.cmpf_def, Ideal.cmpfTotal_def, Ideal.cmp, Scalar.select, hl, hr, ho, hb]

theorem along_row (b : Fin 128) (r k : Fin 5685) (h : 1 < S128x5685.rank) :
    Shape.Idx.along (s := S128x5685) (ix2 b r) ⟨1, h⟩ k = (ix2 b k : S128x5685.Idx) := by
  funext a
  match a with
  | ⟨0, _⟩ => rfl
  | ⟨1, _⟩ => rfl

/-- The order in which the sort takes a row. -/
def order (x : Fin 5685 → EReal) : Equiv.Perm (Fin 5685) :=
  Equiv.ofBijective (sortedFrom fun k k' => decide (x k < x k')) ⟨sortedFrom_injective _, sortedFrom_surjective _⟩

theorem order_apply (x : Fin 5685 → EReal) (r : Fin 5685) :
    order x r = sortedFrom (fun k k' => decide (x k < x k')) r := Equiv.ofBijective_apply _ _ _

theorem order_sorted (x : Fin 5685 → EReal) (i j : Fin 5685) (hij : i ≤ j) : x (order x i) ≤ x (order x j) := by
  rcases hij.lt_or_eq with h | rfl
  · have := sortedFrom_noInversion (fun k k' : Fin 5685 => decide (x k < x k')) (fun k k' => decide (x k < x k'))
      (fun a c h => by simpa using (of_decide_eq_true h).le) (fun a c h => h)
      (fun a c d h h' => by
        simp only [decide_eq_false_iff_not, not_lt] at h h' ⊢
        exact h'.trans h) i j h
    rw [order_apply, order_apply]
    exact not_lt.mp (of_decide_eq_false this)
  · exact le_rfl

/-- Sorting a row permutes it into rising order. -/
theorem sort_row (x : FVec Ideal S128x5685 .f32) (b : Fin 128) (r : Fin 5685) :
    Host.sort S128x5685 1 (comparator_f32_d1 (F := Ideal)) x (ix2 b r) = x (ix2 b (order (fun k => x (ix2 b k)) r)) := by
  have h : 1 < S128x5685.rank := by decide
  unfold Host.sort
  rw [dif_pos h]
  dsimp only
  rw [order_apply]
  refine (congrArg x (along_row b r _ h)).trans ?_
  refine congrArg (fun R : Fin 5685 → Fin 5685 → Bool => x (ix2 b (sortedFrom R r))) ?_
  funext k k'
  refine (comparator_iff _ _).trans ?_
  rw [along_row b r k h, along_row b r k' h]

/-! ## The losses of the negatives in falling order -/

variable (x0 : FVec Ideal S128x5685x18 .f32) (x1 : FVec Ideal S128x5685x21 .f32) (x2 : FVec Ideal S128x32x4 .f32)
  (x3 : IVec S128x32 32) (x4 : FVec Ideal S5685x4 .f32)

theorem v244_apply (b : Fin 128) (hc : (im x0 x1 x2 x3 x4 b).Classes) (hf : (im x0 x1 x2 x3 x4 b).Finite) (p : Fin 5685) :
    (val_main_v244 (F := Ideal) x1 x2 x3 x4 (ix2 b p) : EReal) = (im x0 x1 x2 x3 x4 b).neg p := by
  rw [val_main_v244_apply, v187_class x0 x1, val_main_v243_apply, val_main_cst_48_apply, v240_apply x0 x1 x2 x3 x4 b hc hf p,
    Ideal.ofBits_def, ofBits_zero]
  unfold Image.neg
  by_cases h : (im x0 x1 x2 x3 x4 b).cl p = 0#32
  · simp [h, Scalar.select]
  · simp [h, Scalar.select]

theorem v245_apply (b : Fin 128) (hc : (im x0 x1 x2 x3 x4 b).Classes) (hf : (im x0 x1 x2 x3 x4 b).Finite) (p : Fin 5685) :
    (val_main_v245 (F := Ideal) x1 x2 x3 x4 (ix2 b p) : EReal) = -(im x0 x1 x2 x3 x4 b).neg p := by
  rw [val_main_v245_apply]
  exact congrArg (fun v : EReal => -v) (v244_apply x0 x1 x2 x3 x4 b hc hf p)

/-- The losses of an image's negatives are real and not negative. -/
theorem neg_real (I : Image) (hc : I.Classes) (hf : I.Finite) (p : Fin 5685) : ∃ v : ℝ, I.neg p = (v : EReal) ∧ 0 ≤ v := by
  unfold Image.neg
  by_cases h : I.cl p = 0#32
  · rw [if_pos h]
    choose r hr using hf p
    have h' := confLoss_real (I.scr p) r hr (I.cl p) (I.cl_lt hc p)
    exact ⟨_, h'.1, h'.2⟩
  · exact ⟨0, by rw [if_neg h, EReal.coe_zero], le_rfl⟩

/-- The losses of an image's negatives as real numbers. -/
def losses (I : Image) (p : Fin 5685) : ℝ := (I.neg p).toReal

theorem losses_val (I : Image) (hc : I.Classes) (hf : I.Finite) (p : Fin 5685) : I.neg p = (losses I p : EReal) := by
  obtain ⟨v, h, -⟩ := neg_real I hc hf p
  rw [losses, h, EReal.toReal_coe]

theorem losses_nonneg (I : Image) (hc : I.Classes) (hf : I.Finite) (p : Fin 5685) : 0 ≤ losses I p := by
  obtain ⟨v, h, hv⟩ := neg_real I hc hf p
  rw [losses, h, EReal.toReal_coe]
  exact hv

/-- The order of an image's losses, the largest first. -/
def falling (I : Image) : Equiv.Perm (Fin 5685) := order fun p => -(I.neg p)

theorem falling_antitone (I : Image) (hc : I.Classes) (hf : I.Finite) : Antitone (losses I ∘ falling I) := fun i j hij => by
  have h : -(I.neg (falling I i)) ≤ -(I.neg (falling I j)) := order_sorted (fun p => -(I.neg p)) i j hij
  rw [EReal.neg_le_neg_iff, losses_val I hc hf, losses_val I hc hf, EReal.coe_le_coe_iff] at h
  exact h

theorem v247_apply (b : Fin 128) (hc : (im x0 x1 x2 x3 x4 b).Classes) (hf : (im x0 x1 x2 x3 x4 b).Finite) (r : Fin 5685) :
    (val_main_v247 (F := Ideal) x1 x2 x3 x4 (ix2 b r) : EReal)
      = (losses (im x0 x1 x2 x3 x4 b) (falling (im x0 x1 x2 x3 x4 b) r) : EReal) := by
  have e : (fun k => (val_main_v245 (F := Ideal) x1 x2 x3 x4 (ix2 b k) : EReal)) = fun p => -((im x0 x1 x2 x3 x4 b).neg p) :=
    funext fun p => v245_apply x0 x1 x2 x3 x4 b hc hf p
  have h := sort_row (val_main_v245 (F := Ideal) x1 x2 x3 x4) b r
  rw [e, v245_apply x0 x1 x2 x3 x4 b hc hf] at h
  rw [val_main_v247_apply]
  refine (congrArg (fun v : EReal => -v) h).trans ?_
  rw [neg_neg, losses_val _ hc hf]
  rfl

/-! ## The sum of the hard negatives -/

theorem v201_apply (b : Fin 128) :
    (val_main_v201 (F := Ideal) x2 x3 x4 (ix1 b) : EReal) = ((3 * (im x0 x1 x2 x3 x4 b).count : ℕ) : ℝ) := by
  have h3 : Ideal.ofBits .f32 0x40400000#32 = ((3 : ℝ) : EReal) := by
    simp [Ideal.ofBits, Ideal.ieee, -EReal.coe_mul]; norm_num
  rw [val_main_v201_apply, val_main_v200_apply, val_main_cst_38_apply, v199_apply x0 x1, Image.sum_ps]
  refine (congrArg (fun v : EReal => v * _) h3).trans ?_
  rw [← EReal.coe_mul]
  push_cast
  rfl

theorem v254_apply (b : Fin 128) (r : Fin 5685) : val_main_v254 (F := Ideal) x2 x3 x4 (ix2 b r)
    = BitVec.ofBool (decide (r.val < 3 * (im x0 x1 x2 x3 x4 b).count)) := by
  have e : idx_main_v250 (idx_main_v252 (ix2 b r)) = ix1 r := funext fun a => Fin.ext (by match a with | ⟨0, _⟩ => rfl)
  have e' : idx_main_v251 (idx_main_v253 (ix2 b r)) = ix1 b := funext fun a => Fin.ext (by match a with | ⟨0, _⟩ => rfl)
  have hr : (FloatOps.sitofp .f32 (BitVec.ofNat 32 r.val) : Ideal .f32) = (((r.val : ℕ) : ℝ) : EReal) := by
    have hb : r.val < 5685 := r.isLt
    have : (BitVec.ofNat 32 r.val).toInt = r.val := by
      rw [BitVec.toInt_ofNat', Int.bmod_eq_of_le] <;> omega
    show (((BitVec.ofNat 32 r.val).toInt : ℝ) : EReal) = _
    rw [this]
    norm_num
  rw [val_main_v254_apply, val_main_v252_apply, val_main_v250_apply, e, val_main_v249_apply, val_main_v248_apply,
    val_main_v253_apply, val_main_v251_apply, e', v201_apply x0 x1]
  refine (congrArg (fun v : Ideal .f32 => FloatOps.cmpf .olt v _) hr).trans ?_
  simp only [Ideal.cmpf_def, Ideal.cmp]
  congr 1
  simp only [EReal.coe_lt_coe_iff, Nat.cast_lt]

theorem v257_apply (hc : ∀ b, (im x0 x1 x2 x3 x4 b).Classes) (hf : ∀ b, (im x0 x1 x2 x3 x4 b).Finite) (i : S_.Idx) :
    (val_main_v257 (F := Ideal) x1 x2 x3 x4 i : EReal)
      = ∑ b, (im x0 x1 x2 x3 x4 b).hardest (losses (im x0 x1 x2 x3 x4 b)) (falling (im x0 x1 x2 x3 x4 b)) := by
  rw [val_main_v257_apply, val_main_cst_49_apply, Ideal.ofBits_def, ofBits_zero, zero_add]
  refine (sum_idx2 (n0 := 128) (n1 := 5685) _).trans ?_
  refine Finset.sum_congr rfl fun b _ => ?_
  unfold Image.hardest
  rw [coe_sum]
  refine Finset.sum_congr rfl fun r _ => ?_
  rw [val_main_v256_apply, val_main_v255_apply, v254_apply x0 x1, v247_apply x0 x1 x2 x3 x4 b (hc b) (hf b)]
  by_cases h : r.val < 3 * (im x0 x1 x2 x3 x4 b).count
  · rw [if_pos h, decide_eq_true h]
    show _ * (((1 : ℕ) : ℝ) : EReal) = _
    norm_num
  · rw [if_neg h, decide_eq_false h]
    show _ * (((0 : ℕ) : ℝ) : EReal) = _
    norm_num

/-! ## The loss -/

theorem v242_apply (hc : ∀ b, (im x0 x1 x2 x3 x4 b).Classes) (hf : ∀ b, (im x0 x1 x2 x3 x4 b).Finite) (i : S_.Idx) :
    (val_main_v242 (F := Ideal) x1 x2 x3 x4 i : EReal)
      = ∑ b, ∑ p, (im x0 x1 x2 x3 x4 b).cf p * (im x0 x1 x2 x3 x4 b).ps p := by
  rw [val_main_v242_apply, val_main_cst_47_apply, Ideal.ofBits_def, ofBits_zero, zero_add]
  refine (sum_idx2 (n0 := 128) (n1 := 5685) _).trans ?_
  refine Finset.sum_congr rfl fun b _ => Finset.sum_congr rfl fun p _ => ?_
  rw [val_main_v241_apply, v240_apply x0 x1 x2 x3 x4 b (hc b) (hf b) p, v188_pos x0 x1]
  rfl

theorem v259_apply (i : S_.Idx) :
    (val_main_v259 (F := Ideal) x2 x3 x4 i : EReal) = ∑ b, ∑ p, (im x0 x1 x2 x3 x4 b).ps p := by
  rw [val_main_v259_apply, val_main_cst_50_apply, Ideal.ofBits_def, ofBits_zero, zero_add]
  refine (sum_idx1 (n0 := 128) _).trans ?_
  exact Finset.sum_congr rfl fun b _ => v199_apply x0 x1 x2 x3 x4 b

/-- The reference's result. -/
theorem v263_total (hc : ∀ b, (im x0 x1 x2 x3 x4 b).Classes) (hf : ∀ b, (im x0 x1 x2 x3 x4 b).Finite) :
    val_main_v263 (F := Ideal) x0 x1 x2 x3 x4 = fun _ => total (im x0 x1 x2 x3 x4) fun b =>
      (im x0 x1 x2 x3 x4 b).hardest (losses (im x0 x1 x2 x3 x4 b)) (falling (im x0 x1 x2 x3 x4 b)) := by
  funext i
  rw [val_main_v263_apply, val_main_v261_apply, val_main_v262_apply, val_main_v258_apply, val_main_v260_apply,
    v257_apply x0 x1 x2 x3 x4 hc hf, v242_apply x0 x1 x2 x3 x4 hc hf, v259_apply x0 x1, v198_apply x0 x1 x2 x3 x4,
    val_main_cst_51_apply, val_main_cst_52_apply]
  show Ideal.div _ (max _ (Ideal.ofBits .f32 0x3F800000#32)) + Ideal.ofBits .f32 0x3F800000#32 * _ = _
  rw [ofBits_one, one_mul]
  rfl

end Cert.ReferenceIdeal.Read
-- ==== Proof.PreTerms.lean ====
/- The precondition in the reference's own quantities: up to the sorted losses it computes what the reference computes. -/
module

public import proofs.«01_k».proof.Pre_separated
public import proofs.«01_k».proof.Proof.RefReadB

@[expose] public section

set_option maxRecDepth 16384

noncomputable section

namespace Cert.ReferenceIdeal.Read
open Cert.ReferenceIdeal Cert.ReferenceIdeal.Gen
open Idealize.ShloMosaic Idealize.ShloMosaic.TcCoe Idealize.SL.Sem

variable [hPre : Cert.Pre_separated.Facts]
variable (x0 : FVec Ideal S128x5685x18 .f32) (x1 : FVec Ideal S128x5685x21 .f32) (x2 : FVec Ideal S128x32x4 .f32)
  (x3 : IVec S128x32 32) (x4 : FVec Ideal S5685x4 .f32) (u : IVec S128x5685x21 1) (w : IVec S128x32 1)

/-- Whether each score is finite. -/
def finiteWord : IVec S128x5685x21 1 :=
  andi (cmpf .ogt x1 (broadcastInDim S128x5685x21 ![] hPre.bcast_S_S128x5685x21 (constant (F := Ideal) S_ .f32 0xFF800000#32)))
    (cmpf .olt x1 (broadcastInDim S128x5685x21 ![] hPre.bcast_S_S128x5685x21 (constant (F := Ideal) S_ .f32 0x7F800000#32)))

/-- Whether each label is a class. -/
def classWord : IVec S128x32 1 :=
  andi (cmpi .sge x3 (broadcastInDim S128x32 ![] hPre.bcast_S_S128x32 (constantI S_ 32 0#32)))
    (cmpi .slt x3 (broadcastInDim S128x32 ![] hPre.bcast_S_S128x32 (constantI S_ 32 21#32)))

theorem stage_boxes : Cert.Pre_separated.fn (F := Ideal) x0 x1 x2 x3 x4
    = Cert.Pre_separated.fn_part1 (F := Ideal) x1 x2 x3 x4 (finiteWord x1) (classWord x3) (val_main_v33 (F := Ideal) x2 x4) (val_main_v35 (F := Ideal) x2) (val_main_v0 (F := Ideal) x4) := rfl

theorem stage_intersection : Cert.Pre_separated.fn_part1 (F := Ideal) x1 x2 x3 x4 u w (val_main_v33 (F := Ideal) x2 x4) (val_main_v35 (F := Ideal) x2) (val_main_v0 (F := Ideal) x4)
    = Cert.Pre_separated.fn_part2 (F := Ideal) x1 x2 x3 x4 u w (val_main_v48 (F := Ideal) x2 x4) (val_main_v59 (F := Ideal) x2) := rfl

theorem stage_overlap : Cert.Pre_separated.fn_part2 (F := Ideal) x1 x2 x3 x4 u w (val_main_v48 (F := Ideal) x2 x4) (val_main_v59 (F := Ideal) x2)
    = Cert.Pre_separated.fn_part3 (F := Ideal) x1 x2 x3 u w (val_main_v79 (F := Ideal) x2 x4) (val_main_v80 (F := Ideal) x2 x4) (val_main_v81 (F := Ideal) x2 x4) := rfl

theorem stage_best : Cert.Pre_separated.fn_part3 (F := Ideal) x1 x2 x3 u w (val_main_v79 (F := Ideal) x2 x4) (val_main_v80 (F := Ideal) x2 x4) (val_main_v81 (F := Ideal) x2 x4)
    = Cert.Pre_separated.fn_part4 (F := Ideal) x1 x2 x3 u w (val_main_v80 (F := Ideal) x2 x4) (val_main_v81 (F := Ideal) x2 x4) (val_main_v82 (F := Ideal) x2 x4) (val_main_v84 (F := Ideal)) (val_main_v100 (F := Ideal) x2 x4) (val_main_v101 (F := Ideal)) := rfl

theorem stage_object : Cert.Pre_separated.fn_part4 (F := Ideal) x1 x2 x3 u w (val_main_v80 (F := Ideal) x2 x4) (val_main_v81 (F := Ideal) x2 x4) (val_main_v82 (F := Ideal) x2 x4) (val_main_v84 (F := Ideal)) (val_main_v100 (F := Ideal) x2 x4) (val_main_v101 (F := Ideal))
    = Cert.Pre_separated.fn_part5 (F := Ideal) x1 x2 x3 u w (val_main_v84 (F := Ideal)) (val_main_v102 (F := Ideal) x2 x4) (val_main_v118 (F := Ideal) x2 x4) (val_main_v119 (F := Ideal)) := rfl

theorem stage_class : Cert.Pre_separated.fn_part5 (F := Ideal) x1 x2 x3 u w (val_main_v84 (F := Ideal)) (val_main_v102 (F := Ideal) x2 x4) (val_main_v118 (F := Ideal) x2 x4) (val_main_v119 (F := Ideal))
    = Cert.Pre_separated.fn_part6 (F := Ideal) x1 x2 u w (val_main_v84 (F := Ideal)) (val_main_v102 (F := Ideal) x2 x4) (val_main_v137 (F := Ideal) x2 x3 x4) (val_main_call0_c (F := Ideal)) := rfl

theorem stage_positive : Cert.Pre_separated.fn_part6 (F := Ideal) x1 x2 u w (val_main_v84 (F := Ideal)) (val_main_v102 (F := Ideal) x2 x4) (val_main_v137 (F := Ideal) x2 x3 x4) (val_main_call0_c (F := Ideal))
    = Cert.Pre_separated.fn_part7 (F := Ideal) x1 u w (val_main_v137 (F := Ideal) x2 x3 x4) (val_main_v187 (F := Ideal) x2 x3 x4) (val_main_v203 (F := Ideal) x1) := rfl

theorem stage_softmax : Cert.Pre_separated.fn_part7 (F := Ideal) x1 u w (val_main_v137 (F := Ideal) x2 x3 x4) (val_main_v187 (F := Ideal) x2 x3 x4) (val_main_v203 (F := Ideal) x1)
    = Cert.Pre_separated.fn_part8 (F := Ideal) u w (val_main_v137 (F := Ideal) x2 x3 x4) (val_main_v187 (F := Ideal) x2 x3 x4) (val_main_v213 (F := Ideal) x1) (val_main_v217 (F := Ideal)) (val_main_v222 (F := Ideal)) (val_main_v223 (F := Ideal)) := rfl

theorem stage_losses : Cert.Pre_separated.fn_part8 (F := Ideal) u w (val_main_v137 (F := Ideal) x2 x3 x4) (val_main_v187 (F := Ideal) x2 x3 x4) (val_main_v213 (F := Ideal) x1) (val_main_v217 (F := Ideal)) (val_main_v222 (F := Ideal)) (val_main_v223 (F := Ideal))
    = Cert.Pre_separated.fn_part9 (F := Ideal) u w (val_main_v187 (F := Ideal) x2 x3 x4) (val_main_v245 (F := Ideal) x1 x2 x3 x4) := rfl

/-- The number of hard negatives of each image. -/
def hardCount : FVec Ideal S128x1 .f32 :=
  mulf (broadcastInDim S128x1 ![] hPre.bcast_S_S128x1 (constant (F := Ideal) S_ .f32 0x40400000#32))
    (broadcastInDim S128x1 ![0] hPre.bcast_S128_S128x1_0 (val_main_v199 (F := Ideal) x2 x3 x4))

/-- Which ranks are those of hard negatives. -/
def hardWord : IVec S128x5685 1 :=
  cmpf .olt (val_main_v252 (F := Ideal)) (broadcastInDim S128x5685 ![0, 1] hPre.bcast_S128x1_S128x5685_0_1 (hardCount x2 x3 x4))

/-- An infinite loss at each rank. -/
def infs : FVec Ideal S128x5685 .f32 :=
  broadcastInDim S128x5685 ![] hPre.bcast_S_S128x5685 (constant (F := Ideal) S_ .f32 0x7F800000#32)

/-- The least loss of each image's hard negatives. -/
def lowest : FVec Ideal S128 .f32 :=
  Host.reduce FloatOps.minimumf (select (hardWord x2 x3 x4) (val_main_v247 (F := Ideal) x1 x2 x3 x4) infs)
    (constant (F := Ideal) S_ .f32 0x7F800000#32) hPre.reducesTo_S128x5685_S128_d1 hPre.h_S_

/-- The greatest loss of each image's other priors. -/
def highest : FVec Ideal S128 .f32 :=
  Host.reduce FloatOps.maximumf (select (hardWord x2 x3 x4) (Host.negf infs) (val_main_v247 (F := Ideal) x1 x2 x3 x4))
    (constant (F := Ideal) S_ .f32 0xFF800000#32) hPre.reducesTo_S128x5685_S128_d1 hPre.h_S_

/-- The gap between the two. -/
def gaps : FVec Ideal S128x1 .f32 :=
  subf (broadcastInDim S128x1 ![0] hPre.bcast_S128_S128x1_0 (lowest x1 x2 x3 x4))
    (broadcastInDim S128x1 ![0] hPre.bcast_S128_S128x1_0 (highest x1 x2 x3 x4))

/-- The interval the bisection ends with. -/
def interval : FVec Ideal S128x1 .f32 :=
  mulf (addf (extractStridedSlice S128x1 ![0, 0] (val_main_v247 (F := Ideal) x1 x2 x3 x4) hPre.slices_S128x5685_S128x1_0_0)
      (broadcastInDim S128x1 ![] hPre.bcast_S_S128x1 (constant (F := Ideal) S_ .f32 0x3A83126F#32)))
    (broadcastInDim S128x1 ![] hPre.bcast_S_S128x1 (constant (F := Ideal) S_ .f32 0x33800000#32))

theorem stage_gap : Cert.Pre_separated.fn_part9 (F := Ideal) u w (val_main_v187 (F := Ideal) x2 x3 x4) (val_main_v245 (F := Ideal) x1 x2 x3 x4)
    = (u, w, cmpf .olt (hardCount x2 x3 x4) (broadcastInDim S128x1 ![] hPre.bcast_S_S128x1 (constant (F := Ideal) S_ .f32 0x45B1A800#32)),
        cmpf .ogt (gaps x1 x2 x3 x4) (interval x1 x2 x3 x4)) := rfl

/-- The precondition's four words. -/
theorem separated_eq : Cert.Pre_separated.fn (F := Ideal) x0 x1 x2 x3 x4
    = (finiteWord x1, classWord x3, cmpf .olt (hardCount x2 x3 x4) (broadcastInDim S128x1 ![] hPre.bcast_S_S128x1 (constant (F := Ideal) S_ .f32 0x45B1A800#32)),
        cmpf .ogt (gaps x1 x2 x3 x4) (interval x1 x2 x3 x4)) := by
  rw [stage_boxes, stage_intersection, stage_overlap, stage_best, stage_object, stage_class, stage_positive, stage_softmax, stage_losses, stage_gap]

end Cert.ReferenceIdeal.Read
-- ==== Proof.PreFacts.lean ====
/- What the precondition says of the images: their labels are classes, their scores are finite, and their hard negatives
   stand apart from the others. -/
module

public import proofs.«01_k».proof.Proof.PreTerms
public import proofs.«01_k».proof.Proof.RefSort
public import proofs.«01_k».proof.Proof.KernelHard

@[expose] public section

set_option maxRecDepth 16384

noncomputable section

namespace Cert.ReferenceIdeal.Read
open Cert.ReferenceIdeal Cert.ReferenceIdeal.Gen Cert.Loss
open Idealize.ShloMosaic Idealize.ShloMosaic.TcCoe Idealize.SL.Sem

variable [hPre : Cert.Pre_separated.Facts]
variable (x0 : FVec Ideal S128x5685x18 .f32) (x1 : FVec Ideal S128x5685x21 .f32) (x2 : FVec Ideal S128x32x4 .f32)
  (x3 : IVec S128x32 32) (x4 : FVec Ideal S5685x4 .f32)

theorem ofBits_inf : Ideal.ofBits .f32 0x7F800000#32 = ⊤ := by
  simp [Ideal.ofBits, Ideal.ieee]

theorem both_one (p q : Prop) [Decidable p] [Decidable q] (h : BitVec.ofBool (decide p) &&& BitVec.ofBool (decide q) = 1#1) : p ∧ q := by
  by_cases hp : p <;> by_cases hq : q <;> simp_all

theorem finiteWord_apply (b : Fin 128) (p : Fin 5685) (k : Fin 21) : finiteWord x1 (ix3 b p k)
    = BitVec.ofBool (decide ((⊥ : EReal) < x1 (ix3 b p k))) &&& BitVec.ofBool (decide ((x1 (ix3 b p k) : EReal) < ⊤)) := by
  rw [← ofBits_inf, ← ofBits_negInf]
  rfl

theorem finite_of (h : finiteWord x1 = fun _ => 1#1) (b : Fin 128) : (im x0 x1 x2 x3 x4 b).Finite := fun p k => by
  have h' := both_one _ _ ((finiteWord_apply x1 b p k).symm.trans (congrFun h (ix3 b p k)))
  exact ⟨_, (EReal.coe_toReal h'.2.ne h'.1.ne').symm⟩

theorem classWord_apply (b : Fin 128) (o : Fin 32) : classWord x3 (ix2 b o)
    = BitVec.ofBool (decide ((0#32).sle (x3 (ix2 b o)) = true)) &&& BitVec.ofBool (decide ((x3 (ix2 b o)).slt 21#32 = true)) := by
  rw [Bool.decide_eq_true, Bool.decide_eq_true]
  rfl

theorem classes_of (h : classWord x3 = fun _ => 1#1) (b : Fin 128) : (im x0 x1 x2 x3 x4 b).Classes := fun o => by
  have h' := both_one _ _ ((classWord_apply x3 b o).symm.trans (congrFun h (ix2 b o)))
  show (x3 (ix2 b o)).toNat < 21
  generalize x3 (ix2 b o) = w at h'
  simp only [BitVec.sle_iff_toInt_le, BitVec.slt_iff_toInt_lt] at h'
  obtain ⟨ha, hb⟩ := h'
  have e0 : (0#32 : BitVec 32).toInt = 0 := by decide
  have e1 : (21#32 : BitVec 32).toInt = 21 := by decide
  rw [e0] at ha
  rw [e1] at hb
  rw [BitVec.toInt_eq_toNat_cond] at ha hb
  split at ha <;> omega

theorem hardCount_apply (b : Fin 128) :
    (hardCount x2 x3 x4 (ix2 b 0) : EReal) = ((3 * (im x0 x1 x2 x3 x4 b).count : ℕ) : ℝ) := by
  rw [← v201_apply x0 x1 x2 x3 x4 b]
  unfold hardCount val_main_v201 val_main_v200 val_main_cst_38
  generalize val_main_v199 (F := Ideal) x2 x3 x4 = y
  pointwise

theorem hardWord_apply (b : Fin 128) (r : Fin 5685) :
    hardWord x2 x3 x4 (ix2 b r) = BitVec.ofBool (decide (r.val < 3 * (im x0 x1 x2 x3 x4 b).count)) := by
  rw [← v254_apply x0 x1 x2 x3 x4 b r]
  have h := (hardCount_apply x0 x1 x2 x3 x4 b).trans (v201_apply x0 x1 x2 x3 x4 b).symm
  unfold hardWord val_main_v254 val_main_v253 val_main_v251
  generalize val_main_v201 (F := Ideal) x2 x3 x4 = y at h ⊢
  generalize hardCount x2 x3 x4 = z at h ⊢
  generalize val_main_v252 (F := Ideal) = t
  pointwise
  rw [h]

theorem few_of (h : cmpf .olt (hardCount x2 x3 x4) (broadcastInDim S128x1 ![] hPre.bcast_S_S128x1 (constant (F := Ideal) S_ .f32 0x45B1A800#32)) = fun _ => 1#1)
    (b : Fin 128) : 3 * (im x0 x1 x2 x3 x4 b).count < 5685 := by
  have h5 : Ideal.ofBits .f32 0x45B1A800#32 = ((5685 : ℕ) : ℝ) := by
    simp [Ideal.ofBits, Ideal.ieee, -EReal.coe_mul]; norm_num
  have h' : BitVec.ofBool (decide ((hardCount x2 x3 x4 (ix2 b 0) : EReal) < Ideal.ofBits .f32 0x45B1A800#32)) = 1#1 := congrFun h (ix2 b 0)
  rw [hardCount_apply x0 x1, h5] at h'
  by_contra hn
  rw [decide_eq_false fun hlt => hn (Nat.cast_lt.mp (EReal.coe_lt_coe_iff.mp hlt))] at h'
  exact absurd h' (by decide)

variable (b : Fin 128) (hc : (im x0 x1 x2 x3 x4 b).Classes) (hf : (im x0 x1 x2 x3 x4 b).Finite)
include hc hf

theorem lowest_le (i : Fin 5685) (hi : i.val < 3 * (im x0 x1 x2 x3 x4 b).count) : (lowest x1 x2 x3 x4 (ix1 b) : EReal)
    ≤ (losses (im x0 x1 x2 x3 x4 b) (falling (im x0 x1 x2 x3 x4 b) i) : EReal) := by
  have hw := hardWord_apply x0 x1 x2 x3 x4 b i
  have hv := v247_apply x0 x1 x2 x3 x4 b hc hf i
  unfold lowest infs
  generalize hardWord x2 x3 x4 = t at hw ⊢
  generalize val_main_v247 (F := Ideal) x1 x2 x3 x4 = y at hv ⊢
  pointwise
  rw [Finset.fold_min_le]
  refine Or.inr ⟨i, Finset.mem_univ _, ?_⟩
  rw [hw, hv, decide_eq_true hi]
  exact le_rfl

theorem le_highest (i : Fin 5685) (hi : 3 * (im x0 x1 x2 x3 x4 b).count ≤ i.val) :
    (losses (im x0 x1 x2 x3 x4 b) (falling (im x0 x1 x2 x3 x4 b) i) : EReal) ≤ (highest x1 x2 x3 x4 (ix1 b) : EReal) := by
  have hw := hardWord_apply x0 x1 x2 x3 x4 b i
  have hv := v247_apply x0 x1 x2 x3 x4 b hc hf i
  unfold highest infs
  generalize hardWord x2 x3 x4 = t at hw ⊢
  generalize val_main_v247 (F := Ideal) x1 x2 x3 x4 = y at hv ⊢
  pointwise
  rw [Finset.le_fold_max]
  refine Or.inr ⟨i, Finset.mem_univ _, ?_⟩
  rw [hw, hv, decide_eq_false hi.not_gt]
  exact le_rfl

omit hPre hc hf in
theorem ofBits_last : Ideal.ofBits .f32 0x33800000#32 = ((1 / 2 ^ 24 : ℝ) : EReal) := by
  simp [Ideal.ofBits, Ideal.ieee, -EReal.coe_mul]; norm_num

omit hPre hc hf in
theorem interval_real (x : EReal) (v : ℝ) (h : x = v) :
    (x + Ideal.ofBits .f32 0x3A83126F#32) * Ideal.ofBits .f32 0x33800000#32 = (((v + margin) / 2 ^ 24 : ℝ) : EReal) := by
  rw [h, Cert.KernelIdeal.Read.ofBits_margin, ofBits_last, ← EReal.coe_add, ← EReal.coe_mul, mul_one_div]

omit hc hf in
theorem first_column (y : FVec Ideal S128x5685 .f32) :
    extractStridedSlice S128x1 ![0, 0] y hPre.slices_S128x5685_S128x1_0_0 (ix2 b 0) = y (ix2 b 0) := by
  pointwise

omit hc hf in
theorem interval_first (y : FVec Ideal S128x5685 .f32) :
    (mulf (addf (extractStridedSlice S128x1 ![0, 0] y hPre.slices_S128x5685_S128x1_0_0)
      (broadcastInDim S128x1 ![] hPre.bcast_S_S128x1 (constant (F := Ideal) S_ .f32 0x3A83126F#32)))
    (broadcastInDim S128x1 ![] hPre.bcast_S_S128x1 (constant (F := Ideal) S_ .f32 0x33800000#32)) (ix2 b 0) : EReal)
    = (y (ix2 b 0) + Ideal.ofBits .f32 0x3A83126F#32) * Ideal.ofBits .f32 0x33800000#32 := by
  show ((extractStridedSlice S128x1 ![0, 0] y hPre.slices_S128x5685_S128x1_0_0 (ix2 b 0) : EReal) + Ideal.ofBits .f32 0x3A83126F#32)
    * Ideal.ofBits .f32 0x33800000#32 = _
  rw [first_column]

theorem interval_apply : (interval x1 x2 x3 x4 (ix2 b 0) : EReal)
    = (((losses (im x0 x1 x2 x3 x4 b) (falling (im x0 x1 x2 x3 x4 b) 0) + margin) / 2 ^ 24 : ℝ) : EReal) :=
  (interval_first b (val_main_v247 (F := Ideal) x1 x2 x3 x4)).trans (interval_real _ _ (v247_apply x0 x1 x2 x3 x4 b hc hf 0))

omit hc hf in
theorem gaps_apply : (gaps x1 x2 x3 x4 (ix2 b 0) : EReal) = lowest x1 x2 x3 x4 (ix1 b) - highest x1 x2 x3 x4 (ix1 b) := by
  unfold gaps
  generalize lowest x1 x2 x3 x4 = y
  generalize highest x1 x2 x3 x4 = z
  pointwise

omit hc hf in
theorem gap_word (x y : FVec Ideal S128x1 .f32) (h : cmpf .ogt x y = fun _ => 1#1) (i : S128x1.Idx) : (y i : EReal) < x i := by
  have h' : BitVec.ofBool (decide ((y i : EReal) < x i)) = 1#1 := congrFun h i
  by_contra hn
  rw [decide_eq_false hn] at h'
  exact absurd h' (by decide)

omit hc hf in
theorem gap_real (l h : EReal) (a c d : ℝ) (hd : (d : EReal) < l - h) (hl : l ≤ a) (hh : (c : EReal) ≤ h) : d < a - c := by
  have := hd.trans_le (EReal.sub_le_sub hl hh)
  rw [← EReal.coe_sub] at this
  exact EReal.coe_lt_coe_iff.mp this

theorem gap_of (h : cmpf .ogt (gaps x1 x2 x3 x4) (interval x1 x2 x3 x4) = fun _ => 1#1) (i j : Fin 5685)
    (hi : i.val < 3 * (im x0 x1 x2 x3 x4 b).count) (hj : 3 * (im x0 x1 x2 x3 x4 b).count ≤ j.val) :
    (losses (im x0 x1 x2 x3 x4 b) (falling (im x0 x1 x2 x3 x4 b) 0) + margin) / 2 ^ 24
      < losses (im x0 x1 x2 x3 x4 b) (falling (im x0 x1 x2 x3 x4 b) i) - losses (im x0 x1 x2 x3 x4 b) (falling (im x0 x1 x2 x3 x4 b) j) := by
  have hw := gap_word _ _ h (ix2 b 0)
  rw [interval_apply x0 x1 x2 x3 x4 b hc hf, gaps_apply] at hw
  exact gap_real _ _ _ _ _ hw (lowest_le x0 x1 x2 x3 x4 b hc hf i hi) (le_highest x0 x1 x2 x3 x4 b hc hf j hj)

omit hc hf in
/-- The precondition, of one image. -/
theorem apart_of (h : Cert.Pre_separated.fn (F := Ideal) x0 x1 x2 x3 x4 = (fun _ => 1#1, fun _ => 1#1, fun _ => 1#1, fun _ => 1#1)) :
    (im x0 x1 x2 x3 x4 b).Classes ∧ (im x0 x1 x2 x3 x4 b).Finite
      ∧ (im x0 x1 x2 x3 x4 b).Apart (losses (im x0 x1 x2 x3 x4 b)) (falling (im x0 x1 x2 x3 x4 b)) := by
  rw [separated_eq] at h
  simp only [Prod.mk.injEq] at h
  obtain ⟨h1, h2, h3, h4⟩ := h
  have hf := finite_of x0 x1 x2 x3 x4 h1 b
  have hc := classes_of x0 x1 x2 x3 x4 h2 b
  exact ⟨hc, hf, losses_val _ hc hf, losses_nonneg _ hc hf, falling_antitone _ hc hf, few_of x0 x1 x2 x3 x4 h3 b,
    gap_of x0 x1 x2 x3 x4 b hc hf h4⟩

end Cert.ReferenceIdeal.Read
-- ==== Proof.Claims.lean ====
/- The claims one by one: the frames, the named constant, and the equality of the two losses. -/
module

public import proofs.«01_k».proof.Defs
public import proofs.«01_k».proof.Proof.Gen.Kernel.Frame
public import proofs.«01_k».proof.Proof.Gen.KernelIdeal.Frame
public import proofs.«01_k».proof.Proof.Gen.Pre_separated
public import proofs.«01_k».proof.Proof.KernelRun
public import proofs.«01_k».proof.Proof.KernelTail
public import proofs.«01_k».proof.Proof.RefRun
public import proofs.«01_k».proof.Proof.RefValue
public import proofs.«01_k».proof.Proof.RefSort
public import proofs.«01_k».proof.Proof.PreFacts

@[expose] public section

set_option maxRecDepth 16384

noncomputable section

namespace Cert.Proof

open Idealize.ShloMosaic Idealize.SL.Sem

/-- The kernel leaves its arguments alone and every counter at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- And under the precondition. -/
theorem frame_pi_separated : Cert.quiescent_KernelIdeal_pre_separated := fun m ρ _ => Cert.KernelIdeal.Gen.frame m ρ

/-- The reference's run, read at its arguments; it has no counter. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The reference leaves its arguments alone. -/
theorem frame_ri : Cert.quiescent_ReferenceIdeal := fun m ρ _ => ref_frame m ρ

/-- And under the precondition. -/
theorem frame_ri_separated : Cert.quiescent_ReferenceIdeal_pre_separated := fun m ρ _ => ref_frame m ρ

/-- The kernel's literal `0.1` is the named tenth, rounded. -/
theorem preserves : Cert.preserves_Kernel_KernelIdeal :=
  IdealRules.named_const.statement Cert.KernelIdeal.κ "tenth" .f32 0x3DCCCCCD#32 ((10⁻¹ : ℝ) : EReal) rfl

/-- On separated arguments the kernel's last buffer holds the reference's loss. -/
theorem same_loss (m : (ℓ : Loc Cert.KernelIdeal.nD Cert.KernelIdeal.τ Cert.KernelIdeal.sig) → Buf (Elt Ideal) ℓ)
    (ρ : Dev Cert.KernelIdeal.nD → PrngReg) (hp : Cert.Pre_KernelIdeal_separated m) (c : Dev Cert.KernelIdeal.nD) :
    (Cert.KernelIdeal.Gen.W5 m ρ c (Proc.devRef .tc Cert.KernelIdeal.main_v65) : FVec Ideal Cert.KernelIdeal.S_ .f32)
      = Cert.ReferenceIdeal.Read.val_main_v263 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  obtain ⟨h1, h2, h3, h4⟩ := hp c
  have H := fun b => Cert.ReferenceIdeal.Read.apart_of _ _ _ _ _ b (Prod.ext h1 (Prod.ext h2 (Prod.ext h3 h4)))
  rw [Cert.ReferenceIdeal.Read.v263_total _ _ _ _ _ (fun b => (H b).1) (fun b => (H b).2.1)]
  exact Cert.KernelIdeal.Read.result m ρ c (fun b => (H b).1) _ _ (fun b => (H b).2.2)

/-- The idealized kernel's loss is the reference's on all separated arguments. -/
theorem equal : Cert.algebraic_KernelIdeal_ReferenceIdeal_pre_separated := by
  intro m g m' g' hp ha
  refine ⟨fun c => Cert.KernelIdeal.Gen.W5 m g c (Proc.devRef .tc Cert.KernelIdeal.main_v65), Cert.KernelIdeal.Value.run m g, ?_⟩
  refine (θ_run (Cert.ReferenceIdeal.defs (F := Ideal)) _ _).mono (fun r h c => ⟨(h c).1.trans ?_, (h c).2⟩)
    (Cert.ReferenceIdeal.Value.run (F := Ideal) m' g')
  obtain ⟨e0, e1, e2, e3, e4⟩ := ha c
  refine (Cert.ReferenceIdeal.Read.val_main_v263_eq _).trans (Eq.trans ?_ (same_loss m g hp c).symm)
  rw [← e0, ← e1, ← e2, ← e3, ← e4]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Claims
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_separated.Gen.facts,
    frame_p, frame_pi, frame_pi_separated, frame_ri, frame_ri_separated, preserves, equal⟩

end Cert.Proof

end
